-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Ffn [hPre_tables_in_range : Cert.Pre_tables_in_range.Facts] (m : (ℓ : Loc Cert.Ffn.nD Cert.Ffn.τ Cert.Ffn.sig) → Buf (Elt Bits) ℓ) : Prop :=
  ∀ c : Dev Cert.Ffn.nD,
    (Cert.Pre_tables_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7))).1 = (fun _ => 1#1)
    ∧ (Cert.Pre_tables_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7))).2 = (fun _ => 1#1)

def Pre_FfnIdeal [hPre_tables_in_range : Cert.Pre_tables_in_range.Facts] (m : (ℓ : Loc Cert.FfnIdeal.nD Cert.FfnIdeal.τ Cert.FfnIdeal.sig) → Buf (Elt Ideal) ℓ) : Prop :=
  ∀ c : Dev Cert.FfnIdeal.nD,
    (Cert.Pre_tables_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).1 = (fun _ => 1#1)
    ∧ (Cert.Pre_tables_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_tables_in_range [hPre_tables_in_range : Cert.Pre_tables_in_range.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_tables_in_range.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).1 = (fun _ => 1#1)
    ∧ (Cert.Pre_tables_in_range.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_cross [hPre_finite_cross : Cert.Pre_finite_cross.Facts] (m : (ℓ : Loc Cert.CrossIdeal.nD Cert.CrossIdeal.τ Cert.CrossIdeal.sig) → Buf (Elt Ideal) ℓ) : Prop :=
  ∀ c : Dev Cert.CrossIdeal.nD,
    (Cert.Pre_finite_cross.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_cross [hPre_finite_cross : Cert.Pre_finite_cross.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_cross.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Ffn [hFfn : Cert.Ffn.Facts] [hPre_tables_in_range : Cert.Pre_tables_in_range.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] [hPre_tables_in_range : Cert.Pre_tables_in_range.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_tables_in_range [hFfnRefIdeal : Cert.FfnRefIdeal.Facts] [hPre_tables_in_range : Cert.Pre_tables_in_range.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_tables_in_range m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossIdeal_pre_finite_cross [hCrossIdeal : Cert.CrossIdeal.Facts] [hPre_finite_cross : Cert.Pre_finite_cross.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_cross m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_CrossRefIdeal_pre_finite_cross [hCrossRefIdeal : Cert.CrossRefIdeal.Facts] [hPre_finite_cross : Cert.Pre_finite_cross.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_cross m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v65) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Ffn_FfnIdeal : Prop :=
  True

def algebraic_FfnIdeal_FfnRefIdeal [hFfnIdeal : Cert.FfnIdeal.Facts] [hFfnRefIdeal : Cert.FfnRefIdeal.Facts] [hPre_tables_in_range : Cert.Pre_tables_in_range.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)) (v1 : (c : Dev Cert.ProjIdeal.nD) → Buf (Elt Ideal) ((c.tc : Thread Cert.ProjIdeal.nD Cert.ProjIdeal.τ).loc Cert.ProjIdeal.main_v2)) (v2 : (c : Dev Cert.ProjIdeal.nD) → Buf (Elt Ideal) ((c.tc : Thread Cert.ProjIdeal.nD Cert.ProjIdeal.τ).loc Cert.ProjIdeal.main_v4)) (v3 : (c : Dev Cert.ProjIdeal.nD) → Buf (Elt Ideal) ((c.tc : Thread Cert.ProjIdeal.nD Cert.ProjIdeal.τ).loc Cert.ProjIdeal.main_v0_2)) (v4 : (c : Dev Cert.ProjIdeal.nD) → Buf (Elt Ideal) ((c.tc : Thread Cert.ProjIdeal.nD Cert.ProjIdeal.τ).loc Cert.ProjIdeal.main_v0_3)) (v5 : (c : Dev Cert.ProjIdeal.nD) → Buf (Elt Ideal) ((c.tc : Thread Cert.ProjIdeal.nD Cert.ProjIdeal.τ).loc Cert.ProjIdeal.main_v0_4)) (v6 : (c : Dev Cert.ProjIdeal.nD) → Buf (Elt Ideal) ((c.tc : Thread Cert.ProjIdeal.nD Cert.ProjIdeal.τ).loc Cert.ProjIdeal.main_v0_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_v2) = v1 c
          ∧ r.2.mem ((c.tc : Thread Cert.ProjIdeal.nD Cert.ProjIdeal.τ).loc Cert.ProjIdeal.main_v4) = v2 c
          ∧ r.2.mem ((c.tc : Thread Cert.ProjIdeal.nD Cert.ProjIdeal.τ).loc Cert.ProjIdeal.main_v0_2) = v3 c
          ∧ r.2.mem ((c.tc : Thread Cert.ProjIdeal.nD Cert.ProjIdeal.τ).loc Cert.ProjIdeal.main_v0_3) = v4 c
          ∧ r.2.mem ((c.tc : Thread Cert.ProjIdeal.nD Cert.ProjIdeal.τ).loc Cert.ProjIdeal.main_v0_4) = v5 c
          ∧ r.2.mem ((c.tc : Thread Cert.ProjIdeal.nD Cert.ProjIdeal.τ).loc Cert.ProjIdeal.main_v0_5) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v29) = v0 c
          ∧ r.2.mem ((c.tc : Thread Cert.ProjRefIdeal.nD Cert.ProjRefIdeal.τ).loc Cert.ProjRefIdeal.main_v30) = v1 c
          ∧ r.2.mem ((c.tc : Thread Cert.ProjRefIdeal.nD Cert.ProjRefIdeal.τ).loc Cert.ProjRefIdeal.main_v32) = v2 c
          ∧ r.2.mem ((c.tc : Thread Cert.ProjRefIdeal.nD Cert.ProjRefIdeal.τ).loc Cert.ProjRefIdeal.main_v26) = v3 c
          ∧ r.2.mem ((c.tc : Thread Cert.ProjRefIdeal.nD Cert.ProjRefIdeal.τ).loc Cert.ProjRefIdeal.main_v33) = v4 c
          ∧ r.2.mem ((c.tc : Thread Cert.ProjRefIdeal.nD Cert.ProjRefIdeal.τ).loc Cert.ProjRefIdeal.main_v34) = v5 c
          ∧ r.2.mem ((c.tc : Thread Cert.ProjRefIdeal.nD Cert.ProjRefIdeal.τ).loc Cert.ProjRefIdeal.main_v35) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)) →
    ∃ (v0 : (c : Dev Cert.ProjSIdeal.nD) → Buf (Elt Ideal) ((c.tc : Thread Cert.ProjSIdeal.nD Cert.ProjSIdeal.τ).loc Cert.ProjSIdeal.main_v3)) (v1 : (c : Dev Cert.ProjSIdeal.nD) → Buf (Elt Ideal) ((c.tc : Thread Cert.ProjSIdeal.nD Cert.ProjSIdeal.τ).loc Cert.ProjSIdeal.main_v4)) (v2 : (c : Dev Cert.ProjSIdeal.nD) → Buf (Elt Ideal) ((c.tc : Thread Cert.ProjSIdeal.nD Cert.ProjSIdeal.τ).loc Cert.ProjSIdeal.main_v5)) (v3 : (c : Dev Cert.ProjSIdeal.nD) → Buf (Elt Ideal) ((c.tc : Thread Cert.ProjSIdeal.nD Cert.ProjSIdeal.τ).loc Cert.ProjSIdeal.main_v0_2)) (v4 : (c : Dev Cert.ProjSIdeal.nD) → Buf (Elt Ideal) ((c.tc : Thread Cert.ProjSIdeal.nD Cert.ProjSIdeal.τ).loc Cert.ProjSIdeal.main_v0_3)) (v5 : (c : Dev Cert.ProjSIdeal.nD) → Buf (Elt Ideal) ((c.tc : Thread Cert.ProjSIdeal.nD Cert.ProjSIdeal.τ).loc Cert.ProjSIdeal.main_v0_4)) (v6 : (c : Dev Cert.ProjSIdeal.nD) → Buf (Elt Ideal) ((c.tc : Thread Cert.ProjSIdeal.nD Cert.ProjSIdeal.τ).loc Cert.ProjSIdeal.main_v0_5)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v3) = v0 c
          ∧ r.2.mem ((c.tc : Thread Cert.ProjSIdeal.nD Cert.ProjSIdeal.τ).loc Cert.ProjSIdeal.main_v4) = v1 c
          ∧ r.2.mem ((c.tc : Thread Cert.ProjSIdeal.nD Cert.ProjSIdeal.τ).loc Cert.ProjSIdeal.main_v5) = v2 c
          ∧ r.2.mem ((c.tc : Thread Cert.ProjSIdeal.nD Cert.ProjSIdeal.τ).loc Cert.ProjSIdeal.main_v0_2) = v3 c
          ∧ r.2.mem ((c.tc : Thread Cert.ProjSIdeal.nD Cert.ProjSIdeal.τ).loc Cert.ProjSIdeal.main_v0_3) = v4 c
          ∧ r.2.mem ((c.tc : Thread Cert.ProjSIdeal.nD Cert.ProjSIdeal.τ).loc Cert.ProjSIdeal.main_v0_4) = v5 c
          ∧ r.2.mem ((c.tc : Thread Cert.ProjSIdeal.nD Cert.ProjSIdeal.τ).loc Cert.ProjSIdeal.main_v0_5) = v6 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v31) = v0 c
          ∧ r.2.mem ((c.tc : Thread Cert.ProjSRefIdeal.nD Cert.ProjSRefIdeal.τ).loc Cert.ProjSRefIdeal.main_v32) = v1 c
          ∧ r.2.mem ((c.tc : Thread Cert.ProjSRefIdeal.nD Cert.ProjSRefIdeal.τ).loc Cert.ProjSRefIdeal.main_v33) = v2 c
          ∧ r.2.mem ((c.tc : Thread Cert.ProjSRefIdeal.nD Cert.ProjSRefIdeal.τ).loc Cert.ProjSRefIdeal.main_v26) = v3 c
          ∧ r.2.mem ((c.tc : Thread Cert.ProjSRefIdeal.nD Cert.ProjSRefIdeal.τ).loc Cert.ProjSRefIdeal.main_v34) = v4 c
          ∧ r.2.mem ((c.tc : Thread Cert.ProjSRefIdeal.nD Cert.ProjSRefIdeal.τ).loc Cert.ProjSRefIdeal.main_v35) = v5 c
          ∧ r.2.mem ((c.tc : Thread Cert.ProjSRefIdeal.nD Cert.ProjSRefIdeal.τ).loc Cert.ProjSRefIdeal.main_v36) = v6 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3)) (v1 : (c : Dev Cert.MemKvIdeal.nD) → Buf (Elt Ideal) ((c.tc : Thread Cert.MemKvIdeal.nD Cert.MemKvIdeal.τ).loc Cert.MemKvIdeal.main_v6)) (v2 : (c : Dev Cert.MemKvIdeal.nD) → Buf (Elt Ideal) ((c.tc : Thread Cert.MemKvIdeal.nD Cert.MemKvIdeal.τ).loc Cert.MemKvIdeal.main_v0_2)) (v3 : (c : Dev Cert.MemKvIdeal.nD) → Buf (Elt Ideal) ((c.tc : Thread Cert.MemKvIdeal.nD Cert.MemKvIdeal.τ).loc Cert.MemKvIdeal.main_v0_3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_v6) = v1 c
          ∧ r.2.mem ((c.tc : Thread Cert.MemKvIdeal.nD Cert.MemKvIdeal.τ).loc Cert.MemKvIdeal.main_v0_2) = v2 c
          ∧ r.2.mem ((c.tc : Thread Cert.MemKvIdeal.nD Cert.MemKvIdeal.τ).loc Cert.MemKvIdeal.main_v0_3) = v3 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_v17) = v1 c
          ∧ r.2.mem ((c.tc : Thread Cert.MemKvRefIdeal.nD Cert.MemKvRefIdeal.τ).loc Cert.MemKvRefIdeal.main_v18) = v2 c
          ∧ r.2.mem ((c.tc : Thread Cert.MemKvRefIdeal.nD Cert.MemKvRefIdeal.τ).loc Cert.MemKvRefIdeal.main_v19) = v3 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v4) = v0 c
          ∧ r.2.mem ((c.tc : Thread Cert.MixRefIdeal.nD Cert.MixRefIdeal.τ).loc Cert.MixRefIdeal.main_v21) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)) →
    ∃ (v0 : (c : Dev Cert.MixSIdeal.nD) → Buf (Elt Ideal) ((c.tc : Thread Cert.MixSIdeal.nD Cert.MixSIdeal.τ).loc Cert.MixSIdeal.main_v0_0)) (v1 : (c : Dev Cert.MixSIdeal.nD) → Buf (Elt Ideal) ((c.tc : Thread Cert.MixSIdeal.nD Cert.MixSIdeal.τ).loc Cert.MixSIdeal.main_v0_1)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v0_0) = v0 c
          ∧ r.2.mem ((c.tc : Thread Cert.MixSIdeal.nD Cert.MixSIdeal.τ).loc Cert.MixSIdeal.main_v0_1) = v1 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v4) = v0 c
          ∧ r.2.mem ((c.tc : Thread Cert.MixSRefIdeal.nD Cert.MixSRefIdeal.τ).loc Cert.MixSRefIdeal.main_v21) = v1 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5))

def preserves_Cross_CrossIdeal : Prop :=
  True

def algebraic_CrossIdeal_CrossRefIdeal_pre_finite_cross [hCrossIdeal : Cert.CrossIdeal.Facts] [hCrossRefIdeal : Cert.CrossRefIdeal.Facts] [hPre_finite_cross : Cert.Pre_finite_cross.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_cross m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v24) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hMemKv : Cert.MemKv.Facts) (hMemKvIdeal : Cert.MemKvIdeal.Facts) (hMemKvRefIdeal : Cert.MemKvRefIdeal.Facts) (hMix : Cert.Mix.Facts) (hMixIdeal : Cert.MixIdeal.Facts) (hMixRefIdeal : Cert.MixRefIdeal.Facts) (hMixS : Cert.MixS.Facts) (hMixSIdeal : Cert.MixSIdeal.Facts) (hMixSRefIdeal : Cert.MixSRefIdeal.Facts) (hCross : Cert.Cross.Facts) (hCrossIdeal : Cert.CrossIdeal.Facts) (hCrossRefIdeal : Cert.CrossRefIdeal.Facts) (hPre_finite_scores : Cert.Pre_finite_scores.Facts) (hPre_tables_in_range : Cert.Pre_tables_in_range.Facts) (hPre_finite_cross : Cert.Pre_finite_cross.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn) (hPre_tables_in_range := hPre_tables_in_range)
    ∧ quiescent_FfnIdeal (hFfnIdeal := hFfnIdeal) (hPre_tables_in_range := hPre_tables_in_range)
    ∧ quiescent_FfnRefIdeal (hFfnRefIdeal := hFfnRefIdeal)
    ∧ quiescent_FfnRefIdeal_pre_tables_in_range (hFfnRefIdeal := hFfnRefIdeal) (hPre_tables_in_range := hPre_tables_in_range)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Mix (hMix := hMix)
    ∧ quiescent_MixIdeal (hMixIdeal := hMixIdeal)
    ∧ quiescent_MixRefIdeal (hMixRefIdeal := hMixRefIdeal)
    ∧ quiescent_MixS (hMixS := hMixS)
    ∧ quiescent_MixSIdeal (hMixSIdeal := hMixSIdeal)
    ∧ quiescent_MixSRefIdeal (hMixSRefIdeal := hMixSRefIdeal)
    ∧ quiescent_Cross (hCross := hCross)
    ∧ quiescent_CrossIdeal (hCrossIdeal := hCrossIdeal)
    ∧ quiescent_CrossIdeal_pre_finite_cross (hCrossIdeal := hCrossIdeal) (hPre_finite_cross := hPre_finite_cross)
    ∧ quiescent_CrossRefIdeal (hCrossRefIdeal := hCrossRefIdeal)
    ∧ quiescent_CrossRefIdeal_pre_finite_cross (hCrossRefIdeal := hCrossRefIdeal) (hPre_finite_cross := hPre_finite_cross)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal) (hPre_tables_in_range := hPre_tables_in_range)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_MemKv_MemKvIdeal
    ∧ algebraic_MemKvIdeal_MemKvRefIdeal (hMemKvIdeal := hMemKvIdeal) (hMemKvRefIdeal := hMemKvRefIdeal)
    ∧ preserves_Mix_MixIdeal
    ∧ algebraic_MixIdeal_MixRefIdeal (hMixIdeal := hMixIdeal) (hMixRefIdeal := hMixRefIdeal)
    ∧ preserves_MixS_MixSIdeal
    ∧ algebraic_MixSIdeal_MixSRefIdeal (hMixSIdeal := hMixSIdeal) (hMixSRefIdeal := hMixSRefIdeal)
    ∧ preserves_Cross_CrossIdeal
    ∧ algebraic_CrossIdeal_CrossRefIdeal_pre_finite_cross (hCrossIdeal := hCrossIdeal) (hCrossRefIdeal := hCrossRefIdeal) (hPre_finite_cross := hPre_finite_cross)
-- ==== Pre_finite_cross.lean ====
abbrev S65536x1024 : Shape := ⟨2, ![65536, 1024]⟩
abbrev S32x256x1024 : Shape := ⟨3, ![32, 256, 1024]⟩
abbrev S1024x1024 : Shape := ⟨2, ![1024, 1024]⟩
abbrev S512x1024 : Shape := ⟨2, ![512, 1024]⟩
abbrev S_ : Shape := ⟨0, ![]⟩
abbrev S8192x1024 : Shape := ⟨2, ![8192, 1024]⟩
abbrev S73728x1024 : Shape := ⟨2, ![73728, 1024]⟩

class Facts : Prop where
  bcast_S_S65536x1024 : S_.BroadcastsInDim S65536x1024 (![] : Fin 0 → Fin S65536x1024.rank)
  bcast_S_S32x256x1024 : S_.BroadcastsInDim S32x256x1024 (![] : Fin 0 → Fin S32x256x1024.rank)
  shapeCasts_S32x256x1024_S8192x1024 : S32x256x1024.ShapeCasts S8192x1024
  concatenates_S65536x1024_S8192x1024_S73728x1024_d0 : Shape.Concatenates [S65536x1024, S8192x1024] S73728x1024 0

variable [Facts]

def fn {F : FTy → Type} [FloatOps F] (main_arg0 : FVec F S65536x1024 .f32) (main_arg1 : FVec F S65536x1024 .bf16) (main_arg2 : FVec F S32x256x1024 .bf16) (main_arg3 : FVec F S32x256x1024 .bf16) (main_arg4 : FVec F S1024x1024 .bf16) (main_arg5 : FVec F S512x1024 .f32) : IVec S73728x1024 1 :=
  let main_v0 : FVec F S65536x1024 .bf16 := Host.absf main_arg1
  let main_cst : FVec F S_ .bf16 := constant S_ .bf16 0x7F80#16
  let main_v1 : FVec F S65536x1024 .bf16 := broadcastInDim S65536x1024 ![] bcast_S_S65536x1024 main_cst
  let main_v2 : IVec S65536x1024 1 := cmpf .olt main_v0 main_v1
  let main_v3 : FVec F S32x256x1024 .bf16 := Host.absf main_arg2
  let main_cst_0 : FVec F S_ .bf16 := constant S_ .bf16 0x7F80#16
  let main_v4 : FVec F S32x256x1024 .bf16 := broadcastInDim S32x256x1024 ![] bcast_S_S32x256x1024 main_cst_0
  let main_v5 : IVec S32x256x1024 1 := cmpf .olt main_v3 main_v4
  let main_v6 : IVec S8192x1024 1 := shapeCast S8192x1024 main_v5 shapeCasts_S32x256x1024_S8192x1024
  let main_v7 : IVec S73728x1024 1 := (fun a b => concatenate S73728x1024 0 [⟨S65536x1024, a⟩, ⟨S8192x1024, b⟩] concatenates_S65536x1024_S8192x1024_S73728x1024_d0) main_v2 main_v6
  main_v7
-- ==== Pre_finite_scores.lean ====
abbrev S1x64 : Shape := ⟨2, ![1, 64]⟩
abbrev S1x128 : Shape := ⟨2, ![1, 128]⟩
abbrev S65536x512 : Shape := ⟨2, ![65536, 512]⟩
abbrev S_ : Shape := ⟨0, ![]⟩

class Facts : Prop where
  bcast_S_S65536x512 : S_.BroadcastsInDim S65536x512 (![] : Fin 0 → Fin S65536x512.rank)

variable [Facts]

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S65536x512 .bf16) (main_arg6 : FVec F S65536x512 .bf16) (main_arg7 : FVec F S65536x512 .bf16) : IVec S65536x512 1 :=
  let main_v0 : FVec F S65536x512 .bf16 := Host.absf main_arg5
  let main_cst : FVec F S_ .bf16 := constant S_ .bf16 0x7F80#16
  let main_v1 : FVec F S65536x512 .bf16 := broadcastInDim S65536x512 ![] bcast_S_S65536x512 main_cst
  let main_v2 : IVec S65536x512 1 := cmpf .olt main_v0 main_v1
  let main_v3 : FVec F S65536x512 .bf16 := Host.absf main_arg6
  let main_cst_0 : FVec F S_ .bf16 := constant S_ .bf16 0x7F80#16
  let main_v4 : FVec F S65536x512 .bf16 := broadcastInDim S65536x512 ![] bcast_S_S65536x512 main_cst_0
  let main_v5 : IVec S65536x512 1 := cmpf .olt main_v3 main_v4
  let main_v6 : IVec S65536x512 1 := andi main_v2 main_v5
  main_v6
-- ==== Pre_tables_in_range.lean ====
abbrev S554 : Shape := ⟨1, ![554]⟩
abbrev S1 : Shape := ⟨1, ![1]⟩
abbrev S283648x1024 : Shape := ⟨2, ![283648, 1024]⟩
abbrev S32x1024x2048 : Shape := ⟨3, ![32, 1024, 2048]⟩
abbrev S32x1x1024 : Shape := ⟨3, ![32, 1, 1024]⟩
abbrev S32x1024x1024 : Shape := ⟨3, ![32, 1024, 1024]⟩
abbrev S_ : Shape := ⟨0, ![]⟩

class Facts : Prop where
  bcast_S_S554 : S_.BroadcastsInDim S554 (![] : Fin 0 → Fin S554.rank)
  bcast_S_S1 : S_.BroadcastsInDim S1 (![] : Fin 0 → Fin S1.rank)

variable [Facts]

def fn {F : FTy → Type} [FloatOps F] (main_arg0 : IVec S554 32) (main_arg1 : IVec S1 32) (main_arg2 : FVec F S283648x1024 .bf16) (main_arg3 : FVec F S32x1024x2048 .f32) (main_arg4 : FVec F S32x1x1024 .f32) (main_arg5 : FVec F S32x1x1024 .f32) (main_arg6 : FVec F S32x1024x1024 .f32) (main_arg7 : FVec F S32x1x1024 .f32) : IVec S554 1 × IVec S1 1 :=
  let main_c : IVec S_ 32 := constantI S_ 32 0#32
  let main_v0 : IVec S554 32 := broadcastInDim S554 ![] bcast_S_S554 main_c
  let main_v1 : IVec S554 1 := cmpi .sge main_arg0 main_v0
  let main_c_0 : IVec S_ 32 := constantI S_ 32 32#32
  let main_v2 : IVec S554 32 := broadcastInDim S554 ![] bcast_S_S554 main_c_0
  let main_v3 : IVec S554 1 := cmpi .slt main_arg0 main_v2
  let main_v4 : IVec S554 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 554#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Attn.lean ====
abbrev S1x64 : Shape := ⟨2, ![1, 64]⟩
abbrev S1x128 : Shape := ⟨2, ![1, 128]⟩
abbrev S65536x512 : Shape := ⟨2, ![65536, 512]⟩
abbrev S2048x128 : Shape := ⟨2, ![2048, 128]⟩
abbrev S1 : Shape := ⟨1, ![1]⟩
abbrev S1x1 : Shape := ⟨2, ![1, 1]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S512x128 : Shape := ⟨2, ![512, 128]⟩
abbrev S256x768 : Shape := ⟨2, ![256, 768]⟩
abbrev S768x128 : Shape := ⟨2, ![768, 128]⟩
abbrev S256x1024 : Shape := ⟨2, ![256, 1024]⟩
abbrev S1024x128 : Shape := ⟨2, ![1024, 128]⟩
abbrev S256x1280 : Shape := ⟨2, ![256, 1280]⟩
abbrev S1280x128 : Shape := ⟨2, ![1280, 128]⟩
abbrev S256x1536 : Shape := ⟨2, ![256, 1536]⟩
abbrev S1536x128 : Shape := ⟨2, ![1536, 128]⟩
abbrev S256x1792 : Shape := ⟨2, ![256, 1792]⟩
abbrev S1792x128 : Shape := ⟨2, ![1792, 128]⟩
abbrev S256x2048 : Shape := ⟨2, ![256, 2048]⟩

abbrev nBuf : Space → Nat
  | .hbm => 9
  | .vmem => 13
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S65536x512, .bf16⟩
  | .hbm, ⟨6, _⟩ => ⟨S65536x512, .bf16⟩
  | .hbm, ⟨7, _⟩ => ⟨S65536x512, .bf16⟩
  | .hbm, ⟨8, _⟩ => ⟨S65536x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S1x64 : Shape := ⟨2, ![1, 64]⟩
abbrev S1x128 : Shape := ⟨2, ![1, 128]⟩
abbrev S65536x512 : Shape := ⟨2, ![65536, 512]⟩
abbrev S64 : Shape := ⟨1, ![64]⟩
abbrev S_ : Shape := ⟨0, ![]⟩
abbrev S32x2048x4x2x64 : Shape := ⟨5, ![32, 2048, 4, 2, 64]⟩
abbrev S32x2048x4x128 : Shape := ⟨4, ![32, 2048, 4, 128]⟩
abbrev S32x2x4x2048x2048 : Shape := ⟨5, ![32, 2, 4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x2x4x2048 : Shape := ⟨4, ![32, 2, 4, 2048]⟩
abbrev S32x2x4x2048x1 : Shape := ⟨5, ![32, 2, 4, 2048, 1]⟩
abbrev S32x1x4x2048x2048 : Shape := ⟨5, ![32, 1, 4, 2048, 2048]⟩
abbrev S32x4x2048x2048 : Shape := ⟨4, ![32, 4, 2048, 2048]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S128 : Shape := ⟨1, ![128]⟩
abbrev S1x1x1x128 : Shape := ⟨4, ![1, 1, 1, 128]⟩

abbrev nBuf : Space → Nat
  | .hbm => 122
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S65536x512, .bf16⟩
  | .hbm, ⟨6, _⟩ => ⟨S65536x512, .bf16⟩
  | .hbm, ⟨7, _⟩ => ⟨S65536x512, .bf16⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S65536x512, .f32⟩
  | .hbm, ⟨24, _⟩ => ⟨S32x2048x4x2x64, .f32⟩
  | .hbm, ⟨25, _⟩ => ⟨S65536x512, .f32⟩
  | .hbm, ⟨26, _⟩ => ⟨S32x2048x4x2x64, .f32⟩
  | .hbm, ⟨27, _⟩ => ⟨S65536x512, .f32⟩
  | .hbm, ⟨28, _⟩ => ⟨S32x2048x4x128, .f32⟩
  | .hbm, ⟨29, _⟩ => ⟨S32x2x4x2048x2048, .f32⟩
  | .hbm, ⟨30, _⟩ => ⟨S2048, .i32⟩
  | .hbm, ⟨31, _⟩ => ⟨S1x2048, .i32⟩
  | .hbm, ⟨32, _⟩ => ⟨S_, .i32⟩
  | .hbm, ⟨33, _⟩ => ⟨S_, .i32⟩
  | .hbm, ⟨34, _⟩ => ⟨S1x2048, .i32⟩
  | .hbm, ⟨35, _⟩ => ⟨S1x2048, .i32⟩
  | .hbm, ⟨36, _⟩ => ⟨S1x2048, .i32⟩
  | .hbm, ⟨37, _⟩ => ⟨S_, .i32⟩
  | .hbm, ⟨38, _⟩ => ⟨S1x2048, .i32⟩
  | .hbm, ⟨39, _⟩ => ⟨S1x2048, .i1⟩
  | .hbm, ⟨40, _⟩ => ⟨S1x2048, .i32⟩
  | .hbm, ⟨41, _⟩ => ⟨S1x2048, .i32⟩
  | .hbm, ⟨42, _⟩ => ⟨S_, .i32⟩
  | .hbm, ⟨43, _⟩ => ⟨S1x2048, .i32⟩
  | .hbm, ⟨44, _⟩ => ⟨S1x2048, .i1⟩
  | .hbm, ⟨45, _⟩ => ⟨S1x2048, .i1⟩
  | .hbm, ⟨46, _⟩ => ⟨S_, .i32⟩
  | .hbm, ⟨47, _⟩ => ⟨S1x2048, .i32⟩
  | .hbm, ⟨48, _⟩ => ⟨S1x2048, .i32⟩
  | .hbm, ⟨49, _⟩ => ⟨S1x2048, .i32⟩
  | .hbm, ⟨50, _⟩ => ⟨S2048x1, .i32⟩
  | .hbm, ⟨51, _⟩ => ⟨S_, .i32⟩
  | .hbm, ⟨52, _⟩ => ⟨S_, .i32⟩
  | .hbm, ⟨53, _⟩ => ⟨S2048x1, .i32⟩
  | .hbm, ⟨54, _⟩ => ⟨S2048x1, .i32⟩
  | .hbm, ⟨55, _⟩ => ⟨S2048x1, .i32⟩
  | .hbm, ⟨56, _⟩ => ⟨S_, .i32⟩
  | .hbm, ⟨57, _⟩ => ⟨S2048x1, .i32⟩
  | .hbm, ⟨58, _⟩ => ⟨S2048x1, .i1⟩
  | .hbm, ⟨59, _⟩ => ⟨S2048x1, .i32⟩
  | .hbm, ⟨60, _⟩ => ⟨S2048x1, .i32⟩
  | .hbm, ⟨61, _⟩ => ⟨S_, .i32⟩
  | .hbm, ⟨62, _⟩ => ⟨S2048x1, .i32⟩
  | .hbm, ⟨63, _⟩ => ⟨S2048x1, .i1⟩
  | .hbm, ⟨64, _⟩ => ⟨S2048x1, .i1⟩
  | .hbm, ⟨65, _⟩ => ⟨S_, .i32⟩
  | .hbm, ⟨66, _⟩ => ⟨S2048x1, .i32⟩
  | .hbm, ⟨67, _⟩ => ⟨S2048x1, .i32⟩
  | .hbm, ⟨68, _⟩ => ⟨S2048x1, .i32⟩
  | .hbm, ⟨69, _⟩ => ⟨S2048x2048, .i32⟩
  | .hbm, ⟨70, _⟩ => ⟨S2048x2048, .i32⟩
  | .hbm, ⟨71, _⟩ => ⟨S2048x2048, .i1⟩
  | .hbm, ⟨72, _⟩ => ⟨S_, .f32⟩
  | .hbm, ⟨73, _⟩ => ⟨S_, .f32⟩
  | .hbm, ⟨74, _⟩ => ⟨S32x2x4x2048x2048, .i1⟩
  | .hbm, ⟨75, _⟩ => ⟨S32x2x4x2048x2048, .f32⟩
  | .hbm, ⟨76, _⟩ => ⟨S32x2x4x2048x2048, .f32⟩
  | .hbm, ⟨77, _⟩ => ⟨S_, .f32⟩
  | .hbm, ⟨78, _⟩ => ⟨S32x2x4x2048, .f32⟩
  | .hbm, ⟨79, _⟩ => ⟨S_, .f32⟩
  | .hbm, ⟨80, _⟩ => ⟨S32x2x4x2048, .f32⟩
  | .hbm, ⟨81, _⟩ => ⟨S32x2x4x2048, .f32⟩
  | .hbm, ⟨82, _⟩ => ⟨S32x2x4x2048x1, .f32⟩
  | .hbm, ⟨83, _⟩ => ⟨S32x2x4x2048x2048, .f32⟩
  | .hbm, ⟨84, _⟩ => ⟨S32x2x4x2048x2048, .f32⟩
  | .hbm, ⟨85, _⟩ => ⟨S32x2x4x2048x2048, .f32⟩
  | .hbm, ⟨86, _⟩ => ⟨S_, .f32⟩
  | .hbm, ⟨87, _⟩ => ⟨S32x2x4x2048, .f32⟩
  | .hbm, ⟨88, _⟩ => ⟨S32x2x4x2048x1, .f32⟩
  | .hbm, ⟨89, _⟩ => ⟨S32x2x4x2048x2048, .f32⟩
  | .hbm, ⟨90, _⟩ => ⟨S32x2x4x2048x2048, .f32⟩
  | .hbm, ⟨91, _⟩ => ⟨S32x1x4x2048x2048, .f32⟩
  | .hbm, ⟨92, _⟩ => ⟨S32x4x2048x2048, .f32⟩
  | .hbm, ⟨93, _⟩ => ⟨S32x1x4x2048x2048, .f32⟩
  | .hbm, ⟨94, _⟩ => ⟨S32x4x2048x2048, .f32⟩
  | .hbm, ⟨95, _⟩ => ⟨S32x4x2048x2048, .f32⟩
  | .hbm, ⟨96, _⟩ => ⟨S32x4x2048x2048, .f32⟩
  | .hbm, ⟨97, _⟩ => ⟨S32x4x2048x2048, .f32⟩
  | .hbm, ⟨98, _⟩ => ⟨S32x4x128x2048, .f32⟩
  | .hbm, ⟨99, _⟩ => ⟨S32x2048x4x128, .f32⟩
  | .hbm, ⟨100, _⟩ => ⟨S32x2048x4x128, .f32⟩
  | .hbm, ⟨101, _⟩ => ⟨S_, .f32⟩
  | .hbm, ⟨102, _⟩ => ⟨S32x2048x4, .f32⟩
  | .hbm, ⟨103, _⟩ => ⟨S32x2048x4x1, .f32⟩
  | .hbm, ⟨104, _⟩ => ⟨S_, .f32⟩
  | .hbm, ⟨105, _⟩ => ⟨S32x2048x4x1, .f32⟩
  | .hbm, ⟨106, _⟩ => ⟨S32x2048x4x1, .f32⟩
  | .hbm, ⟨107, _⟩ => ⟨S_, .f32⟩
  | .hbm, ⟨108, _⟩ => ⟨S32x2048x4x1, .f32⟩
  | .hbm, ⟨109, _⟩ => ⟨S32x2048x4x1, .f32⟩
  | .hbm, ⟨110, _⟩ => ⟨S32x2048x4x1, .f32⟩
  | .hbm, ⟨111, _⟩ => ⟨S32x2048x4x128, .f32⟩
  | .hbm, ⟨112, _⟩ => ⟨S32x2048x4x128, .f32⟩
  | .hbm, ⟨113, _⟩ => ⟨S128, .f32⟩
  | .hbm, ⟨114, _⟩ => ⟨S1x1x1x128, .f32⟩
  | .hbm, ⟨115, _⟩ => ⟨S32x2048x4x128, .f32⟩
  | .hbm, ⟨116, _⟩ => ⟨S32x2048x4x128, .f32⟩
  | .hbm, ⟨117, _⟩ => ⟨S_, .f32⟩
  | .hbm, ⟨118, _⟩ => ⟨S32x2048x4x128, .f32⟩
  | .hbm, ⟨119, _⟩ => ⟨S32x2048x4x128, .f32⟩
  | .hbm, ⟨120, _⟩ => ⟨S65536x512, .f32⟩
  | .hbm, ⟨121, _⟩ => ⟨S65536x512, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_3 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v27 : Ref sig .tc := ⟨.hbm, 76, rfl⟩
abbrev main_cst_4 : Ref sig .tc := ⟨.hbm, 77, rfl⟩
abbrev main_v28 : Ref sig .tc := ⟨.hbm, 78, rfl⟩
abbrev main_cst_5 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_6 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_7 : Ref sig .tc := ⟨.hbm, 101, rfl⟩
abbrev main_v49 : Ref sig .tc := ⟨.hbm, 102, rfl⟩
abbrev main_v50 : Ref sig .tc := ⟨.hbm, 103, rfl⟩
abbrev main_cst_8 : Ref sig .tc := ⟨.hbm, 104, rfl⟩
abbrev main_v51 : Ref sig .tc := ⟨.hbm, 105, rfl⟩
abbrev main_v52 : Ref sig .tc := ⟨.hbm, 106, rfl⟩
abbrev main_cst_9 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_10 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩

abbrev nD : Nat := 1
abbrev τ : Topo := Topo.v7x

variable {F : FTy → Type} [FloatOps F]

def κ : String → Option EReal := fun
  | "mask" => some ⊥
  | _ => none
-- ==== Ffn.lean ====
abbrev S554 : Shape := ⟨1, ![554]⟩
abbrev S1 : Shape := ⟨1, ![1]⟩
abbrev S283648x1024 : Shape := ⟨2, ![283648, 1024]⟩
abbrev S32x1024x2048 : Shape := ⟨3, ![32, 1024, 2048]⟩
abbrev S32x1x1024 : Shape := ⟨3, ![32, 1, 1024]⟩
abbrev S32x1024x1024 : Shape := ⟨3, ![32, 1024, 1024]⟩
abbrev S512x1024 : Shape := ⟨2, ![512, 1024]⟩
abbrev S1x1024x2048 : Shape := ⟨3, ![1, 1024, 2048]⟩
abbrev S1x1x1024 : Shape := ⟨3, ![1, 1, 1024]⟩
abbrev S1x1024x1024 : Shape := ⟨3, ![1, 1024, 1024]⟩
abbrev S1024x2048 : Shape := ⟨2, ![1024, 2048]⟩
abbrev S1024x1024 : Shape := ⟨2, ![1024, 1024]⟩
abbrev S256x256 : Shape := ⟨2, ![256, 256]⟩
abbrev S1x1024x256 : Shape := ⟨3, ![1, 1024, 256]⟩
abbrev S1024x256 : Shape := ⟨2, ![1024, 256]⟩
abbrev S512x256 : Shape := ⟨2, ![512, 256]⟩
abbrev S512x128 : Shape := ⟨2, ![512, 128]⟩
abbrev S1x1x128 : Shape := ⟨3, ![1, 1, 128]⟩
abbrev S1x128 : Shape := ⟨2, ![1, 128]⟩
abbrev S1x1024 : Shape := ⟨2, ![1, 1024]⟩

abbrev nBuf : Space → Nat
  | .hbm => 7
  | .vmem => 16
  | .smem => 2
  | _ => 0

abbrev bufTy : (tb : Table) → Fin (tcTables nBuf tb) → BufTy
  | .hbm, ⟨0, _⟩ => ⟨S283648x1024, .bf16⟩
  | .hbm, ⟨1, _⟩ => ⟨S32x1024x2048, .f32⟩
  | .hbm, ⟨2, _⟩ => ⟨S32x1x1024, .f32⟩
  | .hbm, ⟨3, _⟩ => ⟨S32x1x1024, .f32⟩
  | .hbm, ⟨4, _⟩ => ⟨S32x1024x1024, .f32⟩
  | .hbm, ⟨5, _⟩ => ⟨S32x1x1024, .f32⟩
  | .hbm, ⟨6, _⟩ => ⟨S283648x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x2048, .bf16⟩
  | .local _ .vmem, ⟨15, _⟩ => ⟨S1024x1024, .bf16⟩
  | .local _ .smem, ⟨0, _⟩ => ⟨S554, .i32⟩
  | .local _ .smem, ⟨1, _⟩ => ⟨S1, .i32⟩
  | _, _ => ⟨S283648x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![554], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_1 : BitVec 32 := 0#32
  let v9 : BitVec 32 := Scalar.maxsi v8 c0_i32_1
  let v10 : Index := Scalar.indexCast v9
  ![v10.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond3 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S554.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S554) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S554.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S554) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S554.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S554) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S554.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S554) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S554.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S554) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S554 : Shape := ⟨1, ![554]⟩
abbrev S1 : Shape := ⟨1, ![1]⟩
abbrev S283648x1024 : Shape := ⟨2, ![283648, 1024]⟩
abbrev S32x1024x2048 : Shape := ⟨3, ![32, 1024, 2048]⟩
abbrev S32x1x1024 : Shape := ⟨3, ![32, 1, 1024]⟩
abbrev S32x1024x1024 : Shape := ⟨3, ![32, 1024, 1024]⟩
abbrev S554x512x1024 : Shape := ⟨3, ![554, 512, 1024]⟩
abbrev S_ : Shape := ⟨0, ![]⟩
abbrev S554x1 : Shape := ⟨2, ![554, 1]⟩
abbrev S554x1024x2048 : Shape := ⟨3, ![554, 1024, 2048]⟩
abbrev S554x512x2048 : Shape := ⟨3, ![554, 512, 2048]⟩
abbrev S554x1x1024 : Shape := ⟨3, ![554, 1, 1024]⟩
abbrev S554x1024x1024 : Shape := ⟨3, ![554, 1024, 1024]⟩
abbrev S554x1x1 : Shape := ⟨3, ![554, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S554, .i32⟩
  | .hbm, ⟨1, _⟩ => ⟨S1, .i32⟩
  | .hbm, ⟨2, _⟩ => ⟨S283648x1024, .bf16⟩
  | .hbm, ⟨3, _⟩ => ⟨S32x1024x2048, .f32⟩
  | .hbm, ⟨4, _⟩ => ⟨S32x1x1024, .f32⟩
  | .hbm, ⟨5, _⟩ => ⟨S32x1x1024, .f32⟩
  | .hbm, ⟨6, _⟩ => ⟨S32x1024x1024, .f32⟩
  | .hbm, ⟨7, _⟩ => ⟨S32x1x1024, .f32⟩
  | .hbm, ⟨8, _⟩ => ⟨S283648x1024, .f32⟩
  | .hbm, ⟨9, _⟩ => ⟨S554x512x1024, .f32⟩
  | .hbm, ⟨10, _⟩ => ⟨S_, .i32⟩
  | .hbm, ⟨11, _⟩ => ⟨S554, .i32⟩
  | .hbm, ⟨12, _⟩ => ⟨S554, .i1⟩
  | .hbm, ⟨13, _⟩ => ⟨S_, .i32⟩
  | .hbm, ⟨14, _⟩ => ⟨S554, .i32⟩
  | .hbm, ⟨15, _⟩ => ⟨S554, .i32⟩
  | .hbm, ⟨16, _⟩ => ⟨S554, .i32⟩
  | .hbm, ⟨17, _⟩ => ⟨S554x1, .i32⟩
  | .hbm, ⟨18, _⟩ => ⟨S554x1024x2048, .f32⟩
  | .hbm, ⟨19, _⟩ => ⟨S554x512x2048, .f32⟩
  | .hbm, ⟨20, _⟩ => ⟨S554x512x1024, .f32⟩
  | .hbm, ⟨21, _⟩ => ⟨S_, .i32⟩
  | .hbm, ⟨22, _⟩ => ⟨S554, .i32⟩
  | .hbm, ⟨23, _⟩ => ⟨S554, .i1⟩
  | .hbm, ⟨24, _⟩ => ⟨S_, .i32⟩
  | .hbm, ⟨25, _⟩ => ⟨S554, .i32⟩
  | .hbm, ⟨26, _⟩ => ⟨S554, .i32⟩
  | .hbm, ⟨27, _⟩ => ⟨S554, .i32⟩
  | .hbm, ⟨28, _⟩ => ⟨S554x1, .i32⟩
  | .hbm, ⟨29, _⟩ => ⟨S554x1x1024, .f32⟩
  | .hbm, ⟨30, _⟩ => ⟨S554x512x1024, .f32⟩
  | .hbm, ⟨31, _⟩ => ⟨S554x512x1024, .f32⟩
  | .hbm, ⟨32, _⟩ => ⟨S_, .f32⟩
  | .hbm, ⟨33, _⟩ => ⟨S554x512x1024, .f32⟩
  | .hbm, ⟨34, _⟩ => ⟨S554x512x1024, .f32⟩
  | .hbm, ⟨35, _⟩ => ⟨S554x512x1024, .f32⟩
  | .hbm, ⟨36, _⟩ => ⟨S_, .i32⟩
  | .hbm, ⟨37, _⟩ => ⟨S554, .i32⟩
  | .hbm, ⟨38, _⟩ => ⟨S554, .i1⟩
  | .hbm, ⟨39, _⟩ => ⟨S_, .i32⟩
  | .hbm, ⟨40, _⟩ => ⟨S554, .i32⟩
  | .hbm, ⟨41, _⟩ => ⟨S554, .i32⟩
  | .hbm, ⟨42, _⟩ => ⟨S554, .i32⟩
  | .hbm, ⟨43, _⟩ => ⟨S554x1, .i32⟩
  | .hbm, ⟨44, _⟩ => ⟨S554x1x1024, .f32⟩
  | .hbm, ⟨45, _⟩ => ⟨S554x512x1024, .f32⟩
  | .hbm, ⟨46, _⟩ => ⟨S554x512x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S554x512x1024, .f32⟩
  | .hbm, ⟨51, _⟩ => ⟨S554x512x1024, .f32⟩
  | .hbm, ⟨52, _⟩ => ⟨S_, .f32⟩
  | .hbm, ⟨53, _⟩ => ⟨S554x512x1024, .f32⟩
  | .hbm, ⟨54, _⟩ => ⟨S554x512x1024, .f32⟩
  | .hbm, ⟨55, _⟩ => ⟨S_, .f32⟩
  | .hbm, ⟨56, _⟩ => ⟨S554x512x1024, .f32⟩
  | .hbm, ⟨57, _⟩ => ⟨S554x512x1024, .f32⟩
  | .hbm, ⟨58, _⟩ => ⟨S554x512x1024, .f32⟩
  | .hbm, ⟨59, _⟩ => ⟨S_, .f32⟩
  | .hbm, ⟨60, _⟩ => ⟨S554x512x1024, .f32⟩
  | .hbm, ⟨61, _⟩ => ⟨S554x512x1024, .f32⟩
  | .hbm, ⟨62, _⟩ => ⟨S554x512x1024, .f32⟩
  | .hbm, ⟨63, _⟩ => ⟨S554x512x1024, .f32⟩
  | .hbm, ⟨64, _⟩ => ⟨S_, .f32⟩
  | .hbm, ⟨65, _⟩ => ⟨S554x512x1024, .f32⟩
  | .hbm, ⟨66, _⟩ => ⟨S554x512x1024, .f32⟩
  | .hbm, ⟨67, _⟩ => ⟨S_, .f32⟩
  | .hbm, ⟨68, _⟩ => ⟨S554x512x1024, .f32⟩
  | .hbm, ⟨69, _⟩ => ⟨S554x512x1024, .f32⟩
  | .hbm, ⟨70, _⟩ => ⟨S554x512x1024, .f32⟩
  | .hbm, ⟨71, _⟩ => ⟨S_, .i32⟩
  | .hbm, ⟨72, _⟩ => ⟨S554, .i32⟩
  | .hbm, ⟨73, _⟩ => ⟨S554, .i1⟩
  | .hbm, ⟨74, _⟩ => ⟨S_, .i32⟩
  | .hbm, ⟨75, _⟩ => ⟨S554, .i32⟩
  | .hbm, ⟨76, _⟩ => ⟨S554, .i32⟩
  | .hbm, ⟨77, _⟩ => ⟨S554, .i32⟩
  | .hbm, ⟨78, _⟩ => ⟨S554x1, .i32⟩
  | .hbm, ⟨79, _⟩ => ⟨S554x1024x1024, .f32⟩
  | .hbm, ⟨80, _⟩ => ⟨S554x512x1024, .f32⟩
  | .hbm, ⟨81, _⟩ => ⟨S_, .i32⟩
  | .hbm, ⟨82, _⟩ => ⟨S554, .i32⟩
  | .hbm, ⟨83, _⟩ => ⟨S554, .i1⟩
  | .hbm, ⟨84, _⟩ => ⟨S_, .i32⟩
  | .hbm, ⟨85, _⟩ => ⟨S554, .i32⟩
  | .hbm, ⟨86, _⟩ => ⟨S554, .i32⟩
  | .hbm, ⟨87, _⟩ => ⟨S554, .i32⟩
  | .hbm, ⟨88, _⟩ => ⟨S554x1, .i32⟩
  | .hbm, ⟨89, _⟩ => ⟨S554x1x1024, .f32⟩
  | .hbm, ⟨90, _⟩ => ⟨S554x512x1024, .f32⟩
  | .hbm, ⟨91, _⟩ => ⟨S554x512x1024, .f32⟩
  | .hbm, ⟨92, _⟩ => ⟨S554, .i32⟩
  | .hbm, ⟨93, _⟩ => ⟨S_, .i32⟩
  | .hbm, ⟨94, _⟩ => ⟨S554, .i32⟩
  | .hbm, ⟨95, _⟩ => ⟨S554, .i1⟩
  | .hbm, ⟨96, _⟩ => ⟨S554x1x1, .i1⟩
  | .hbm, ⟨97, _⟩ => ⟨S_, .f32⟩
  | .hbm, ⟨98, _⟩ => ⟨S_, .f32⟩
  | .hbm, ⟨99, _⟩ => ⟨S554x512x1024, .i1⟩
  | .hbm, ⟨100, _⟩ => ⟨S554x512x1024, .f32⟩
  | .hbm, ⟨101, _⟩ => ⟨S554x512x1024, .f32⟩
  | .hbm, ⟨102, _⟩ => ⟨S283648x1024, .f32⟩
  | .hbm, ⟨103, _⟩ => ⟨S283648x1024, .bf16⟩
  | _, _ => ⟨S554, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== Proj.lean ====
abbrev S65536x1024 : Shape := ⟨2, ![65536, 1024]⟩
abbrev S1x1024 : Shape := ⟨2, ![1, 1024]⟩
abbrev S1024x2560 : Shape := ⟨2, ![1024, 2560]⟩
abbrev S262144x128 : Shape := ⟨2, ![262144, 128]⟩
abbrev S65536x512 : Shape := ⟨2, ![65536, 512]⟩
abbrev S512x1024 : Shape := ⟨2, ![512, 1024]⟩
abbrev S2048x128 : Shape := ⟨2, ![2048, 128]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S32x2048x4x128 : Shape := ⟨4, ![32, 2048, 4, 128]⟩
abbrev S32x2048x512 : Shape := ⟨3, ![32, 2048, 512]⟩
abbrev S32x30x512 : Shape := ⟨3, ![32, 30, 512]⟩

abbrev nBuf : Space → Nat
  | .hbm => 13
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x2560, .bf16⟩
  | .hbm, ⟨3, _⟩ => ⟨S262144x128, .f32⟩
  | .hbm, ⟨4, _⟩ => ⟨S262144x128, .f32⟩
  | .hbm, ⟨5, _⟩ => ⟨S65536x512, .f32⟩
  | .hbm, ⟨6, _⟩ => ⟨S65536x512, .bf16⟩
  | .hbm, ⟨7, _⟩ => ⟨S65536x512, .bf16⟩
  | .hbm, ⟨8, _⟩ => ⟨S65536x512, .bf16⟩
  | .hbm, ⟨9, _⟩ => ⟨S32x2048x4x128, .f32⟩
  | .hbm, ⟨10, _⟩ => ⟨S32x2048x4x128, .f32⟩
  | .hbm, ⟨11, _⟩ => ⟨S32x2048x512, .f32⟩
  | .hbm, ⟨12, _⟩ => ⟨S32x30x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjRefIdeal.lean ====
abbrev S65536x1024 : Shape := ⟨2, ![65536, 1024]⟩
abbrev S1x1024 : Shape := ⟨2, ![1, 1024]⟩
abbrev S1024x2560 : Shape := ⟨2, ![1024, 2560]⟩
abbrev S_ : Shape := ⟨0, ![]⟩
abbrev S65536 : Shape := ⟨1, ![65536]⟩
abbrev S65536x1 : Shape := ⟨2, ![65536, 1]⟩
abbrev S65536x2560 : Shape := ⟨2, ![65536, 2560]⟩
abbrev S65536x512 : Shape := ⟨2, ![65536, 512]⟩
abbrev S32x2048x4x128 : Shape := ⟨4, ![32, 2048, 4, 128]⟩
abbrev S32x2048x512 : Shape := ⟨3, ![32, 2048, 512]⟩
abbrev S32x30x512 : Shape := ⟨3, ![32, 30, 512]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x2560, .bf16⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S1024x2560, .f32⟩
  | .hbm, ⟨19, _⟩ => ⟨S65536x2560, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x1024, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S_, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S_, .f32⟩
  | .hbm, ⟨36, _⟩ => ⟨S65536x512, .f32⟩
  | .hbm, ⟨37, _⟩ => ⟨S65536x512, .f32⟩
  | .hbm, ⟨38, _⟩ => ⟨S32x2048x4x128, .f32⟩
  | .hbm, ⟨39, _⟩ => ⟨S32x2048x4x128, .f32⟩
  | .hbm, ⟨40, _⟩ => ⟨S32x2048x512, .f32⟩
  | .hbm, ⟨41, _⟩ => ⟨S32x30x512, .f32⟩
  | .hbm, ⟨42, _⟩ => ⟨S65536x512, .bf16⟩
  | .hbm, ⟨43, _⟩ => ⟨S65536x512, .bf16⟩
  | .hbm, ⟨44, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== ProjS.lean ====
abbrev S512x1024 : Shape := ⟨2, ![512, 1024]⟩
abbrev S1x1024 : Shape := ⟨2, ![1, 1024]⟩
abbrev S1024x2560 : Shape := ⟨2, ![1024, 2560]⟩
abbrev S16x30x512 : Shape := ⟨3, ![16, 30, 512]⟩
abbrev S2048x128 : Shape := ⟨2, ![2048, 128]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S16x32x512 : Shape := ⟨3, ![16, 32, 512]⟩
abbrev S16x62x512 : Shape := ⟨3, ![16, 62, 512]⟩
abbrev S16x32x4x128 : Shape := ⟨4, ![16, 32, 4, 128]⟩

abbrev nBuf : Space → Nat
  | .hbm => 15
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2560, .bf16⟩
  | .hbm, ⟨3, _⟩ => ⟨S16x30x512, .f32⟩
  | .hbm, ⟨4, _⟩ => ⟨S2048x128, .f32⟩
  | .hbm, ⟨5, _⟩ => ⟨S2048x128, .f32⟩
  | .hbm, ⟨6, _⟩ => ⟨S512x512, .f32⟩
  | .hbm, ⟨7, _⟩ => ⟨S512x512, .bf16⟩
  | .hbm, ⟨8, _⟩ => ⟨S512x512, .bf16⟩
  | .hbm, ⟨9, _⟩ => ⟨S512x512, .bf16⟩
  | .hbm, ⟨10, _⟩ => ⟨S16x32x512, .f32⟩
  | .hbm, ⟨11, _⟩ => ⟨S16x62x512, .f32⟩
  | .hbm, ⟨12, _⟩ => ⟨S16x32x4x128, .f32⟩
  | .hbm, ⟨13, _⟩ => ⟨S16x32x4x128, .f32⟩
  | .hbm, ⟨14, _⟩ => ⟨S16x30x512, .f32⟩
  | .local _ .vmem, ⟨0, _⟩ => ⟨S512x1024, .f32⟩
  | .local _ .vmem, ⟨1, _⟩ => ⟨S1x1024, .f32⟩
  | .local _ .vmem, ⟨2, _⟩ => ⟨S1024x2560, .bf16⟩
  | .local _ .vmem, ⟨3, _⟩ => ⟨S2048x128, .f32⟩
  | .local _ .vmem, ⟨4, _⟩ => ⟨S2048x128, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ProjSRefIdeal.lean ====
abbrev S512x1024 : Shape := ⟨2, ![512, 1024]⟩
abbrev S1x1024 : Shape := ⟨2, ![1, 1024]⟩
abbrev S1024x2560 : Shape := ⟨2, ![1024, 2560]⟩
abbrev S16x30x512 : Shape := ⟨3, ![16, 30, 512]⟩
abbrev S_ : Shape := ⟨0, ![]⟩
abbrev S512 : Shape := ⟨1, ![512]⟩
abbrev S512x1 : Shape := ⟨2, ![512, 1]⟩
abbrev S512x2560 : Shape := ⟨2, ![512, 2560]⟩
abbrev S512x512 : Shape := ⟨2, ![512, 512]⟩
abbrev S16x32x512 : Shape := ⟨3, ![16, 32, 512]⟩
abbrev S16x62x512 : Shape := ⟨3, ![16, 62, 512]⟩
abbrev S16x32x4x128 : Shape := ⟨4, ![16, 32, 4, 128]⟩

abbrev nBuf : Space → Nat
  | .hbm => 47
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2560, .bf16⟩
  | .hbm, ⟨3, _⟩ => ⟨S16x30x512, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S1024x2560, .f32⟩
  | .hbm, ⟨20, _⟩ => ⟨S512x2560, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x1024, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S16x32x512, .f32⟩
  | .hbm, ⟨40, _⟩ => ⟨S16x62x512, .f32⟩
  | .hbm, ⟨41, _⟩ => ⟨S16x32x4x128, .f32⟩
  | .hbm, ⟨42, _⟩ => ⟨S16x32x4x128, .f32⟩
  | .hbm, ⟨43, _⟩ => ⟨S16x30x512, .f32⟩
  | .hbm, ⟨44, _⟩ => ⟨S512x512, .bf16⟩
  | .hbm, ⟨45, _⟩ => ⟨S512x512, .bf16⟩
  | .hbm, ⟨46, _⟩ => ⟨S512x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== MemKv.lean ====
abbrev S8192x1024 : Shape := ⟨2, ![8192, 1024]⟩
abbrev S1x1024 : Shape := ⟨2, ![1, 1024]⟩
abbrev S1024x1024 : Shape := ⟨2, ![1024, 1024]⟩
abbrev S65536x128 : Shape := ⟨2, ![65536, 128]⟩
abbrev S256x1024 : Shape := ⟨2, ![256, 1024]⟩
abbrev S2048x128 : Shape := ⟨2, ![2048, 128]⟩
abbrev S256 : Shape := ⟨1, ![256]⟩
abbrev S256x1 : Shape := ⟨2, ![256, 1]⟩
abbrev S256x128 : Shape := ⟨2, ![256, 128]⟩
abbrev S32x256x2x4x128 : Shape := ⟨5, ![32, 256, 2, 4, 128]⟩
abbrev S32x256x4x2x128 : Shape := ⟨5, ![32, 256, 4, 2, 128]⟩
abbrev S32x256x4x256 : Shape := ⟨4, ![32, 256, 4, 256]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S65536x128, .f32⟩
  | .hbm, ⟨5, _⟩ => ⟨S65536x128, .f32⟩
  | .hbm, ⟨6, _⟩ => ⟨S8192x1024, .bf16⟩
  | .hbm, ⟨7, _⟩ => ⟨S8192x1024, .bf16⟩
  | .hbm, ⟨8, _⟩ => ⟨S32x256x2x4x128, .f32⟩
  | .hbm, ⟨9, _⟩ => ⟨S32x256x4x2x128, .f32⟩
  | .hbm, ⟨10, _⟩ => ⟨S32x256x4x256, .f32⟩
  | .hbm, ⟨11, _⟩ => ⟨S32x256x2x4x128, .f32⟩
  | .hbm, ⟨12, _⟩ => ⟨S32x256x4x2x128, .f32⟩
  | .hbm, ⟨13, _⟩ => ⟨S32x256x4x256, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MemKvRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S32x256x4x256 : Shape := ⟨4, ![32, 256, 4, 256]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S8192x1024, .f32⟩
  | .hbm, ⟨21, _⟩ => ⟨S1024x1024, .f32⟩
  | .hbm, ⟨22, _⟩ => ⟨S8192x1024, .f32⟩
  | .hbm, ⟨23, _⟩ => ⟨S32x256x4x256, .f32⟩
  | .hbm, ⟨24, _⟩ => ⟨S32x256x4x256, .f32⟩
  | .hbm, ⟨25, _⟩ => ⟨S8192x1024, .bf16⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Mix.lean ====
abbrev S65536x1024 : Shape := ⟨2, ![65536, 1024]⟩
abbrev S65536x512 : Shape := ⟨2, ![65536, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S65536x1024, .f32⟩
  | .hbm, ⟨7, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixIdeal.lean ====
abbrev S65536x1024 : Shape := ⟨2, ![65536, 1024]⟩
abbrev S65536x512 : Shape := ⟨2, ![65536, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S65536x1024, .f32⟩
  | .hbm, ⟨7, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S65536x1024 : Shape := ⟨2, ![65536, 1024]⟩
abbrev S65536x512 : Shape := ⟨2, ![65536, 512]⟩
abbrev S1024x1024 : Shape := ⟨2, ![1024, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩

abbrev nBuf : Space → Nat
  | .hbm => 32
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S65536x1024, .bf16⟩
  | .hbm, ⟨7, _⟩ => ⟨S65536x1024, .f32⟩
  | .hbm, ⟨8, _⟩ => ⟨S1024x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S1024x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== MixS.lean ====
abbrev S512x1024 : Shape := ⟨2, ![512, 1024]⟩
abbrev S512x512 : Shape := ⟨2, ![512, 512]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S512x1024, .f32⟩
  | .hbm, ⟨7, _⟩ => ⟨S512x1024, .bf16⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== MixSRefIdeal.lean ====
abbrev S512x1024 : Shape := ⟨2, ![512, 1024]⟩
abbrev S512x512 : Shape := ⟨2, ![512, 512]⟩
abbrev S1024x1024 : Shape := ⟨2, ![1024, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 32
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S512x1024, .bf16⟩
  | .hbm, ⟨7, _⟩ => ⟨S512x1024, .f32⟩
  | .hbm, ⟨8, _⟩ => ⟨S1024x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x1, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S1024x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Cross.lean ====
abbrev S65536x1024 : Shape := ⟨2, ![65536, 1024]⟩
abbrev S32x256x1024 : Shape := ⟨3, ![32, 256, 1024]⟩
abbrev S1024x1024 : Shape := ⟨2, ![1024, 1024]⟩
abbrev S512x1024 : Shape := ⟨2, ![512, 1024]⟩
abbrev S66048x1024 : Shape := ⟨2, ![66048, 1024]⟩
abbrev S1x256x1024 : Shape := ⟨3, ![1, 256, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S32x256x1024, .bf16⟩
  | .hbm, ⟨3, _⟩ => ⟨S32x256x1024, .bf16⟩
  | .hbm, ⟨4, _⟩ => ⟨S1024x1024, .bf16⟩
  | .hbm, ⟨5, _⟩ => ⟨S512x1024, .f32⟩
  | .hbm, ⟨6, _⟩ => ⟨S66048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c128_i32 : BitVec 32 := 128#32
  let v0 : BitVec 1 := Scalar.cmpi .slt arg0 c128_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c128_i32_0 : BitVec 32 := 128#32
  let v3 : BitVec 1 := Scalar.cmpi .sge arg0 c128_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c127_i32 : BitVec 32 := 127#32
  let v0 : BitVec 32 := Scalar.minsi arg0 c127_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c127_i32 : BitVec 32 := 127#32
  let v0 : BitVec 32 := Scalar.minsi arg0 c127_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CrossRefIdeal.lean ====
abbrev S65536x1024 : Shape := ⟨2, ![65536, 1024]⟩
abbrev S32x256x1024 : Shape := ⟨3, ![32, 256, 1024]⟩
abbrev S1024x1024 : Shape := ⟨2, ![1024, 1024]⟩
abbrev S512x1024 : Shape := ⟨2, ![512, 1024]⟩
abbrev S32x2048x4x256 : Shape := ⟨4, ![32, 2048, 4, 256]⟩
abbrev S32x256x4x256 : Shape := ⟨4, ![32, 256, 4, 256]⟩
abbrev S32x4x2048x256 : Shape := ⟨4, ![32, 4, 2048, 256]⟩
abbrev S_ : Shape := ⟨0, ![]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩
abbrev S66048x1024 : Shape := ⟨2, ![66048, 1024]⟩

abbrev nBuf : Space → Nat
  | .hbm => 34
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S32x256x1024, .bf16⟩
  | .hbm, ⟨3, _⟩ => ⟨S32x256x1024, .bf16⟩
  | .hbm, ⟨4, _⟩ => ⟨S1024x1024, .bf16⟩
  | .hbm, ⟨5, _⟩ => ⟨S512x1024, .f32⟩
  | .hbm, ⟨6, _⟩ => ⟨S65536x1024, .f32⟩
  | .hbm, ⟨7, _⟩ => ⟨S32x2048x4x256, .f32⟩
  | .hbm, ⟨8, _⟩ => ⟨S32x256x1024, .f32⟩
  | .hbm, ⟨9, _⟩ => ⟨S32x256x4x256, .f32⟩
  | .hbm, ⟨10, _⟩ => ⟨S32x4x2048x256, .f32⟩
  | .hbm, ⟨11, _⟩ => ⟨S_, .f32⟩
  | .hbm, ⟨12, _⟩ => ⟨S32x4x2048, .f32⟩
  | .hbm, ⟨13, _⟩ => ⟨S_, .f32⟩
  | .hbm, ⟨14, _⟩ => ⟨S32x4x2048, .f32⟩
  | .hbm, ⟨15, _⟩ => ⟨S32x4x2048, .f32⟩
  | .hbm, ⟨16, _⟩ => ⟨S32x4x2048x1, .f32⟩
  | .hbm, ⟨17, _⟩ => ⟨S32x4x2048x256, .f32⟩
  | .hbm, ⟨18, _⟩ => ⟨S32x4x2048x256, .f32⟩
  | .hbm, ⟨19, _⟩ => ⟨S32x4x2048x256, .f32⟩
  | .hbm, ⟨20, _⟩ => ⟨S_, .f32⟩
  | .hbm, ⟨21, _⟩ => ⟨S32x4x2048, .f32⟩
  | .hbm, ⟨22, _⟩ => ⟨S32x4x2048x1, .f32⟩
  | .hbm, ⟨23, _⟩ => ⟨S32x4x2048x256, .f32⟩
  | .hbm, ⟨24, _⟩ => ⟨S32x4x2048x256, .f32⟩
  | .hbm, ⟨25, _⟩ => ⟨S32x256x1024, .f32⟩
  | .hbm, ⟨26, _⟩ => ⟨S32x256x4x256, .f32⟩
  | .hbm, ⟨27, _⟩ => ⟨S32x4x256x2048, .f32⟩
  | .hbm, ⟨28, _⟩ => ⟨S32x2048x4x256, .f32⟩
  | .hbm, ⟨29, _⟩ => ⟨S65536x1024, .f32⟩
  | .hbm, ⟨30, _⟩ => ⟨S1024x1024, .f32⟩
  | .hbm, ⟨31, _⟩ => ⟨S65536x1024, .f32⟩
  | .hbm, ⟨32, _⟩ => ⟨S65536x1024, .f32⟩
  | .hbm, ⟨33, _⟩ => ⟨S66048x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Spec.lean ====
/- Differential attention of one row over an arbitrary finite set of keys, on extended reals: the softmax of two score
   rows, their difference, the weighted values, and the norm over the head's lanes. The two facts the certificate needs:
   keys whose scores are −∞ may be left out, and `e · (1 / t)` is `e / t` where the row's total is not zero. -/
module

public import Idealize.ShloMosaic.PureOps.Ideal.Laws
public import Idealize.ShloMosaic.Lib.Pointwise.Sums

@[expose] public section

noncomputable section

namespace Cert.DiffAttn

open Idealize.ShloMosaic
open scoped BigOperators

variable {ι κ : Type} [Fintype ι] [Fintype κ]

/-- The largest score of a row. -/
def peak (S : ι → EReal) : EReal := Finset.univ.sup S
/-- A key's weight before normalising. -/
def weight (S : ι → EReal) (j : ι) : EReal := Ideal.exp (S j - peak S)
/-- The row's total weight. -/
def total (S : ι → EReal) : EReal := ∑ j, weight S j

/-- The values weighted by the difference of the two softmax rows. -/
def mixed (S₀ S₁ : ι → EReal) (lam : EReal) (V : ι → EReal) : EReal :=
  ∑ j, (Ideal.div (weight S₀ j) (total S₀) - lam * Ideal.div (weight S₁ j) (total S₁)) * V j

/-- The same, each row scaled by the reciprocal of its total. -/
def mixedRecip (S₀ S₁ : ι → EReal) (lam : EReal) (V : ι → EReal) : EReal :=
  ∑ j, (weight S₀ j * Ideal.div 1 (total S₀) - weight S₁ j * (lam * Ideal.div 1 (total S₁))) * V j

/-- The norm over a head's lanes, with its gain and the fixed scale. -/
def normed (o g : Fin 128 → EReal) (d : Fin 128) : EReal :=
  o d * Ideal.rsqrt (Ideal.div (∑ e, o e * o e) (Ideal.ofBits .f32 0x43000000#32) + Ideal.ofBits .f32 0x358637BD#32)
    * g d * Ideal.ofBits .f32 0x3F4CCCCD#32

theorem exp_nonneg (x : EReal) : 0 ≤ Ideal.exp x := by
  induction x with
  | bot => exact le_rfl
  | top => exact le_top
  | coe r => rw [Ideal.exp_coe]; exact EReal.coe_nonneg.2 (Real.exp_pos r).le

/-- A row with a score above −∞ and none at +∞ has a total that is not zero. -/
theorem total_ne_zero (S : ι → EReal) (htop : ∀ j, S j ≠ ⊤) (hbot : ∃ j, S j ≠ ⊥) : total S ≠ 0 := by
  obtain ⟨j₀, hj₀⟩ := hbot
  obtain ⟨i, -, hi⟩ := Finset.exists_mem_eq_sup Finset.univ ⟨j₀, Finset.mem_univ j₀⟩ S
  have hM : S i ≠ ⊥ := fun h => hj₀ (le_bot_iff.1 (by
    have := Finset.le_sup (f := S) (Finset.mem_univ j₀)
    rwa [hi, h] at this))
  have hone : weight S i = 1 := by
    unfold weight peak
    rw [hi, EReal.sub_self (htop i) hM]
    simpa using Ideal.exp_coe (r := 0)
  have hle : weight S i ≤ total S :=
    Finset.single_le_sum (f := weight S) (fun j _ => exp_nonneg _) (Finset.mem_univ i)
  rw [hone] at hle
  exact (lt_of_lt_of_le zero_lt_one hle).ne'

/-- A row's weights over two sets of keys taken together. -/
theorem peak_sum {α β : Type} [Fintype α] [Fintype β] (S : α ⊕ β → EReal) :
    peak S = max (peak fun a => S (.inl a)) (peak fun b => S (.inr b)) := by
  apply le_antisymm
  · refine Finset.sup_le fun j _ => ?_
    cases j with
    | inl a => exact le_max_of_le_left (Finset.le_sup (f := fun a => S (.inl a)) (Finset.mem_univ a))
    | inr b => exact le_max_of_le_right (Finset.le_sup (f := fun b => S (.inr b)) (Finset.mem_univ b))
  · exact max_le (Finset.sup_le fun a _ => Finset.le_sup (f := S) (Finset.mem_univ _))
      (Finset.sup_le fun b _ => Finset.le_sup (f := S) (Finset.mem_univ _))

section Restrict

variable (f : ι → κ) (hf : Function.Injective f)
include hf

theorem peak_restrict (S : κ → EReal) (h : ∀ j, j ∉ Set.range f → S j = ⊥) : peak (S ∘ f) = peak S := by
  apply le_antisymm
  · exact Finset.sup_le fun i _ => Finset.le_sup (f := S) (Finset.mem_univ (f i))
  · refine Finset.sup_le fun j _ => ?_
    by_cases hj : j ∈ Set.range f
    · obtain ⟨i, rfl⟩ := hj
      exact Finset.le_sup (f := S ∘ f) (Finset.mem_univ i)
    · rw [h j hj]; exact bot_le

theorem weight_restrict (S : κ → EReal) (h : ∀ j, j ∉ Set.range f → S j = ⊥) (i : ι) :
    weight (S ∘ f) i = weight S (f i) := by
  unfold weight; rw [peak_restrict f hf S h]; rfl

omit hf in
theorem weight_hidden (S : κ → EReal) (h : ∀ j, j ∉ Set.range f → S j = ⊥) (j : κ) (hj : j ∉ Set.range f) :
    weight S j = 0 := by
  unfold weight; rw [h j hj, EReal.bot_sub]; rfl

theorem total_restrict (S : κ → EReal) (h : ∀ j, j ∉ Set.range f → S j = ⊥) : total (S ∘ f) = total S :=
  Fintype.sum_of_injective f hf _ _ (fun j hj => weight_hidden f S h j hj) (fun i => weight_restrict f hf S h i)

/-- **Hidden keys may be left out**, and the reciprocal of the total taken first. -/
theorem mixed_restrict (S₀ S₁ : κ → EReal) (lam : EReal) (V : κ → EReal)
    (h₀ : ∀ j, j ∉ Set.range f → S₀ j = ⊥) (h₁ : ∀ j, j ∉ Set.range f → S₁ j = ⊥)
    (t₀ : total S₀ ≠ 0) (t₁ : total S₁ ≠ 0) :
    mixedRecip (S₀ ∘ f) (S₁ ∘ f) lam (V ∘ f) = mixed S₀ S₁ lam V := by
  refine Fintype.sum_of_injective f hf _ _ (fun j hj => ?_) (fun i => ?_)
  · rw [weight_hidden f S₀ h₀ j hj, weight_hidden f S₁ h₁ j hj]
    unfold Ideal.div
    rw [if_neg t₀, if_neg t₁, zero_mul, zero_mul, mul_zero, sub_zero, zero_mul]
  · rw [weight_restrict f hf S₀ h₀, weight_restrict f hf S₁ h₁, total_restrict f hf S₀ h₀, total_restrict f hf S₁ h₁]
    unfold Ideal.div
    rw [if_neg t₀, if_neg t₁, if_neg t₀, if_neg t₁, one_mul, one_mul, mul_left_comm]
    rfl

end Restrict

/-! ## The scores of one head -/

/-- Component `c`'s score of a query row and a key row: the product over its 64 lanes. -/
def score (c : Fin 2) (q k : Fin 128 → EReal) : EReal :=
  ∑ d : Fin 64, q ⟨64 * c.val + d.val, by omega⟩ * k ⟨64 * c.val + d.val, by omega⟩

/-- The scores with the chunk-causal mask: a key is seen from its own chunk of 64 rows on. -/
def masked (c : Fin 2) (q : Fin 128 → EReal) (K : Fin 2048 → Fin 128 → EReal) (R j : Fin 2048) : EReal :=
  if j.val / 64 ≤ R.val / 64 then score c q (K j) else ⊥

/-- One head's output row `R`, lane `d`. -/
def headOut (lam : EReal) (g : Fin 128 → EReal) (Q K V : Fin 2048 → Fin 128 → EReal) (R : Fin 2048) (d : Fin 128) : EReal :=
  normed (fun e => mixed (masked 0 (Q R) K R) (masked 1 (Q R) K R) lam (fun j => V j e)) g d

/-- The lanes below 64 alone give component 0's score. -/
theorem score_low (q k : Fin 128 → EReal) : ∑ l : Fin 128, (if l.val < 64 then q l else 0) * k l = score 0 q k := by
  rw [Fin.sum_univ_two_halves 64 64 rfl]
  have : ∀ d : Fin 64, ¬ (64 + d.val < 64) := fun d => by omega
  simp [score, this]

/-- The lanes from 64 on alone give component 1's score. -/
theorem score_high (q k : Fin 128 → EReal) : ∑ l : Fin 128, (if 64 ≤ l.val then q l else 0) * k l = score 1 q k := by
  rw [Fin.sum_univ_two_halves 64 64 rfl]
  have : ∀ d : Fin 64, ¬ (64 ≤ d.val) := fun d => by omega
  simp [score, this]

/-- An extended real that is neither infinity. -/
def Finite (x : EReal) : Prop := ∃ r : ℝ, x = r

theorem finite_of (x : EReal) (h : x ≠ ⊤) (h' : x ≠ ⊥) : Finite x := ⟨x.toReal, (EReal.coe_toReal h h').symm⟩

theorem score_finite (c : Fin 2) (q k : Fin 128 → EReal) (hq : ∀ d, Finite (q d)) (hk : ∀ d, Finite (k d)) :
    Finite (score c q k) := by
  unfold score
  refine Finset.sum_induction _ Finite ?_ ⟨0, rfl⟩ fun d _ => ?_
  · rintro _ _ ⟨a, rfl⟩ ⟨b, rfl⟩; exact ⟨a + b, (EReal.coe_add a b).symm⟩
  · obtain ⟨a, ha⟩ := hq ⟨64 * c.val + d.val, by omega⟩
    obtain ⟨b, hb⟩ := hk ⟨64 * c.val + d.val, by omega⟩
    exact ⟨a * b, by rw [ha, hb, EReal.coe_mul]⟩

/-- With finite queries and keys no masked row's total is zero: every row sees its own key. -/
theorem masked_total (c : Fin 2) (q : Fin 128 → EReal) (K : Fin 2048 → Fin 128 → EReal) (R : Fin 2048)
    (hq : ∀ d, Finite (q d)) (hK : ∀ j d, Finite (K j d)) : total (masked c q K R) ≠ 0 := by
  refine total_ne_zero _ (fun j => ?_) ⟨R, ?_⟩
  · unfold masked
    split
    · obtain ⟨r, hr⟩ := score_finite c q (K j) hq (hK j); rw [hr]; exact EReal.coe_ne_top r
    · exact bot_ne_top
  · unfold masked
    rw [if_pos le_rfl]
    obtain ⟨r, hr⟩ := score_finite c q (K R) hq (hK R); rw [hr]; exact EReal.coe_ne_bot r

end Cert.DiffAttn

end
-- ==== Proof.Rows.lean ====
/- Rows of a matrix: the sum of a row's entries, a column spread over a row, the entries of a product, and the row norm of the
   layer with the product that follows it. -/
module

public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pipeline.Value

@[expose] public section

noncomputable section

namespace Cert.Rows

open Idealize.ShloMosaic
open Idealize.ShloMosaic.ValueIdx
open scoped BigOperators

variable {M n : ℕ}

theorem lift_row (h : (⟨2, ![M, n]⟩ : Shape).Reduces [1] (⟨1, ![M]⟩ : Shape)) (r : Fin M) (k : Fin n) :
    h.lift (ValueIdx.ix1 r) k = ValueIdx.ix2 r k := by
  funext c; apply Fin.ext
  fin_cases c <;> rfl

theorem rowSum_apply (x : FVec Ideal ⟨2, ![M, n]⟩ .f32) (h : (⟨2, ![M, n]⟩ : Shape).Reduces [1] (⟨1, ![M]⟩ : Shape))
    (hc : (⟨1, ![M]⟩ : Shape).ShapeCasts ⟨2, ![M, 1]⟩) (r : Fin M) (u : Fin 1) :
    shapeCast ⟨2, ![M, 1]⟩ (multiReduction .add [1] ⟨1, ![M]⟩ x 0x00000000#32 h (.inl rfl) rfl) hc (ValueIdx.ix2 r u)
      = ∑ k, x (ValueIdx.ix2 r k) := by
  refine (shapeCast_a_a1_apply _ hc r u).trans ((Ideal.multiReduction_add_single x _ h _ _ (ValueIdx.ix1 r)).trans ?_)
  exact Finset.sum_congr rfl fun k _ => congrArg x (lift_row h r k)

theorem spread_apply (x : FVec Ideal ⟨2, ![M, 1]⟩ .f32)
    (h : (⟨2, ![M, 1]⟩ : Shape).Broadcasts ⟨2, ![M, n]⟩) (r : Fin M) (k : Fin n) (hM : M ≠ 1 := by decide) :
    broadcastTo ⟨2, ![M, n]⟩ x h (ValueIdx.ix2 r k) = x (ValueIdx.ix2 r 0) :=
  broadcastTo_apply _ _ _ _ fun a => match a with
    | ⟨0, _⟩ => (if_neg hM).symm
    | ⟨1, _⟩ => rfl

/-- An entry of a product of two matrices. -/
theorem product_apply {M K N : ℕ} {φ₁ φ₂ : FTy} (a : FVec Ideal ⟨2, ![M, K]⟩ φ₁) (b : FVec Ideal ⟨2, ![K, N]⟩ φ₂) (r : Fin M) (c : Fin N) :
    matmul (DotDims.plain M K N) none a b (constant ⟨2, ![M, N]⟩ .f32 0x00000000#32) (ValueIdx.ix2 r c)
      = ∑ k : Fin K, a (ValueIdx.ix2 r k) * b (ValueIdx.ix2 k c) := by
  unfold matmul
  refine (Ideal.matmul_plain_apply _ _ _ _ _ _).trans ?_
  simp only [constant]
  rw [show (Scalar.ofBits .f32 0x00000000#32 : Ideal .f32) = (0 : EReal) from Ideal.ofBits_zero_f32, zero_add]

/-! ## The norm of a row of 1024 entries -/

/-- The scale a row is multiplied by: one over the root of the mean of its squares. -/
def scaleOf (x : Fin 1024 → EReal) : EReal :=
  Ideal.rsqrt (Ideal.div (∑ k, x k * x k) (Ideal.ofBits .f32 0x44800000#32) + Ideal.ofBits .f32 0x358637BD#32)

/-- A normed row. -/
def normed (x g : Fin 1024 → EReal) (k : Fin 1024) : EReal := x k * scaleOf x * g k

/-- An entry of the product of the normed rows of `X` with the weights `W`. -/
def proj {C : ℕ} (X : (⟨2, ![M, 1024]⟩ : Shape).Idx → EReal) (G : (⟨2, ![1, 1024]⟩ : Shape).Idx → EReal)
    (W : (⟨2, ![1024, C]⟩ : Shape).Idx → EReal) (r : Fin M) (c : Fin C) : EReal :=
  ∑ k : Fin 1024, normed (fun k => X (ValueIdx.ix2 r k)) (fun k => G (ValueIdx.ix2 (0 : Fin 1) k)) k * W (ValueIdx.ix2 k c)

/-- The operations of the norm, at a row and a lane. -/
theorem norm_apply (x : FVec Ideal ⟨2, ![M, 1024]⟩ .f32) (g : FVec Ideal ⟨2, ![1, 1024]⟩ .f32)
    (h : (⟨2, ![M, 1024]⟩ : Shape).Reduces [1] (⟨1, ![M]⟩ : Shape)) (hc : (⟨1, ![M]⟩ : Shape).ShapeCasts ⟨2, ![M, 1]⟩)
    (hb : (⟨2, ![M, 1]⟩ : Shape).Broadcasts ⟨2, ![M, 1024]⟩) (hg : (⟨2, ![1, 1024]⟩ : Shape).Broadcasts ⟨2, ![M, 1024]⟩)
    (hlt : FTy.bits .bf16 < FTy.bits .f32) (hM : M ≠ 1) (r : Fin M) (k : Fin 1024) :
    truncf .bf16 (mulf (mulf x (broadcastTo ⟨2, ![M, 1024]⟩ (rsqrt (addf (divf (shapeCast ⟨2, ![M, 1]⟩
      (multiReduction .add [1] ⟨1, ![M]⟩ (mulf x x) 0x00000000#32 h (.inl rfl) rfl) hc)
        (broadcast ⟨2, ![M, 1]⟩ (Scalar.ofBits .f32 0x44800000#32 : Ideal .f32))) (broadcast ⟨2, ![M, 1]⟩ (Scalar.ofBits .f32 0x358637BD#32 : Ideal .f32)))) hb))
      (broadcastTo ⟨2, ![M, 1024]⟩ g hg)) hlt (ValueIdx.ix2 r k)
      = normed (fun k => x (ValueIdx.ix2 r k)) (fun k => g (ValueIdx.ix2 (0 : Fin 1) k)) k := by
  refine congrArg₂ (· * ·) (congrArg (x (ValueIdx.ix2 r k) * ·) ((spread_apply _ hb r k hM).trans ?_)) ?_
  · refine congrArg (fun s : EReal => Ideal.rsqrt (Ideal.div s _ + _)) ?_
    exact rowSum_apply (mulf x x) h hc r 0
  · exact broadcastTo_1b_ab_apply g hg r k

end Cert.Rows

end
-- ==== Proof.Tile.lean ====
/- One tile of 256 query rows of the attention kernel's body, over a prefix of `n` keys and its own diagonal block of
   256 keys: the operations in the order the body runs them, and what they give at a row and a lane. The tiles of the body
   differ in `n` alone, so the reading is done once. -/
module

public import proofs.«01_k».proof.Proof.Spec
public import proofs.«01_k».proof.Proof.Gen.AttnIdeal.Skeleton
public import proofs.«01_k».proof.Proof.Rows
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pipeline.Value

@[expose] public section

noncomputable section

namespace Cert.DiffAttn

open Idealize.ShloMosaic hiding ix1 ix2 ix3 ix4 ix5
open Idealize.ShloMosaic.ValueIdx Cert.AttnIdeal Cert.AttnIdeal.Gen
open Cert.Rows (lift_row rowSum_apply spread_apply)
open scoped BigOperators

/-! ## Rows of a matrix -/

section Rows

variable {n : ℕ}

theorem rowMax_apply (x : FVec Ideal ⟨2, ![256, n]⟩ .f32) (h : (⟨2, ![256, n]⟩ : Shape).Reduces [1] (⟨1, ![256]⟩ : Shape))
    (hc : (⟨1, ![256]⟩ : Shape).ShapeCasts ⟨2, ![256, 1]⟩) (r : Fin 256) (u : Fin 1) :
    shapeCast ⟨2, ![256, 1]⟩ (multiReduction .maximumf [1] ⟨1, ![256]⟩ x 0xFF800000#32 h (.inl rfl) rfl) hc (ix2 r u)
      = peak fun k => x (ix2 r k) := by
  refine (shapeCast_a_a1_apply _ hc r u).trans ((Ideal.multiReduction_maximumf_single x _ h _ _ (ix1 r)).trans ?_)
  have hb : (FloatOps.ofBits .f32 0xFF800000#32 : Ideal .f32) = (⊥ : EReal) := by
    show Ideal.ofBits .f32 0xFF800000#32 = ⊥
    simp [Ideal.ofBits, Ideal.ieee]
  rw [hb]
  exact congrArg (Finset.univ.fold max (⊥ : EReal)) (funext fun k => congrArg x (lift_row h r k))

end Rows

/-! ## The tile's operations -/

/-- A tile's queries with the lanes of the other component put to zero. -/
def lowLanes (q : Vec Ideal S256x128 .bf16) : Vec Ideal S256x128 .bf16 :=
  select (cmpi .slt (iota .tc S256x128 32 [1] iota_S256x128_d1_w32) (broadcast S256x128 64#32)) q
    (broadcast S256x128 (Scalar.ofBits .bf16 0x0000#16 : Ideal .bf16))
def highLanes (q : Vec Ideal S256x128 .bf16) : Vec Ideal S256x128 .bf16 :=
  select (cmpi .sge (iota .tc S256x128 32 [1] iota_S256x128_d1_w32) (broadcast S256x128 64#32)) q
    (broadcast S256x128 (Scalar.ofBits .bf16 0x0000#16 : Ideal .bf16))

/-- The scores against the diagonal block, hidden keys at the mask. -/
def diagScores (vis : IVec S256x256 1) (q k : Vec Ideal S256x128 .bf16) : FVec Ideal S256x256 .f32 :=
  select vis (matmul (φ₁ := .bf16) (φ₂ := .bf16) (DotDims.transposedRhs 256 128 256) none q k (constant S256x256 .f32 0x00000000#32))
    (broadcast S256x256 (Named.named κ "mask" 0xF149F2CA#32))

/-- The norm over the lanes, the gain and the scale. -/
def subNorm (o : FVec Ideal S256x128 .f32) (g : Vec Ideal S1x128 .f32) : FVec Ideal S256x128 .bf16 :=
  truncf .bf16
    (mulf
      (mulf
        (mulf o
          (broadcastTo S256x128
            (rsqrt
              (addf
                (divf
                  (shapeCast S256x1 (multiReduction .add [1] S256 (mulf o o) 0x00000000#32 reduces_S256x128_S256 (.inl rfl) rfl)
                    shapeCasts_S256_S256x1)
                  (broadcast S256x1 (Scalar.ofBits .f32 0x43000000#32)))
                (broadcast S256x1 (Scalar.ofBits .f32 0x358637BD#32))))
            broadcasts_S256x1_S256x128))
        (broadcastTo S256x128 g broadcasts_S1x128_S256x128))
      (broadcast S256x128 (Scalar.ofBits .f32 0x3F4CCCCD#32)))
    bitsLt_bf16_f32

section Prefix

variable {n N : ℕ}

/-- The scores against the prefix. -/
def preScores (q : Vec Ideal S256x128 .bf16) (k : Vec Ideal ⟨2, ![n, 128]⟩ .bf16) : FVec Ideal ⟨2, ![256, n]⟩ .f32 :=
  matmul (φ₁ := .bf16) (φ₂ := .bf16) (DotDims.transposedRhs 256 128 n) none q k (constant ⟨2, ![256, n]⟩ .f32 0x00000000#32)

/-- A row's largest score over both pieces. -/
def rowPeak (p : FVec Ideal ⟨2, ![256, n]⟩ .f32) (s : FVec Ideal S256x256 .f32)
    (hr : (⟨2, ![256, n]⟩ : Shape).Reduces [1] (⟨1, ![256]⟩ : Shape)) : FVec Ideal S256x1 .f32 :=
  maximumf
    (shapeCast S256x1 (multiReduction .maximumf [1] S256 p 0xFF800000#32 hr (.inl rfl) rfl) shapeCasts_S256_S256x1)
    (shapeCast S256x1 (multiReduction .maximumf [1] S256 s 0xFF800000#32 reduces_S256x256_S256 (.inl rfl) rfl)
      shapeCasts_S256_S256x1)

/-- The exponentials of one piece. -/
def expPiece (p : FVec Ideal ⟨2, ![256, n]⟩ .f32) (m : FVec Ideal S256x1 .f32)
    (hb : S256x1.Broadcasts ⟨2, ![256, n]⟩) : FVec Ideal ⟨2, ![256, n]⟩ .f32 :=
  exp (subf p (broadcastTo ⟨2, ![256, n]⟩ m hb))

/-- The reciprocal of the total over both pieces. -/
def rowRecip (p : FVec Ideal ⟨2, ![256, n]⟩ .f32) (s : FVec Ideal S256x256 .f32)
    (hr : (⟨2, ![256, n]⟩ : Shape).Reduces [1] (⟨1, ![256]⟩ : Shape)) : FVec Ideal S256x1 .f32 :=
  divf (broadcast S256x1 (Scalar.ofBits .f32 0x3F800000#32))
    (addf
      (shapeCast S256x1 (multiReduction .add [1] S256 p 0x00000000#32 hr (.inl rfl) rfl) shapeCasts_S256_S256x1)
      (shapeCast S256x1 (multiReduction .add [1] S256 s 0x00000000#32 reduces_S256x256_S256 (.inl rfl) rfl)
        shapeCasts_S256_S256x1))

/-- Both pieces' exponentials side by side. -/
def bothExp (p : FVec Ideal ⟨2, ![256, n]⟩ .f32) (s : FVec Ideal S256x256 .f32)
    (hr : (⟨2, ![256, n]⟩ : Shape).Reduces [1] (⟨1, ![256]⟩ : Shape)) (hb : S256x1.Broadcasts ⟨2, ![256, n]⟩)
    (hc : Shape.Concatenates [⟨2, ![256, n]⟩, S256x256] ⟨2, ![256, N]⟩ 1) : FVec Ideal ⟨2, ![256, N]⟩ .f32 :=
  concatenate ⟨2, ![256, N]⟩ 1
    [⟨⟨2, ![256, n]⟩, expPiece p (rowPeak p s hr) hb⟩, ⟨S256x256, expPiece s (rowPeak p s hr) broadcasts_S256x1_S256x256⟩] hc

/-- The reciprocal of a component's total, from its scores. -/
def compRecip (p : FVec Ideal ⟨2, ![256, n]⟩ .f32) (s : FVec Ideal S256x256 .f32)
    (hr : (⟨2, ![256, n]⟩ : Shape).Reduces [1] (⟨1, ![256]⟩ : Shape)) (hb : S256x1.Broadcasts ⟨2, ![256, n]⟩) :
    FVec Ideal S256x1 .f32 :=
  rowRecip (expPiece p (rowPeak p s hr) hb) (expPiece s (rowPeak p s hr) broadcasts_S256x1_S256x256) hr

/-- A whole tile. -/
def tile (lam : FVec Ideal S1x1 .f32) (g : Vec Ideal S1x128 .f32) (vis : IVec S256x256 1) (q kd : Vec Ideal S256x128 .bf16)
    (kp : Vec Ideal ⟨2, ![n, 128]⟩ .bf16) (v : Vec Ideal ⟨2, ![N, 128]⟩ .bf16)
    (hr : (⟨2, ![256, n]⟩ : Shape).Reduces [1] (⟨1, ![256]⟩ : Shape)) (hb : S256x1.Broadcasts ⟨2, ![256, n]⟩)
    (hc : Shape.Concatenates [⟨2, ![256, n]⟩, S256x256] ⟨2, ![256, N]⟩ 1) (hB : S256x1.Broadcasts ⟨2, ![256, N]⟩) :
    FVec Ideal S256x128 .bf16 :=
  subNorm
    (matmul (φ₁ := .bf16) (φ₂ := .bf16) (DotDims.plain 256 N 128) none
      (truncf .bf16
        (subf
          (mulf (bothExp (preScores (lowLanes q) kp) (diagScores vis (lowLanes q) kd) hr hb hc)
            (broadcastTo ⟨2, ![256, N]⟩ (compRecip (preScores (lowLanes q) kp) (diagScores vis (lowLanes q) kd) hr hb) hB))
          (mulf (bothExp (preScores (highLanes q) kp) (diagScores vis (highLanes q) kd) hr hb hc)
            (broadcastTo ⟨2, ![256, N]⟩
              (mulf (broadcastTo S256x1 lam broadcasts_S1x1_S256x1)
                (compRecip (preScores (highLanes q) kp) (diagScores vis (highLanes q) kd) hr hb)) hB)))
        bitsLt_bf16_f32)
      v (constant S256x128 .f32 0x00000000#32)) g

end Prefix

/-- The first tile: no prefix. -/
def firstTile (lam : FVec Ideal S1x1 .f32) (g : Vec Ideal S1x128 .f32) (vis : IVec S256x256 1)
    (q k v : Vec Ideal S256x128 .bf16) : FVec Ideal S256x128 .bf16 :=
  let peakOf (s : FVec Ideal S256x256 .f32) : FVec Ideal S256x1 .f32 :=
    shapeCast S256x1 (multiReduction .maximumf [1] S256 s 0xFF800000#32 reduces_S256x256_S256 (.inl rfl) rfl)
      shapeCasts_S256_S256x1
  let expOf (s : FVec Ideal S256x256 .f32) : FVec Ideal S256x256 .f32 := expPiece s (peakOf s) broadcasts_S256x1_S256x256
  let recipOf (s : FVec Ideal S256x256 .f32) : FVec Ideal S256x1 .f32 :=
    divf (broadcast S256x1 (Scalar.ofBits .f32 0x3F800000#32))
      (shapeCast S256x1 (multiReduction .add [1] S256 (expOf s) 0x00000000#32 reduces_S256x256_S256 (.inl rfl) rfl)
        shapeCasts_S256_S256x1)
  subNorm
    (matmul (φ₁ := .bf16) (φ₂ := .bf16) (DotDims.plain 256 256 128) none
      (truncf .bf16
        (subf
          (mulf (expOf (diagScores vis (lowLanes q) k))
            (broadcastTo S256x256 (recipOf (diagScores vis (lowLanes q) k)) broadcasts_S256x1_S256x256))
          (mulf (expOf (diagScores vis (highLanes q) k))
            (broadcastTo S256x256
              (mulf (broadcastTo S256x1 lam broadcasts_S1x1_S256x1) (recipOf (diagScores vis (highLanes q) k)))
              broadcasts_S256x1_S256x256)))
        bitsLt_bf16_f32)
      v (constant S256x128 .f32 0x00000000#32)) g

end Cert.DiffAttn

end
-- ==== Proof.Tiles.lean ====
/- The body's eight stores are eight tiles. -/
module

public import proofs.«01_k».proof.Proof.Tile
public import proofs.«01_k».proof.Proof.Gen.AttnIdeal.Frame

@[expose] public section

noncomputable section

namespace Cert.DiffAttn

open Idealize.ShloMosaic hiding ix1 ix2 ix3 ix4 ix5
open Idealize.ShloMosaic.ValueIdx Cert.AttnIdeal Cert.AttnIdeal.Gen

variable (x0 x1 x2 x3 : Vec Ideal S1x64 .f32) (x4 : Vec Ideal S1x128 .f32) (x5 x6 x7 : Vec Ideal S2048x128 .bf16)

/-- The weight of the second softmax, as the body computes it. -/
abbrev lamOf : FVec Ideal S1x1 .f32 := k0_pay2 (View.ld x0 r0_0) (View.ld x1 r0_0) (View.ld x2 r0_0) (View.ld x3 r0_0)
/-- The mask of a diagonal block. -/
abbrev visOf : IVec S256x256 1 := k0_pay4 k0_pay3

theorem stores : out0_8 x0 x1 x2 x3 x4 x5 x6 x7 = View.canon
    [⟨r0_15, tile (n := 1792) (N := 2048) (lamOf x0 x1 x2 x3) (View.ld x4 r0_2) visOf (View.ld x5 r0_15) (View.ld x6 r0_15) (View.ld x6 r0_14) (View.ld x7 r0_16)
        reduces_S256x1792_S256 broadcasts_S256x1_S256x1792 concatenates_S256x1792_S256x256_S256x2048_d1 broadcasts_S256x1_S256x2048⟩,
     ⟨r0_13, tile (n := 1536) (N := 1792) (lamOf x0 x1 x2 x3) (View.ld x4 r0_2) visOf (View.ld x5 r0_13) (View.ld x6 r0_13) (View.ld x6 r0_12) (View.ld x7 r0_14)
        reduces_S256x1536_S256 broadcasts_S256x1_S256x1536 concatenates_S256x1536_S256x256_S256x1792_d1 broadcasts_S256x1_S256x1792⟩,
     ⟨r0_11, tile (n := 1280) (N := 1536) (lamOf x0 x1 x2 x3) (View.ld x4 r0_2) visOf (View.ld x5 r0_11) (View.ld x6 r0_11) (View.ld x6 r0_10) (View.ld x7 r0_12)
        reduces_S256x1280_S256 broadcasts_S256x1_S256x1280 concatenates_S256x1280_S256x256_S256x1536_d1 broadcasts_S256x1_S256x1536⟩,
     ⟨r0_9, tile (n := 1024) (N := 1280) (lamOf x0 x1 x2 x3) (View.ld x4 r0_2) visOf (View.ld x5 r0_9) (View.ld x6 r0_9) (View.ld x6 r0_8) (View.ld x7 r0_10)
        reduces_S256x1024_S256 broadcasts_S256x1_S256x1024 concatenates_S256x1024_S256x256_S256x1280_d1 broadcasts_S256x1_S256x1280⟩,
     ⟨r0_7, tile (n := 768) (N := 1024) (lamOf x0 x1 x2 x3) (View.ld x4 r0_2) visOf (View.ld x5 r0_7) (View.ld x6 r0_7) (View.ld x6 r0_6) (View.ld x7 r0_8)
        reduces_S256x768_S256 broadcasts_S256x1_S256x768 concatenates_S256x768_S256x256_S256x1024_d1 broadcasts_S256x1_S256x1024⟩,
     ⟨r0_5, tile (n := 512) (N := 768) (lamOf x0 x1 x2 x3) (View.ld x4 r0_2) visOf (View.ld x5 r0_5) (View.ld x6 r0_5) (View.ld x6 r0_4) (View.ld x7 r0_6)
        reduces_S256x512_S256 broadcasts_S256x1_S256x512 concatenates_S256x512_S256x256_S256x768_d1 broadcasts_S256x1_S256x768⟩,
     ⟨r0_3, tile (n := 256) (N := 512) (lamOf x0 x1 x2 x3) (View.ld x4 r0_2) visOf (View.ld x5 r0_3) (View.ld x6 r0_3) (View.ld x6 r0_1) (View.ld x7 r0_4)
        reduces_S256x256_S256 broadcasts_S256x1_S256x256 concatenates_S256x256_S256x256_S256x512_d1 broadcasts_S256x1_S256x512⟩,
     ⟨r0_1, firstTile (lamOf x0 x1 x2 x3) (View.ld x4 r0_2) visOf (View.ld x5 r0_1) (View.ld x6 r0_1) (View.ld x7 r0_1)⟩] := by
  rfl

end Cert.DiffAttn

end
-- ==== Proof.TileValue.lean ====
/- What a tile gives at a row and a lane: the norm of the mixed values over its prefix and its diagonal block. -/
module

public import proofs.«01_k».proof.Proof.Tiles
public import Idealize.ShloMosaic.Lib.WordCmp

@[expose] public section

noncomputable section

namespace Cert.DiffAttn

open Idealize.ShloMosaic hiding ix1 ix2 ix3 ix4 ix5
open Idealize.ShloMosaic.ValueIdx Cert.AttnIdeal Cert.AttnIdeal.Gen
open Cert.Rows (lift_row rowSum_apply spread_apply)
open scoped BigOperators

/-! ## The two components' lanes -/

theorem low_word (l : Fin 128) : IntOp.cmpi .slt (BitVec.ofNat 32 l.val) 64#32 = if l.val < 64 then 1#1 else 0#1 := by
  revert l; decide +kernel
theorem high_word (l : Fin 128) : IntOp.cmpi .sge (BitVec.ofNat 32 l.val) 64#32 = if 64 ≤ l.val then 1#1 else 0#1 := by
  revert l; decide +kernel

theorem lowLanes_apply (q : Vec Ideal S256x128 .bf16) (r : Fin 256) (l : Fin 128) :
    lowLanes q (ix2 r l) = if l.val < 64 then q (ix2 r l) else (0 : EReal) := by
  have e : cmpi .slt (iota .tc S256x128 32 [1] iota_S256x128_d1_w32) (broadcast S256x128 64#32) (ix2 r l)
      = if l.val < 64 then 1#1 else 0#1 := by
    rw [← low_word]
    show IntOp.cmpi .slt (BitVec.ofNat 32 (0 * _ + l.val)) 64#32 = _
    rw [Nat.zero_mul, Nat.zero_add]
  unfold lowLanes
  rw [select_apply, e]
  split
  · rfl
  · exact Ideal.ofBits_zero_bf16

theorem highLanes_apply (q : Vec Ideal S256x128 .bf16) (r : Fin 256) (l : Fin 128) :
    highLanes q (ix2 r l) = if 64 ≤ l.val then q (ix2 r l) else (0 : EReal) := by
  have e : cmpi .sge (iota .tc S256x128 32 [1] iota_S256x128_d1_w32) (broadcast S256x128 64#32) (ix2 r l)
      = if 64 ≤ l.val then 1#1 else 0#1 := by
    rw [← high_word]
    show IntOp.cmpi .sge (BitVec.ofNat 32 (0 * _ + l.val)) 64#32 = _
    rw [Nat.zero_mul, Nat.zero_add]
  unfold highLanes
  rw [select_apply, e]
  split
  · rfl
  · exact Ideal.ofBits_zero_bf16

/-! ## The mask of a diagonal block -/

theorem chunk_word (k : Fin 256) : k0_pay3 (ix2 (0 : Fin 256) k) = BitVec.ofNat 32 (k.val / 64) := by
  revert k; decide +kernel

theorem sle_word (a b : Fin 4) : IntOp.cmpi .sle (BitVec.ofNat 32 a.val) (BitVec.ofNat 32 b.val) = if a.val ≤ b.val then 1#1 else 0#1 := by
  revert a b; decide +kernel

theorem vis_apply (r k : Fin 256) : visOf (ix2 r k) = if k.val / 64 ≤ r.val / 64 then 1#1 else 0#1 := by
  have e : visOf (ix2 r k) = IntOp.cmpi .sle (k0_pay3 (ix2 (0 : Fin 256) k)) (k0_pay3 (ix2 (0 : Fin 256) r)) := rfl
  rw [e, chunk_word, chunk_word]
  exact sle_word ⟨k.val / 64, by omega⟩ ⟨r.val / 64, by omega⟩

theorem mask_named : (Named.named κ "mask" 0xF149F2CA#32 : Ideal .f32) = (⊥ : EReal) := rfl

/-- A row of a matrix. -/
abbrev rowOf {a b : ℕ} (x : (⟨2, ![a, b]⟩ : Shape).Idx → EReal) (r : Fin a) : Fin b → EReal := fun l => x (ix2 r l)

section Prefix

variable {n N : ℕ}

theorem product_apply (q : Vec Ideal S256x128 .bf16) (k : Vec Ideal ⟨2, ![n, 128]⟩ .bf16) (r : Fin 256) (j : Fin n) :
    preScores q k (ix2 r j) = ∑ l : Fin 128, q (ix2 r l) * k (ix2 j l) := by
  unfold preScores matmul
  refine (Ideal.matmul_transposedRhs_apply _ _ _ _ _ _).trans ?_
  simp only [constant]
  rw [show (Scalar.ofBits .f32 0x00000000#32 : Ideal .f32) = (0 : EReal) from Ideal.ofBits_zero_f32, zero_add]

theorem low_score (q : Vec Ideal S256x128 .bf16) (k : Vec Ideal ⟨2, ![n, 128]⟩ .bf16) (r : Fin 256) (j : Fin n) :
    preScores (lowLanes q) k (ix2 r j) = score 0 (rowOf q r) (rowOf k j) := by
  rw [product_apply, ← score_low]
  exact Finset.sum_congr rfl fun l _ => by rw [lowLanes_apply]

theorem high_score (q : Vec Ideal S256x128 .bf16) (k : Vec Ideal ⟨2, ![n, 128]⟩ .bf16) (r : Fin 256) (j : Fin n) :
    preScores (highLanes q) k (ix2 r j) = score 1 (rowOf q r) (rowOf k j) := by
  rw [product_apply, ← score_high]
  exact Finset.sum_congr rfl fun l _ => by rw [highLanes_apply]

theorem diag_apply (q k : Vec Ideal S256x128 .bf16) (r j : Fin 256) :
    diagScores visOf q k (ix2 r j) = if j.val / 64 ≤ r.val / 64 then preScores q k (ix2 r j) else (⊥ : EReal) := by
  unfold diagScores
  rw [select_apply, vis_apply]
  split
  · rfl
  · exact mask_named

/-- Both pieces of a row. -/
def both (p : FVec Ideal ⟨2, ![256, n]⟩ .f32) (s : FVec Ideal S256x256 .f32) (r : Fin 256) : Fin n ⊕ Fin 256 → EReal :=
  Sum.elim (fun k => p (ix2 r k)) (fun k => s (ix2 r k))

variable (p : FVec Ideal ⟨2, ![256, n]⟩ .f32) (s : FVec Ideal S256x256 .f32)
  (hr : (⟨2, ![256, n]⟩ : Shape).Reduces [1] (⟨1, ![256]⟩ : Shape)) (hb : S256x1.Broadcasts ⟨2, ![256, n]⟩)
  (hc : Shape.Concatenates [⟨2, ![256, n]⟩, S256x256] ⟨2, ![256, N]⟩ 1)

theorem rowPeak_apply (r : Fin 256) (u : Fin 1) : rowPeak p s hr (ix2 r u) = peak (both p s r) := by
  rw [peak_sum]
  exact congrArg₂ max (rowMax_apply p hr _ r u) (rowMax_apply s _ _ r u)

theorem expPiece_apply (m : FVec Ideal S256x1 .f32) (r : Fin 256) (k : Fin n) :
    expPiece p m hb (ix2 r k) = Ideal.exp (p (ix2 r k) - m (ix2 r 0)) :=
  congrArg (fun z => Ideal.exp (p (ix2 r k) - z)) (spread_apply m hb r k)

theorem expLeft (r : Fin 256) (k : Fin n) : expPiece p (rowPeak p s hr) hb (ix2 r k) = weight (both p s r) (.inl k) := by
  rw [expPiece_apply, rowPeak_apply]; rfl

theorem expRight (r : Fin 256) (k : Fin 256) :
    expPiece s (rowPeak p s hr) broadcasts_S256x1_S256x256 (ix2 r k) = weight (both p s r) (.inr k) := by
  rw [expPiece_apply, rowPeak_apply]; rfl

theorem compRecip_apply (r : Fin 256) (u : Fin 1) : compRecip p s hr hb (ix2 r u) = Ideal.div 1 (total (both p s r)) := by
  have e : compRecip p s hr hb (ix2 r u)
      = Ideal.div (Ideal.ofBits .f32 0x3F800000#32)
        ((∑ k, expPiece p (rowPeak p s hr) hb (ix2 r k))
          + ∑ k, expPiece s (rowPeak p s hr) broadcasts_S256x1_S256x256 (ix2 r k)) :=
    congrArg₂ (fun a b => Ideal.div (Ideal.ofBits .f32 0x3F800000#32) (a + b))
      (rowSum_apply _ hr _ r u) (rowSum_apply _ _ _ r u)
  rw [e, Ideal.ofBits_one_f32]
  simp only [expLeft, expRight]
  unfold total
  rw [Fintype.sum_sum_type]

theorem both_left (r : Fin 256) (k : Fin n) (h : k.val < N) : bothExp p s hr hb hc (ix2 r ⟨k.val, h⟩) = weight (both p s r) (.inl k) := by
  unfold bothExp
  rw [concatenate_pair_apply_left (t := ⟨2, ![256, N]⟩) (s₁ := ⟨2, ![256, n]⟩) (s₂ := S256x256) 1 _ _ hc (ix2 r ⟨k.val, h⟩) rfl (ix2 r k)
    (fun b => by fin_cases b <;> rfl)]
  exact expLeft p s hr hb r k

theorem both_right (r : Fin 256) (k : Fin 256) (h : n + k.val < N) :
    bothExp p s hr hb hc (ix2 r ⟨n + k.val, h⟩) = weight (both p s r) (.inr k) := by
  unfold bothExp
  rw [concatenate_pair_apply_right (t := ⟨2, ![256, N]⟩) (s₁ := ⟨2, ![256, n]⟩) (s₂ := S256x256) 1 _ _ hc (ix2 r ⟨n + k.val, h⟩) rfl rfl (ix2 r k)
    (fun b hb => by fin_cases b <;> first | rfl | exact absurd rfl hb) (by show k.val + n = n + k.val; omega)]
  exact expRight p s hr r k

end Prefix

/-- The norm at a row and a lane. -/
theorem subNorm_apply (o : FVec Ideal S256x128 .f32) (g : Vec Ideal S1x128 .f32) (r : Fin 256) (d : Fin 128) :
    subNorm o g (ix2 r d) = normed (rowOf o r) (rowOf g 0) d := by
  have e1 := spread_apply (n := 128) (rsqrt (addf (divf
      (shapeCast S256x1 (multiReduction .add [1] S256 (mulf o o) 0x00000000#32 reduces_S256x128_S256 (.inl rfl) rfl)
        shapeCasts_S256_S256x1) (broadcast S256x1 (Scalar.ofBits .f32 0x43000000#32)))
      (broadcast S256x1 (Scalar.ofBits .f32 0x358637BD#32)))) broadcasts_S256x1_S256x128 r d
  have e2 := broadcastTo_1b_ab_apply g broadcasts_S1x128_S256x128 r d
  have e3 := rowSum_apply (mulf o o) reduces_S256x128_S256 shapeCasts_S256_S256x1 r 0
  have e1' : _ = Ideal.rsqrt (Ideal.div (∑ k, o (ix2 r k) * o (ix2 r k)) (Ideal.ofBits .f32 0x43000000#32)
      + Ideal.ofBits .f32 0x358637BD#32) :=
    e1.trans (congrArg (fun z => Ideal.rsqrt (Ideal.div z (Ideal.ofBits .f32 0x43000000#32)
      + Ideal.ofBits .f32 0x358637BD#32)) e3)
  exact congrArg₂ (fun a b => o (ix2 r d) * a * b * Ideal.ofBits .f32 0x3F4CCCCD#32) e1' e2

/-- The product with the values at a row and a lane. -/
theorem values_apply {N : ℕ} (a : FVec Ideal ⟨2, ![256, N]⟩ .f32) (v : Vec Ideal ⟨2, ![N, 128]⟩ .bf16) (r : Fin 256) (d : Fin 128) :
    matmul (φ₁ := .bf16) (φ₂ := .bf16) (DotDims.plain 256 N 128) none (truncf .bf16 a bitsLt_bf16_f32) v
      (constant S256x128 .f32 0x00000000#32) (ix2 r d) = ∑ j : Fin N, a (ix2 r j) * v (ix2 j d) := by
  unfold matmul
  refine (Ideal.matmul_plain_apply _ _ _ _ _ _).trans ?_
  simp only [constant]
  rw [show (Scalar.ofBits .f32 0x00000000#32 : Ideal .f32) = (0 : EReal) from Ideal.ofBits_zero_f32, zero_add]
  rfl

/-- The scores of a tile's row against its prefix and its diagonal block. -/
def tileScores {n : ℕ} (c : Fin 2) (q kd : Vec Ideal S256x128 .bf16) (kp : Vec Ideal ⟨2, ![n, 128]⟩ .bf16) (r : Fin 256) :
    Fin n ⊕ Fin 256 → EReal :=
  Sum.elim (fun k => score c (rowOf q r) (rowOf kp k))
    (fun k => if k.val / 64 ≤ r.val / 64 then score c (rowOf q r) (rowOf kd k) else ⊥)

theorem both_low {n : ℕ} (q kd : Vec Ideal S256x128 .bf16) (kp : Vec Ideal ⟨2, ![n, 128]⟩ .bf16) (r : Fin 256) :
    both (preScores (lowLanes q) kp) (diagScores visOf (lowLanes q) kd) r = tileScores 0 q kd kp r := by
  funext j
  rcases j with j | j
  · exact low_score q kp r j
  · show diagScores visOf (lowLanes q) kd (ix2 r j) = ite _ _ _
    rw [diag_apply, low_score]

theorem both_high {n : ℕ} (q kd : Vec Ideal S256x128 .bf16) (kp : Vec Ideal ⟨2, ![n, 128]⟩ .bf16) (r : Fin 256) :
    both (preScores (highLanes q) kp) (diagScores visOf (highLanes q) kd) r = tileScores 1 q kd kp r := by
  funext j
  rcases j with j | j
  · exact high_score q kp r j
  · show diagScores visOf (highLanes q) kd (ix2 r j) = ite _ _ _
    rw [diag_apply, high_score]

theorem lam_spread (lam : FVec Ideal S1x1 .f32) (r : Fin 256) :
    broadcastTo S256x1 lam broadcasts_S1x1_S256x1 (ix2 r 0) = lam (ix2 0 0) :=
  broadcastTo_1b_ab_apply lam broadcasts_S1x1_S256x1 r 0

/-- **A tile at a row and a lane.** -/
theorem tile_apply {n N : ℕ} (hN : n + 256 = N) (lam : FVec Ideal S1x1 .f32) (g : Vec Ideal S1x128 .f32) (q kd : Vec Ideal S256x128 .bf16)
    (kp : Vec Ideal ⟨2, ![n, 128]⟩ .bf16) (v : Vec Ideal ⟨2, ![N, 128]⟩ .bf16)
    (hr : (⟨2, ![256, n]⟩ : Shape).Reduces [1] (⟨1, ![256]⟩ : Shape)) (hb : S256x1.Broadcasts ⟨2, ![256, n]⟩)
    (hc : Shape.Concatenates [⟨2, ![256, n]⟩, S256x256] ⟨2, ![256, N]⟩ 1) (hB : S256x1.Broadcasts ⟨2, ![256, N]⟩)
    (r : Fin 256) (d : Fin 128) :
    tile lam g visOf q kd kp v hr hb hc hB (ix2 r d)
      = normed (fun e => mixedRecip (tileScores 0 q kd kp r) (tileScores 1 q kd kp r) (lam (ix2 0 0))
          (Sum.elim (fun k => v (ix2 ⟨k.val, by omega⟩ e)) (fun k => v (ix2 ⟨n + k.val, by omega⟩ e)))) (rowOf g 0) d := by
  unfold tile
  rw [subNorm_apply]
  refine congrArg (fun f => normed f (rowOf g 0) d) (funext fun e => ?_)
  refine (values_apply _ v r e).trans ?_
  rw [Fin.sum_univ_two_halves n 256 hN]
  unfold mixedRecip
  rw [Fintype.sum_sum_type]
  have coeff (j : Fin N) (z : Fin n ⊕ Fin 256)
      (h₀ : bothExp (preScores (lowLanes q) kp) (diagScores visOf (lowLanes q) kd) hr hb hc (ix2 r j) = weight (tileScores 0 q kd kp r) z)
      (h₁ : bothExp (preScores (highLanes q) kp) (diagScores visOf (highLanes q) kd) hr hb hc (ix2 r j) = weight (tileScores 1 q kd kp r) z) :
      subf
          (mulf (bothExp (preScores (lowLanes q) kp) (diagScores visOf (lowLanes q) kd) hr hb hc)
            (broadcastTo ⟨2, ![256, N]⟩ (compRecip (preScores (lowLanes q) kp) (diagScores visOf (lowLanes q) kd) hr hb) hB))
          (mulf (bothExp (preScores (highLanes q) kp) (diagScores visOf (highLanes q) kd) hr hb hc)
            (broadcastTo ⟨2, ![256, N]⟩
              (mulf (broadcastTo S256x1 lam broadcasts_S1x1_S256x1)
                (compRecip (preScores (highLanes q) kp) (diagScores visOf (highLanes q) kd) hr hb)) hB)) (ix2 r j)
        = weight (tileScores 0 q kd kp r) z * Ideal.div 1 (total (tileScores 0 q kd kp r))
          - weight (tileScores 1 q kd kp r) z * (lam (ix2 0 0) * Ideal.div 1 (total (tileScores 1 q kd kp r))) := by
    have a₀ := (spread_apply (n := N) (compRecip (preScores (lowLanes q) kp) (diagScores visOf (lowLanes q) kd) hr hb) hB r j).trans
      (compRecip_apply _ _ hr hb r 0)
    have a₁ := (spread_apply (n := N) (mulf (broadcastTo S256x1 lam broadcasts_S1x1_S256x1)
        (compRecip (preScores (highLanes q) kp) (diagScores visOf (highLanes q) kd) hr hb)) hB r j).trans
      (congrArg₂ (fun a b : EReal => a * b) (lam_spread lam r) (compRecip_apply _ _ hr hb r 0))
    rw [both_low] at a₀
    rw [both_high] at a₁
    exact congrArg₂ (fun a b : EReal => a - b) (congrArg₂ (fun a b : EReal => a * b) h₀ a₀) (congrArg₂ (fun a b : EReal => a * b) h₁ a₁)
  refine congrArg₂ (fun a b : EReal => a + b) ?_ ?_
  · refine Finset.sum_congr rfl fun k _ => ?_
    rw [coeff _ (.inl k) ((both_left _ _ hr hb hc r k _).trans (by rw [both_low])) ((both_left _ _ hr hb hc r k _).trans (by rw [both_high]))]
    rfl
  · refine Finset.sum_congr rfl fun k _ => ?_
    rw [coeff _ (.inr k) ((both_right _ _ hr hb hc r k _).trans (by rw [both_low])) ((both_right _ _ hr hb hc r k _).trans (by rw [both_high]))]
    rfl

end Cert.DiffAttn

end
-- ==== Proof.Block.lean ====
/- One grid point's block: each tile gives the head's output at its rows, so the eight stores together are the head's
   output of the block's queries, keys and values. -/
module

public import proofs.«01_k».proof.Proof.TileValue
public import Idealize.ShloMosaic.Lib.Pipeline.ValueKit.Tiles

@[expose] public section

noncomputable section

namespace Cert.DiffAttn

open Idealize.ShloMosaic hiding ix1 ix2 ix3 ix4 ix5
open Idealize.ShloMosaic.ValueIdx Cert.AttnIdeal Cert.AttnIdeal.Gen
open Cert.Rows (lift_row rowSum_apply spread_apply)
open scoped BigOperators

/-- Where a tile's prefix and diagonal keys lie among the 2048. -/
def keyAt (n : ℕ) (h : n + 256 ≤ 2048) : Fin n ⊕ Fin 256 → Fin 2048 :=
  Sum.elim (fun k => ⟨k.val, by omega⟩) (fun k => ⟨n + k.val, by omega⟩)

theorem keyAt_injective (n : ℕ) (h : n + 256 ≤ 2048) : Function.Injective (keyAt n h) := by
  rintro (a | a) (b | b) hab <;> simp only [keyAt, Sum.elim_inl, Sum.elim_inr, Fin.mk.injEq] at hab
  · exact congrArg _ (Fin.ext hab)
  · omega
  · omega
  · exact congrArg _ (Fin.ext (by omega))

theorem keyAt_hidden (n : ℕ) (h : n + 256 ≤ 2048) (j : Fin 2048) (hj : j ∉ Set.range (keyAt n h)) : n + 256 ≤ j.val := by
  by_contra hlt
  apply hj
  by_cases hjn : j.val < n
  · exact ⟨.inl ⟨j.val, hjn⟩, rfl⟩
  · exact ⟨.inr ⟨j.val - n, by omega⟩, Fin.ext (by show n + (j.val - n) = j.val; omega)⟩

/-- A tile's hidden keys are masked. -/
theorem masked_hidden (c : Fin 2) (q : Fin 128 → EReal) (K : Fin 2048 → Fin 128 → EReal) (n : ℕ) (hn : n % 256 = 0) (h : n + 256 ≤ 2048)
    (r : Fin 256) (j : Fin 2048) (hj : j ∉ Set.range (keyAt n h)) : masked c q K ⟨n + r.val, by omega⟩ j = ⊥ := by
  have := keyAt_hidden n h j hj
  unfold masked
  rw [if_neg]
  show ¬ (j.val / 64 ≤ (n + r.val) / 64)
  omega

/-- An element of a scaled query or key block: not an infinity. -/
abbrev AllFinite (x : Vec Ideal S2048x128 .bf16) : Prop := ∀ R l, Finite (x (ix2 R l))

variable (lam : FVec Ideal S1x1 .f32) (g : Vec Ideal S1x128 .f32) (x5 x6 x7 : Vec Ideal S2048x128 .bf16)

theorem tile_head (hx5 : AllFinite x5) (hx6 : AllFinite x6) {n N : ℕ} (hn : n % 256 = 0) (hN : n + 256 = N) (hle : N ≤ 2048) (q kd : Vec Ideal S256x128 .bf16)
    (kp : Vec Ideal ⟨2, ![n, 128]⟩ .bf16) (v : Vec Ideal ⟨2, ![N, 128]⟩ .bf16)
    (hr : (⟨2, ![256, n]⟩ : Shape).Reduces [1] (⟨1, ![256]⟩ : Shape)) (hb : S256x1.Broadcasts ⟨2, ![256, n]⟩)
    (hc : Shape.Concatenates [⟨2, ![256, n]⟩, S256x256] ⟨2, ![256, N]⟩ 1) (hB : S256x1.Broadcasts ⟨2, ![256, N]⟩)
    (hq : ∀ (r : Fin 256) l, q (ix2 r l) = x5 (ix2 ⟨n + r.val, by omega⟩ l))
    (hkd : ∀ (r : Fin 256) l, kd (ix2 r l) = x6 (ix2 ⟨n + r.val, by omega⟩ l))
    (hkp : ∀ (k : Fin n) l, kp (ix2 k l) = x6 (ix2 ⟨k.val, by omega⟩ l))
    (hv : ∀ (k : Fin N) l, v (ix2 k l) = x7 (ix2 ⟨k.val, by omega⟩ l)) (r : Fin 256) (d : Fin 128) :
    tile lam g visOf q kd kp v hr hb hc hB (ix2 r d)
      = headOut (lam (ix2 0 0)) (rowOf g 0) (rowOf x5) (rowOf x6) (rowOf x7) ⟨n + r.val, by omega⟩ d := by
  have hle' : n + 256 ≤ 2048 := by omega
  have hS (c : Fin 2) : tileScores c q kd kp r
      = masked c (rowOf x5 ⟨n + r.val, by omega⟩) (rowOf x6) ⟨n + r.val, by omega⟩ ∘ keyAt n hle' := by
    have eq : rowOf q r = rowOf x5 ⟨n + r.val, by omega⟩ := funext fun l => hq r l
    funext j
    rcases j with j | j
    · have ek : rowOf kp j = rowOf x6 ⟨j.val, by omega⟩ := funext fun l => hkp j l
      show score c _ _ = masked _ _ _ _ _
      unfold masked
      rw [if_pos (by show j.val / 64 ≤ (n + r.val) / 64; omega), eq, ek]
      rfl
    · have ek : rowOf kd j = rowOf x6 ⟨n + j.val, by omega⟩ := funext fun l => hkd j l
      show ite _ (score c _ _) _ = masked _ _ _ _ _
      unfold masked
      rw [eq, ek]
      have hiff : (j.val / 64 ≤ r.val / 64) = ((n + j.val) / 64 ≤ (n + r.val) / 64) := propext (by omega)
      show ite (j.val / 64 ≤ r.val / 64) _ _ = ite ((n + j.val) / 64 ≤ (n + r.val) / 64) _ _
      simp only [hiff]
      rfl
  rw [tile_apply hN]
  unfold headOut
  refine congrArg (fun f => normed f (rowOf g 0) d) (funext fun e => ?_)
  rw [hS 0, hS 1, ← mixed_restrict (keyAt n hle') (keyAt_injective n hle') _ _ (lam (ix2 0 0)) _
    (fun j hj => masked_hidden 0 _ _ n hn hle' r j hj) (fun j hj => masked_hidden 1 _ _ n hn hle' r j hj)
    (masked_total 0 _ _ _ (fun l => hx5 _ l) (fun j l => hx6 j l)) (masked_total 1 _ _ _ (fun l => hx5 _ l) (fun j l => hx6 j l))]
  refine congrArg (mixedRecip _ _ _) (funext fun j => ?_)
  rcases j with j | j
  · exact hv _ e
  · exact hv _ e

/-- The first tile's scores, and its result at a row and a lane. -/
def firstScores (c : Fin 2) (q k : Vec Ideal S256x128 .bf16) (r : Fin 256) : Fin 256 → EReal :=
  fun j => if j.val / 64 ≤ r.val / 64 then score c (rowOf q r) (rowOf k j) else ⊥

theorem first_low (q k : Vec Ideal S256x128 .bf16) (r j : Fin 256) : diagScores visOf (lowLanes q) k (ix2 r j) = firstScores 0 q k r j := by
  rw [diag_apply, low_score]; rfl
theorem first_high (q k : Vec Ideal S256x128 .bf16) (r j : Fin 256) : diagScores visOf (highLanes q) k (ix2 r j) = firstScores 1 q k r j := by
  rw [diag_apply, high_score]; rfl

theorem firstExp (s : FVec Ideal S256x256 .f32) (S : Fin 256 → EReal) (r : Fin 256) (hS : ∀ j, s (ix2 r j) = S j) (j : Fin 256) :
    expPiece s (shapeCast S256x1 (multiReduction .maximumf [1] S256 s 0xFF800000#32 reduces_S256x256_S256 (.inl rfl) rfl)
      shapeCasts_S256_S256x1) broadcasts_S256x1_S256x256 (ix2 r j) = weight S j := by
  rw [expPiece_apply, rowMax_apply, hS, show (fun k => s (ix2 r k)) = S from funext hS]
  rfl

theorem firstRecip (s : FVec Ideal S256x256 .f32) (S : Fin 256 → EReal) (r : Fin 256) (hS : ∀ j, s (ix2 r j) = S j) :
    divf (broadcast S256x1 (Scalar.ofBits .f32 0x3F800000#32))
      (shapeCast S256x1 (multiReduction .add [1] S256 (expPiece s (shapeCast S256x1 (multiReduction .maximumf [1] S256 s 0xFF800000#32 reduces_S256x256_S256 (.inl rfl) rfl)
        shapeCasts_S256_S256x1) broadcasts_S256x1_S256x256) 0x00000000#32 reduces_S256x256_S256 (.inl rfl) rfl)
        shapeCasts_S256_S256x1) (ix2 r 0) = Ideal.div 1 (total S) := by
  refine (congrArg₂ Ideal.div Ideal.ofBits_one_f32 (rowSum_apply _ _ _ r 0)).trans ?_
  unfold total
  exact congrArg (Ideal.div 1) (Finset.sum_congr rfl fun k _ => firstExp s S r hS k)

theorem firstTile_apply (q k v : Vec Ideal S256x128 .bf16) (r : Fin 256) (d : Fin 128) :
    firstTile lam g visOf q k v (ix2 r d)
      = normed (fun e => mixedRecip (firstScores 0 q k r) (firstScores 1 q k r) (lam (ix2 0 0)) (fun j => v (ix2 j e))) (rowOf g 0) d := by
  unfold firstTile
  rw [subNorm_apply]
  refine congrArg (fun f => normed f (rowOf g 0) d) (funext fun e => ?_)
  refine (values_apply _ v r e).trans (Finset.sum_congr rfl fun j _ => congrArg (fun z : EReal => z * v (ix2 j e)) ?_)
  have a₀ := (spread_apply (n := 256) _ broadcasts_S256x1_S256x256 r j).trans (firstRecip _ _ r (first_low q k r))
  have a₁ := (spread_apply (n := 256) (mulf (broadcastTo S256x1 lam broadcasts_S1x1_S256x1) _) broadcasts_S256x1_S256x256 r j).trans
    (congrArg₂ (fun a b : EReal => a * b) (lam_spread lam r) (firstRecip _ _ r (first_high q k r)))
  exact congrArg₂ (fun a b : EReal => a - b)
    (congrArg₂ (fun a b : EReal => a * b) (firstExp _ _ r (first_low q k r) j) a₀)
    (congrArg₂ (fun a b : EReal => a * b) (firstExp _ _ r (first_high q k r) j) a₁)

theorem firstTile_head (hx5 : AllFinite x5) (hx6 : AllFinite x6) (q k v : Vec Ideal S256x128 .bf16)
    (hq : ∀ (r : Fin 256) l, q (ix2 r l) = x5 (ix2 ⟨r.val, by omega⟩ l))
    (hk : ∀ (r : Fin 256) l, k (ix2 r l) = x6 (ix2 ⟨r.val, by omega⟩ l))
    (hv : ∀ (r : Fin 256) l, v (ix2 r l) = x7 (ix2 ⟨r.val, by omega⟩ l)) (r : Fin 256) (d : Fin 128) :
    firstTile lam g visOf q k v (ix2 r d)
      = headOut (lam (ix2 0 0)) (rowOf g 0) (rowOf x5) (rowOf x6) (rowOf x7) ⟨r.val, by omega⟩ d := by
  let f : Fin 256 → Fin 2048 := fun j => ⟨j.val, by omega⟩
  have hf : Function.Injective f := fun a b hab => Fin.ext (Fin.mk.inj_iff.1 hab)
  have hid (c : Fin 2) (j : Fin 2048) (hj : j ∉ Set.range f) : masked c (rowOf x5 (f r)) (rowOf x6) (f r) j = ⊥ := by
    have : ¬ (j.val < 256) := fun h => hj ⟨⟨j.val, h⟩, rfl⟩
    unfold masked
    rw [if_neg]
    show ¬ (j.val / 64 ≤ r.val / 64)
    omega
  have hS (c : Fin 2) : firstScores c q k r = masked c (rowOf x5 (f r)) (rowOf x6) (f r) ∘ f := by
    funext j
    have eq : rowOf q r = rowOf x5 (f r) := funext fun l => hq r l
    have ek : rowOf k j = rowOf x6 (f j) := funext fun l => hk j l
    show ite _ (score c _ _) _ = _
    rw [eq, ek]
    rfl
  rw [firstTile_apply]
  unfold headOut
  refine congrArg (fun f => normed f (rowOf g 0) d) (funext fun e => ?_)
  rw [hS 0, hS 1]
  refine (congrArg (mixedRecip _ _ _) (funext fun j => hv j e)).trans ?_
  exact mixed_restrict f hf _ _ (lam (ix2 0 0)) (fun j => x7 (ix2 j e)) (hid 0) (hid 1)
    (masked_total 0 _ _ _ (fun l => hx5 _ l) (fun j l => hx6 j l)) (masked_total 1 _ _ _ (fun l => hx5 _ l) (fun j l => hx6 j l))

/-! ## Loads -/

theorem rows_ld (x : Vec Ideal S2048x128 .bf16) (off : ℕ) (m : ℕ) (inb : ∀ a, (![off, 0] : Fin 2 → ℕ) a + (![m, 128] : Fin 2 → ℕ) a ≤ S2048x128.size a)
    (r : Fin m) (l : Fin 128) (h : off + r.val < 2048) :
    View.ld x (Rect.unit (s := S2048x128) ![off, 0] ![m, 128] inb) (ix2 r l) = x (ix2 ⟨off + r.val, h⟩ l) :=
  View.ld_unit_apply_of x _ _ inb _ _ fun a => match a with
    | ⟨0, _⟩ => rfl
    | ⟨1, _⟩ => (Nat.zero_add _).symm

theorem row_emb (off : ℕ) (inb : ∀ a, (![off, 0] : Fin 2 → ℕ) a + (![256, 128] : Fin 2 → ℕ) a ≤ S2048x128.size a)
    (r : Fin 256) (l : Fin 128) :
    (Rect.unit (s := S2048x128) ![off, 0] ![256, 128] inb).emb (ix2 r l)
      = ix2 (⟨off + r.val, by have : off + 256 ≤ 2048 := inb 0; omega⟩ : Fin 2048) l := by
  funext a
  apply Fin.ext
  refine (Rect.idx_unit_val (s := S2048x128) ![off, 0] ![256, 128] inb (ix2 r l : S256x128.Idx) a).trans ?_
  fin_cases a
  · rfl
  · exact Nat.zero_add _

theorem gain_ld (x : Vec Ideal S1x128 .f32) : View.ld x r0_2 = x :=
  funext fun i => congrArg x (funext fun a => Fin.ext (by
    refine (Rect.idx_unit_val _ _ inb_S1x128_S1x128_0_0 i a).trans ?_
    fin_cases a <;> exact Nat.zero_add _))

variable (x0 x1 x2 x3 : Vec Ideal S1x64 .f32)

/-- **A grid point's block** is the head's output of the block's queries, keys and values. -/
theorem block_apply (hx5 : AllFinite x5) (hx6 : AllFinite x6) (R : Fin 2048) (d : Fin 128) :
    out0_8 x0 x1 x2 x3 g x5 x6 x7 (ix2 R d)
      = headOut (lamOf x0 x1 x2 x3 (ix2 0 0)) (rowOf g 0) (rowOf x5) (rowOf x6) (rowOf x7) R d := by
  rw [stores, gain_ld]
  let G : S2048x128.Idx → EReal := fun y => headOut (lamOf x0 x1 x2 x3 (ix2 0 0)) (rowOf g 0) (rowOf x5) (rowOf x6) (rowOf x7) (y 0) (y 1)
  refine View.canon_apply_of_pieces (Val := Elt Ideal) (e := .bf16) (S := S2048x128) G _ ?_ (ix2 R d) (cover0_8 _ _ _ _ _ _ _ _ _)
  have step (n N : ℕ) (hn : n % 256 = 0) (hN : n + 256 = N) (hle : N ≤ 2048)
      (inbq : ∀ a, (![n, 0] : Fin 2 → ℕ) a + (![256, 128] : Fin 2 → ℕ) a ≤ S2048x128.size a)
      (inbk : ∀ a, (![0, 0] : Fin 2 → ℕ) a + (![n, 128] : Fin 2 → ℕ) a ≤ S2048x128.size a)
      (inbv : ∀ a, (![0, 0] : Fin 2 → ℕ) a + (![N, 128] : Fin 2 → ℕ) a ≤ S2048x128.size a)
      (hr : (⟨2, ![256, n]⟩ : Shape).Reduces [1] (⟨1, ![256]⟩ : Shape)) (hb : S256x1.Broadcasts ⟨2, ![256, n]⟩)
      (hc : Shape.Concatenates [⟨2, ![256, n]⟩, S256x256] ⟨2, ![256, N]⟩ 1) (hB : S256x1.Broadcasts ⟨2, ![256, N]⟩)
      (y : S256x128.Idx) :
      tile (n := n) (N := N) (lamOf x0 x1 x2 x3) g visOf (View.ld x5 (Rect.unit (s := S2048x128) ![n, 0] ![256, 128] inbq))
        (View.ld x6 (Rect.unit (s := S2048x128) ![n, 0] ![256, 128] inbq)) (View.ld x6 (Rect.unit (s := S2048x128) ![0, 0] ![n, 128] inbk))
        (View.ld x7 (Rect.unit (s := S2048x128) ![0, 0] ![N, 128] inbv)) hr hb hc hB y
        = G ((Rect.unit (s := S2048x128) ![n, 0] ![256, 128] inbq).emb y) := by
    obtain ⟨r, l, rfl⟩ : ∃ (r : Fin 256) (l : Fin 128), y = ix2 r l := ⟨y 0, y 1, by funext a; fin_cases a <;> rfl⟩
    have hG : G ((Rect.unit (s := S2048x128) ![n, 0] ![256, 128] inbq).emb (ix2 r l))
        = headOut (lamOf x0 x1 x2 x3 (ix2 0 0)) (rowOf g 0) (rowOf x5) (rowOf x6) (rowOf x7) ⟨n + r.val, by omega⟩ l := by
      rw [row_emb n inbq r l]
    rw [hG]
    exact tile_head (lamOf x0 x1 x2 x3) g x5 x6 x7 hx5 hx6 hn hN hle _ _ _ _ hr hb hc hB
      (fun r l => rows_ld x5 n 256 inbq r l _) (fun r l => rows_ld x6 n 256 inbq r l _)
      (fun k l => (rows_ld x6 0 n inbk k l (by omega)).trans (congrArg (fun z => x6 (ix2 z l)) (Fin.ext (Nat.zero_add _))))
      (fun k l => (rows_ld x7 0 N inbv k l (by omega)).trans (congrArg (fun z => x7 (ix2 z l)) (Fin.ext (Nat.zero_add _)))) _ _
  have first (y : S256x128.Idx) : firstTile (lamOf x0 x1 x2 x3) g visOf (View.ld x5 r0_1) (View.ld x6 r0_1) (View.ld x7 r0_1) y = G (r0_1.emb y) := by
    obtain ⟨r, l, rfl⟩ : ∃ (r : Fin 256) (l : Fin 128), y = ix2 r l := ⟨y 0, y 1, by funext a; fin_cases a <;> rfl⟩
    have hG : G (r0_1.emb (ix2 r l))
        = headOut (lamOf x0 x1 x2 x3 (ix2 0 0)) (rowOf g 0) (rowOf x5) (rowOf x6) (rowOf x7) ⟨r.val, by omega⟩ l := by
      rw [row_emb 0 inb_S2048x128_S256x128_0_0 r l]
      exact congrArg (fun z => G (ix2 z l)) (Fin.ext (Nat.zero_add _))
    rw [hG]
    have ld (x : Vec Ideal S2048x128 .bf16) (r : Fin 256) (l : Fin 128) : View.ld x r0_1 (ix2 r l) = x (ix2 ⟨r.val, by omega⟩ l) :=
      (rows_ld x 0 256 inb_S2048x128_S256x128_0_0 r l (by omega)).trans (congrArg (fun z => x (ix2 z l)) (Fin.ext (Nat.zero_add _)))
    exact firstTile_head (lamOf x0 x1 x2 x3) g x5 x6 x7 hx5 hx6 _ _ _ (ld x5) (ld x6) (ld x7) _ _
  intro p hp
  simp only [List.mem_cons, List.not_mem_nil, or_false] at hp
  rcases hp with rfl | rfl | rfl | rfl | rfl | rfl | rfl | rfl
  · exact step 1792 2048 rfl rfl (by omega) inb_S2048x128_S256x128_1792_0 _ _ _ _ _ _
  · exact step 1536 1792 rfl rfl (by omega) _ _ _ _ _ _ _
  · exact step 1280 1536 rfl rfl (by omega) _ _ _ _ _ _ _
  · exact step 1024 1280 rfl rfl (by omega) _ _ _ _ _ _ _
  · exact step 768 1024 rfl rfl (by omega) _ _ _ _ _ _ _
  · exact step 512 768 rfl rfl (by omega) _ _ _ _ _ _ _
  · exact step 256 512 rfl rfl (by omega) _ _ _ _ _ _ _
  · exact first

end Cert.DiffAttn

end
-- ==== Proof.Final.lean ====
/- The result array of the attention kernel: block by block the head's output, so one function of the argument arrays. -/
module

public import proofs.«01_k».proof.Proof.Block
public import proofs.«01_k».proof.Proof.Gen.AttnIdeal.Value
public import Idealize.ShloMosaic.Lib.Pipeline.ValueKit.Geometry

@[expose] public section

noncomputable section

namespace Cert.DiffAttn

open Idealize.ShloMosaic hiding ix1 ix2 ix3 ix4 ix5
open Idealize.ShloMosaic.ValueIdx Cert.AttnIdeal Cert.AttnIdeal.Gen Idealize.ShloMosaic.TcCoe Idealize.SL.Sem
open scoped BigOperators

/-- Batch entry `b`'s and head `h`'s rows of an array of all of them. -/
def blkAt (a : S65536x512.Idx → EReal) (b : Fin 32) (h : Fin 4) : Vec Ideal S2048x128 .bf16 := fun y =>
  a (ix2 (⟨2048 * b.val + (y 0).val, by have : (y 0).val < 2048 := (y 0).isLt; omega⟩ : Fin 65536)
    (⟨128 * h.val + (y 1).val, by have : (y 1).val < 128 := (y 1).isLt; omega⟩ : Fin 512))

/-- The attention's result at a batch entry, a head, a row and a lane. -/
def attnAt (lam : EReal) (g : S1x128.Idx → EReal) (q k v : S65536x512.Idx → EReal) (b : Fin 32) (h : Fin 4) (R : Fin 2048) (d : Fin 128) : EReal :=
  headOut lam (rowOf g 0) (rowOf (blkAt q b h)) (rowOf (blkAt k b h)) (rowOf (blkAt v b h)) R d

/-- The attention's result as an array. -/
def attnOut (lam : EReal) (g : S1x128.Idx → EReal) (q k v : S65536x512.Idx → EReal) : S65536x512.Idx → EReal := fun i =>
  attnAt lam g q k v ⟨(i 0).val / 2048, by have : (i 0).val < 65536 := (i 0).isLt; omega⟩
    ⟨(i 1).val / 128, by have : (i 1).val < 512 := (i 1).isLt; omega⟩
    ⟨(i 0).val % 2048, by omega⟩ ⟨(i 1).val % 128, by omega⟩

theorem attnOut_at (lam : EReal) (g : S1x128.Idx → EReal) (q k v : S65536x512.Idx → EReal) (b : Fin 32) (h : Fin 4) (R : Fin 2048)
    (d : Fin 128) (i : S65536x512.Idx) (h0 : (i 0).val = 2048 * b.val + R.val) (h1 : (i 1).val = 128 * h.val + d.val) :
    attnOut lam g q k v i = attnAt lam g q k v b h R d := by
  unfold attnOut
  have e0 : (⟨(i 0).val / 2048, by have : (i 0).val < 65536 := (i 0).isLt; omega⟩ : Fin 32) = b := Fin.ext (by show (i 0).val / 2048 = b.val; omega)
  have e1 : (⟨(i 1).val / 128, by have : (i 1).val < 512 := (i 1).isLt; omega⟩ : Fin 4) = h := Fin.ext (by show (i 1).val / 128 = h.val; omega)
  have e2 : (⟨(i 0).val % 2048, by omega⟩ : Fin 2048) = R := Fin.ext (by show (i 0).val % 2048 = R.val; omega)
  have e3 : (⟨(i 1).val % 128, by omega⟩ : Fin 128) = d := Fin.ext (by show (i 1).val % 128 = d.val; omega)
  rw [e0, e1, e2, e3]

variable (m : (ℓ : Loc nD τ sig) → Buf (Elt Ideal) ℓ)

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![(grid0.coords t 0).val, (grid0.coords t 1).val] :=
  (by decide +kernel : ∀ t : Fin grid0.N, win0_5.index t = ![(grid0.coords t 0).val, (grid0.coords t 1).val])
theorem idx6 : ∀ t : Fin cfg0.N, win0_6.index t = ![(grid0.coords t 0).val, (grid0.coords t 1).val] :=
  (by decide +kernel : ∀ t : Fin grid0.N, win0_6.index t = ![(grid0.coords t 0).val, (grid0.coords t 1).val])
theorem idx7 : ∀ t : Fin cfg0.N, win0_7.index t = ![(grid0.coords t 0).val, (grid0.coords t 1).val] :=
  (by decide +kernel : ∀ t : Fin grid0.N, win0_7.index t = ![(grid0.coords t 0).val, (grid0.coords t 1).val])
theorem idx8 : ∀ t : Fin cfg0.N, win0_8.index t = ![(grid0.coords t 0).val, (grid0.coords t 1).val] :=
  (by decide +kernel : ∀ t : Fin grid0.N, win0_8.index t = ![(grid0.coords t 0).val, (grid0.coords t 1).val])

/-- The point's batch entry and head. -/
abbrev bOf (t : Fin cfg0.N) : Fin 32 := grid0.coords t 0
abbrev hOf (t : Fin cfg0.N) : Fin 4 := grid0.coords t 1

theorem blk0 (c : Dev nD) (t : Fin cfg0.N) : iblk m c 0 t = m ((c : Thread nD τ).loc main_arg0) := by
  funext y; blk_simp [iblk]; congr 1; blk_ext [idx0]
theorem blk1 (c : Dev nD) (t : Fin cfg0.N) : iblk m c 1 t = m ((c : Thread nD τ).loc main_arg1) := by
  funext y; blk_simp [iblk]; congr 1; blk_ext [idx1]
theorem blk2 (c : Dev nD) (t : Fin cfg0.N) : iblk m c 2 t = m ((c : Thread nD τ).loc main_arg2) := by
  funext y; blk_simp [iblk]; congr 1; blk_ext [idx2]
theorem blk3 (c : Dev nD) (t : Fin cfg0.N) : iblk m c 3 t = m ((c : Thread nD τ).loc main_arg3) := by
  funext y; blk_simp [iblk]; congr 1; blk_ext [idx3]
theorem blk4 (c : Dev nD) (t : Fin cfg0.N) : iblk m c 4 t = m ((c : Thread nD τ).loc main_arg4) := by
  funext y; blk_simp [iblk]; congr 1; blk_ext [idx4]
theorem blk5 (c : Dev nD) (t : Fin cfg0.N) : iblk m c 5 t = blkAt (m ((c : Thread nD τ).loc main_arg5)) (bOf t) (hOf t) := by
  funext y; blk_simp [iblk]; unfold blkAt; congr 1; blk_ext [idx5]
  all_goals exact congrArg (fun z => z + _) (Nat.mul_comm _ _)
theorem blk6 (c : Dev nD) (t : Fin cfg0.N) : iblk m c 6 t = blkAt (m ((c : Thread nD τ).loc main_arg6)) (bOf t) (hOf t) := by
  funext y; blk_simp [iblk]; unfold blkAt; congr 1; blk_ext [idx6]
  all_goals exact congrArg (fun z => z + _) (Nat.mul_comm _ _)
theorem blk7 (c : Dev nD) (t : Fin cfg0.N) : iblk m c 7 t = blkAt (m ((c : Thread nD τ).loc main_arg7)) (bOf t) (hOf t) := by
  funext y; blk_simp [iblk]; unfold blkAt; congr 1; blk_ext [idx7]
  all_goals exact congrArg (fun z => z + _) (Nat.mul_comm _ _)

/-- **The result array.** -/
theorem final (c : Dev nD) (h5 : ∀ i, Finite (m ((c : Thread nD τ).loc main_arg5) i)) (h6 : ∀ i, Finite (m ((c : Thread nD τ).loc main_arg6) i)) :
    (dats m 0 c).arrAt 8 cfg0.N = attnOut
      (lamOf (m ((c : Thread nD τ).loc main_arg0)) (m ((c : Thread nD τ).loc main_arg1)) (m ((c : Thread nD τ).loc main_arg2))
        (m ((c : Thread nD τ).loc main_arg3)) (ix2 0 0))
      (m ((c : Thread nD τ).loc main_arg4)) (m ((c : Thread nD τ).loc main_arg5)) (m ((c : Thread nD τ).loc main_arg6))
      (m ((c : Thread nD τ).loc main_arg7)) := by
  refine (dats m 0 c).arrAt_eq_of_covers 8 _ (by decide +kernel) fun t hf y => ?_
  blk_simp
  rw [after0_8, blk0, blk1, blk2, blk3, blk4, blk5, blk6, blk7]
  obtain ⟨R, d, rfl⟩ : ∃ (R : Fin 2048) (d : Fin 128), y = ix2 R d := ⟨y 0, y 1, by funext a; fin_cases a <;> rfl⟩
  refine (block_apply _ _ _ _ _ _ _ _ (fun R l => h5 _) (fun R l => h6 _) R d).trans ?_
  refine (attnOut_at _ _ _ _ _ (bOf t) (hOf t) R d _ ?_ ?_).symm
  · blk_simp [idx8]
    show (grid0.coords t 0).val * 2048 + R.val = _
    exact congrArg (fun z => z + _) (Nat.mul_comm _ _)
  · blk_simp [idx8]
    show (grid0.coords t 1).val * 128 + d.val = _
    exact congrArg (fun z => z + _) (Nat.mul_comm _ _)

end Cert.DiffAttn

end
-- ==== Proof.RefValue.lean ====
/- The reference read at a batch entry, a head, a row and a lane: the same head's output. -/
module

public import proofs.«01_k».proof.Proof.Final
public import proofs.«01_k».proof.Proof.Gen.AttnRefIdeal.Read

@[expose] public section

noncomputable section

namespace Cert.DiffAttn

open Idealize.ShloMosaic hiding ix1 ix2 ix3 ix4 ix5
open Idealize.ShloMosaic.ValueIdx Cert.AttnRefIdeal Cert.AttnRefIdeal.Gen Cert.AttnRefIdeal.Read
open scoped BigOperators

/-! ## The mask -/

/-- The sign of a word. -/
def wordSign (x : BitVec 32) : BitVec 32 := if x = 0 then 0 else if x.msb then -1 else 1

/-- The host's floor division of a word by 64, as its primitives compute it. -/
def hostChunk (x : BitVec 32) : BitVec 32 :=
  Scalar.select (IntOp.andi (IntOp.cmpi .ne (wordSign x) (wordSign 64#32)) (IntOp.cmpi .ne (IntOp.remsi .host x 64#32) 0#32))
    (IntOp.subi (IntOp.divsi .host x 64#32) 1#32) (IntOp.divsi .host x 64#32)

theorem hostChunk_eq : ∀ k : Fin 2048, hostChunk (BitVec.ofNat 32 k.val) = BitVec.ofNat 32 (k.val / 64) := by
  decide +kernel

theorem chunk_le : ∀ a b : Fin 32, IntOp.cmpi .sle (BitVec.ofNat 32 a.val) (BitVec.ofNat 32 b.val) = if a.val ≤ b.val then 1#1 else 0#1 := by
  decide +kernel

theorem keyChunk (u : Fin 1) (j : Fin 2048) : val_main_v21 (F := Ideal) (ix2 u j) = BitVec.ofNat 32 (j.val / 64) := by
  rw [← hostChunk_eq j, val_main_v21_apply, val_main_call0_v11_apply, val_main_call0_v6_apply, val_main_call0_v10_apply,
    val_main_call0_v13_apply, val_main_call0_v2_apply, val_main_call0_v8_apply, val_main_call0_v5_apply, val_main_call0_v9_apply,
    val_main_call0_v12_apply, val_main_call0_v1_apply, val_main_call0_v7_apply]
  unfold val_main_call0_v3 val_main_call0_v4
  show Scalar.select (IntOp.andi (IntOp.cmpi .ne (wordSign (val_main_v20 (F := Ideal) (ix2 u j))) (wordSign 64#32)) _) _ _ = _
  rw [val_main_v20_apply]
  rfl

theorem rowChunk (R : Fin 2048) (u : Fin 1) : val_main_v23 (F := Ideal) (ix2 R u) = BitVec.ofNat 32 (R.val / 64) := by
  rw [← hostChunk_eq R, val_main_v23_apply, val_main_call1_v11_apply, val_main_call1_v6_apply, val_main_call1_v10_apply,
    val_main_call1_v13_apply, val_main_call1_v2_apply, val_main_call1_v8_apply, val_main_call1_v5_apply, val_main_call1_v9_apply,
    val_main_call1_v12_apply, val_main_call1_v1_apply, val_main_call1_v7_apply]
  unfold val_main_call1_v3 val_main_call1_v4
  show Scalar.select (IntOp.andi (IntOp.cmpi .ne (wordSign (val_main_v22 (F := Ideal) (ix2 R u))) (wordSign 64#32)) _) _ _ = _
  rw [val_main_v22_apply]
  rfl

theorem visible_apply (R j : Fin 2048) :
    val_main_v26 (F := Ideal) (ix2 R j) = if j.val / 64 ≤ R.val / 64 then 1#1 else 0#1 := by
  have hj := j.isLt
  have hR := R.isLt
  rw [val_main_v26_apply, val_main_v24_apply, val_main_v25_apply]
  refine (congrArg₂ (IntOp.cmpi .sle) ?_ ?_).trans (chunk_le ⟨j.val / 64, by omega⟩ ⟨R.val / 64, by omega⟩)
  · refine Eq.trans ?_ (keyChunk 0 j)
    exact congrArg _ (funext fun a => by match a with | ⟨0, _⟩ => rfl | ⟨1, _⟩ => rfl)
  · refine Eq.trans ?_ (rowChunk R 0)
    exact congrArg _ (funext fun a => by match a with | ⟨0, _⟩ => rfl | ⟨1, _⟩ => rfl)

/-! ## The scores -/

section Scores

variable (x5 x6 x7 : S65536x512.Idx → EReal) (b : Fin 32) (h : Fin 4)

theorem query_apply (c : Fin 2) (R : Fin 2048) (d : Fin 64) :
    val_main_v13 (F := Ideal) x5 (ix5 b R h c d) = rowOf (blkAt x5 b h) R ⟨64 * c.val + d.val, by omega⟩ := by
  rw [val_main_v13_apply]
  show x5 (idx_main_v13 (ix5 b R h c d)) = x5 _
  refine congrArg x5 (funext fun a => Fin.ext ?_)
  have := b.isLt; have := R.isLt; have := h.isLt; have := c.isLt; have := d.isLt
  match a with
  | ⟨0, _⟩ => show ((((b.val * 2048 + R.val) * 4 + h.val) * 2 + c.val) * 64 + d.val) / 512 = 2048 * b.val + R.val; omega
  | ⟨1, _⟩ => show ((((b.val * 2048 + R.val) * 4 + h.val) * 2 + c.val) * 64 + d.val) % 512 = 128 * h.val + (64 * c.val + d.val); omega

theorem key_apply (c : Fin 2) (R : Fin 2048) (d : Fin 64) :
    val_main_v15 (F := Ideal) x6 (ix5 b R h c d) = rowOf (blkAt x6 b h) R ⟨64 * c.val + d.val, by omega⟩ := by
  rw [val_main_v15_apply]
  exact Eq.trans (val_main_v13_apply (F := Ideal) x6 (ix5 b R h c d)).symm (query_apply x6 b h c R d)

theorem value_apply (R : Fin 2048) (d : Fin 128) :
    val_main_v17 (F := Ideal) x7 (ix4 b R h d) = rowOf (blkAt x7 b h) R d := by
  rw [val_main_v17_apply]
  show x7 (idx_main_v17 (ix4 b R h d)) = x7 _
  refine congrArg x7 (funext fun a => Fin.ext ?_)
  have := b.isLt; have := R.isLt; have := h.isLt; have := d.isLt
  match a with
  | ⟨0, _⟩ => show (((b.val * 2048 + R.val) * 4 + h.val) * 128 + d.val) / 512 = 2048 * b.val + R.val; omega
  | ⟨1, _⟩ => show (((b.val * 2048 + R.val) * 4 + h.val) * 128 + d.val) % 512 = 128 * h.val + d.val; omega

theorem refScore_apply (c : Fin 2) (R j : Fin 2048) :
    val_main_v18 (F := Ideal) x5 x6 (ix5 b c h R j) = score c (rowOf (blkAt x5 b h) R) (rowOf (blkAt x6 b h) j) := by
  rw [val_main_v18_apply]
  refine Finset.sum_congr rfl fun d _ => ?_
  refine congrArg₂ (· * ·) (Eq.trans ?_ (query_apply x5 b h c R d)) (Eq.trans ?_ (key_apply x6 b h c j d))
  · exact congrArg _ (funext fun a => by match a with | ⟨0, _⟩ => rfl | ⟨1, _⟩ => rfl | ⟨2, _⟩ => rfl | ⟨3, _⟩ => rfl | ⟨4, _⟩ => rfl)
  · exact congrArg _ (funext fun a => by match a with | ⟨0, _⟩ => rfl | ⟨1, _⟩ => rfl | ⟨2, _⟩ => rfl | ⟨3, _⟩ => rfl | ⟨4, _⟩ => rfl)

theorem negInf : (FloatOps.ofBits .f32 0xFF800000#32 : Ideal .f32) = (⊥ : EReal) := by
  show Ideal.ofBits .f32 0xFF800000#32 = ⊥
  simp [Ideal.ofBits, Ideal.ieee]

theorem refMasked_apply (c : Fin 2) (R j : Fin 2048) :
    val_main_v27 (F := Ideal) x5 x6 (ix5 b c h R j) = masked c (rowOf (blkAt x5 b h) R) (rowOf (blkAt x6 b h)) R j := by
  rw [val_main_v27_apply, val_main_call2_v1_apply, val_main_call2_v2_apply, refScore_apply]
  have hv : val_main_v26 (F := Ideal) (idx_main_call2_v1 (ix5 b c h R j)) = if j.val / 64 ≤ R.val / 64 then 1#1 else 0#1 :=
    Eq.trans (congrArg _ (funext fun a => by match a with | ⟨0, _⟩ => rfl | ⟨1, _⟩ => rfl)) (visible_apply R j)
  rw [hv]
  unfold masked
  by_cases hc : j.val / 64 ≤ R.val / 64
  · rw [if_pos hc, if_pos hc]; rfl
  · rw [if_neg hc, if_neg hc]; exact negInf

theorem hostPeak (y : S32x2x4x2048x2048.Idx → EReal) (z : S_.Idx → EReal) (hz : z (Shape.Idx.first h_S_) = ⊥) (S : Fin 2048 → EReal)
    (c : Fin 2) (R : Fin 2048) (hy : ∀ k, y (ix5 b c h R k) = S k) :
    Host.reduce (max : EReal → EReal → EReal) y z reducesTo_S32x2x4x2048x2048_S32x2x4x2048_d4 h_S_ (ix4 b c h R) = peak S := by
  rw [Host.reduce_eq_fold_single (max : EReal → EReal → EReal) y z reducesTo_S32x2x4x2048x2048_S32x2x4x2048_d4 (by decide) h_S_ (ix4 b c h R), hz]
  refine congrArg (Finset.univ.fold max (⊥ : EReal)) (funext fun k => Eq.trans ?_ (hy k))
  exact congrArg y (funext fun a => Fin.ext (by match a with | ⟨0, _⟩ => rfl | ⟨1, _⟩ => rfl | ⟨2, _⟩ => rfl | ⟨3, _⟩ => rfl | ⟨4, _⟩ => rfl))

theorem refPeak_apply (c : Fin 2) (R : Fin 2048) :
    val_main_v30 (F := Ideal) x5 x6 (ix4 b c h R) = peak (masked c (rowOf (blkAt x5 b h) R) (rowOf (blkAt x6 b h)) R) := by
  rw [val_main_v30_apply, val_main_v29_apply]
  have e28 : val_main_v28 (F := Ideal) x5 x6 (ix4 b c h R) = peak (masked c (rowOf (blkAt x5 b h) R) (rowOf (blkAt x6 b h)) R) := by
    exact hostPeak b h (val_main_v27 (F := Ideal) x5 x6) (val_main_cst_4 (F := Ideal)) negInf _ c R (refMasked_apply x5 x6 b h c R)
  rw [e28]
  have hb : val_main_cst_5 (F := Ideal) (idx_main_v29 (ix4 b c h R)) = (⊥ : EReal) := negInf
  rw [hb]
  exact max_eq_right bot_le

theorem refWeight_apply (c : Fin 2) (R j : Fin 2048) :
    val_main_v34 (F := Ideal) x5 x6 (ix5 b c h R j) = weight (masked c (rowOf (blkAt x5 b h) R) (rowOf (blkAt x6 b h)) R) j := by
  rw [val_main_v34_apply, val_main_v33_apply, val_main_v32_apply, val_main_v31_apply, refMasked_apply]
  have hp : val_main_v30 (F := Ideal) x5 x6 (idx_main_v31 (idx_main_v32 (ix5 b c h R j))) = peak (masked c (rowOf (blkAt x5 b h) R) (rowOf (blkAt x6 b h)) R) :=
    Eq.trans (congrArg _ (funext fun a => by match a with | ⟨0, _⟩ => rfl | ⟨1, _⟩ => rfl | ⟨2, _⟩ => rfl | ⟨3, _⟩ => rfl)) (refPeak_apply x5 x6 b h c R)
  rw [hp]
  rfl

theorem refTotal_apply (c : Fin 2) (R : Fin 2048) :
    val_main_v35 (F := Ideal) x5 x6 (ix4 b c h R) = total (masked c (rowOf (blkAt x5 b h) R) (rowOf (blkAt x6 b h)) R) := by
  rw [val_main_v35_apply]
  have hz : val_main_cst_6 (F := Ideal) (Shape.Idx.first h_S_) = (0 : EReal) := Ideal.ofBits_zero_f32
  rw [hz, zero_add]
  refine Finset.sum_congr rfl fun k _ => Eq.trans ?_ (refWeight_apply x5 x6 b h c R k)
  exact congrArg _ (funext fun a => by match a with | ⟨0, _⟩ => rfl | ⟨1, _⟩ => rfl | ⟨2, _⟩ => rfl | ⟨3, _⟩ => rfl | ⟨4, _⟩ => rfl)

theorem refSoft_apply (c : Fin 2) (R j : Fin 2048) :
    val_main_v38 (F := Ideal) x5 x6 (ix5 b c h R j) = Ideal.div (weight (masked c (rowOf (blkAt x5 b h) R) (rowOf (blkAt x6 b h)) R) j)
      (total (masked c (rowOf (blkAt x5 b h) R) (rowOf (blkAt x6 b h)) R)) := by
  rw [val_main_v38_apply, val_main_v37_apply, val_main_v36_apply, refWeight_apply]
  have hp : val_main_v35 (F := Ideal) x5 x6 (idx_main_v36 (idx_main_v37 (ix5 b c h R j))) = total (masked c (rowOf (blkAt x5 b h) R) (rowOf (blkAt x6 b h)) R) :=
    Eq.trans (congrArg _ (funext fun a => by match a with | ⟨0, _⟩ => rfl | ⟨1, _⟩ => rfl | ⟨2, _⟩ => rfl | ⟨3, _⟩ => rfl)) (refTotal_apply x5 x6 b h c R)
  rw [hp]
  rfl

end Scores

/-! ## The mixed values and their norm -/

section Mixed

variable (x0 x1 x2 x3 : S1x64.Idx → EReal) (x4 : S1x128.Idx → EReal) (x5 x6 x7 : S65536x512.Idx → EReal) (b : Fin 32) (h : Fin 4)

/-- The weight of the second softmax, from the four small vectors. -/
def lamVal : EReal :=
  (Ideal.exp (∑ d : Fin 64, x0 (ix2 0 d) * x1 (ix2 0 d)) - Ideal.exp (∑ d : Fin 64, x2 (ix2 0 d) * x3 (ix2 0 d)))
    + Ideal.ofBits .f32 0x3E4CCCCD#32

theorem refLam_apply (i : S_.Idx) : val_main_v11 (F := Ideal) x0 x1 x2 x3 i = lamVal x0 x1 x2 x3 := by
  rw [val_main_v11_apply, val_main_v10_apply, val_main_v4_apply, val_main_v9_apply, val_main_v3_apply, val_main_v8_apply]
  have hz : val_main_cst (F := Ideal) (Shape.Idx.first h_S_) = (0 : EReal) := Ideal.ofBits_zero_f32
  have hz' : val_main_cst_0 (F := Ideal) (Shape.Idx.first h_S_) = (0 : EReal) := Ideal.ofBits_zero_f32
  rw [hz, hz', zero_add, zero_add]
  have hs : ∀ y z : S1x64.Idx → EReal, (∑ j : S64.Idx, val_main_v2 (F := Ideal) y z j) = ∑ d : Fin 64, y (ix2 0 d) * z (ix2 0 d) := fun y z => by
    refine Fintype.sum_equiv ⟨fun j => j 0, fun d => ix1 d, fun j => (ValueIdx.eq_ix1 j).symm, fun d => rfl⟩ _ _ fun j => ?_
    rw [val_main_v2_apply, val_main_v0_apply, val_main_v1_apply]
    have hj : (j 0).val < 64 := (j 0).isLt
    have e : idx_main_v0 j = ix2 0 (j 0) := funext fun a => Fin.ext (by
      match a with
      | ⟨0, _⟩ => rfl
      | ⟨1, _⟩ => show (j 0).val % 64 = (j 0).val; omega)
    have e' : idx_main_v1 j = ix2 0 (j 0) := e
    rw [e, e']; rfl
  have hs' : (∑ j : S64.Idx, val_main_v7 (F := Ideal) x2 x3 j) = ∑ d : Fin 64, x2 (ix2 0 d) * x3 (ix2 0 d) := hs x2 x3
  rw [hs, hs']
  rfl

theorem small_ld (x : Vec Ideal Cert.AttnIdeal.S1x64 .f32) : View.ld x Cert.AttnIdeal.Gen.r0_0 = x :=
  funext fun i => congrArg x (funext fun a => Fin.ext (by
    refine (Rect.idx_unit_val _ _ Cert.AttnIdeal.Gen.inb_S1x64_S1x64_0_0 i a).trans ?_
    fin_cases a <;> exact Nat.zero_add _))

theorem smallSum (y : FVec Ideal Cert.AttnIdeal.S1x64 .f32) (hr : (⟨2, ![1, 64]⟩ : Shape).Reduces [1] (⟨1, ![1]⟩ : Shape))
    (hc : (⟨1, ![1]⟩ : Shape).ShapeCasts ⟨2, ![1, 1]⟩) :
    shapeCast ⟨2, ![1, 1]⟩ (multiReduction .add [1] ⟨1, ![1]⟩ y 0x00000000#32 hr (.inl rfl) rfl) hc (ix2 0 0) = ∑ k : Fin 64, y (ix2 0 k) := by
  refine (shapeCast_a_a1_apply _ hc 0 0).trans ((Ideal.multiReduction_add_single y _ hr _ _ (ix1 0)).trans ?_)
  refine Finset.sum_congr rfl fun k _ => congrArg y (funext fun c => Fin.ext ?_)
  fin_cases c <;> rfl

/-- The kernel's weight of the second softmax is the same. -/
theorem kernelLam : lamOf x0 x1 x2 x3 (ix2 0 0) = lamVal x0 x1 x2 x3 := by
  unfold lamOf Cert.AttnIdeal.Gen.k0_pay2
  rw [small_ld, small_ld, small_ld, small_ld]
  exact congrArg₂ (fun a b : EReal => (Ideal.exp a - Ideal.exp b) + Ideal.ofBits .f32 0x3E4CCCCD#32)
    (smallSum (mulf (F := Ideal) (φ := .f32) x0 x1) Cert.AttnIdeal.Gen.reduces_S1x64_S1 Cert.AttnIdeal.Gen.shapeCasts_S1_S1x1)
    (smallSum (mulf (F := Ideal) (φ := .f32) x2 x3) Cert.AttnIdeal.Gen.reduces_S1x64_S1 Cert.AttnIdeal.Gen.shapeCasts_S1_S1x1)

theorem refFirst_apply (R k : Fin 2048) :
    val_main_v40 (F := Ideal) x5 x6 (ix4 b h R k) = Ideal.div (weight (masked 0 (rowOf (blkAt x5 b h) R) (rowOf (blkAt x6 b h)) R) k)
      (total (masked 0 (rowOf (blkAt x5 b h) R) (rowOf (blkAt x6 b h)) R)) := by
  have := b.isLt; have := h.isLt; have := R.isLt; have := k.isLt
  have hi : idx_main_v39 (idx_main_v40 (ix4 b h R k)) = ix5 b (0 : Fin 2) h R k := funext fun a => Fin.ext (by
    match a with
    | ⟨0, _⟩ => show (((b.val * 4 + h.val) * 2048 + R.val) * 2048 + k.val) / 16777216 = b.val; omega
    | ⟨1, _⟩ => rfl
    | ⟨2, _⟩ => show (((b.val * 4 + h.val) * 2048 + R.val) * 2048 + k.val) / 4194304 % 4 = h.val; omega
    | ⟨3, _⟩ => show (((b.val * 4 + h.val) * 2048 + R.val) * 2048 + k.val) / 2048 % 2048 = R.val; omega
    | ⟨4, _⟩ => show (((b.val * 4 + h.val) * 2048 + R.val) * 2048 + k.val) % 2048 = k.val; omega)
  rw [val_main_v40_apply, val_main_v39_apply, hi, refSoft_apply]

theorem refSecond_apply (R k : Fin 2048) :
    val_main_v42 (F := Ideal) x5 x6 (ix4 b h R k) = Ideal.div (weight (masked 1 (rowOf (blkAt x5 b h) R) (rowOf (blkAt x6 b h)) R) k)
      (total (masked 1 (rowOf (blkAt x5 b h) R) (rowOf (blkAt x6 b h)) R)) := by
  have := b.isLt; have := h.isLt; have := R.isLt; have := k.isLt
  have hi : idx_main_v41 (idx_main_v42 (ix4 b h R k)) = ix5 b (1 : Fin 2) h R k := funext fun a => Fin.ext (by
    match a with
    | ⟨0, _⟩ => show (((b.val * 4 + h.val) * 2048 + R.val) * 2048 + k.val) / 16777216 = b.val; omega
    | ⟨1, _⟩ => rfl
    | ⟨2, _⟩ => show (((b.val * 4 + h.val) * 2048 + R.val) * 2048 + k.val) / 4194304 % 4 = h.val; omega
    | ⟨3, _⟩ => show (((b.val * 4 + h.val) * 2048 + R.val) * 2048 + k.val) / 2048 % 2048 = R.val; omega
    | ⟨4, _⟩ => show (((b.val * 4 + h.val) * 2048 + R.val) * 2048 + k.val) % 2048 = k.val; omega)
  rw [val_main_v42_apply, val_main_v41_apply, hi, refSoft_apply]

theorem refMixed_apply (d : Fin 128) (R : Fin 2048) :
    val_main_v46 (F := Ideal) x0 x1 x2 x3 x5 x6 x7 (ix4 b h d R)
      = mixed (masked 0 (rowOf (blkAt x5 b h) R) (rowOf (blkAt x6 b h)) R) (masked 1 (rowOf (blkAt x5 b h) R) (rowOf (blkAt x6 b h)) R)
          (lamVal x0 x1 x2 x3) (fun j => rowOf (blkAt x7 b h) j d) := by
  rw [val_main_v46_apply]
  refine Finset.sum_congr rfl fun k _ => ?_
  have hV : val_main_v17 (F := Ideal) x7 (lidx_main_v46 (ix4 b h d R) k) = rowOf (blkAt x7 b h) k d :=
    Eq.trans (congrArg _ (funext fun a => by match a with | ⟨0, _⟩ => rfl | ⟨1, _⟩ => rfl | ⟨2, _⟩ => rfl | ⟨3, _⟩ => rfl)) (value_apply x7 b h k d)
  have hr : ridx_main_v46 (ix4 b h d R) k = ix4 b h R k :=
    funext fun a => by match a with | ⟨0, _⟩ => rfl | ⟨1, _⟩ => rfl | ⟨2, _⟩ => rfl | ⟨3, _⟩ => rfl
  rw [hV, hr, val_main_v45_apply, val_main_v44_apply, val_main_v43_apply, refFirst_apply, refSecond_apply, refLam_apply]
  exact mul_comm _ _

theorem refOut_apply (R : Fin 2048) (d : Fin 128) :
    val_main_v63 (F := Ideal) x0 x1 x2 x3 x4 x5 x6 x7 (ix4 b R h d)
      = attnAt (lamVal x0 x1 x2 x3) x4 x5 x6 x7 b h R d := by
  have hm : ∀ e : Fin 128, val_main_v47 (F := Ideal) x0 x1 x2 x3 x5 x6 x7 (ix4 b R h e) = mixed (masked 0 (rowOf (blkAt x5 b h) R) (rowOf (blkAt x6 b h)) R) (masked 1 (rowOf (blkAt x5 b h) R) (rowOf (blkAt x6 b h)) R)
          (lamVal x0 x1 x2 x3) (fun j => rowOf (blkAt x7 b h) j e) := fun e => by
    have hi : idx_main_v47 (ix4 b R h e) = ix4 b h e R :=
      funext fun a => by match a with | ⟨0, _⟩ => rfl | ⟨1, _⟩ => rfl | ⟨2, _⟩ => rfl | ⟨3, _⟩ => rfl
    rw [val_main_v47_apply, hi, refMixed_apply]
  rw [val_main_v63_apply, val_main_v61_apply, val_main_v57_apply, hm, val_main_v60_apply, val_main_v59_apply, val_main_v58_apply,
    val_main_v62_apply, val_main_v56_apply, val_main_v55_apply, val_main_v54_apply, val_main_v52_apply, val_main_v53_apply,
    val_main_v51_apply, val_main_v50_apply, val_main_v49_apply]
  have hz : val_main_cst_7 (F := Ideal) (Shape.Idx.first h_S_) = (0 : EReal) := Ideal.ofBits_zero_f32
  rw [hz, zero_add]
  have hs : (∑ k : Fin 128, val_main_v48 (F := Ideal) x0 x1 x2 x3 x5 x6 x7 (idx_main_v49 (idx_main_v50 (idx_main_v56 (ix4 b R h d))) k))
      = ∑ e : Fin 128, mixed (masked 0 (rowOf (blkAt x5 b h) R) (rowOf (blkAt x6 b h)) R) (masked 1 (rowOf (blkAt x5 b h) R) (rowOf (blkAt x6 b h)) R)
          (lamVal x0 x1 x2 x3) (fun j => rowOf (blkAt x7 b h) j e) * mixed (masked 0 (rowOf (blkAt x5 b h) R) (rowOf (blkAt x6 b h)) R) (masked 1 (rowOf (blkAt x5 b h) R) (rowOf (blkAt x6 b h)) R)
          (lamVal x0 x1 x2 x3) (fun j => rowOf (blkAt x7 b h) j e) := by
    refine Finset.sum_congr rfl fun e _ => ?_
    have he : idx_main_v49 (idx_main_v50 (idx_main_v56 (ix4 b R h d))) e = ix4 b R h e :=
      funext fun a => by match a with | ⟨0, _⟩ => rfl | ⟨1, _⟩ => rfl | ⟨2, _⟩ => rfl | ⟨3, _⟩ => rfl
    rw [he, val_main_v48_apply, hm]
    rfl
  rw [hs]
  have hg : x4 (idx_main_v58 (idx_main_v59 (idx_main_v60 (ix4 b R h d)))) = rowOf x4 0 d := congrArg x4 (funext fun a => Fin.ext (by
    have := d.isLt
    match a with
    | ⟨0, _⟩ => rfl
    | ⟨1, _⟩ => show d.val % 128 = d.val; omega))
  rw [hg]
  rfl

/-- **The reference** is the attention's array. -/
theorem reference_eq : val_main_v65 (F := Ideal) x0 x1 x2 x3 x4 x5 x6 x7 = attnOut (lamVal x0 x1 x2 x3) x4 x5 x6 x7 := by
  funext i
  have h0 : (i 0).val < 65536 := (i 0).isLt
  have h1 : (i 1).val < 512 := (i 1).isLt
  rw [val_main_v65_apply, val_main_v64_apply]
  have hi : idx_main_v64 i = ix4 (⟨(i 0).val / 2048, by omega⟩ : Fin 32) (⟨(i 0).val % 2048, by omega⟩ : Fin 2048)
      (⟨(i 1).val / 128, by omega⟩ : Fin 4) (⟨(i 1).val % 128, by omega⟩ : Fin 128) := funext fun a => Fin.ext (by
    match a with
    | ⟨0, _⟩ => show ((i 0).val * 512 + (i 1).val) / 1048576 = (i 0).val / 2048; omega
    | ⟨1, _⟩ => show ((i 0).val * 512 + (i 1).val) / 512 % 2048 = (i 0).val % 2048; omega
    | ⟨2, _⟩ => show ((i 0).val * 512 + (i 1).val) / 128 % 4 = (i 1).val / 128; omega
    | ⟨3, _⟩ => show ((i 0).val * 512 + (i 1).val) % 128 = (i 1).val % 128; omega)
  rw [hi]
  exact refOut_apply x0 x1 x2 x3 x4 x5 x6 x7 _ _ _ _

end Mixed

end Cert.DiffAttn

end
-- ==== Proof.Algebraic.lean ====
/- From finite queries and keys the kernel and the reference end with the same array. -/
module

public import proofs.«01_k».proof.Defs
public import proofs.«01_k».proof.Proof.RefValue
public import proofs.«01_k».proof.Proof.Gen.AttnRefIdeal.Run

@[expose] public section

noncomputable section

namespace Cert.DiffAttn

open Idealize.ShloMosaic hiding ix1 ix2 ix3 ix4 ix5
open Idealize.ShloMosaic.ValueIdx Idealize.SL.Sem Idealize.ShloMosaic.TcCoe

theorem preFacts : Cert.Pre_finite_scores.Facts := ⟨by decide⟩

theorem posInf : (FloatOps.ofBits .bf16 0x7F80#16 : Ideal .bf16) = (⊤ : EReal) := by
  show Ideal.ofBits .bf16 0x7F80#16 = ⊤
  simp [Ideal.ofBits, Ideal.ieee]

/-- An element whose absolute value is below the infinity is finite. -/
theorem finite_of_abs (x : EReal) (h : FloatOps.cmpf (F := Ideal) .olt (FloatOps.hostAbsf (F := Ideal) (φ := .bf16) x) (FloatOps.ofBits .bf16 0x7F80#16 : Ideal .bf16) = 1#1) :
    Finite x := by
  rw [posInf] at h
  have h' : max x (-x) < (⊤ : EReal) := by
    by_contra hn
    have : Ideal.cmp .olt (max x (-x) : EReal) (⊤ : EReal) = 0#1 := by simp [Ideal.cmp, hn]
    exact absurd (h.symm.trans this) (by decide : ¬ (1#1 : BitVec 1) = 0#1)
  refine finite_of x (fun e => ?_) (fun e => ?_)
  · rw [e] at h'; simp at h'
  · rw [e] at h'; simp at h'

attribute [local instance] preFacts in
/-- The precondition read at an element. -/
theorem pre_apply (x0 x1 x2 x3 : FVec Ideal Cert.Pre_finite_scores.S1x64 .f32) (x4 : FVec Ideal Cert.Pre_finite_scores.S1x128 .f32)
    (x5 x6 x7 : FVec Ideal Cert.Pre_finite_scores.S65536x512 .bf16)
    (h : Cert.Pre_finite_scores.fn (F := Ideal) x0 x1 x2 x3 x4 x5 x6 x7 = fun _ => 1#1) (i : Cert.Pre_finite_scores.S65536x512.Idx) :
    Finite (x5 i) ∧ Finite (x6 i) := by
  have hi := congrFun h i
  unfold Cert.Pre_finite_scores.fn at hi
  obtain ⟨h5, h6⟩ := IntOp.andi_eq_one.1 hi
  exact ⟨finite_of_abs _ h5, finite_of_abs _ h6⟩

/-- **The kernel is differential attention**: the printed program and the plain reference end with the same array. -/
theorem algebraic : Cert.algebraic_AttnIdeal_AttnRefIdeal_pre_finite_scores (hAttnIdeal := Cert.AttnIdeal.Gen.facts)
    (hAttnRefIdeal := Cert.AttnRefIdeal.Gen.facts) (hPre_finite_scores := preFacts) := by
  intro m g m' g' hpre hargs
  refine ⟨fun c => (Cert.AttnIdeal.Gen.dats m 0 c).arrAt 8 Cert.AttnIdeal.cfg0.N, Cert.AttnIdeal.Value.run_blocks m g, ?_⟩
  refine (θ_run _ _ _).mono (fun r h c => ?_) (Cert.AttnRefIdeal.Value.run m' g')
  refine ⟨(h c).1.trans ?_, (h c).2⟩
  have hf := pre_apply _ _ _ _ _ _ _ _ (hpre c)
  obtain ⟨e0, e1, e2, e3, e4, e5, e6, e7⟩ := hargs c
  rw [Cert.AttnRefIdeal.Read.val_main_v65_eq, e0, e1, e2, e3, e4, e5, e6, e7]
  refine (reference_eq _ _ _ _ _ _ _ _).trans ?_
  refine Eq.trans ?_ (final m c (fun i => (hf i).1) (fun i => (hf i).2)).symm
  rw [kernelLam]

/-- The reference's run leaves its arguments and, having no semaphore, every counter. -/
theorem refFrame : Cert.quiescent_AttnRefIdeal (hAttnRefIdeal := Cert.AttnRefIdeal.Gen.facts) := fun m g _ =>
  (θ_run _ _ _).mono (fun r h => ⟨fun c => (h c).2, sem_eq_zero_of_no_sems (by decide) r.2⟩) (Cert.AttnRefIdeal.Value.run m g)

end Cert.DiffAttn

end
-- ==== Proof.FfnRun.lean ====
module

public import proofs.«01_k».proof.Proof.Gen.Ffn.Flash.Runs
public import proofs.«01_k».proof.Proof.Gen.FfnIdeal
public import proofs.«01_k».proof.Proof.Gen.FfnIdeal.Flash.Runs
public import proofs.«01_k».proof.Proof.Gen.FfnRefIdeal
public import proofs.«01_k».proof.Proof.Gen.FfnRefIdeal.Run
public import proofs.«01_k».proof.Proof.Gen.FfnRefIdeal.Read
public import proofs.«01_k».proof.Defs
-- ==== Proof.FfnTile.lean ====
/- What one run of the expert kernel's body leaves, as functions of the blocks it is handed: the re-laid weights, the down
   weights, the tile. -/
module

public import proofs.«01_k».proof.Proof.Gen.FfnIdeal.Flash.Runs
public import Idealize.ShloMosaic.Lib.VecWindow

@[expose] public section

noncomputable section

namespace Cert.ExpertsIdeal

open Idealize.ShloMosaic
open Cert.FfnIdeal Cert.FfnIdeal.Gen Idealize.ShloMosaic.TcCoe

/-- The eight stripes of the gate-and-up weights, re-laid, as the first tile of an expert stores them. -/
def stripes (x1 : S1x1024x2048.Idx → Elt Ideal .f32) : List (View.Piece (Elt Ideal) S1024x2048 .bf16) :=
  [ ⟨Rect.unit (s := S1024x2048) ![0, 1792] S1024x256.size inb_S1024x2048_S1024x256_0_1792, k0_pay3 (k0_pay6 (F := Ideal)) (View.ld x1 (Rect.unit (s := S1x1024x2048) ![0, 0, 1792] S1x1024x256.size inb_S1x1024x2048_S1x1024x256_0_0_1792))⟩,
    ⟨Rect.unit (s := S1024x2048) ![0, 1536] S1024x256.size inb_S1024x2048_S1024x256_0_1536, k0_pay2 (k0_pay6 (F := Ideal)) (k0_pay14 (View.ld x1 (Rect.unit (s := S1x1024x2048) ![0, 0, 1536] S1x1024x256.size inb_S1x1024x2048_S1x1024x256_0_0_1536)))⟩,
    ⟨Rect.unit (s := S1024x2048) ![0, 1280] S1024x256.size inb_S1024x2048_S1024x256_0_1280, k0_pay13 (k0_pay6 (F := Ideal)) (View.ld x1 (Rect.unit (s := S1x1024x2048) ![0, 0, 1280] S1x1024x256.size inb_S1x1024x2048_S1x1024x256_0_0_1280))⟩,
    ⟨Rect.unit (s := S1024x2048) ![0, 1024] S1024x256.size inb_S1024x2048_S1024x256_0_1024, k0_pay12 (k0_pay6 (F := Ideal)) (View.ld x1 (Rect.unit (s := S1x1024x2048) ![0, 0, 1024] S1x1024x256.size inb_S1x1024x2048_S1x1024x256_0_0_1024))⟩,
    ⟨Rect.unit (s := S1024x2048) ![0, 768] S1024x256.size inb_S1024x2048_S1024x256_0_768, k0_pay11 (k0_pay6 (F := Ideal)) (View.ld x1 (Rect.unit (s := S1x1024x2048) ![0, 0, 768] S1x1024x256.size inb_S1x1024x2048_S1x1024x256_0_0_768))⟩,
    ⟨Rect.unit (s := S1024x2048) ![0, 512] S1024x256.size inb_S1024x2048_S1024x256_0_512, k0_pay10 (k0_pay6 (F := Ideal)) (k0_pay9 (View.ld x1 (Rect.unit (s := S1x1024x2048) ![0, 0, 512] S1x1024x256.size inb_S1x1024x2048_S1x1024x256_0_0_512)))⟩,
    ⟨Rect.unit (s := S1024x2048) ![0, 256] S1024x256.size inb_S1024x2048_S1024x256_0_256, k0_pay8 (View.ld x1 (Rect.unit (s := S1x1024x2048) ![0, 0, 256] S1x1024x256.size inb_S1x1024x2048_S1x1024x256_0_0_256))⟩,
    ⟨Rect.unit (s := S1024x2048) ![0, 0] S1024x256.size inb_S1024x2048_S1024x256_0_0, k0_pay7 (View.ld x1 (Rect.unit (s := S1x1024x2048) ![0, 0, 0] S1x1024x256.size inb_S1x1024x2048_S1x1024x256_0_0_0))⟩]

/-- The re-laid gate-and-up weights of a block. -/
def scr0 (x1 : S1x1024x2048.Idx → Elt Ideal .f32) : S1024x2048.Idx → Elt Ideal .bf16 :=
  (View.whole cc0_scratch0).writes (Elt Ideal) (View.whole cc0_scratch0).junk (stripes x1)

/-- The down weights' one store. -/
def downs (x4 : S1x1024x1024.Idx → Elt Ideal .f32) : List (View.Piece (Elt Ideal) S1024x1024 .bf16) :=
  [⟨Rect.unit (s := S1024x1024) ![0, 0] S1024x1024.size inb_S1024x1024_S1024x1024_0_0,
    k0_pay4 (View.ld x4 (Rect.unit (s := S1x1024x1024) ![0, 0, 0] S1x1024x1024.size inb_S1x1024x1024_S1x1024x1024_0_0_0))⟩]

/-- The down weights of a block. -/
def scr1 (x4 : S1x1024x1024.Idx → Elt Ideal .f32) : S1024x1024.Idx → Elt Ideal .bf16 :=
  (View.whole cc0_scratch1).writes (Elt Ideal) (View.whole cc0_scratch1).junk
    (downs x4)

/-- A live tile's output from its rows, its biases and the two scratches. -/
def tile (x0 : S512x1024.Idx → Elt Ideal .bf16) (x2 x3 x5 : S1x1x1024.Idx → Elt Ideal .f32) (a0 : S1024x2048.Idx → Elt Ideal .bf16)
    (a1 : S1024x1024.Idx → Elt Ideal .bf16) : S512x1024.Idx → Elt Ideal .bf16 :=
  k0_pay5 (k0_pay15 (View.ld x0 (Rect.unit (s := S512x1024) ![0, 0] S512x1024.size inb_S512x1024_S512x1024_0_0)) (View.ld a0 (Rect.unit (s := S1024x2048) ![0, 0] S1024x256.size inb_S1024x2048_S1024x256_0_0)) (View.ld x2 (Rect.unit (s := S1x1x1024) ![0, 0, 0] S1x1x128.size inb_S1x1x1024_S1x1x128_0_0_0)) (View.ld x3 (Rect.unit (s := S1x1x1024) ![0, 0, 0] S1x1x128.size inb_S1x1x1024_S1x1x128_0_0_0)))
    (k0_pay19 (k0_pay17 (View.ld x0 (Rect.unit (s := S512x1024) ![0, 0] S512x1024.size inb_S512x1024_S512x1024_0_0)) (View.ld a0 (Rect.unit (s := S1024x2048) ![0, 256] S1024x256.size inb_S1024x2048_S1024x256_0_256)) (View.ld x2 (Rect.unit (s := S1x1x1024) ![0, 0, 128] S1x1x128.size inb_S1x1x1024_S1x1x128_0_0_128))) (k0_pay18 (View.ld x0 (Rect.unit (s := S512x1024) ![0, 0] S512x1024.size inb_S512x1024_S512x1024_0_0)) (View.ld a0 (Rect.unit (s := S1024x2048) ![0, 256] S1024x256.size inb_S1024x2048_S1024x256_0_256))) (View.ld x3 (Rect.unit (s := S1x1x1024) ![0, 0, 128] S1x1x128.size inb_S1x1x1024_S1x1x128_0_0_128)))
    (k0_pay24 (k0_pay22 (View.ld x0 (Rect.unit (s := S512x1024) ![0, 0] S512x1024.size inb_S512x1024_S512x1024_0_0)) (View.ld a0 (Rect.unit (s := S1024x2048) ![0, 512] S1024x256.size inb_S1024x2048_S1024x256_0_512)) (View.ld x2 (Rect.unit (s := S1x1x1024) ![0, 0, 256] S1x1x128.size inb_S1x1x1024_S1x1x128_0_0_256)) (View.ld x3 (Rect.unit (s := S1x1x1024) ![0, 0, 256] S1x1x128.size inb_S1x1x1024_S1x1x128_0_0_256))) (k0_pay23 (View.ld x0 (Rect.unit (s := S512x1024) ![0, 0] S512x1024.size inb_S512x1024_S512x1024_0_0)) (View.ld a0 (Rect.unit (s := S1024x2048) ![0, 512] S1024x256.size inb_S1024x2048_S1024x256_0_512)) (View.ld x2 (Rect.unit (s := S1x1x1024) ![0, 0, 256] S1x1x128.size inb_S1x1x1024_S1x1x128_0_0_256))))
    (k0_pay25 (View.ld x0 (Rect.unit (s := S512x1024) ![0, 0] S512x1024.size inb_S512x1024_S512x1024_0_0)) (View.ld a0 (Rect.unit (s := S1024x2048) ![0, 768] S1024x256.size inb_S1024x2048_S1024x256_0_768)) (View.ld x2 (Rect.unit (s := S1x1x1024) ![0, 0, 384] S1x1x128.size inb_S1x1x1024_S1x1x128_0_0_384)) (View.ld x3 (Rect.unit (s := S1x1x1024) ![0, 0, 384] S1x1x128.size inb_S1x1x1024_S1x1x128_0_0_384)))
    (k0_pay29 (k0_pay27 (View.ld x0 (Rect.unit (s := S512x1024) ![0, 0] S512x1024.size inb_S512x1024_S512x1024_0_0)) (View.ld a0 (Rect.unit (s := S1024x2048) ![0, 1024] S1024x256.size inb_S1024x2048_S1024x256_0_1024)) (View.ld x2 (Rect.unit (s := S1x1x1024) ![0, 0, 512] S1x1x128.size inb_S1x1x1024_S1x1x128_0_0_512))) (k0_pay28 (View.ld x0 (Rect.unit (s := S512x1024) ![0, 0] S512x1024.size inb_S512x1024_S512x1024_0_0)) (View.ld a0 (Rect.unit (s := S1024x2048) ![0, 1024] S1024x256.size inb_S1024x2048_S1024x256_0_1024))) (View.ld x3 (Rect.unit (s := S1x1x1024) ![0, 0, 512] S1x1x128.size inb_S1x1x1024_S1x1x128_0_0_512)))
    (k0_pay34 (k0_pay32 (View.ld x0 (Rect.unit (s := S512x1024) ![0, 0] S512x1024.size inb_S512x1024_S512x1024_0_0)) (View.ld a0 (Rect.unit (s := S1024x2048) ![0, 1280] S1024x256.size inb_S1024x2048_S1024x256_0_1280)) (View.ld x2 (Rect.unit (s := S1x1x1024) ![0, 0, 640] S1x1x128.size inb_S1x1x1024_S1x1x128_0_0_640)) (View.ld x3 (Rect.unit (s := S1x1x1024) ![0, 0, 640] S1x1x128.size inb_S1x1x1024_S1x1x128_0_0_640))) (k0_pay33 (View.ld x0 (Rect.unit (s := S512x1024) ![0, 0] S512x1024.size inb_S512x1024_S512x1024_0_0)) (View.ld a0 (Rect.unit (s := S1024x2048) ![0, 1280] S1024x256.size inb_S1024x2048_S1024x256_0_1280)) (View.ld x2 (Rect.unit (s := S1x1x1024) ![0, 0, 640] S1x1x128.size inb_S1x1x1024_S1x1x128_0_0_640))))
    (k0_pay35 (View.ld x0 (Rect.unit (s := S512x1024) ![0, 0] S512x1024.size inb_S512x1024_S512x1024_0_0)) (View.ld a0 (Rect.unit (s := S1024x2048) ![0, 1536] S1024x256.size inb_S1024x2048_S1024x256_0_1536)) (View.ld x2 (Rect.unit (s := S1x1x1024) ![0, 0, 768] S1x1x128.size inb_S1x1x1024_S1x1x128_0_0_768)) (View.ld x3 (Rect.unit (s := S1x1x1024) ![0, 0, 768] S1x1x128.size inb_S1x1x1024_S1x1x128_0_0_768)))
    (k0_pay37 (View.ld x0 (Rect.unit (s := S512x1024) ![0, 0] S512x1024.size inb_S512x1024_S512x1024_0_0)) (View.ld a0 (Rect.unit (s := S1024x2048) ![0, 1792] S1024x256.size inb_S1024x2048_S1024x256_0_1792)) (View.ld x2 (Rect.unit (s := S1x1x1024) ![0, 0, 896] S1x1x128.size inb_S1x1x1024_S1x1x128_0_0_896))) (k0_pay38 (View.ld x0 (Rect.unit (s := S512x1024) ![0, 0] S512x1024.size inb_S512x1024_S512x1024_0_0)) (View.ld a0 (Rect.unit (s := S1024x2048) ![0, 1792] S1024x256.size inb_S1024x2048_S1024x256_0_1792))) (View.ld x3 (Rect.unit (s := S1x1x1024) ![0, 0, 896] S1x1x128.size inb_S1x1x1024_S1x1x128_0_0_896))
    (View.ld a1 (Rect.unit (s := S1024x1024) ![0, 0] S1024x1024.size inb_S1024x1024_S1024x1024_0_0))
    (View.ld x5 (Rect.unit (s := S1x1x1024) ![0, 0, 0] S1x1x1024.size inb_S1x1x1024_S1x1x1024_0_0_0))

section
variable (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (T0 : S554.Idx → Elt Ideal .i32) (T1 : S1.Idx → Elt Ideal .i32)
  (x0 : S512x1024.Idx → Elt Ideal .bf16) (x1 : S1x1024x2048.Idx → Elt Ideal .f32) (x2 x3 : S1x1x1024.Idx → Elt Ideal .f32) (x4 : S1x1024x1024.Idx → Elt Ideal .f32) (x5 : S1x1x1024.Idx → Elt Ideal .f32)

theorem stripes_eq : kernelRun0_A.sl.HS0_8 arg4 x1 = stripes x1 := by
  unfold stripes
  simp only [kernelRun0_A.sl.HS0_8, kernelRun0_A.sl.r_3, kernelRun0_A.sl.r_4, View.readAt_rep]

theorem downs_eq : kernelRun0_A.sl.HS1_1 arg7 x4 = downs x4 := by
  unfold downs
  simp only [kernelRun0_A.sl.HS1_1, View.readAt_rep]

theorem runA_scr0 (h1) (hc1) (h3) : (kernelRun0_A c i arg3 harg3 arg4 harg4 arg5 harg5 arg6 harg6 arg7 harg7 arg8 harg8 arg9 harg9 T0 T1 x0 x1 x2 x3 x4 x5 h1 hc1 h3).2.1 = scr0 x1 := by
  unfold kernelRun0_A; dsimp only
  rw [stripes_eq, scr0]

theorem runA_scr1 (h1) (hc1) (h3) : (kernelRun0_A c i arg3 harg3 arg4 harg4 arg5 harg5 arg6 harg6 arg7 harg7 arg8 harg8 arg9 harg9 T0 T1 x0 x1 x2 x3 x4 x5 h1 hc1 h3).2.2.1 = scr1 x4 := by
  unfold kernelRun0_A; dsimp only
  rw [downs_eq, scr1]

theorem at0 (a : S1024x2048.Idx → Elt Ideal .bf16) (r : Rect S1024x2048) : View.readAt (Elt Ideal) scM0_0.view r.toLoadRect a = View.ld a r := rfl
theorem at1 (a : S1024x1024.Idx → Elt Ideal .bf16) (r : Rect S1024x1024) : View.readAt (Elt Ideal) scM0_1.view r.toLoadRect a = View.ld a r := rfl
theorem cov0 (r : Rect S1024x2048) : scM0_0.view.readCov (stripes x1) r.toLoadRect = View.ld (scr0 x1) r := by
  unfold View.readCov scr0; generalize stripes x1 = L; exact at0 _ r
theorem cov1 (r : Rect S1024x1024) : scM0_1.view.readCov (downs x4) r.toLoadRect = View.ld (scr1 x4) r := by
  unfold View.readCov scr1; generalize downs x4 = L; exact at1 _ r

theorem whole0 (r : Rect S1024x2048) : (View.whole cc0_scratch0).readCov (stripes x1) r.toLoadRect = View.ld (scr0 x1) r := cov0 x1 r
theorem whole1 (r : Rect S1024x1024) : (View.whole cc0_scratch1).readCov (downs x4) r.toLoadRect = View.ld (scr1 x4) r := cov1 x4 r

theorem runB_scr0 (xa0 : Buf (Elt Ideal) ((c : Thread nD τ).loc cc0_scratch0)) (xa1 : Buf (Elt Ideal) ((c : Thread nD τ).loc cc0_scratch1)) (h1) (hc1) (h3) :
    (kernelRun0_B c i arg3 harg3 arg4 harg4 arg5 harg5 arg6 harg6 arg7 harg7 arg8 harg8 arg9 harg9 T0 T1 x0 x1 x2 x3 x4 x5 xa0 xa1 h1 hc1 h3).2.1 = xa0 := rfl

theorem runB_scr1 (xa0 : Buf (Elt Ideal) ((c : Thread nD τ).loc cc0_scratch0)) (xa1 : Buf (Elt Ideal) ((c : Thread nD τ).loc cc0_scratch1)) (h1) (hc1) (h3) :
    (kernelRun0_B c i arg3 harg3 arg4 harg4 arg5 harg5 arg6 harg6 arg7 harg7 arg8 harg8 arg9 harg9 T0 T1 x0 x1 x2 x3 x4 x5 xa0 xa1 h1 hc1 h3).2.2.1 = xa1 := rfl

theorem runB_out (xa0 : Buf (Elt Ideal) ((c : Thread nD τ).loc cc0_scratch0)) (xa1 : Buf (Elt Ideal) ((c : Thread nD τ).loc cc0_scratch1)) (h1) (hc1) (h3) :
    (kernelRun0_B c i arg3 harg3 arg4 harg4 arg5 harg5 arg6 harg6 arg7 harg7 arg8 harg8 arg9 harg9 T0 T1 x0 x1 x2 x3 x4 x5 xa0 xa1 h1 hc1 h3).1
      = [⟨Rect.unit (s := S512x1024) ![0, 0] S512x1024.size inb_S512x1024_S512x1024_0_0, tile x0 x2 x3 x5 xa0 xa1⟩] := by
  unfold kernelRun0_B; dsimp only
  unfold tile
  simp only [kernelRun0_B.sl.HO6_1, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, View.readAt_rep, at0, at1]
  rfl

theorem runA_out (h1) (hc1) (h3) : (kernelRun0_A c i arg3 harg3 arg4 harg4 arg5 harg5 arg6 harg6 arg7 harg7 arg8 harg8 arg9 harg9 T0 T1 x0 x1 x2 x3 x4 x5 h1 hc1 h3).1
      = [⟨Rect.unit (s := S512x1024) ![0, 0] S512x1024.size inb_S512x1024_S512x1024_0_0, tile x0 x2 x3 x5 (scr0 x1) (scr1 x4)⟩] := by
  unfold kernelRun0_A; dsimp only
  unfold tile
  simp only [kernelRun0_A.sl.HO6_1, kernelRun0_A.sl.v20, kernelRun0_A.sl.v46, kernelRun0_A.sl.v72, kernelRun0_A.sl.v98, kernelRun0_A.sl.v124, kernelRun0_A.sl.v150, kernelRun0_A.sl.v176, kernelRun0_A.sl.v202, kernelRun0_A.sl.v229, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, stripes_eq, downs_eq, whole0 x1, whole1 x4, View.readAt_rep]

theorem runC_scr0 (xa0 : Buf (Elt Ideal) ((c : Thread nD τ).loc cc0_scratch0)) (xa1 : Buf (Elt Ideal) ((c : Thread nD τ).loc cc0_scratch1)) (h1) (hc1) (h3) :
    (kernelRun0_C c i arg3 harg3 arg4 harg4 arg5 harg5 arg6 harg6 arg7 harg7 arg8 harg8 arg9 harg9 T0 T1 x0 x1 x2 x3 x4 x5 xa0 xa1 h1 hc1 h3).2.1 = xa0 := rfl

theorem runC_scr1 (xa0 : Buf (Elt Ideal) ((c : Thread nD τ).loc cc0_scratch0)) (xa1 : Buf (Elt Ideal) ((c : Thread nD τ).loc cc0_scratch1)) (h1) (hc1) (h3) :
    (kernelRun0_C c i arg3 harg3 arg4 harg4 arg5 harg5 arg6 harg6 arg7 harg7 arg8 harg8 arg9 harg9 T0 T1 x0 x1 x2 x3 x4 x5 xa0 xa1 h1 hc1 h3).2.2.1 = xa1 := rfl

theorem runC_out (xa0 : Buf (Elt Ideal) ((c : Thread nD τ).loc cc0_scratch0)) (xa1 : Buf (Elt Ideal) ((c : Thread nD τ).loc cc0_scratch1)) (h1) (hc1) (h3) :
    (kernelRun0_C c i arg3 harg3 arg4 harg4 arg5 harg5 arg6 harg6 arg7 harg7 arg8 harg8 arg9 harg9 T0 T1 x0 x1 x2 x3 x4 x5 xa0 xa1 h1 hc1 h3).1
      = [⟨Rect.unit (s := S512x1024) ![0, 0] S512x1024.size inb_S512x1024_S512x1024_0_0, (k0_pay1 (F := Ideal) : S512x1024.Idx → Elt Ideal .bf16)⟩] := rfl

end

end Cert.ExpertsIdeal

end
-- ==== Proof.FfnWords.lean ====
/- The words the expert kernel reads: what its conditions decide, and the tables' entries its index maps take. -/
module

public import proofs.«01_k».proof.Proof.FfnTile

@[expose] public section

noncomputable section

namespace Cert.ExpertsIdeal

open Idealize.ShloMosaic
open Cert.FfnIdeal Cert.FfnIdeal.Gen Idealize.ShloMosaic.TcCoe

/-- The index of entry `t` of the table of experts. -/
def tix (t : Fin 554) : S554.Idx := fun | ⟨0, _⟩ => t
/-- The index of the one entry of the table of the number of tiles. -/
def oix : S1.Idx := fun | ⟨0, _⟩ => (0 : Fin 1)

/-- The tile count exceeds the tile's number: the tile is computed, not cleared. -/
abbrev Below (w : BitVec 32) (n : ℕ) : Prop := Scalar.cmpi .slt (BitVec.ofNat 32 n) w = 1#1

theorem ofBool_iff (b : Bool) : BitVec.ofBool b = 1#1 ↔ b = true := by cases b <;> decide

theorem slt_iff (a b : BitVec 32) : Scalar.cmpi .slt a b = 1#1 ↔ a.toInt < b.toInt :=
  (ofBool_iff (decide (a.toInt < b.toInt))).trans decide_eq_true_iff

theorem cond1_iff (i : grid0.Coords) (w : BitVec 32) : k0_cond1 i w = 1#1 ↔ ¬Below w (i 0).val := by
  unfold k0_cond1 Below; dsimp only; generalize Scalar.cmpi .slt _ w = b; revert b; decide

theorem cond3_iff (i : grid0.Coords) (w : BitVec 32) : k0_cond3 i w = 1#1 ↔ Below w (i 0).val := by
  unfold k0_cond3 Below; dsimp only; generalize Scalar.cmpi .slt _ w = b; revert b; decide

theorem fill_iff (a b c : BitVec 1) : Scalar.cmpi .ne (Scalar.extui (Scalar.andi a (Scalar.ori b c)) : BitVec 32) 0#32 = 1#1 ↔ a = 1#1 ∧ (b = 1#1 ∨ c = 1#1) := by
  revert a b c; decide

theorem ne_iff (a b : BitVec 32) : Scalar.cmpi .ne a b = 1#1 ↔ a ≠ b :=
  (ofBool_iff (a != b)).trans bne_iff_ne

theorem eq_iff (a b : BitVec 32) : Scalar.cmpi .eq a b = 1#1 ↔ a = b :=
  (ofBool_iff (a == b)).trans beq_iff_eq

theorem stores_always (i : grid0.Coords) (w : BitVec 32) : (!(k0_cond1 i w == 1#1) && !(k0_cond3 i w == 1#1)) = false := by
  unfold k0_cond1 k0_cond3; dsimp only; generalize Scalar.cmpi .slt _ w = b; revert b; decide

theorem idle_false (pf : pre0.Contents (Elt Ideal)) (i : grid0.Coords) : idle0 pf 6 i = false := stores_always i _

theorem toInt_small {n : ℕ} (hn : n < 554) : (BitVec.ofNat 32 n).toInt = n := by
  rw [BitVec.toInt_eq_toNat_of_lt] <;> rw [BitVec.toNat_ofNat] <;> omega

theorem below_iff {w : BitVec 32} {n : ℕ} (hn : n < 554) : Below w n ↔ (n : ℤ) < w.toInt := by
  unfold Below
  rw [slt_iff, toInt_small hn]

theorem below_pred {w : BitVec 32} {n k : ℕ} (hn : n < 554) (hk : k ≤ n) (h : Below w n) : Below w k := by
  rw [below_iff (by omega)] at *; omega

theorem off1_eq (i : grid0.Coords) : k0_off1 i 0 = (i 0).val := by
  have h : (i 0).val < 554 := (i 0).isLt
  show (BitVec.ofNat 32 (i 0).val).toNat = _
  rw [BitVec.toNat_ofNat]; omega

theorem off2_eq (i : grid0.Coords) : k0_off2 i 0 = (i 0).val := off1_eq i

theorem off3_eq (i : grid0.Coords) : k0_off3 i 0 = (i 0).val - 1 := by
  have h : ∀ n : Fin 554, (Scalar.maxsi (Scalar.subi (BitVec.ofNat 32 n.val) 1#32) 0#32).toNat = n.val - 1 := by decide +kernel
  exact h (i 0)

/-- The entry of the table of experts a unit rectangle at `off` reads. -/
theorem tab0_read (T0 : S554.Idx → Elt Ideal .i32) (off : Fin 1 → ℕ) (hin : ∀ a, off a + S1.size a ≤ S554.size a) (n : Fin 554) (hn : off 0 = n.val) (h1 : 0 < S1.numel) :
    View.readAt (Elt Ideal) (tbM0_0).view (Rect.unit (s := S554) off S1.size hin).toLoadRect T0 (Shape.Idx.first h1) = T0 (tix n) := by
  show T0 _ = T0 _
  congr 1
  funext a
  apply Fin.ext
  match a with
  | ⟨0, _⟩ =>
    show off 0 + 1 * (Shape.Idx.first h1 (0 : Fin 1)).val = n.val
    have : (Shape.Idx.first h1 (0 : Fin 1)).val < 1 := (Shape.Idx.first h1 (0 : Fin 1)).isLt
    omega

theorem tab1_read (T1 : S1.Idx → Elt Ideal .i32) (hin : ∀ a, (![0] : Fin 1 → ℕ) a + S1.size a ≤ S1.size a) (h1 : 0 < S1.numel) :
    View.readAt (Elt Ideal) (tbM0_1).view (Rect.unit (s := S1) ![0] S1.size hin).toLoadRect T1 (Shape.Idx.first h1) = T1 oix := by
  show T1 _ = T1 _
  congr 1
  funext a
  apply Fin.ext
  match a with
  | ⟨0, _⟩ =>
    show 0 + 1 * (Shape.Idx.first h1 (0 : Fin 1)).val = 0
    have : (Shape.Idx.first h1 (0 : Fin 1)).val < 1 := (Shape.Idx.first h1 (0 : Fin 1)).isLt
    omega

theorem coords_val : ∀ t : Fin grid0.N, ((grid0.coords t) 0).val = t.val := by decide +kernel

/-- The tables' contents. -/
def tabs (T0 : S554.Idx → Elt Ideal .i32) (T1 : S1.Idx → Elt Ideal .i32) : pre0.Contents (Elt Ideal) :=
  fun | ⟨0, _⟩ => T0 | ⟨1, _⟩ => T1 | ⟨_ + 2, h⟩ => absurd h (by simp)

variable (T0 : S554.Idx → Elt Ideal .i32) (T1 : S1.Idx → Elt Ideal .i32)

theorem at0_eq (i : grid0.Coords) (off : Fin 1 → ℕ) (hin : ∀ a, off a + S1.size a ≤ S554.size a) (hn : off 0 = (i 0).val) (h1) :
    (tabs T0 T1).at 0 (Rect.unit (s := S554) off S1.size hin) h1 = T0 (tix (i 0)) := tab0_read T0 off hin (i 0) hn _

theorem at1_eq (hin : ∀ a, (![0] : Fin 1 → ℕ) a + S1.size a ≤ S1.size a) (h1) :
    (tabs T0 T1).at 1 (Rect.unit (s := S1) ![0] S1.size hin) h1 = T1 oix := tab1_read T1 hin _

theorem transform_1_eq (i : grid0.Coords) : cc0_transform_1 k0_off1_inb numel1_S1 (tabs T0 T1) i = ![(T0 (tix (i 0))).toNat, 0, 0] :=
  congrArg (fun w : BitVec 32 => (![w.toNat, 0, 0] : Fin 3 → ℕ)) (at0_eq T0 T1 i (k0_off1 i) (k0_off1_inb i) (off1_eq i) numel1_S1)
theorem transform_2_eq (i : grid0.Coords) : cc0_transform_2 k0_off1_inb numel1_S1 (tabs T0 T1) i = ![(T0 (tix (i 0))).toNat, 0, 0] :=
  congrArg (fun w : BitVec 32 => (![w.toNat, 0, 0] : Fin 3 → ℕ)) (at0_eq T0 T1 i (k0_off1 i) (k0_off1_inb i) (off1_eq i) numel1_S1)
theorem transform_3_eq (i : grid0.Coords) : cc0_transform_3 k0_off1_inb numel1_S1 (tabs T0 T1) i = ![(T0 (tix (i 0))).toNat, 0, 0] :=
  congrArg (fun w : BitVec 32 => (![w.toNat, 0, 0] : Fin 3 → ℕ)) (at0_eq T0 T1 i (k0_off1 i) (k0_off1_inb i) (off1_eq i) numel1_S1)
theorem transform_4_eq (i : grid0.Coords) : cc0_transform_4 k0_off1_inb numel1_S1 (tabs T0 T1) i = ![(T0 (tix (i 0))).toNat, 0, 0] :=
  congrArg (fun w : BitVec 32 => (![w.toNat, 0, 0] : Fin 3 → ℕ)) (at0_eq T0 T1 i (k0_off1 i) (k0_off1_inb i) (off1_eq i) numel1_S1)
theorem transform_5_eq (i : grid0.Coords) : cc0_transform_5 k0_off1_inb numel1_S1 (tabs T0 T1) i = ![(T0 (tix (i 0))).toNat, 0, 0] :=
  congrArg (fun w : BitVec 32 => (![w.toNat, 0, 0] : Fin 3 → ℕ)) (at0_eq T0 T1 i (k0_off1 i) (k0_off1_inb i) (off1_eq i) numel1_S1)

/-- The row block a tile's rows come from: its own, or the last live tile's. -/
theorem transform_0_eq (i : grid0.Coords) :
    cc0_transform_0 inb_S1_S1_0 numel1_S1 (tabs T0 T1) i = ![(Scalar.minsi (BitVec.ofNat 32 (i 0).val) (Scalar.subi (T1 oix) 1#32)).toNat, 0] :=
  congrArg (fun w : BitVec 32 => (![(Scalar.minsi (BitVec.ofNat 32 (i 0).val) (Scalar.subi w 1#32)).toNat, 0] : Fin 2 → ℕ)) (at1_eq T0 T1 inb_S1_S1_0 numel1_S1)

/-- The tables are in range. -/
def InRange : Prop := (∀ t, (T0 (tix t)).toNat < 32) ∧ 1 ≤ (T1 oix).toNat ∧ (T1 oix).toNat ≤ 554

theorem minsi_eq {w : BitVec 32} (h1 : 1 ≤ w.toNat) (h2 : w.toNat ≤ 554) {n : ℕ} (hn : n < 554) :
    (Scalar.minsi (BitVec.ofNat 32 n) (Scalar.subi w 1#32)).toNat = min n (w.toNat - 1) := by
  obtain ⟨k, hk⟩ : ∃ k : Fin 554, w = BitVec.ofNat 32 (k.val + 1) := ⟨⟨w.toNat - 1, by omega⟩, by
    apply BitVec.eq_of_toNat_eq; rw [BitVec.toNat_ofNat]; show _ = (w.toNat - 1 + 1) % _; omega⟩
  have hw : Scalar.subi w 1#32 = BitVec.ofNat 32 k.val := by
    have h : ∀ k : Fin 554, Scalar.subi (BitVec.ofNat 32 (k.val + 1)) 1#32 = BitVec.ofNat 32 k.val := by decide +kernel
    rw [hk, h]
  have hw' : w.toNat = k.val + 1 := by rw [hk, BitVec.toNat_ofNat]; omega
  have e' : ∀ a : ℕ, a < 554 → (BitVec.ofNat 32 a).toNat = a := fun a ha => by
    rw [BitVec.toNat_ofNat]; omega
  rw [hw]
  unfold Scalar.minsi IntOp.minsi
  simp only [BitVec.sle_iff_toInt_le, BitVec.slt_iff_toInt_lt, toInt_small hn, toInt_small k.isLt]
  split <;> rw [e' _ (by omega)] <;> omega

theorem ok_of_range (h : InRange T0 T1) : ok0 (F := Ideal) (tabs T0 T1) := by
  obtain ⟨h0, h1, h2⟩ := h
  unfold ok0
  simp only [transform_0_eq, transform_1_eq, transform_2_eq, transform_3_eq, transform_4_eq, transform_5_eq]
  refine ⟨fun i => ⟨fun a => ?_, .inr (Affine.block_words_dvd (s := S283648x1024) (p := EltTy.packing .bf16) (by decide) (by decide))⟩,
    fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · have hi : (i 0).val < 554 := (i 0).isLt
    rw [minsi_eq h1 h2 hi]
    match a with
    | ⟨0, _⟩ => show (min (i 0).val ((T1 oix).toNat - 1) + 1) * 512 ≤ 283648; omega
    | ⟨1, _⟩ => show (0 + 1) * 1024 ≤ 1024; exact Nat.le_of_eq (Nat.one_mul 1024)
  all_goals
    have hi := h0 (i 0)
    match a with
    | ⟨0, _⟩ => show ((T0 (tix (i 0))).toNat + 1) * 1 ≤ 32; omega
    | ⟨1, _⟩ => show (0 + 1) * _ ≤ _; exact (Nat.one_mul _).le
    | ⟨2, _⟩ => show (0 + 1) * _ ≤ _; exact (Nat.one_mul _).le

end Cert.ExpertsIdeal

end
-- ==== Proof.FfnFrame.lean ====
/- The expert kernel's run: the pipeline at whatever tables the memory holds, its invariant (the scratches hold the weights of the
   tile before, when that one was live), the body at a point by path, the launch. -/
module

public import proofs.«01_k».proof.Proof.FfnWords
public import proofs.«01_k».proof.Proof.Gen.FfnIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.ExpertsIdeal

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The model the run's assertions live in. -/
abbrev Mod := MT nD τ sig Unit (Elt Ideal) ℕ (UR sig nD τ) ℕ
/-- The staging cells' rounds, embedded whole. -/
abbrev cellsEmb : Emb (UR sig nD τ) Mod := emb₁

variable (m : (ℓ : Loc nD τ sig) → Buf (Elt Ideal) ℓ) (ρ : Dev nD → PrngReg)

/-- The table of experts and the number of tiles, as the memory holds them. -/
abbrev tabE : S554.Idx → Elt Ideal .i32 := m (((0 : Dev nD).tc : Thread nD τ).loc main_arg0)
abbrev tabN : S1.Idx → Elt Ideal .i32 := m (((0 : Dev nD).tc : Thread nD τ).loc main_arg1)

/-- The tables the memory holds are in range. -/
abbrev Good : Prop := InRange (tabE m) (tabN m)

variable (h : Good m)

/-- The pipeline at the memory's tables. -/
def adm : (pcfg0 (F := Ideal)).Adm := ⟨tabs (tabE m) (tabN m), ok_of_range _ _ h⟩
abbrev cfgM : Pipeline.Cfg sig Λ₀ := cfg0 (F := Ideal) (adm m h)
abbrev pcsM : Fin 1 → Pipeline.Cfg sig Λ₀ := Pipeline.pin (pcfgs (F := Ideal)) fun _ => adm m h

/-- The launch state. -/
abbrev launchSt : MemSt nD τ sig (Elt Ideal) := ⟨m, fun _ => 0, ρ⟩

abbrev crd (t : Fin (cfgM m h).N) : (cfgM m h).grid.Coords := (cfgM m h).grid.coords t

abbrev ms0_0 (t : Fin (cfgM m h).N) : Memref sig .tc .vmem S512x1024 .bf16 := spec0_0.stage ((cfgM m h).slots t (0 : Fin 7))
abbrev hs0_0 (t : Fin (cfgM m h).N) : (ms0_0 m h t).IsWhole := hstage0_0 (((cfgM m h).slots t (0 : Fin 7)).cast nbuf0_0)
abbrev ms0_1 (t : Fin (cfgM m h).N) : Memref sig .tc .vmem S1x1024x2048 .f32 := spec0_1.stage ((cfgM m h).slots t (1 : Fin 7))
abbrev hs0_1 (t : Fin (cfgM m h).N) : (ms0_1 m h t).IsWhole := hstage0_1 (((cfgM m h).slots t (1 : Fin 7)).cast nbuf0_1)
abbrev ms0_2 (t : Fin (cfgM m h).N) : Memref sig .tc .vmem S1x1x1024 .f32 := spec0_2.stage ((cfgM m h).slots t (2 : Fin 7))
abbrev hs0_2 (t : Fin (cfgM m h).N) : (ms0_2 m h t).IsWhole := hstage0_2 (((cfgM m h).slots t (2 : Fin 7)).cast nbuf0_2)
abbrev ms0_3 (t : Fin (cfgM m h).N) : Memref sig .tc .vmem S1x1x1024 .f32 := spec0_3.stage ((cfgM m h).slots t (3 : Fin 7))
abbrev hs0_3 (t : Fin (cfgM m h).N) : (ms0_3 m h t).IsWhole := hstage0_3 (((cfgM m h).slots t (3 : Fin 7)).cast nbuf0_3)
abbrev ms0_4 (t : Fin (cfgM m h).N) : Memref sig .tc .vmem S1x1024x1024 .f32 := spec0_4.stage ((cfgM m h).slots t (4 : Fin 7))
abbrev hs0_4 (t : Fin (cfgM m h).N) : (ms0_4 m h t).IsWhole := hstage0_4 (((cfgM m h).slots t (4 : Fin 7)).cast nbuf0_4)
abbrev ms0_5 (t : Fin (cfgM m h).N) : Memref sig .tc .vmem S1x1x1024 .f32 := spec0_5.stage ((cfgM m h).slots t (5 : Fin 7))
abbrev hs0_5 (t : Fin (cfgM m h).N) : (ms0_5 m h t).IsWhole := hstage0_5 (((cfgM m h).slots t (5 : Fin 7)).cast nbuf0_5)
abbrev ms0_6 (t : Fin (cfgM m h).N) : Memref sig .tc .vmem S512x1024 .bf16 := spec0_6.stage ((cfgM m h).slots t (6 : Fin 7))
abbrev hs0_6 (t : Fin (cfgM m h).N) : (ms0_6 m h t).IsWhole := hstage0_6 (((cfgM m h).slots t (6 : Fin 7)).cast nbuf0_6)

/-- Window `w`'s block at point `t`, read off its array at launch. -/
def iblk (c : Dev nD) (w : Fin (cfgM m h).W) (t : Fin (cfgM m h).N) : (((cfgM m h).win w).xblock (crd m h t)).Idx → Elt Ideal ((cfgM m h).win w).elt :=
  (((cfgM m h).win w).blk t).view.read (Elt Ideal) ((launchSt m ρ).mem (((cfgM m h).win w).arr.view.loc (c : Thread nD τ)))

/-- Point `t`'s tile is computed. -/
abbrev Live (t : Fin (cfgM m h).N) : Prop := Below (tabN m oix) (crd m h t 0).val

/-- What point `t` leaves in the result's block. -/
def outT (c : Dev nD) (t : Fin (cfgM m h).N) : S512x1024.Idx → Elt Ideal .bf16 :=
  if Live m h t then tile (iblk m ρ h c (0 : Fin 7) t) (iblk m ρ h c (2 : Fin 7) t) (iblk m ρ h c (3 : Fin 7) t) (iblk m ρ h c (5 : Fin 7) t)
    (scr0 (iblk m ρ h c (1 : Fin 7) t)) (scr1 (iblk m ρ h c (4 : Fin 7) t))
  else k0_pay1 (F := Ideal)

/-- What is known of the scratches before point `n`: they hold the weights of the tile before, if that was computed. -/
def Held (c : Dev nD) (n : ℕ) (a0 : Buf (Elt Ideal) ((c : Thread nD τ).loc cc0_scratch0)) (a1 : Buf (Elt Ideal) ((c : Thread nD τ).loc cc0_scratch1)) : Prop :=
  ∀ s : Fin (cfgM m h).N, s.val + 1 = n → Live m h s → a0 = scr0 (iblk m ρ h c (1 : Fin 7) s) ∧ a1 = scr1 (iblk m ρ h c (4 : Fin 7) s)

/-- THE INVARIANT before point `t`: the scratches, and the body's halves of the tables. -/
def Phi (c : Dev nD) (t : Fin ((cfgM m h).N + 1)) : sProp Mod :=
  iprop(∃ a0 a1, ⌜Held m ρ h c t.val a0 a1⌝ ∗ (scM0_0.view.loc (c : Thread nD τ) ↦{fullShare} a0) ∗ (scM0_1.view.loc (c : Thread nD τ) ↦{fullShare} a1)
    ∗ (tbM0_0.view.loc (c : Thread nD τ) ↦{fullShare.right} tabE m) ∗ (tbM0_1.view.loc (c : Thread nD τ) ↦{fullShare.right} tabN m))

/-- The proof data of the one pipeline on core `c`. -/
def dats (_ : Fin 1) (c : Dev nD) : Dat τ (Elt Ideal) Unit ℕ (UR sig nD τ) ℕ (cfgM m h) c where
  A w := (launchSt m ρ).mem (((cfgM m h).win w).arr.view.loc (c : Thread nD τ))
  after w t := match w with
    | ⟨0, _⟩ => iblk m ρ h c (0 : Fin 7) t
    | ⟨1, _⟩ => iblk m ρ h c (1 : Fin 7) t
    | ⟨2, _⟩ => iblk m ρ h c (2 : Fin 7) t
    | ⟨3, _⟩ => iblk m ρ h c (3 : Fin 7) t
    | ⟨4, _⟩ => iblk m ρ h c (4 : Fin 7) t
    | ⟨5, _⟩ => iblk m ρ h c (5 : Fin 7) t
    | ⟨6, _⟩ => outT m ρ h c t
  Φ t := Phi m ρ h c t
  q _ := fullShare
  owed _ := 0

theorem after0_0 (c : Dev nD) (t : Fin (cfgM m h).N) : (dats m ρ h 0 c).after (0 : Fin 7) t = iblk m ρ h c (0 : Fin 7) t := rfl
theorem after0_1 (c : Dev nD) (t : Fin (cfgM m h).N) : (dats m ρ h 0 c).after (1 : Fin 7) t = iblk m ρ h c (1 : Fin 7) t := rfl
theorem after0_2 (c : Dev nD) (t : Fin (cfgM m h).N) : (dats m ρ h 0 c).after (2 : Fin 7) t = iblk m ρ h c (2 : Fin 7) t := rfl
theorem after0_3 (c : Dev nD) (t : Fin (cfgM m h).N) : (dats m ρ h 0 c).after (3 : Fin 7) t = iblk m ρ h c (3 : Fin 7) t := rfl
theorem after0_4 (c : Dev nD) (t : Fin (cfgM m h).N) : (dats m ρ h 0 c).after (4 : Fin 7) t = iblk m ρ h c (4 : Fin 7) t := rfl
theorem after0_5 (c : Dev nD) (t : Fin (cfgM m h).N) : (dats m ρ h 0 c).after (5 : Fin 7) t = iblk m ρ h c (5 : Fin 7) t := rfl
theorem after0_6 (c : Dev nD) (t : Fin (cfgM m h).N) : (dats m ρ h 0 c).after (6 : Fin 7) t = outT m ρ h c t := rfl

theorem before0_0 (c : Dev nD) (t : Fin (cfgM m h).N) (d) : (dats m ρ h 0 c).before (0 : Fin 7) t d = iblk m ρ h c (0 : Fin 7) t :=
  ((dats m ρ h 0 c).before_in_eq_fetched (0 : Fin 7) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgM m h).N) (d) : (dats m ρ h 0 c).before (1 : Fin 7) t d = iblk m ρ h c (1 : Fin 7) t :=
  ((dats m ρ h 0 c).before_in_eq_fetched (1 : Fin 7) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgM m h).N) (d) : (dats m ρ h 0 c).before (2 : Fin 7) t d = iblk m ρ h c (2 : Fin 7) t :=
  ((dats m ρ h 0 c).before_in_eq_fetched (2 : Fin 7) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgM m h).N) (d) : (dats m ρ h 0 c).before (3 : Fin 7) t d = iblk m ρ h c (3 : Fin 7) t :=
  ((dats m ρ h 0 c).before_in_eq_fetched (3 : Fin 7) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgM m h).N) (d) : (dats m ρ h 0 c).before (4 : Fin 7) t d = iblk m ρ h c (4 : Fin 7) t :=
  ((dats m ρ h 0 c).before_in_eq_fetched (4 : Fin 7) rfl (fun _ => rfl) (fun _ _ _ => rfl) (fun t => by rw [after0_4]; unfold Dat.blockOf iblk; rfl) t d).trans
    (by unfold Dat.fetched Dat.blockOf iblk; rfl)

theorem before0_5 (c : Dev nD) (t : Fin (cfgM m h).N) (d) : (dats m ρ h 0 c).before (5 : Fin 7) t d = iblk m ρ h c (5 : Fin 7) t :=
  ((dats m ρ h 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- A weights window's block is the same at two points whose tiles name one expert. -/
theorem fetched_1 (c : Dev nD) (t : Fin (cfgM m h).N) (d) : (dats m ρ h 0 c).fetched (1 : Fin 7) t d = iblk m ρ h c (1 : Fin 7) t := by
  unfold Dat.fetched Dat.blockOf iblk; rfl
theorem fetched_4 (c : Dev nD) (t : Fin (cfgM m h).N) (d) : (dats m ρ h 0 c).fetched (4 : Fin 7) t d = iblk m ρ h c (4 : Fin 7) t := by
  unfold Dat.fetched Dat.blockOf iblk; rfl

theorem iblk1_congr (c : Dev nD) (s t : Fin (cfgM m h).N) (e : tabE m (tix (crd m h s 0)) = tabE m (tix (crd m h t 0))) :
    (iblk m ρ h c (1 : Fin 7) s : S1x1024x2048.Idx → Elt Ideal .f32) = iblk m ρ h c (1 : Fin 7) t := by
  have hi : ((cfgM m h).win (1 : Fin 7)).index s = ((cfgM m h).win (1 : Fin 7)).index t := by
    show cc0_transform_1 k0_off1_inb numel1_S1 (tabs (tabE m) (tabN m)) (crd m h s) = cc0_transform_1 k0_off1_inb numel1_S1 (tabs (tabE m) (tabN m)) (crd m h t)
    rw [transform_1_eq, transform_1_eq, e]
  have := (dats m ρ h 0 c).fetched_congr (1 : Fin 7) hi rfl (fun _ => default)
  rwa [fetched_1, fetched_1] at this

theorem iblk4_congr (c : Dev nD) (s t : Fin (cfgM m h).N) (e : tabE m (tix (crd m h s 0)) = tabE m (tix (crd m h t 0))) :
    (iblk m ρ h c (4 : Fin 7) s : S1x1024x1024.Idx → Elt Ideal .f32) = iblk m ρ h c (4 : Fin 7) t := by
  have hi : ((cfgM m h).win (4 : Fin 7)).index s = ((cfgM m h).win (4 : Fin 7)).index t := by
    show cc0_transform_4 k0_off1_inb numel1_S1 (tabs (tabE m) (tabN m)) (crd m h s) = cc0_transform_4 k0_off1_inb numel1_S1 (tabs (tabE m) (tabN m)) (crd m h t)
    rw [transform_4_eq, transform_4_eq, e]
  have := (dats m ρ h 0 c).fetched_congr (4 : Fin 7) hi rfl (fun _ => default)
  rwa [fetched_4, fetched_4] at this

/-- The scratches are filled at point `t`. -/
abbrev Fill (t : Fin (cfgM m h).N) : Prop := (crd m h t 0).val = 0 ∨ tabE m (tix (crd m h t 0)) ≠ tabE m (tix ⟨(crd m h t 0).val - 1, by have : (crd m h t 0).val < 554 := (crd m h t 0).isLt; omega⟩)

theorem coord_zero (i : grid0.Coords) : BitVec.ofNat 32 (i 0).val = 0#32 ↔ (i 0).val = 0 := by
  have hi : (i 0).val < 554 := (i 0).isLt
  constructor
  · intro e; have := congrArg BitVec.toNat e; rw [BitVec.toNat_ofNat] at this; show (i 0).val = 0; simp at this; omega
  · intro e; rw [e]

/-- The body's three conditions at point `t`, decided. -/
theorem word_1 (t : Fin (cfgM m h).N) : k0_cond1 (crd m h t) (View.readAt (Elt Ideal) (tbM0_1).view (Rect.unit (s := S1) ![0] S1.size inb_S1_S1_0).toLoadRect (tabN m) (Shape.Idx.first (numel1_S1.symm ▸ Nat.one_pos))) = 1#1 ↔ ¬Live m h t := by
  rw [tab1_read]; exact cond1_iff _ _
theorem word_3 (t : Fin (cfgM m h).N) : k0_cond3 (crd m h t) (View.readAt (Elt Ideal) (tbM0_1).view (Rect.unit (s := S1) ![0] S1.size inb_S1_S1_0).toLoadRect (tabN m) (Shape.Idx.first (numel1_S1.symm ▸ Nat.one_pos))) = 1#1 ↔ Live m h t := by
  rw [tab1_read]; exact cond3_iff _ _
theorem word_2 (t : Fin (cfgM m h).N) : (Scalar.cmpi .ne (Scalar.extui (Scalar.andi (Scalar.cmpi .slt (BitVec.ofNat 32 ((crd m h t) 0).val) (View.readAt (Elt Ideal) (tbM0_1).view (Rect.unit (s := S1) ![0] S1.size inb_S1_S1_0).toLoadRect (tabN m) (Shape.Idx.first (numel1_S1.symm ▸ Nat.one_pos)))) (Scalar.ori (Scalar.cmpi .eq (BitVec.ofNat 32 ((crd m h t) 0).val) 0#32) (Scalar.cmpi .ne (View.readAt (Elt Ideal) (tbM0_0).view (Rect.unit (s := S554) (k0_off2 (crd m h t)) S1.size (k0_off2_inb (crd m h t))).toLoadRect (tabE m) (Shape.Idx.first (numel1_S1.symm ▸ Nat.one_pos))) (View.readAt (Elt Ideal) (tbM0_0).view (Rect.unit (s := S554) (k0_off3 (crd m h t)) S1.size (k0_off3_inb (crd m h t))).toLoadRect (tabE m) (Shape.Idx.first (numel1_S1.symm ▸ Nat.one_pos))))))) 0#32) = 1#1 ↔ Live m h t ∧ Fill m h t := by
  rw [tab1_read, tab0_read (tabE m) _ _ (crd m h t 0) (off2_eq _), tab0_read (tabE m) _ _ ⟨(crd m h t 0).val - 1, by have : (crd m h t 0).val < 554 := (crd m h t 0).isLt; omega⟩ (off3_eq _),
    fill_iff, ne_iff, eq_iff, coord_zero]

/-- The body at point `t` on its staging memrefs, as the pipeline calls it. -/
abbrev bodyAt (t : Fin (cfgM m h).N) : Prog (TpuEff nD τ sig (Elt Ideal) Λ₀ .tc) PUnit :=
  cc0_moe_ffn (crd m h t) (Memref.whole main_arg0) (Memref.isWhole_whole _) (Memref.whole main_arg1) (Memref.isWhole_whole _) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t) (ms0_6 m h t) (hs0_6 m h t) (Memref.whole cc0_scratch0) (Memref.isWhole_whole _) (Memref.whole cc0_scratch1) (Memref.isWhole_whole _)

set_option maxHeartbeats 4000000 in
/-- THE BODY at point `t`, by path. -/
theorem sound_body (c : Dev nD) (t : Fin (cfgM m h).N) :
    iprop((dats m ρ h 0 c).Φ t.castSucc ∗ (dats m ρ h 0 c).owesAt () t.castSucc
        ∗ (∃ d, owns (c : Thread nD τ) (ms0_0 m h t) fullShare ((dats m ρ h 0 c).before (0 : Fin 7) t d))
        ∗ (∃ d, owns (c : Thread nD τ) (ms0_1 m h t) fullShare ((dats m ρ h 0 c).before (1 : Fin 7) t d))
        ∗ (∃ d, owns (c : Thread nD τ) (ms0_2 m h t) fullShare ((dats m ρ h 0 c).before (2 : Fin 7) t d))
        ∗ (∃ d, owns (c : Thread nD τ) (ms0_3 m h t) fullShare ((dats m ρ h 0 c).before (3 : Fin 7) t d))
        ∗ (∃ d, owns (c : Thread nD τ) (ms0_4 m h t) fullShare ((dats m ρ h 0 c).before (4 : Fin 7) t d))
        ∗ (∃ d, owns (c : Thread nD τ) (ms0_5 m h t) fullShare ((dats m ρ h 0 c).before (5 : Fin 7) t d))
        ∗ (∃ d, owns (c : Thread nD τ) (ms0_6 m h t) fullShare ((dats m ρ h 0 c).before (6 : Fin 7) t d)))
      ⊢ wp frame (wpE (defs₀ (F := Ideal)) Variants.none c none) Set.univ (bodyAt m h t) fun _ =>
          iprop((dats m ρ h 0 c).Φ t.succ ∗ (dats m ρ h 0 c).owesAt () t.succ
            ∗ bigSep Finset.univ fun w : Fin (cfgM m h).W =>
                match (cfgM m h).idle w ((cfgM m h).grid.coords t) with
                | true =>
                  match ((cfgM m h).win w).flush t with
                  | false => iprop(∃ d, owns (c : Thread nD τ) (((cfgM m h).win w).stage ((cfgM m h).slots t w)) fullShare ((dats m ρ h 0 c).before w t d))
                  | true => owns (c : Thread nD τ) (((cfgM m h).win w).stage ((cfgM m h).slots t w)) fullShare ((dats m ρ h 0 c).after w t)
                | false => owns (c : Thread nD τ) (((cfgM m h).win w).stage ((cfgM m h).slots t w)) fullShare ((dats m ρ h 0 c).after w t)) := by
  rw [bigSep_W0]
  have i6 : (cfgM m h).idle (6 : Fin 7) ((cfgM m h).grid.coords t) = false := idle_false _ _
  rewrite [i6]
  simp only [before0_0, before0_1, before0_2, before0_3, before0_4, before0_5, after0_0, after0_1, after0_2, after0_3, after0_4, after0_5, after0_6]
  rewrite [show (dats m ρ h 0 c).Φ t.succ = Phi m ρ h c t.succ from rfl, show (dats m ρ h 0 c).Φ t.castSucc = Phi m ρ h c t.castSucc from rfl,
    show (dats m ρ h 0 c).owesAt () t.succ = (dats m ρ h 0 c).owesAt () t.castSucc from rfl]
  unfold Phi
  simp only [Fin.val_castSucc, Fin.val_succ]
  have hcv : (crd m h t 0).val = t.val := coords_val t
  by_cases hl : Live m h t
  · have q1 := (not_congr (word_1 m h t)).mpr (not_not_intro hl)
    have q3 := (word_3 m h t).mpr hl
    by_cases hf : Fill m h t
    · have q2 := (word_2 m h t).mpr ⟨hl, hf⟩
      iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t) (ms0_6 m h t) (hs0_6 m h t) (tabE m) (tabN m) (iblk m ρ h c (0 : Fin 7) t) (iblk m ρ h c (1 : Fin 7) t) (iblk m ρ h c (2 : Fin 7) t) (iblk m ρ h c (3 : Fin 7) t) (iblk m ρ h c (4 : Fin 7) t) (iblk m ρ h c (5 : Fin 7) t) q1 q2 q3).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      iintro ⟨H0, H1, H2, H3, H4, H5, HT0, HT1, ⟨%e6, H6⟩, HS0, HS1⟩
      isplitl [HS0 HS1 HT0 HT1]
      · iexists _; iexists _; isplitr; swap
        · isplitl [HS0]; · iexact HS0
          isplitl [HS1]; · iexact HS1
          isplitl [HT0]; · iexact HT0
          iexact HT1
        · ipureintro; intro s hs hls; obtain rfl : s = t := Fin.ext (by omega); exact ⟨runA_scr0 .., runA_scr1 ..⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; rw [runA_out, View.read_writes_full, outT, if_pos hl]
    · have q2 := (not_congr (word_2 m h t)).mpr (fun q => hf q.2)
      obtain ⟨hf0, hfe⟩ := not_or.mp hf
      rw [not_not] at hfe
      rw [hcv] at hf0
      iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩⟩
      have hs : t.val - 1 < (cfgM m h).N := lt_of_le_of_lt (Nat.sub_le _ _) t.isLt
      have hsv : (crd m h ⟨t.val - 1, hs⟩ 0).val = t.val - 1 := coords_val ⟨t.val - 1, hs⟩
      have hp : tabE m (tix (crd m h ⟨t.val - 1, hs⟩ 0)) = tabE m (tix (crd m h t 0)) := by
        rw [hfe]; exact congrArg (fun n => tabE m (tix n)) (Fin.ext (hsv.trans (congrArg (· - 1) hcv).symm))
      have hl' : Live m h ⟨t.val - 1, hs⟩ := below_pred (crd m h t 0).isLt (by rw [hsv, hcv]; exact Nat.sub_le _ _) hl
      obtain ⟨e0, e1⟩ := ha ⟨t.val - 1, hs⟩ (Nat.sub_add_cancel (Nat.pos_of_ne_zero hf0)) hl'
      rw [iblk1_congr m ρ h c _ t hp] at e0
      rw [iblk4_congr m ρ h c _ t hp] at e1
      subst e0 e1
      iapply ((kernelRun0_B c (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t) (ms0_6 m h t) (hs0_6 m h t) (tabE m) (tabN m) (iblk m ρ h c (0 : Fin 7) t) (iblk m ρ h c (1 : Fin 7) t) (iblk m ρ h c (2 : Fin 7) t) (iblk m ρ h c (3 : Fin 7) t) (iblk m ρ h c (4 : Fin 7) t) (iblk m ρ h c (5 : Fin 7) t) _ _ q1 q2 q3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      iintro ⟨H0, H1, H2, H3, H4, H5, HT0, HT1, ⟨%e6, H6⟩, HS0, HS1⟩
      isplitl [HS0 HS1 HT0 HT1]
      · iexists _; iexists _; isplitr; swap
        · isplitl [HS0]; · iexact HS0
          isplitl [HS1]; · iexact HS1
          isplitl [HT0]; · iexact HT0
          iexact HT1
        · ipureintro; intro s hs hls; obtain rfl : s = t := Fin.ext (by omega); exact ⟨runB_scr0 .., runB_scr1 ..⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; rw [runB_out, View.read_writes_full, outT, if_pos hl]
  · have q1 := (word_1 m h t).mpr hl
    have q3 := (not_congr (word_3 m h t)).mpr hl
    have q2 := (not_congr (word_2 m h t)).mpr (fun q => hl q.1)
    iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t) (ms0_6 m h t) (hs0_6 m h t) (tabE m) (tabN m) (iblk m ρ h c (0 : Fin 7) t) (iblk m ρ h c (1 : Fin 7) t) (iblk m ρ h c (2 : Fin 7) t) (iblk m ρ h c (3 : Fin 7) t) (iblk m ρ h c (4 : Fin 7) t) (iblk m ρ h c (5 : Fin 7) t) a0 a1 q1 q2 q3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    isplitl [HS0]; · iexact HS0
    isplitl [HS1]; · iexact HS1
    iintro ⟨H0, H1, H2, H3, H4, H5, HT0, HT1, ⟨%e6, H6⟩, HS0, HS1⟩
    isplitl [HS0 HS1 HT0 HT1]
    · iexists _; iexists _; isplitr; swap
      · isplitl [HS0]; · iexact HS0
        isplitl [HS1]; · iexact HS1
        isplitl [HT0]; · iexact HT0
        iexact HT1
      · ipureintro; intro s hs hls; obtain rfl : s = t := Fin.ext (by omega); exact absurd hls hl
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    unfold owns; iexists _; isplitr; swap
    · iexact H6
    · ipureintro; rw [runC_out, View.read_writes_full, outT, if_neg hl]

theorem body_obligation (c : Dev nD) : BodyObligation (dats m ρ h 0 c) (defs₀ (F := Ideal)) Variants.none () Set.univ := fun t => by
  rw [bigSep_W0]
  exact sound_body m ρ h c t

/-! ## The launch -/

/-- The rounds library's launch element. -/
def u₀ : UR sig nD τ :=
  initOf (Pipeline.cells (pcsM m h) ((launch0 (F := Ideal)).cellOf_inj fun _ => adm m h))
    (Pipeline.launchToks (pcsM m h) ((launch0 (F := Ideal)).cellOf_inj fun _ => adm m h))

theorem share_eq (c : Dev nD) (w : Fin (cfgM m h).W) : (dats m ρ h 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp Mod)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m h).1 ∗ Pipeline.scopedRest spec0 c) ⊢ (dats m ρ h 0 c).Φ 0 := by
  rw [prefHeld_eq, scopedRest0_eq, show (dats m ρ h 0 c).Φ 0 = Phi m ρ h c 0 from rfl]
  unfold Phi
  iintro ⟨-, ⟨HT0, HT1⟩, ⟨%a0, HS0⟩, ⟨%a1, HS1⟩⟩
  iexists a0; iexists a1; isplitr; swap
  · isplitl [HS0]
    · iexact HS0
    isplitl [HS1]
    · iexact HS1
    isplitl [HT0]
    · iexact HT0
    iexact HT1
  · ipureintro; intro s hs; exact absurd hs (Nat.succ_ne_zero _)

theorem phiN_exit (c : Dev nD) : (dats m ρ h 0 c).Φ (Fin.last (cfgM m h).N) ⊢ iprop(BI.emp ∗ Pipeline.scopedRest spec0 c) := by
  rw [scopedRest0_eq, show (dats m ρ h 0 c).Φ (Fin.last (cfgM m h).N) = Phi m ρ h c (Fin.last _) from rfl]
  unfold Phi
  iintro ⟨%a0, %a1, -, HS0, HS1, -, -⟩
  isplitr; · iempintro
  isplitl [HS0]
  · iexists a0; iexact HS0
  iexists a1; iexact HS1

/-- Every array at what the pipeline computes, every table at what it ran at. -/
def QC : PUnit × MemSt nD τ sig (Elt Ideal) → Prop := fun r =>
  ∀ c : Dev nD, (∀ w : Fin (cfgM m h).W, r.2.mem (((cfgM m h).win w).arr.view.loc (c : Thread nD τ)) = (dats m ρ h 0 c).arrAt w (cfgM m h).N)
    ∧ ∀ j, r.2.mem ((c : Thread nD τ).loc (pre0.ref j)) = (adm m h).1 j

theorem V_pre (c : Dev nD) (j : Fin 2) : m ((c : Thread nD τ).loc (pre0.ref j)) = (adm m h).1 j := by
  obtain rfl : c = (0 : Dev nD) := Subsingleton.elim _ _
  fin_cases j <;> rfl

set_option backward.isDefEq.respectTransparency.types false in
set_option maxHeartbeats 4000000 in
theorem run_quiescent : θ_run (defs (F := Ideal)) (onTc (τ := τ) (main (F := Ideal))) (launchSt m ρ) (fun r => QC m ρ h r ∧ r.2.sem = fun _ => 0) :=
  Pipeline.θ_run_region_noSem_pf_quiescent pcfgs (fun _ => adm m h) (dats m ρ h) () ((launch0 (F := Ideal)).cellOf_inj fun _ => adm m h) (0 : Fin 1)
    (launch0 (F := Ideal)).win.to₀ (launch0 (F := Ideal)).pre cellsEmb defs₀ Variants.none m ρ main
    (hbody := fun c => (body_obligation m ρ h c).loose) (hne := (launch0 (F := Ideal)).block_pos)
    (harr := (launch0 (F := Ideal)).arr_whole) (hstage := (launch0 (F := Ideal)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsM m h) (dats m ρ h) 0 (launch0 (F := Ideal)).win.arr_inj c (launch0 (F := Ideal)).arr_whole
      (share_eq m ρ h c) _ _ fun _ => rfl)
    (hpf := V_pre m h)
    (X := fun _ => iprop(emp)) (Y := fun _ => iprop(emp)) (Z := fun _ => iprop(emp))
    (hX := fun c => by rw [unscopedRestP0_eq]; iintro -; isplitr <;> iempintro)
    (hin := phi0_intro m ρ h)
    (hout := phiN_exit m ρ h)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments' final contents. -/
theorem args_kept {r : PUnit × MemSt nD τ sig (Elt Ideal)} (q : QC m ρ h r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((q c).2 0).trans (V_pre m h c 0).symm, ((q c).2 1).trans (V_pre m h c 1).symm, ((q c).1 (0 : Fin 7)).trans ((dats m ρ h 0 c).arrAt_in (0 : Fin 7) rfl _), ((q c).1 (1 : Fin 7)).trans ((dats m ρ h 0 c).arrAt_in (1 : Fin 7) rfl _), ((q c).1 (2 : Fin 7)).trans ((dats m ρ h 0 c).arrAt_in (2 : Fin 7) rfl _), ((q c).1 (3 : Fin 7)).trans ((dats m ρ h 0 c).arrAt_in (3 : Fin 7) rfl _), ((q c).1 (4 : Fin 7)).trans ((dats m ρ h 0 c).arrAt_in (4 : Fin 7) rfl _), ((q c).1 (5 : Fin 7)).trans ((dats m ρ h 0 c).arrAt_in (5 : Fin 7) rfl _)⟩

include h in
/-- From tables in range: the call runs, faults nowhere, leaves its arguments and every semaphore as they were. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ q => ⟨args_kept m ρ h q.1, q.2⟩) (run_quiescent m ρ h)

end Cert.ExpertsIdeal

end
-- ==== Proof.FfnBitsTile.lean ====
/- What one run of the expert kernel's body leaves, as functions of the blocks it is handed: the re-laid weights, the down
   weights, the tile. -/
module

public import proofs.«01_k».proof.Proof.Gen.Ffn.Flash.Runs
public import Idealize.ShloMosaic.Lib.VecWindow

@[expose] public section

noncomputable section

namespace Cert.Experts

open Idealize.ShloMosaic
open Cert.Ffn Cert.Ffn.Gen Idealize.ShloMosaic.TcCoe

/-- The eight stripes of the gate-and-up weights, re-laid, as the first tile of an expert stores them. -/
def stripes (x1 : S1x1024x2048.Idx → Elt Bits .f32) : List (View.Piece (Elt Bits) S1024x2048 .bf16) :=
  [ ⟨Rect.unit (s := S1024x2048) ![0, 1792] S1024x256.size inb_S1024x2048_S1024x256_0_1792, k0_pay3 (k0_pay6 (F := Bits)) (View.ld x1 (Rect.unit (s := S1x1024x2048) ![0, 0, 1792] S1x1024x256.size inb_S1x1024x2048_S1x1024x256_0_0_1792))⟩,
    ⟨Rect.unit (s := S1024x2048) ![0, 1536] S1024x256.size inb_S1024x2048_S1024x256_0_1536, k0_pay2 (k0_pay6 (F := Bits)) (k0_pay14 (View.ld x1 (Rect.unit (s := S1x1024x2048) ![0, 0, 1536] S1x1024x256.size inb_S1x1024x2048_S1x1024x256_0_0_1536)))⟩,
    ⟨Rect.unit (s := S1024x2048) ![0, 1280] S1024x256.size inb_S1024x2048_S1024x256_0_1280, k0_pay13 (k0_pay6 (F := Bits)) (View.ld x1 (Rect.unit (s := S1x1024x2048) ![0, 0, 1280] S1x1024x256.size inb_S1x1024x2048_S1x1024x256_0_0_1280))⟩,
    ⟨Rect.unit (s := S1024x2048) ![0, 1024] S1024x256.size inb_S1024x2048_S1024x256_0_1024, k0_pay12 (k0_pay6 (F := Bits)) (View.ld x1 (Rect.unit (s := S1x1024x2048) ![0, 0, 1024] S1x1024x256.size inb_S1x1024x2048_S1x1024x256_0_0_1024))⟩,
    ⟨Rect.unit (s := S1024x2048) ![0, 768] S1024x256.size inb_S1024x2048_S1024x256_0_768, k0_pay11 (k0_pay6 (F := Bits)) (View.ld x1 (Rect.unit (s := S1x1024x2048) ![0, 0, 768] S1x1024x256.size inb_S1x1024x2048_S1x1024x256_0_0_768))⟩,
    ⟨Rect.unit (s := S1024x2048) ![0, 512] S1024x256.size inb_S1024x2048_S1024x256_0_512, k0_pay10 (k0_pay6 (F := Bits)) (k0_pay9 (View.ld x1 (Rect.unit (s := S1x1024x2048) ![0, 0, 512] S1x1024x256.size inb_S1x1024x2048_S1x1024x256_0_0_512)))⟩,
    ⟨Rect.unit (s := S1024x2048) ![0, 256] S1024x256.size inb_S1024x2048_S1024x256_0_256, k0_pay8 (View.ld x1 (Rect.unit (s := S1x1024x2048) ![0, 0, 256] S1x1024x256.size inb_S1x1024x2048_S1x1024x256_0_0_256))⟩,
    ⟨Rect.unit (s := S1024x2048) ![0, 0] S1024x256.size inb_S1024x2048_S1024x256_0_0, k0_pay7 (View.ld x1 (Rect.unit (s := S1x1024x2048) ![0, 0, 0] S1x1024x256.size inb_S1x1024x2048_S1x1024x256_0_0_0))⟩]

/-- The re-laid gate-and-up weights of a block. -/
def scr0 (x1 : S1x1024x2048.Idx → Elt Bits .f32) : S1024x2048.Idx → Elt Bits .bf16 :=
  (View.whole cc0_scratch0).writes (Elt Bits) (View.whole cc0_scratch0).junk (stripes x1)

/-- The down weights' one store. -/
def downs (x4 : S1x1024x1024.Idx → Elt Bits .f32) : List (View.Piece (Elt Bits) S1024x1024 .bf16) :=
  [⟨Rect.unit (s := S1024x1024) ![0, 0] S1024x1024.size inb_S1024x1024_S1024x1024_0_0,
    k0_pay4 (View.ld x4 (Rect.unit (s := S1x1024x1024) ![0, 0, 0] S1x1024x1024.size inb_S1x1024x1024_S1x1024x1024_0_0_0))⟩]

/-- The down weights of a block. -/
def scr1 (x4 : S1x1024x1024.Idx → Elt Bits .f32) : S1024x1024.Idx → Elt Bits .bf16 :=
  (View.whole cc0_scratch1).writes (Elt Bits) (View.whole cc0_scratch1).junk
    (downs x4)

/-- A live tile's output from its rows, its biases and the two scratches. -/
def tile (x0 : S512x1024.Idx → Elt Bits .bf16) (x2 x3 x5 : S1x1x1024.Idx → Elt Bits .f32) (a0 : S1024x2048.Idx → Elt Bits .bf16)
    (a1 : S1024x1024.Idx → Elt Bits .bf16) : S512x1024.Idx → Elt Bits .bf16 :=
  k0_pay5 (k0_pay15 (View.ld x0 (Rect.unit (s := S512x1024) ![0, 0] S512x1024.size inb_S512x1024_S512x1024_0_0)) (View.ld a0 (Rect.unit (s := S1024x2048) ![0, 0] S1024x256.size inb_S1024x2048_S1024x256_0_0)) (View.ld x2 (Rect.unit (s := S1x1x1024) ![0, 0, 0] S1x1x128.size inb_S1x1x1024_S1x1x128_0_0_0)) (View.ld x3 (Rect.unit (s := S1x1x1024) ![0, 0, 0] S1x1x128.size inb_S1x1x1024_S1x1x128_0_0_0)))
    (k0_pay19 (k0_pay17 (View.ld x0 (Rect.unit (s := S512x1024) ![0, 0] S512x1024.size inb_S512x1024_S512x1024_0_0)) (View.ld a0 (Rect.unit (s := S1024x2048) ![0, 256] S1024x256.size inb_S1024x2048_S1024x256_0_256)) (View.ld x2 (Rect.unit (s := S1x1x1024) ![0, 0, 128] S1x1x128.size inb_S1x1x1024_S1x1x128_0_0_128))) (k0_pay18 (View.ld x0 (Rect.unit (s := S512x1024) ![0, 0] S512x1024.size inb_S512x1024_S512x1024_0_0)) (View.ld a0 (Rect.unit (s := S1024x2048) ![0, 256] S1024x256.size inb_S1024x2048_S1024x256_0_256))) (View.ld x3 (Rect.unit (s := S1x1x1024) ![0, 0, 128] S1x1x128.size inb_S1x1x1024_S1x1x128_0_0_128)))
    (k0_pay24 (k0_pay22 (View.ld x0 (Rect.unit (s := S512x1024) ![0, 0] S512x1024.size inb_S512x1024_S512x1024_0_0)) (View.ld a0 (Rect.unit (s := S1024x2048) ![0, 512] S1024x256.size inb_S1024x2048_S1024x256_0_512)) (View.ld x2 (Rect.unit (s := S1x1x1024) ![0, 0, 256] S1x1x128.size inb_S1x1x1024_S1x1x128_0_0_256)) (View.ld x3 (Rect.unit (s := S1x1x1024) ![0, 0, 256] S1x1x128.size inb_S1x1x1024_S1x1x128_0_0_256))) (k0_pay23 (View.ld x0 (Rect.unit (s := S512x1024) ![0, 0] S512x1024.size inb_S512x1024_S512x1024_0_0)) (View.ld a0 (Rect.unit (s := S1024x2048) ![0, 512] S1024x256.size inb_S1024x2048_S1024x256_0_512)) (View.ld x2 (Rect.unit (s := S1x1x1024) ![0, 0, 256] S1x1x128.size inb_S1x1x1024_S1x1x128_0_0_256))))
    (k0_pay25 (View.ld x0 (Rect.unit (s := S512x1024) ![0, 0] S512x1024.size inb_S512x1024_S512x1024_0_0)) (View.ld a0 (Rect.unit (s := S1024x2048) ![0, 768] S1024x256.size inb_S1024x2048_S1024x256_0_768)) (View.ld x2 (Rect.unit (s := S1x1x1024) ![0, 0, 384] S1x1x128.size inb_S1x1x1024_S1x1x128_0_0_384)) (View.ld x3 (Rect.unit (s := S1x1x1024) ![0, 0, 384] S1x1x128.size inb_S1x1x1024_S1x1x128_0_0_384)))
    (k0_pay29 (k0_pay27 (View.ld x0 (Rect.unit (s := S512x1024) ![0, 0] S512x1024.size inb_S512x1024_S512x1024_0_0)) (View.ld a0 (Rect.unit (s := S1024x2048) ![0, 1024] S1024x256.size inb_S1024x2048_S1024x256_0_1024)) (View.ld x2 (Rect.unit (s := S1x1x1024) ![0, 0, 512] S1x1x128.size inb_S1x1x1024_S1x1x128_0_0_512))) (k0_pay28 (View.ld x0 (Rect.unit (s := S512x1024) ![0, 0] S512x1024.size inb_S512x1024_S512x1024_0_0)) (View.ld a0 (Rect.unit (s := S1024x2048) ![0, 1024] S1024x256.size inb_S1024x2048_S1024x256_0_1024))) (View.ld x3 (Rect.unit (s := S1x1x1024) ![0, 0, 512] S1x1x128.size inb_S1x1x1024_S1x1x128_0_0_512)))
    (k0_pay34 (k0_pay32 (View.ld x0 (Rect.unit (s := S512x1024) ![0, 0] S512x1024.size inb_S512x1024_S512x1024_0_0)) (View.ld a0 (Rect.unit (s := S1024x2048) ![0, 1280] S1024x256.size inb_S1024x2048_S1024x256_0_1280)) (View.ld x2 (Rect.unit (s := S1x1x1024) ![0, 0, 640] S1x1x128.size inb_S1x1x1024_S1x1x128_0_0_640)) (View.ld x3 (Rect.unit (s := S1x1x1024) ![0, 0, 640] S1x1x128.size inb_S1x1x1024_S1x1x128_0_0_640))) (k0_pay33 (View.ld x0 (Rect.unit (s := S512x1024) ![0, 0] S512x1024.size inb_S512x1024_S512x1024_0_0)) (View.ld a0 (Rect.unit (s := S1024x2048) ![0, 1280] S1024x256.size inb_S1024x2048_S1024x256_0_1280)) (View.ld x2 (Rect.unit (s := S1x1x1024) ![0, 0, 640] S1x1x128.size inb_S1x1x1024_S1x1x128_0_0_640))))
    (k0_pay35 (View.ld x0 (Rect.unit (s := S512x1024) ![0, 0] S512x1024.size inb_S512x1024_S512x1024_0_0)) (View.ld a0 (Rect.unit (s := S1024x2048) ![0, 1536] S1024x256.size inb_S1024x2048_S1024x256_0_1536)) (View.ld x2 (Rect.unit (s := S1x1x1024) ![0, 0, 768] S1x1x128.size inb_S1x1x1024_S1x1x128_0_0_768)) (View.ld x3 (Rect.unit (s := S1x1x1024) ![0, 0, 768] S1x1x128.size inb_S1x1x1024_S1x1x128_0_0_768)))
    (k0_pay37 (View.ld x0 (Rect.unit (s := S512x1024) ![0, 0] S512x1024.size inb_S512x1024_S512x1024_0_0)) (View.ld a0 (Rect.unit (s := S1024x2048) ![0, 1792] S1024x256.size inb_S1024x2048_S1024x256_0_1792)) (View.ld x2 (Rect.unit (s := S1x1x1024) ![0, 0, 896] S1x1x128.size inb_S1x1x1024_S1x1x128_0_0_896))) (k0_pay38 (View.ld x0 (Rect.unit (s := S512x1024) ![0, 0] S512x1024.size inb_S512x1024_S512x1024_0_0)) (View.ld a0 (Rect.unit (s := S1024x2048) ![0, 1792] S1024x256.size inb_S1024x2048_S1024x256_0_1792))) (View.ld x3 (Rect.unit (s := S1x1x1024) ![0, 0, 896] S1x1x128.size inb_S1x1x1024_S1x1x128_0_0_896))
    (View.ld a1 (Rect.unit (s := S1024x1024) ![0, 0] S1024x1024.size inb_S1024x1024_S1024x1024_0_0))
    (View.ld x5 (Rect.unit (s := S1x1x1024) ![0, 0, 0] S1x1x1024.size inb_S1x1x1024_S1x1x1024_0_0_0))

section
variable (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (T0 : S554.Idx → Elt Bits .i32) (T1 : S1.Idx → Elt Bits .i32)
  (x0 : S512x1024.Idx → Elt Bits .bf16) (x1 : S1x1024x2048.Idx → Elt Bits .f32) (x2 x3 : S1x1x1024.Idx → Elt Bits .f32) (x4 : S1x1024x1024.Idx → Elt Bits .f32) (x5 : S1x1x1024.Idx → Elt Bits .f32)

theorem stripes_eq : kernelRun0_A.sl.HS0_8 arg4 x1 = stripes x1 := by
  unfold stripes
  simp only [kernelRun0_A.sl.HS0_8, kernelRun0_A.sl.r_3, kernelRun0_A.sl.r_4, View.readAt_rep]

theorem downs_eq : kernelRun0_A.sl.HS1_1 arg7 x4 = downs x4 := by
  unfold downs
  simp only [kernelRun0_A.sl.HS1_1, View.readAt_rep]

theorem runA_scr0 (h1) (hc1) (h3) : (kernelRun0_A c i arg3 harg3 arg4 harg4 arg5 harg5 arg6 harg6 arg7 harg7 arg8 harg8 arg9 harg9 T0 T1 x0 x1 x2 x3 x4 x5 h1 hc1 h3).2.1 = scr0 x1 := by
  unfold kernelRun0_A; dsimp only
  rw [stripes_eq, scr0]

theorem runA_scr1 (h1) (hc1) (h3) : (kernelRun0_A c i arg3 harg3 arg4 harg4 arg5 harg5 arg6 harg6 arg7 harg7 arg8 harg8 arg9 harg9 T0 T1 x0 x1 x2 x3 x4 x5 h1 hc1 h3).2.2.1 = scr1 x4 := by
  unfold kernelRun0_A; dsimp only
  rw [downs_eq, scr1]

theorem at0 (a : S1024x2048.Idx → Elt Bits .bf16) (r : Rect S1024x2048) : View.readAt (Elt Bits) scM0_0.view r.toLoadRect a = View.ld a r := rfl
theorem at1 (a : S1024x1024.Idx → Elt Bits .bf16) (r : Rect S1024x1024) : View.readAt (Elt Bits) scM0_1.view r.toLoadRect a = View.ld a r := rfl
theorem cov0 (r : Rect S1024x2048) : scM0_0.view.readCov (stripes x1) r.toLoadRect = View.ld (scr0 x1) r := by
  unfold View.readCov scr0; generalize stripes x1 = L; exact at0 _ r
theorem cov1 (r : Rect S1024x1024) : scM0_1.view.readCov (downs x4) r.toLoadRect = View.ld (scr1 x4) r := by
  unfold View.readCov scr1; generalize downs x4 = L; exact at1 _ r

theorem whole0 (r : Rect S1024x2048) : (View.whole cc0_scratch0).readCov (stripes x1) r.toLoadRect = View.ld (scr0 x1) r := cov0 x1 r
theorem whole1 (r : Rect S1024x1024) : (View.whole cc0_scratch1).readCov (downs x4) r.toLoadRect = View.ld (scr1 x4) r := cov1 x4 r

theorem runB_scr0 (xa0 : Buf (Elt Bits) ((c : Thread nD τ).loc cc0_scratch0)) (xa1 : Buf (Elt Bits) ((c : Thread nD τ).loc cc0_scratch1)) (h1) (hc1) (h3) :
    (kernelRun0_B c i arg3 harg3 arg4 harg4 arg5 harg5 arg6 harg6 arg7 harg7 arg8 harg8 arg9 harg9 T0 T1 x0 x1 x2 x3 x4 x5 xa0 xa1 h1 hc1 h3).2.1 = xa0 := rfl

theorem runB_scr1 (xa0 : Buf (Elt Bits) ((c : Thread nD τ).loc cc0_scratch0)) (xa1 : Buf (Elt Bits) ((c : Thread nD τ).loc cc0_scratch1)) (h1) (hc1) (h3) :
    (kernelRun0_B c i arg3 harg3 arg4 harg4 arg5 harg5 arg6 harg6 arg7 harg7 arg8 harg8 arg9 harg9 T0 T1 x0 x1 x2 x3 x4 x5 xa0 xa1 h1 hc1 h3).2.2.1 = xa1 := rfl

theorem runB_out (xa0 : Buf (Elt Bits) ((c : Thread nD τ).loc cc0_scratch0)) (xa1 : Buf (Elt Bits) ((c : Thread nD τ).loc cc0_scratch1)) (h1) (hc1) (h3) :
    (kernelRun0_B c i arg3 harg3 arg4 harg4 arg5 harg5 arg6 harg6 arg7 harg7 arg8 harg8 arg9 harg9 T0 T1 x0 x1 x2 x3 x4 x5 xa0 xa1 h1 hc1 h3).1
      = [⟨Rect.unit (s := S512x1024) ![0, 0] S512x1024.size inb_S512x1024_S512x1024_0_0, tile x0 x2 x3 x5 xa0 xa1⟩] := by
  unfold kernelRun0_B; dsimp only
  unfold tile
  simp only [kernelRun0_B.sl.HO6_1, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, View.readAt_rep, at0, at1]
  rfl

theorem runA_out (h1) (hc1) (h3) : (kernelRun0_A c i arg3 harg3 arg4 harg4 arg5 harg5 arg6 harg6 arg7 harg7 arg8 harg8 arg9 harg9 T0 T1 x0 x1 x2 x3 x4 x5 h1 hc1 h3).1
      = [⟨Rect.unit (s := S512x1024) ![0, 0] S512x1024.size inb_S512x1024_S512x1024_0_0, tile x0 x2 x3 x5 (scr0 x1) (scr1 x4)⟩] := by
  unfold kernelRun0_A; dsimp only
  unfold tile
  simp only [kernelRun0_A.sl.HO6_1, kernelRun0_A.sl.v20, kernelRun0_A.sl.v46, kernelRun0_A.sl.v72, kernelRun0_A.sl.v98, kernelRun0_A.sl.v124, kernelRun0_A.sl.v150, kernelRun0_A.sl.v176, kernelRun0_A.sl.v202, kernelRun0_A.sl.v229, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, stripes_eq, downs_eq, whole0 x1, whole1 x4, View.readAt_rep]

theorem runC_scr0 (xa0 : Buf (Elt Bits) ((c : Thread nD τ).loc cc0_scratch0)) (xa1 : Buf (Elt Bits) ((c : Thread nD τ).loc cc0_scratch1)) (h1) (hc1) (h3) :
    (kernelRun0_C c i arg3 harg3 arg4 harg4 arg5 harg5 arg6 harg6 arg7 harg7 arg8 harg8 arg9 harg9 T0 T1 x0 x1 x2 x3 x4 x5 xa0 xa1 h1 hc1 h3).2.1 = xa0 := rfl

theorem runC_scr1 (xa0 : Buf (Elt Bits) ((c : Thread nD τ).loc cc0_scratch0)) (xa1 : Buf (Elt Bits) ((c : Thread nD τ).loc cc0_scratch1)) (h1) (hc1) (h3) :
    (kernelRun0_C c i arg3 harg3 arg4 harg4 arg5 harg5 arg6 harg6 arg7 harg7 arg8 harg8 arg9 harg9 T0 T1 x0 x1 x2 x3 x4 x5 xa0 xa1 h1 hc1 h3).2.2.1 = xa1 := rfl

theorem runC_out (xa0 : Buf (Elt Bits) ((c : Thread nD τ).loc cc0_scratch0)) (xa1 : Buf (Elt Bits) ((c : Thread nD τ).loc cc0_scratch1)) (h1) (hc1) (h3) :
    (kernelRun0_C c i arg3 harg3 arg4 harg4 arg5 harg5 arg6 harg6 arg7 harg7 arg8 harg8 arg9 harg9 T0 T1 x0 x1 x2 x3 x4 x5 xa0 xa1 h1 hc1 h3).1
      = [⟨Rect.unit (s := S512x1024) ![0, 0] S512x1024.size inb_S512x1024_S512x1024_0_0, (k0_pay1 (F := Bits) : S512x1024.Idx → Elt Bits .bf16)⟩] := rfl

end

end Cert.Experts

end
-- ==== Proof.FfnBitsFrame.lean ====
/- The expert kernel's run: the pipeline at whatever tables the memory holds, its invariant (the scratches hold the weights of the
   tile before, when that one was live), the body at a point by path, the launch. -/
module

public import proofs.«01_k».proof.Proof.FfnBitsWords
public import proofs.«01_k».proof.Proof.Gen.Ffn.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Experts

open Cert.Ffn Cert.Ffn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The model the run's assertions live in. -/
abbrev Mod := MT nD τ sig Unit (Elt Bits) ℕ (UR sig nD τ) ℕ
/-- The staging cells' rounds, embedded whole. -/
abbrev cellsEmb : Emb (UR sig nD τ) Mod := emb₁

variable (m : (ℓ : Loc nD τ sig) → Buf (Elt Bits) ℓ) (ρ : Dev nD → PrngReg)

/-- The table of experts and the number of tiles, as the memory holds them. -/
abbrev tabE : S554.Idx → Elt Bits .i32 := m (((0 : Dev nD).tc : Thread nD τ).loc main_arg0)
abbrev tabN : S1.Idx → Elt Bits .i32 := m (((0 : Dev nD).tc : Thread nD τ).loc main_arg1)

/-- The tables the memory holds are in range. -/
abbrev Good : Prop := InRange (tabE m) (tabN m)

variable (h : Good m)

/-- The pipeline at the memory's tables. -/
def adm : (pcfg0 (F := Bits)).Adm := ⟨tabs (tabE m) (tabN m), ok_of_range _ _ h⟩
abbrev cfgM : Pipeline.Cfg sig Λ₀ := cfg0 (F := Bits) (adm m h)
abbrev pcsM : Fin 1 → Pipeline.Cfg sig Λ₀ := Pipeline.pin (pcfgs (F := Bits)) fun _ => adm m h

/-- The launch state. -/
abbrev launchSt : MemSt nD τ sig (Elt Bits) := ⟨m, fun _ => 0, ρ⟩

abbrev crd (t : Fin (cfgM m h).N) : (cfgM m h).grid.Coords := (cfgM m h).grid.coords t

abbrev ms0_0 (t : Fin (cfgM m h).N) : Memref sig .tc .vmem S512x1024 .bf16 := spec0_0.stage ((cfgM m h).slots t (0 : Fin 7))
abbrev hs0_0 (t : Fin (cfgM m h).N) : (ms0_0 m h t).IsWhole := hstage0_0 (((cfgM m h).slots t (0 : Fin 7)).cast nbuf0_0)
abbrev ms0_1 (t : Fin (cfgM m h).N) : Memref sig .tc .vmem S1x1024x2048 .f32 := spec0_1.stage ((cfgM m h).slots t (1 : Fin 7))
abbrev hs0_1 (t : Fin (cfgM m h).N) : (ms0_1 m h t).IsWhole := hstage0_1 (((cfgM m h).slots t (1 : Fin 7)).cast nbuf0_1)
abbrev ms0_2 (t : Fin (cfgM m h).N) : Memref sig .tc .vmem S1x1x1024 .f32 := spec0_2.stage ((cfgM m h).slots t (2 : Fin 7))
abbrev hs0_2 (t : Fin (cfgM m h).N) : (ms0_2 m h t).IsWhole := hstage0_2 (((cfgM m h).slots t (2 : Fin 7)).cast nbuf0_2)
abbrev ms0_3 (t : Fin (cfgM m h).N) : Memref sig .tc .vmem S1x1x1024 .f32 := spec0_3.stage ((cfgM m h).slots t (3 : Fin 7))
abbrev hs0_3 (t : Fin (cfgM m h).N) : (ms0_3 m h t).IsWhole := hstage0_3 (((cfgM m h).slots t (3 : Fin 7)).cast nbuf0_3)
abbrev ms0_4 (t : Fin (cfgM m h).N) : Memref sig .tc .vmem S1x1024x1024 .f32 := spec0_4.stage ((cfgM m h).slots t (4 : Fin 7))
abbrev hs0_4 (t : Fin (cfgM m h).N) : (ms0_4 m h t).IsWhole := hstage0_4 (((cfgM m h).slots t (4 : Fin 7)).cast nbuf0_4)
abbrev ms0_5 (t : Fin (cfgM m h).N) : Memref sig .tc .vmem S1x1x1024 .f32 := spec0_5.stage ((cfgM m h).slots t (5 : Fin 7))
abbrev hs0_5 (t : Fin (cfgM m h).N) : (ms0_5 m h t).IsWhole := hstage0_5 (((cfgM m h).slots t (5 : Fin 7)).cast nbuf0_5)
abbrev ms0_6 (t : Fin (cfgM m h).N) : Memref sig .tc .vmem S512x1024 .bf16 := spec0_6.stage ((cfgM m h).slots t (6 : Fin 7))
abbrev hs0_6 (t : Fin (cfgM m h).N) : (ms0_6 m h t).IsWhole := hstage0_6 (((cfgM m h).slots t (6 : Fin 7)).cast nbuf0_6)

/-- Window `w`'s block at point `t`, read off its array at launch. -/
def iblk (c : Dev nD) (w : Fin (cfgM m h).W) (t : Fin (cfgM m h).N) : (((cfgM m h).win w).xblock (crd m h t)).Idx → Elt Bits ((cfgM m h).win w).elt :=
  (((cfgM m h).win w).blk t).view.read (Elt Bits) ((launchSt m ρ).mem (((cfgM m h).win w).arr.view.loc (c : Thread nD τ)))

/-- Point `t`'s tile is computed. -/
abbrev Live (t : Fin (cfgM m h).N) : Prop := Below (tabN m oix) (crd m h t 0).val

/-- What point `t` leaves in the result's block. -/
def outT (c : Dev nD) (t : Fin (cfgM m h).N) : S512x1024.Idx → Elt Bits .bf16 :=
  if Live m h t then tile (iblk m ρ h c (0 : Fin 7) t) (iblk m ρ h c (2 : Fin 7) t) (iblk m ρ h c (3 : Fin 7) t) (iblk m ρ h c (5 : Fin 7) t)
    (scr0 (iblk m ρ h c (1 : Fin 7) t)) (scr1 (iblk m ρ h c (4 : Fin 7) t))
  else k0_pay1 (F := Bits)

/-- What is known of the scratches before point `n`: they hold the weights of the tile before, if that was computed. -/
def Held (c : Dev nD) (n : ℕ) (a0 : Buf (Elt Bits) ((c : Thread nD τ).loc cc0_scratch0)) (a1 : Buf (Elt Bits) ((c : Thread nD τ).loc cc0_scratch1)) : Prop :=
  ∀ s : Fin (cfgM m h).N, s.val + 1 = n → Live m h s → a0 = scr0 (iblk m ρ h c (1 : Fin 7) s) ∧ a1 = scr1 (iblk m ρ h c (4 : Fin 7) s)

/-- THE INVARIANT before point `t`: the scratches, and the body's halves of the tables. -/
def Phi (c : Dev nD) (t : Fin ((cfgM m h).N + 1)) : sProp Mod :=
  iprop(∃ a0 a1, ⌜Held m ρ h c t.val a0 a1⌝ ∗ (scM0_0.view.loc (c : Thread nD τ) ↦{fullShare} a0) ∗ (scM0_1.view.loc (c : Thread nD τ) ↦{fullShare} a1)
    ∗ (tbM0_0.view.loc (c : Thread nD τ) ↦{fullShare.right} tabE m) ∗ (tbM0_1.view.loc (c : Thread nD τ) ↦{fullShare.right} tabN m))

/-- The proof data of the one pipeline on core `c`. -/
def dats (_ : Fin 1) (c : Dev nD) : Dat τ (Elt Bits) Unit ℕ (UR sig nD τ) ℕ (cfgM m h) c where
  A w := (launchSt m ρ).mem (((cfgM m h).win w).arr.view.loc (c : Thread nD τ))
  after w t := match w with
    | ⟨0, _⟩ => iblk m ρ h c (0 : Fin 7) t
    | ⟨1, _⟩ => iblk m ρ h c (1 : Fin 7) t
    | ⟨2, _⟩ => iblk m ρ h c (2 : Fin 7) t
    | ⟨3, _⟩ => iblk m ρ h c (3 : Fin 7) t
    | ⟨4, _⟩ => iblk m ρ h c (4 : Fin 7) t
    | ⟨5, _⟩ => iblk m ρ h c (5 : Fin 7) t
    | ⟨6, _⟩ => outT m ρ h c t
  Φ t := Phi m ρ h c t
  q _ := fullShare
  owed _ := 0

theorem after0_0 (c : Dev nD) (t : Fin (cfgM m h).N) : (dats m ρ h 0 c).after (0 : Fin 7) t = iblk m ρ h c (0 : Fin 7) t := rfl
theorem after0_1 (c : Dev nD) (t : Fin (cfgM m h).N) : (dats m ρ h 0 c).after (1 : Fin 7) t = iblk m ρ h c (1 : Fin 7) t := rfl
theorem after0_2 (c : Dev nD) (t : Fin (cfgM m h).N) : (dats m ρ h 0 c).after (2 : Fin 7) t = iblk m ρ h c (2 : Fin 7) t := rfl
theorem after0_3 (c : Dev nD) (t : Fin (cfgM m h).N) : (dats m ρ h 0 c).after (3 : Fin 7) t = iblk m ρ h c (3 : Fin 7) t := rfl
theorem after0_4 (c : Dev nD) (t : Fin (cfgM m h).N) : (dats m ρ h 0 c).after (4 : Fin 7) t = iblk m ρ h c (4 : Fin 7) t := rfl
theorem after0_5 (c : Dev nD) (t : Fin (cfgM m h).N) : (dats m ρ h 0 c).after (5 : Fin 7) t = iblk m ρ h c (5 : Fin 7) t := rfl
theorem after0_6 (c : Dev nD) (t : Fin (cfgM m h).N) : (dats m ρ h 0 c).after (6 : Fin 7) t = outT m ρ h c t := rfl

theorem before0_0 (c : Dev nD) (t : Fin (cfgM m h).N) (d) : (dats m ρ h 0 c).before (0 : Fin 7) t d = iblk m ρ h c (0 : Fin 7) t :=
  ((dats m ρ h 0 c).before_in_eq_fetched (0 : Fin 7) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgM m h).N) (d) : (dats m ρ h 0 c).before (1 : Fin 7) t d = iblk m ρ h c (1 : Fin 7) t :=
  ((dats m ρ h 0 c).before_in_eq_fetched (1 : Fin 7) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgM m h).N) (d) : (dats m ρ h 0 c).before (2 : Fin 7) t d = iblk m ρ h c (2 : Fin 7) t :=
  ((dats m ρ h 0 c).before_in_eq_fetched (2 : Fin 7) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgM m h).N) (d) : (dats m ρ h 0 c).before (3 : Fin 7) t d = iblk m ρ h c (3 : Fin 7) t :=
  ((dats m ρ h 0 c).before_in_eq_fetched (3 : Fin 7) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgM m h).N) (d) : (dats m ρ h 0 c).before (4 : Fin 7) t d = iblk m ρ h c (4 : Fin 7) t :=
  ((dats m ρ h 0 c).before_in_eq_fetched (4 : Fin 7) rfl (fun _ => rfl) (fun _ _ _ => rfl) (fun t => by rw [after0_4]; unfold Dat.blockOf iblk; rfl) t d).trans
    (by unfold Dat.fetched Dat.blockOf iblk; rfl)

theorem before0_5 (c : Dev nD) (t : Fin (cfgM m h).N) (d) : (dats m ρ h 0 c).before (5 : Fin 7) t d = iblk m ρ h c (5 : Fin 7) t :=
  ((dats m ρ h 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- A weights window's block is the same at two points whose tiles name one expert. -/
theorem fetched_1 (c : Dev nD) (t : Fin (cfgM m h).N) (d) : (dats m ρ h 0 c).fetched (1 : Fin 7) t d = iblk m ρ h c (1 : Fin 7) t := by
  unfold Dat.fetched Dat.blockOf iblk; rfl
theorem fetched_4 (c : Dev nD) (t : Fin (cfgM m h).N) (d) : (dats m ρ h 0 c).fetched (4 : Fin 7) t d = iblk m ρ h c (4 : Fin 7) t := by
  unfold Dat.fetched Dat.blockOf iblk; rfl

theorem iblk1_congr (c : Dev nD) (s t : Fin (cfgM m h).N) (e : tabE m (tix (crd m h s 0)) = tabE m (tix (crd m h t 0))) :
    (iblk m ρ h c (1 : Fin 7) s : S1x1024x2048.Idx → Elt Bits .f32) = iblk m ρ h c (1 : Fin 7) t := by
  have hi : ((cfgM m h).win (1 : Fin 7)).index s = ((cfgM m h).win (1 : Fin 7)).index t := by
    show cc0_transform_1 k0_off1_inb numel1_S1 (tabs (tabE m) (tabN m)) (crd m h s) = cc0_transform_1 k0_off1_inb numel1_S1 (tabs (tabE m) (tabN m)) (crd m h t)
    rw [transform_1_eq, transform_1_eq, e]
  have := (dats m ρ h 0 c).fetched_congr (1 : Fin 7) hi rfl (fun _ => default)
  rwa [fetched_1, fetched_1] at this

theorem iblk4_congr (c : Dev nD) (s t : Fin (cfgM m h).N) (e : tabE m (tix (crd m h s 0)) = tabE m (tix (crd m h t 0))) :
    (iblk m ρ h c (4 : Fin 7) s : S1x1024x1024.Idx → Elt Bits .f32) = iblk m ρ h c (4 : Fin 7) t := by
  have hi : ((cfgM m h).win (4 : Fin 7)).index s = ((cfgM m h).win (4 : Fin 7)).index t := by
    show cc0_transform_4 k0_off1_inb numel1_S1 (tabs (tabE m) (tabN m)) (crd m h s) = cc0_transform_4 k0_off1_inb numel1_S1 (tabs (tabE m) (tabN m)) (crd m h t)
    rw [transform_4_eq, transform_4_eq, e]
  have := (dats m ρ h 0 c).fetched_congr (4 : Fin 7) hi rfl (fun _ => default)
  rwa [fetched_4, fetched_4] at this

/-- The scratches are filled at point `t`. -/
abbrev Fill (t : Fin (cfgM m h).N) : Prop := (crd m h t 0).val = 0 ∨ tabE m (tix (crd m h t 0)) ≠ tabE m (tix ⟨(crd m h t 0).val - 1, by have : (crd m h t 0).val < 554 := (crd m h t 0).isLt; omega⟩)

theorem coord_zero (i : grid0.Coords) : BitVec.ofNat 32 (i 0).val = 0#32 ↔ (i 0).val = 0 := by
  have hi : (i 0).val < 554 := (i 0).isLt
  constructor
  · intro e; have := congrArg BitVec.toNat e; rw [BitVec.toNat_ofNat] at this; show (i 0).val = 0; simp at this; omega
  · intro e; rw [e]

/-- The body's three conditions at point `t`, decided. -/
theorem word_1 (t : Fin (cfgM m h).N) : k0_cond1 (crd m h t) (View.readAt (Elt Bits) (tbM0_1).view (Rect.unit (s := S1) ![0] S1.size inb_S1_S1_0).toLoadRect (tabN m) (Shape.Idx.first (numel1_S1.symm ▸ Nat.one_pos))) = 1#1 ↔ ¬Live m h t := by
  rw [tab1_read]; exact cond1_iff _ _
theorem word_3 (t : Fin (cfgM m h).N) : k0_cond3 (crd m h t) (View.readAt (Elt Bits) (tbM0_1).view (Rect.unit (s := S1) ![0] S1.size inb_S1_S1_0).toLoadRect (tabN m) (Shape.Idx.first (numel1_S1.symm ▸ Nat.one_pos))) = 1#1 ↔ Live m h t := by
  rw [tab1_read]; exact cond3_iff _ _
theorem word_2 (t : Fin (cfgM m h).N) : (Scalar.cmpi .ne (Scalar.extui (Scalar.andi (Scalar.cmpi .slt (BitVec.ofNat 32 ((crd m h t) 0).val) (View.readAt (Elt Bits) (tbM0_1).view (Rect.unit (s := S1) ![0] S1.size inb_S1_S1_0).toLoadRect (tabN m) (Shape.Idx.first (numel1_S1.symm ▸ Nat.one_pos)))) (Scalar.ori (Scalar.cmpi .eq (BitVec.ofNat 32 ((crd m h t) 0).val) 0#32) (Scalar.cmpi .ne (View.readAt (Elt Bits) (tbM0_0).view (Rect.unit (s := S554) (k0_off2 (crd m h t)) S1.size (k0_off2_inb (crd m h t))).toLoadRect (tabE m) (Shape.Idx.first (numel1_S1.symm ▸ Nat.one_pos))) (View.readAt (Elt Bits) (tbM0_0).view (Rect.unit (s := S554) (k0_off3 (crd m h t)) S1.size (k0_off3_inb (crd m h t))).toLoadRect (tabE m) (Shape.Idx.first (numel1_S1.symm ▸ Nat.one_pos))))))) 0#32) = 1#1 ↔ Live m h t ∧ Fill m h t := by
  rw [tab1_read, tab0_read (tabE m) _ _ (crd m h t 0) (off2_eq _), tab0_read (tabE m) _ _ ⟨(crd m h t 0).val - 1, by have : (crd m h t 0).val < 554 := (crd m h t 0).isLt; omega⟩ (off3_eq _),
    fill_iff, ne_iff, eq_iff, coord_zero]

/-- The body at point `t` on its staging memrefs, as the pipeline calls it. -/
abbrev bodyAt (t : Fin (cfgM m h).N) : Prog (TpuEff nD τ sig (Elt Bits) Λ₀ .tc) PUnit :=
  cc0_moe_ffn (crd m h t) (Memref.whole main_arg0) (Memref.isWhole_whole _) (Memref.whole main_arg1) (Memref.isWhole_whole _) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t) (ms0_6 m h t) (hs0_6 m h t) (Memref.whole cc0_scratch0) (Memref.isWhole_whole _) (Memref.whole cc0_scratch1) (Memref.isWhole_whole _)

set_option maxHeartbeats 4000000 in
/-- THE BODY at point `t`, by path. -/
theorem sound_body (c : Dev nD) (t : Fin (cfgM m h).N) :
    iprop((dats m ρ h 0 c).Φ t.castSucc ∗ (dats m ρ h 0 c).owesAt () t.castSucc
        ∗ (∃ d, owns (c : Thread nD τ) (ms0_0 m h t) fullShare ((dats m ρ h 0 c).before (0 : Fin 7) t d))
        ∗ (∃ d, owns (c : Thread nD τ) (ms0_1 m h t) fullShare ((dats m ρ h 0 c).before (1 : Fin 7) t d))
        ∗ (∃ d, owns (c : Thread nD τ) (ms0_2 m h t) fullShare ((dats m ρ h 0 c).before (2 : Fin 7) t d))
        ∗ (∃ d, owns (c : Thread nD τ) (ms0_3 m h t) fullShare ((dats m ρ h 0 c).before (3 : Fin 7) t d))
        ∗ (∃ d, owns (c : Thread nD τ) (ms0_4 m h t) fullShare ((dats m ρ h 0 c).before (4 : Fin 7) t d))
        ∗ (∃ d, owns (c : Thread nD τ) (ms0_5 m h t) fullShare ((dats m ρ h 0 c).before (5 : Fin 7) t d))
        ∗ (∃ d, owns (c : Thread nD τ) (ms0_6 m h t) fullShare ((dats m ρ h 0 c).before (6 : Fin 7) t d)))
      ⊢ wp frame (wpE (defs₀ (F := Bits)) Variants.none c none) Set.univ (bodyAt m h t) fun _ =>
          iprop((dats m ρ h 0 c).Φ t.succ ∗ (dats m ρ h 0 c).owesAt () t.succ
            ∗ bigSep Finset.univ fun w : Fin (cfgM m h).W =>
                match (cfgM m h).idle w ((cfgM m h).grid.coords t) with
                | true =>
                  match ((cfgM m h).win w).flush t with
                  | false => iprop(∃ d, owns (c : Thread nD τ) (((cfgM m h).win w).stage ((cfgM m h).slots t w)) fullShare ((dats m ρ h 0 c).before w t d))
                  | true => owns (c : Thread nD τ) (((cfgM m h).win w).stage ((cfgM m h).slots t w)) fullShare ((dats m ρ h 0 c).after w t)
                | false => owns (c : Thread nD τ) (((cfgM m h).win w).stage ((cfgM m h).slots t w)) fullShare ((dats m ρ h 0 c).after w t)) := by
  rw [bigSep_W0]
  have i6 : (cfgM m h).idle (6 : Fin 7) ((cfgM m h).grid.coords t) = false := idle_false _ _
  rewrite [i6]
  simp only [before0_0, before0_1, before0_2, before0_3, before0_4, before0_5, after0_0, after0_1, after0_2, after0_3, after0_4, after0_5, after0_6]
  rewrite [show (dats m ρ h 0 c).Φ t.succ = Phi m ρ h c t.succ from rfl, show (dats m ρ h 0 c).Φ t.castSucc = Phi m ρ h c t.castSucc from rfl,
    show (dats m ρ h 0 c).owesAt () t.succ = (dats m ρ h 0 c).owesAt () t.castSucc from rfl]
  unfold Phi
  simp only [Fin.val_castSucc, Fin.val_succ]
  have hcv : (crd m h t 0).val = t.val := coords_val t
  by_cases hl : Live m h t
  · have q1 := (not_congr (word_1 m h t)).mpr (not_not_intro hl)
    have q3 := (word_3 m h t).mpr hl
    by_cases hf : Fill m h t
    · have q2 := (word_2 m h t).mpr ⟨hl, hf⟩
      iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t) (ms0_6 m h t) (hs0_6 m h t) (tabE m) (tabN m) (iblk m ρ h c (0 : Fin 7) t) (iblk m ρ h c (1 : Fin 7) t) (iblk m ρ h c (2 : Fin 7) t) (iblk m ρ h c (3 : Fin 7) t) (iblk m ρ h c (4 : Fin 7) t) (iblk m ρ h c (5 : Fin 7) t) q1 q2 q3).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      iintro ⟨H0, H1, H2, H3, H4, H5, HT0, HT1, ⟨%e6, H6⟩, HS0, HS1⟩
      isplitl [HS0 HS1 HT0 HT1]
      · iexists _; iexists _; isplitr; swap
        · isplitl [HS0]; · iexact HS0
          isplitl [HS1]; · iexact HS1
          isplitl [HT0]; · iexact HT0
          iexact HT1
        · ipureintro; intro s hs hls; obtain rfl : s = t := Fin.ext (by omega); exact ⟨runA_scr0 .., runA_scr1 ..⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; rw [runA_out, View.read_writes_full, outT, if_pos hl]
    · have q2 := (not_congr (word_2 m h t)).mpr (fun q => hf q.2)
      obtain ⟨hf0, hfe⟩ := not_or.mp hf
      rw [not_not] at hfe
      rw [hcv] at hf0
      iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩⟩
      have hs : t.val - 1 < (cfgM m h).N := lt_of_le_of_lt (Nat.sub_le _ _) t.isLt
      have hsv : (crd m h ⟨t.val - 1, hs⟩ 0).val = t.val - 1 := coords_val ⟨t.val - 1, hs⟩
      have hp : tabE m (tix (crd m h ⟨t.val - 1, hs⟩ 0)) = tabE m (tix (crd m h t 0)) := by
        rw [hfe]; exact congrArg (fun n => tabE m (tix n)) (Fin.ext (hsv.trans (congrArg (· - 1) hcv).symm))
      have hl' : Live m h ⟨t.val - 1, hs⟩ := below_pred (crd m h t 0).isLt (by rw [hsv, hcv]; exact Nat.sub_le _ _) hl
      obtain ⟨e0, e1⟩ := ha ⟨t.val - 1, hs⟩ (Nat.sub_add_cancel (Nat.pos_of_ne_zero hf0)) hl'
      rw [iblk1_congr m ρ h c _ t hp] at e0
      rw [iblk4_congr m ρ h c _ t hp] at e1
      subst e0 e1
      iapply ((kernelRun0_B c (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t) (ms0_6 m h t) (hs0_6 m h t) (tabE m) (tabN m) (iblk m ρ h c (0 : Fin 7) t) (iblk m ρ h c (1 : Fin 7) t) (iblk m ρ h c (2 : Fin 7) t) (iblk m ρ h c (3 : Fin 7) t) (iblk m ρ h c (4 : Fin 7) t) (iblk m ρ h c (5 : Fin 7) t) _ _ q1 q2 q3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      iintro ⟨H0, H1, H2, H3, H4, H5, HT0, HT1, ⟨%e6, H6⟩, HS0, HS1⟩
      isplitl [HS0 HS1 HT0 HT1]
      · iexists _; iexists _; isplitr; swap
        · isplitl [HS0]; · iexact HS0
          isplitl [HS1]; · iexact HS1
          isplitl [HT0]; · iexact HT0
          iexact HT1
        · ipureintro; intro s hs hls; obtain rfl : s = t := Fin.ext (by omega); exact ⟨runB_scr0 .., runB_scr1 ..⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap
      · iexact H6
      · ipureintro; rw [runB_out, View.read_writes_full, outT, if_pos hl]
  · have q1 := (word_1 m h t).mpr hl
    have q3 := (not_congr (word_3 m h t)).mpr hl
    have q2 := (not_congr (word_2 m h t)).mpr (fun q => hl q.1)
    iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t) (ms0_6 m h t) (hs0_6 m h t) (tabE m) (tabN m) (iblk m ρ h c (0 : Fin 7) t) (iblk m ρ h c (1 : Fin 7) t) (iblk m ρ h c (2 : Fin 7) t) (iblk m ρ h c (3 : Fin 7) t) (iblk m ρ h c (4 : Fin 7) t) (iblk m ρ h c (5 : Fin 7) t) a0 a1 q1 q2 q3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    isplitl [HS0]; · iexact HS0
    isplitl [HS1]; · iexact HS1
    iintro ⟨H0, H1, H2, H3, H4, H5, HT0, HT1, ⟨%e6, H6⟩, HS0, HS1⟩
    isplitl [HS0 HS1 HT0 HT1]
    · iexists _; iexists _; isplitr; swap
      · isplitl [HS0]; · iexact HS0
        isplitl [HS1]; · iexact HS1
        isplitl [HT0]; · iexact HT0
        iexact HT1
      · ipureintro; intro s hs hls; obtain rfl : s = t := Fin.ext (by omega); exact absurd hls hl
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    unfold owns; iexists _; isplitr; swap
    · iexact H6
    · ipureintro; rw [runC_out, View.read_writes_full, outT, if_neg hl]

theorem body_obligation (c : Dev nD) : BodyObligation (dats m ρ h 0 c) (defs₀ (F := Bits)) Variants.none () Set.univ := fun t => by
  rw [bigSep_W0]
  exact sound_body m ρ h c t

/-! ## The launch -/

/-- The rounds library's launch element. -/
def u₀ : UR sig nD τ :=
  initOf (Pipeline.cells (pcsM m h) ((launch0 (F := Bits)).cellOf_inj fun _ => adm m h))
    (Pipeline.launchToks (pcsM m h) ((launch0 (F := Bits)).cellOf_inj fun _ => adm m h))

theorem share_eq (c : Dev nD) (w : Fin (cfgM m h).W) : (dats m ρ h 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp Mod)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m h).1 ∗ Pipeline.scopedRest spec0 c) ⊢ (dats m ρ h 0 c).Φ 0 := by
  rw [prefHeld_eq, scopedRest0_eq, show (dats m ρ h 0 c).Φ 0 = Phi m ρ h c 0 from rfl]
  unfold Phi
  iintro ⟨-, ⟨HT0, HT1⟩, ⟨%a0, HS0⟩, ⟨%a1, HS1⟩⟩
  iexists a0; iexists a1; isplitr; swap
  · isplitl [HS0]
    · iexact HS0
    isplitl [HS1]
    · iexact HS1
    isplitl [HT0]
    · iexact HT0
    iexact HT1
  · ipureintro; intro s hs; exact absurd hs (Nat.succ_ne_zero _)

theorem phiN_exit (c : Dev nD) : (dats m ρ h 0 c).Φ (Fin.last (cfgM m h).N) ⊢ iprop(BI.emp ∗ Pipeline.scopedRest spec0 c) := by
  rw [scopedRest0_eq, show (dats m ρ h 0 c).Φ (Fin.last (cfgM m h).N) = Phi m ρ h c (Fin.last _) from rfl]
  unfold Phi
  iintro ⟨%a0, %a1, -, HS0, HS1, -, -⟩
  isplitr; · iempintro
  isplitl [HS0]
  · iexists a0; iexact HS0
  iexists a1; iexact HS1

/-- Every array at what the pipeline computes, every table at what it ran at. -/
def QC : PUnit × MemSt nD τ sig (Elt Bits) → Prop := fun r =>
  ∀ c : Dev nD, (∀ w : Fin (cfgM m h).W, r.2.mem (((cfgM m h).win w).arr.view.loc (c : Thread nD τ)) = (dats m ρ h 0 c).arrAt w (cfgM m h).N)
    ∧ ∀ j, r.2.mem ((c : Thread nD τ).loc (pre0.ref j)) = (adm m h).1 j

theorem V_pre (c : Dev nD) (j : Fin 2) : m ((c : Thread nD τ).loc (pre0.ref j)) = (adm m h).1 j := by
  obtain rfl : c = (0 : Dev nD) := Subsingleton.elim _ _
  fin_cases j <;> rfl

set_option backward.isDefEq.respectTransparency.types false in
set_option maxHeartbeats 4000000 in
theorem run_quiescent : θ_run (defs (F := Bits)) (onTc (τ := τ) (main (F := Bits))) (launchSt m ρ) (fun r => QC m ρ h r ∧ r.2.sem = fun _ => 0) :=
  Pipeline.θ_run_region_noSem_pf_quiescent pcfgs (fun _ => adm m h) (dats m ρ h) () ((launch0 (F := Bits)).cellOf_inj fun _ => adm m h) (0 : Fin 1)
    (launch0 (F := Bits)).win.to₀ (launch0 (F := Bits)).pre cellsEmb defs₀ Variants.none m ρ main
    (hbody := fun c => (body_obligation m ρ h c).loose) (hne := (launch0 (F := Bits)).block_pos)
    (harr := (launch0 (F := Bits)).arr_whole) (hstage := (launch0 (F := Bits)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsM m h) (dats m ρ h) 0 (launch0 (F := Bits)).win.arr_inj c (launch0 (F := Bits)).arr_whole
      (share_eq m ρ h c) _ _ fun _ => rfl)
    (hpf := V_pre m h)
    (X := fun _ => iprop(emp)) (Y := fun _ => iprop(emp)) (Z := fun _ => iprop(emp))
    (hX := fun c => by rw [unscopedRestP0_eq]; iintro -; isplitr <;> iempintro)
    (hin := phi0_intro m ρ h)
    (hout := phiN_exit m ρ h)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments' final contents. -/
theorem args_kept {r : PUnit × MemSt nD τ sig (Elt Bits)} (q : QC m ρ h r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((q c).2 0).trans (V_pre m h c 0).symm, ((q c).2 1).trans (V_pre m h c 1).symm, ((q c).1 (0 : Fin 7)).trans ((dats m ρ h 0 c).arrAt_in (0 : Fin 7) rfl _), ((q c).1 (1 : Fin 7)).trans ((dats m ρ h 0 c).arrAt_in (1 : Fin 7) rfl _), ((q c).1 (2 : Fin 7)).trans ((dats m ρ h 0 c).arrAt_in (2 : Fin 7) rfl _), ((q c).1 (3 : Fin 7)).trans ((dats m ρ h 0 c).arrAt_in (3 : Fin 7) rfl _), ((q c).1 (4 : Fin 7)).trans ((dats m ρ h 0 c).arrAt_in (4 : Fin 7) rfl _), ((q c).1 (5 : Fin 7)).trans ((dats m ρ h 0 c).arrAt_in (5 : Fin 7) rfl _)⟩

include h in
/-- From tables in range: the call runs, faults nowhere, leaves its arguments and every semaphore as they were. -/
theorem run_frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ q => ⟨args_kept m ρ h q.1, q.2⟩) (run_quiescent m ρ h)

end Cert.Experts

end
-- ==== Proof.FfnPre.lean ====
/- What the precondition says of the tables' entries, and the frames of the two printed expert kernels under it. -/
module

public import proofs.«01_k».proof.Defs
public import proofs.«01_k».proof.Proof.FfnFrame
public import proofs.«01_k».proof.Proof.FfnBitsFrame
public import proofs.«01_k».proof.Proof.Gen.FfnIdeal
public import proofs.«01_k».proof.Proof.Gen.FfnRefIdeal.Run
public import Idealize.ShloMosaic.Lib.IdealHost

@[expose] public section

noncomputable section

namespace Cert.ExpertsIdeal

open Idealize.ShloMosaic Idealize.SL.Sem Idealize.ShloMosaic.TcCoe

theorem preFacts : Cert.Pre_tables_in_range.Facts := ⟨by decide, by decide⟩

theorem sge_iff (a b : BitVec 32) : IntOp.cmpi .sge a b = 1#1 ↔ b.toInt ≤ a.toInt := by
  refine (ofBool_iff (b.sle a)).trans ?_
  rw [BitVec.sle_iff_toInt_le]
theorem sle_iff (a b : BitVec 32) : IntOp.cmpi .sle a b = 1#1 ↔ a.toInt ≤ b.toInt := by
  refine (ofBool_iff (a.sle b)).trans ?_
  rw [BitVec.sle_iff_toInt_le]

theorem toNat_of_toInt (a : BitVec 32) (lo hi : ℕ) (h1 : (lo : ℤ) ≤ a.toInt) (h2 : a.toInt ≤ hi) : lo ≤ a.toNat ∧ a.toNat ≤ hi := by
  have := a.isLt
  unfold BitVec.toInt at h1 h2
  split at h1 <;> split at h2 <;> omega

attribute [local instance] preFacts in
/-- The precondition read at the tables' entries. -/
theorem pre_words {F : FTy → Type} [FloatOps F] (x0 x1 x2 x3 x4 x5 x6 x7)
    (h : (Cert.Pre_tables_in_range.fn (F := F) x0 x1 x2 x3 x4 x5 x6 x7).1 = (fun _ => 1#1) ∧ (Cert.Pre_tables_in_range.fn (F := F) x0 x1 x2 x3 x4 x5 x6 x7).2 = fun _ => 1#1) :
    (∀ i, (x0 i).toNat < 32) ∧ ∀ i, 1 ≤ (x1 i).toNat ∧ (x1 i).toNat ≤ 554 := by
  obtain ⟨ha, hb⟩ := h
  unfold Cert.Pre_tables_in_range.fn at ha hb
  refine ⟨fun i => ?_, fun i => ?_⟩
  · obtain ⟨h1, h2⟩ := IntOp.andi_eq_one.1 (congrFun ha i)
    have h1' : (0#32 : BitVec 32).toInt ≤ (x0 i).toInt := (sge_iff _ _).1 h1
    have h2' : (x0 i).toInt < (32#32 : BitVec 32).toInt := (slt_iff _ _).1 h2
    have e0 : (0#32 : BitVec 32).toInt = 0 := rfl
    have e32 : (32#32 : BitVec 32).toInt = 32 := rfl
    have := toNat_of_toInt (x0 i) 0 31 (by omega) (by omega)
    omega
  · obtain ⟨h1, h2⟩ := IntOp.andi_eq_one.1 (congrFun hb i)
    have h1' : (1#32 : BitVec 32).toInt ≤ (x1 i).toInt := (sge_iff _ _).1 h1
    have h2' : (x1 i).toInt ≤ (554#32 : BitVec 32).toInt := (sle_iff _ _).1 h2
    have e0 : (1#32 : BitVec 32).toInt = 1 := rfl
    have e32 : (554#32 : BitVec 32).toInt = 554 := rfl
    exact toNat_of_toInt (x1 i) 1 554 (by omega) (by omega)

theorem good_of_pre (m : (ℓ : Loc Cert.FfnIdeal.nD Cert.FfnIdeal.τ Cert.FfnIdeal.sig) → Buf (Elt Ideal) ℓ)
    (h : Cert.Pre_FfnIdeal (hPre_tables_in_range := preFacts) m) : Good m := by
  have hw := pre_words _ _ _ _ _ _ _ _ (h (0 : Dev Cert.FfnIdeal.nD))
  exact ⟨fun t => hw.1 (tix t), hw.2 oix⟩

theorem good_of_pre_bits (m : (ℓ : Loc Cert.Ffn.nD Cert.Ffn.τ Cert.Ffn.sig) → Buf (Elt Bits) ℓ)
    (h : Cert.Pre_Ffn (hPre_tables_in_range := preFacts) m) : Cert.Experts.Good m := by
  have hw := pre_words _ _ _ _ _ _ _ _ (h (0 : Dev Cert.Ffn.nD))
  exact ⟨fun t => hw.1 (Cert.Experts.tix t), hw.2 Cert.Experts.oix⟩

theorem frame_ideal : Cert.quiescent_FfnIdeal (hFfnIdeal := Cert.FfnIdeal.Gen.facts) (hPre_tables_in_range := preFacts) :=
  fun m ρ h => run_frame m ρ (good_of_pre m h)

theorem frame_bits : Cert.quiescent_Ffn (hFfn := Cert.Ffn.Gen.facts) (hPre_tables_in_range := preFacts) :=
  fun m ρ h => Cert.Experts.run_frame m ρ (good_of_pre_bits m h)

/-- The reference's run leaves its arguments and, having no semaphore, every counter. -/
theorem refFrame : Cert.quiescent_FfnRefIdeal (hFfnRefIdeal := Cert.FfnRefIdeal.Gen.facts) := fun m g _ =>
  (θ_run _ _ _).mono (fun r h => ⟨fun c => (h c).2, sem_eq_zero_of_no_sems (by decide) r.2⟩) (Cert.FfnRefIdeal.Value.run m g)

end Cert.ExpertsIdeal

end
-- ==== Proof.FfnValue.lean ====
/- What a live tile of the expert kernel holds at a row and a lane: the expert's clipped SwiGLU of the row. The re-laid weights
   are the interleaved ones with the gate's columns in front of the up's, stripe by stripe: the product with the picking matrix
   has one nonzero term. -/
module

public import proofs.«01_k».proof.Proof.FfnTile
public import proofs.«01_k».proof.Proof.Rows
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pipeline.Value
public import Idealize.ShloMosaic.Lib.Pipeline.ValueKit.Geometry
public import Idealize.ShloMosaic.Lib.Pipeline.ValueKit.Tiles
public import Idealize.ShloMosaic.Lib.Writes

@[expose] public section

noncomputable section

namespace Cert.ExpertsIdeal

open Idealize.ShloMosaic
open Idealize.ShloMosaic.ValueIdx Cert.FfnIdeal Cert.FfnIdeal.Gen
open Cert.Rows (product_apply)
open scoped BigOperators

/-! ## The expert's row -/

/-- The clip of gate and up, its opposite, one, and the sigmoid's slope. -/
abbrev limit : EReal := Ideal.ofBits .f32 0x40E00000#32
abbrev negLimit : EReal := Ideal.ofBits .f32 0xC0E00000#32
abbrev unit1 : EReal := Ideal.ofBits .f32 0x3F800000#32
abbrev slope : EReal := Ideal.ofBits .f32 0x3FD9DB23#32

/-- The clipped SwiGLU of a gate and an up value and their biases. -/
def swiglu (g b u c : EReal) : EReal :=
  (min limit (max negLimit (u + c)) + unit1) * min (g + b) limit * Ideal.logistic (slope * min (g + b) limit)

/-- A row's hidden value: gate and up are columns `2h` and `2h + 1`. -/
def hidden (x : Fin 1024 → EReal) (W : Fin 1024 → Fin 2048 → EReal) (bg bu : Fin 1024 → EReal) (h : Fin 1024) : EReal :=
  swiglu (∑ k, x k * W k ⟨2 * h.val, by omega⟩) (bg h) (∑ k, x k * W k ⟨2 * h.val + 1, by omega⟩) (bu h)

/-- A row's output. -/
def expertRow (x : Fin 1024 → EReal) (W : Fin 1024 → Fin 2048 → EReal) (bg bu : Fin 1024 → EReal) (D : Fin 1024 → Fin 1024 → EReal)
    (bd : Fin 1024 → EReal) (d : Fin 1024) : EReal :=
  (∑ h, hidden x W bg bu h * D h d) + bd d

/-! ## The re-laid weights -/

/-- The column of a stripe of the interleaved weights that a column of the re-laid stripe holds. -/
def pick (q : ℕ) : ℕ := if q < 128 then 2 * q else 2 * (q - 128) + 1
theorem pick_lt {q : ℕ} (h : q < 256) : pick q < 256 := by unfold pick; split <;> omega
/-- The same for the whole matrix, stripes of 256. -/
def colOf (c : ℕ) : ℕ := 256 * (c / 256) + pick (c % 256)
theorem colOf_lt {c : ℕ} (h : c < 2048) : colOf c < 2048 := by
  have := pick_lt (Nat.mod_lt c (by decide : 0 < 256)); unfold colOf; omega

theorem pickWord : ∀ c : Fin 256, Scalar.select (IntOp.cmpi .slt (BitVec.ofNat 32 c.val) 128#32) (IntOp.muli 2#32 (BitVec.ofNat 32 c.val))
    (IntOp.addi (IntOp.muli 2#32 (IntOp.subi (BitVec.ofNat 32 c.val) 128#32)) 1#32) = BitVec.ofNat 32 (pick c.val) := by
  decide +kernel

theorem eqWord (a b : ℕ) (ha : a < 256) (hb : b < 256) : IntOp.cmpi .eq (BitVec.ofNat 32 a) (BitVec.ofNat 32 b) = if a = b then 1#1 else 0#1 := by
  have := (by decide +kernel : ∀ x y : Fin 256, IntOp.cmpi .eq (BitVec.ofNat 32 x.val) (BitVec.ofNat 32 y.val) = if x.val = y.val then 1#1 else 0#1)
  exact this ⟨a, ha⟩ ⟨b, hb⟩

theorem one_eq : unit1 = 1 := Ideal.ofBits_one_f32

theorem picker_apply (r c : Fin 256) : k0_pay6 (F := Ideal) (ix2 r c) = (if r.val = pick c.val then (1 : EReal) else 0) := by
  have i0 : iota .tc S256x256 32 [0] iota_S256x256_d0_w32 (ix2 r c) = BitVec.ofNat 32 r.val := iota_single_apply _ _ _ _ _ _
  have i1 : iota .tc S256x256 32 [1] iota_S256x256_d1_w32 (ix2 r c) = BitVec.ofNat 32 c.val := iota_single_apply _ _ _ _ _ _
  have e : k0_pay6 (F := Ideal) (ix2 r c)
      = Scalar.select (IntOp.cmpi .eq (iota .tc S256x256 32 [0] iota_S256x256_d0_w32 (ix2 r c))
          (Scalar.select (IntOp.cmpi .slt (iota .tc S256x256 32 [1] iota_S256x256_d1_w32 (ix2 r c)) 128#32)
            (IntOp.muli 2#32 (iota .tc S256x256 32 [1] iota_S256x256_d1_w32 (ix2 r c)))
            (IntOp.addi (IntOp.muli 2#32 (IntOp.subi (iota .tc S256x256 32 [1] iota_S256x256_d1_w32 (ix2 r c)) 128#32)) 1#32)))
          unit1 (Ideal.ofBits .f32 0x00000000#32) := rfl
  rw [e, i0, i1, pickWord, eqWord _ _ r.isLt (pick_lt c.isLt), one_eq]
  split
  · rfl
  · exact Ideal.ofBits_zero_f32

/-- One stripe's re-laying. -/
def stripe (L : Vec Ideal S1x1024x256 .f32) : FVec Ideal S1024x256 .bf16 := k0_pay3 (k0_pay6 (F := Ideal)) L

theorem stripe0 (L) : k0_pay7 (F := Ideal) L = stripe L := rfl
theorem stripe1 (L) : k0_pay8 (F := Ideal) L = stripe L := rfl
theorem stripe2 (L) : k0_pay10 (k0_pay6 (F := Ideal)) (k0_pay9 L) = stripe L := rfl
theorem stripe3 (L) : k0_pay11 (k0_pay6 (F := Ideal)) L = stripe L := rfl
theorem stripe4 (L) : k0_pay12 (k0_pay6 (F := Ideal)) L = stripe L := rfl
theorem stripe5 (L) : k0_pay13 (k0_pay6 (F := Ideal)) L = stripe L := rfl
theorem stripe6 (L) : k0_pay2 (k0_pay6 (F := Ideal)) (k0_pay14 L) = stripe L := rfl
theorem stripe7 (L) : k0_pay3 (k0_pay6 (F := Ideal)) L = stripe L := rfl

theorem stripe_apply (L : Vec Ideal S1x1024x256 .f32) (k : Fin 1024) (q : Fin 256) :
    stripe L (ix2 k q) = L (ix3 (0 : Fin 1) k ⟨pick q.val, pick_lt q.isLt⟩) := by
  have e : stripe L = shapeCast S1024x256 (matmul (φ₁ := .bf16) (φ₂ := .bf16) (DotDims.plain 1024 256 256) none
      (truncf .bf16 (shapeCast S1024x256 L shapeCasts_S1x1024x256_S1024x256 : FVec Ideal S1024x256 .f32) bitsLt_bf16_f32) (k0_pay6 (F := Ideal)) (constant S1024x256 .f32 0x00000000#32))
      shapeCasts_S1024x256_S1024x256 := rfl
  rw [e, shapeCast_self]
  refine (product_apply (φ₁ := .bf16) (φ₂ := .bf16) _ _ k q).trans ?_
  have h (j : Fin 256) : (truncf .bf16 (shapeCast S1024x256 L shapeCasts_S1x1024x256_S1024x256 : FVec Ideal S1024x256 .f32) bitsLt_bf16_f32 : FVec Ideal S1024x256 .bf16) (ix2 k j)
      * k0_pay6 (F := Ideal) (ix2 j q) = if j = ⟨pick q.val, pick_lt q.isLt⟩ then L (ix3 (0 : Fin 1) k j) else (0 : EReal) := by
    rw [picker_apply]
    have e1 : (truncf .bf16 (shapeCast S1024x256 L shapeCasts_S1x1024x256_S1024x256 : FVec Ideal S1024x256 .f32) bitsLt_bf16_f32 : FVec Ideal S1024x256 .bf16) (ix2 k j) = L (ix3 (0 : Fin 1) k j) :=
      shapeCast_1ab_ab_apply L shapeCasts_S1x1024x256_S1024x256 k j
    rw [e1]
    by_cases hj : j.val = pick q.val
    · rw [if_pos hj, if_pos (Fin.ext hj)]; exact mul_one (M := EReal) _
    · rw [if_neg hj, if_neg (fun e => hj (congrArg Fin.val e))]; exact mul_zero (M₀ := EReal) _
  rw [Finset.sum_congr rfl fun j _ => h j, Finset.sum_ite_eq', if_pos (Finset.mem_univ _)]

/-- The gate-and-up weights re-laid. -/
def laid (x1 : S1x1024x2048.Idx → Elt Ideal .f32) : S1024x2048.Idx → Elt Ideal .bf16 := fun i =>
  x1 (ix3 (0 : Fin 1) (⟨(i 0).val, (i 0).isLt⟩ : Fin 1024) (⟨colOf (i 1).val, colOf_lt (i 1).isLt⟩ : Fin 2048))

theorem stripe_piece (x1 : S1x1024x2048.Idx → Elt Ideal .f32) (o : ℕ) (j : Fin 8) (ho : o = 256 * j.val)
    (inb : ∀ a, (![0, 0, o] : Fin 3 → ℕ) a + S1x1024x256.size a ≤ S1x1024x2048.size a)
    (inb' : ∀ a, (![0, o] : Fin 2 → ℕ) a + S1024x256.size a ≤ S1024x2048.size a) (x : S1024x256.Idx) :
    stripe (View.ld x1 (Rect.unit (s := S1x1024x2048) ![0, 0, o] S1x1024x256.size inb)) x
      = laid x1 ((Rect.unit (s := S1024x2048) ![0, o] S1024x256.size inb').emb x) := by
  obtain ⟨k, q, rfl⟩ : ∃ (k : Fin 1024) (q : Fin 256), x = ix2 k q := ⟨x 0, x 1, by funext a; fin_cases a <;> rfl⟩
  have hq := q.isLt
  have hp := pick_lt hq
  have hj := j.isLt
  rw [stripe_apply]
  have e0 : ((Rect.unit (s := S1024x2048) ![0, o] S1024x256.size inb').emb (ix2 k q) 0).val = k.val :=
    (Rect.idx_unit_val (s := S1024x2048) ![0, o] S1024x256.size inb' (ix2 k q : S1024x256.Idx) 0).trans (Nat.zero_add _)
  have e1 : ((Rect.unit (s := S1024x2048) ![0, o] S1024x256.size inb').emb (ix2 k q) 1).val = o + q.val :=
    Rect.idx_unit_val (s := S1024x2048) ![0, o] S1024x256.size inb' (ix2 k q : S1024x256.Idx) 1
  refine (View.ld_unit_apply_of x1 _ _ inb _ (ix3 (0 : Fin 1) k (⟨o + pick q.val, by omega⟩ : Fin 2048)) fun a => ?_).trans ?_
  · match a with
    | ⟨0, _⟩ => rfl
    | ⟨1, _⟩ => exact (Nat.zero_add _).symm
    | ⟨2, _⟩ => rfl
  · unfold laid
    refine congrArg x1 (funext fun a => Fin.ext ?_)
    match a with
    | ⟨0, _⟩ => rfl
    | ⟨1, _⟩ => exact e0.symm
    | ⟨2, _⟩ =>
      show o + pick q.val = colOf _
      rw [e1, colOf, show (o + q.val) / 256 = j.val by omega, show (o + q.val) % 256 = q.val by omega, ho]

theorem stripes_ok (x1 : S1x1024x2048.Idx → Elt Ideal .f32) : ∀ p ∈ stripes x1, ∀ x : p.1.shape.Idx, p.2 x = laid x1 (p.1.emb x) := by
  unfold stripes
  rw [stripe0, stripe1, stripe2, stripe3, stripe4, stripe5, stripe6, stripe7]
  refine List.forall_mem_cons.2 ⟨fun x => stripe_piece x1 1792 7 rfl _ inb_S1024x2048_S1024x256_0_1792 x, ?_⟩
  refine List.forall_mem_cons.2 ⟨fun x => stripe_piece x1 1536 6 rfl _ inb_S1024x2048_S1024x256_0_1536 x, ?_⟩
  refine List.forall_mem_cons.2 ⟨fun x => stripe_piece x1 1280 5 rfl _ inb_S1024x2048_S1024x256_0_1280 x, ?_⟩
  refine List.forall_mem_cons.2 ⟨fun x => stripe_piece x1 1024 4 rfl _ inb_S1024x2048_S1024x256_0_1024 x, ?_⟩
  refine List.forall_mem_cons.2 ⟨fun x => stripe_piece x1 768 3 rfl _ inb_S1024x2048_S1024x256_0_768 x, ?_⟩
  refine List.forall_mem_cons.2 ⟨fun x => stripe_piece x1 512 2 rfl _ inb_S1024x2048_S1024x256_0_512 x, ?_⟩
  refine List.forall_mem_cons.2 ⟨fun x => stripe_piece x1 256 1 rfl _ inb_S1024x2048_S1024x256_0_256 x, ?_⟩
  exact List.forall_mem_cons.2 ⟨fun x => stripe_piece x1 0 0 rfl _ inb_S1024x2048_S1024x256_0_0 x, fun _ h => absurd h List.not_mem_nil⟩

theorem stripes_cover (x1 : S1x1024x2048.Idx → Elt Ideal .f32) : ∀ y : S1024x2048.Idx, ∃ p ∈ stripes x1, y ∈ p.1.set :=
  View.cover_of_tiled (stripes x1) ![1024, 256] rfl

theorem read_scr0 (f : S1024x2048.Idx → Elt Ideal .bf16) : (View.whole cc0_scratch0).read (Elt Ideal) f = f := rfl
theorem read_scr1 (f : S1024x1024.Idx → Elt Ideal .bf16) : (View.whole cc0_scratch1).read (Elt Ideal) f = f := rfl

theorem scr0_eq (x1 : S1x1024x2048.Idx → Elt Ideal .f32) : scr0 x1 = laid x1 := by
  have hk := stripes_ok x1
  have hc := stripes_cover x1
  rw [← read_scr0 (scr0 x1)]
  unfold scr0
  generalize stripes x1 = L at hk hc
  exact funext fun y => View.read_writes_apply_of_pieces (View.whole cc0_scratch0) _ (laid x1) L hk y (hc y)

/-- The down weights without their unit axis. -/
def downOf (x4 : S1x1024x1024.Idx → Elt Ideal .f32) : S1024x1024.Idx → Elt Ideal .bf16 := fun i =>
  x4 (ix3 (0 : Fin 1) (⟨(i 0).val, (i 0).isLt⟩ : Fin 1024) (⟨(i 1).val, (i 1).isLt⟩ : Fin 1024))

theorem down_cast (L : FVec Ideal S1x1024x1024 .f32) (h d : Fin 1024) : k0_pay4 (F := Ideal) L (ix2 h d) = L (ix3 (0 : Fin 1) h d) := by
  have e : k0_pay4 (F := Ideal) L
      = shapeCast S1024x1024 (truncf .bf16 (shapeCast S1024x1024 L shapeCasts_S1x1024x1024_S1024x1024 : FVec Ideal S1024x1024 .f32) bitsLt_bf16_f32 : FVec Ideal S1024x1024 .bf16)
        shapeCasts_S1024x1024_S1024x1024 := rfl
  rw [e, shapeCast_self]
  exact shapeCast_1ab_ab_apply L shapeCasts_S1x1024x1024_S1024x1024 h d

theorem down_piece (x4 : S1x1024x1024.Idx → Elt Ideal .f32) (inb) (inb') (x : S1024x1024.Idx) :
    k0_pay4 (F := Ideal) (View.ld x4 (Rect.unit (s := S1x1024x1024) ![0, 0, 0] S1x1024x1024.size inb)) x
      = downOf x4 ((Rect.unit (s := S1024x1024) ![0, 0] S1024x1024.size inb').emb x) := by
  obtain ⟨h, d, rfl⟩ : ∃ h d : Fin 1024, x = ix2 h d := ⟨x 0, x 1, by funext a; fin_cases a <;> rfl⟩
  have e0 : ((Rect.unit (s := S1024x1024) ![0, 0] S1024x1024.size inb').emb (ix2 h d) 0).val = h.val :=
    (Rect.idx_unit_val (s := S1024x1024) ![0, 0] S1024x1024.size inb' (ix2 h d : S1024x1024.Idx) 0).trans (Nat.zero_add _)
  have e1 : ((Rect.unit (s := S1024x1024) ![0, 0] S1024x1024.size inb').emb (ix2 h d) 1).val = d.val :=
    (Rect.idx_unit_val (s := S1024x1024) ![0, 0] S1024x1024.size inb' (ix2 h d : S1024x1024.Idx) 1).trans (Nat.zero_add _)
  rw [down_cast]
  refine (View.ld_unit_apply_of x4 _ _ inb _ (ix3 (0 : Fin 1) h d) fun a => ?_).trans ?_
  · match a with
    | ⟨0, _⟩ => rfl
    | ⟨1, _⟩ => exact (Nat.zero_add _).symm
    | ⟨2, _⟩ => exact (Nat.zero_add _).symm
  · unfold downOf
    refine congrArg x4 (funext fun a => Fin.ext ?_)
    match a with
    | ⟨0, _⟩ => rfl
    | ⟨1, _⟩ => exact e0.symm
    | ⟨2, _⟩ => exact e1.symm

theorem downs_ok (x4 : S1x1024x1024.Idx → Elt Ideal .f32) : ∀ p ∈ downs x4, ∀ x : p.1.shape.Idx, p.2 x = downOf x4 (p.1.emb x) := by
  unfold downs
  exact List.forall_mem_cons.2 ⟨fun x => down_piece x4 _ inb_S1024x1024_S1024x1024_0_0 x, fun _ h => absurd h List.not_mem_nil⟩

theorem downs_cover (x4 : S1x1024x1024.Idx → Elt Ideal .f32) : ∀ y : S1024x1024.Idx, ∃ p ∈ downs x4, y ∈ p.1.set :=
  View.cover_of_tiled (downs x4) ![1024, 1024] rfl

theorem scr1_apply (x4 : S1x1024x1024.Idx → Elt Ideal .f32) (h d : Fin 1024) : scr1 x4 (ix2 h d) = x4 (ix3 (0 : Fin 1) h d) := by
  have e : scr1 x4 = downOf x4 := by
    have hk := downs_ok x4
    have hc := downs_cover x4
    rw [← read_scr1 (scr1 x4)]
    unfold scr1
    generalize downs x4 = L at hk hc
    exact funext fun y => View.read_writes_apply_of_pieces (View.whole cc0_scratch1) _ (downOf x4) L hk y (hc y)
  rw [e]; rfl

/-! ## A stripe's hidden values -/

/-- One stripe's hidden values from its rows, its weights and its biases. -/
def act (x : FVec Ideal S512x1024 .bf16) (W : FVec Ideal S1024x256 .bf16) (G U : FVec Ideal S1x1x128 .f32) : FVec Ideal S512x128 .bf16 :=
  k0_pay15 (F := Ideal) x W G U

theorem act1 (x W G U) : k0_pay19 (F := Ideal) (k0_pay17 x W G) (k0_pay18 x W) U = act x W G U := rfl
theorem act2 (x W G U) : k0_pay24 (F := Ideal) (k0_pay22 x W G U) (k0_pay23 x W G) = act x W G U := rfl
theorem act3 (x W G U) : k0_pay25 (F := Ideal) x W G U = act x W G U := rfl
theorem act4 (x W G U) : k0_pay29 (F := Ideal) (k0_pay27 x W G) (k0_pay28 x W) U = act x W G U := rfl
theorem act5 (x W G U) : k0_pay34 (F := Ideal) (k0_pay32 x W G U) (k0_pay33 x W G) = act x W G U := rfl
theorem act6 (x W G U) : k0_pay35 (F := Ideal) x W G U = act x W G U := rfl

theorem bias_apply (G : FVec Ideal S1x1x128 .f32) (r : Fin 512) (q : Fin 128) :
    broadcastTo S512x128 (shapeCast S1x128 G shapeCasts_S1x1x128_S1x128 : FVec Ideal S1x128 .f32) broadcasts_S1x128_S512x128 (ix2 r q) = G (ix3 (0 : Fin 1) (0 : Fin 1) q) :=
  (broadcastTo_1b_ab_apply _ broadcasts_S1x128_S512x128 r q).trans (shapeCast_1ab_ab_apply G shapeCasts_S1x1x128_S1x128 0 q)

theorem act_apply (x : FVec Ideal S512x1024 .bf16) (W : FVec Ideal S1024x256 .bf16) (G U : FVec Ideal S1x1x128 .f32) (r : Fin 512) (q : Fin 128) :
    act x W G U (ix2 r q) = swiglu (∑ k : Fin 1024, x (ix2 r k) * W (ix2 k (⟨q.val, by omega⟩ : Fin 256))) (G (ix3 (0 : Fin 1) (0 : Fin 1) q))
      (∑ k : Fin 1024, x (ix2 r k) * W (ix2 k (⟨128 + q.val, by omega⟩ : Fin 256))) (U (ix3 (0 : Fin 1) (0 : Fin 1) q)) := by
  rw [← bias_apply G r q, ← bias_apply U r q, ← product_apply (φ₁ := .bf16) (φ₂ := .bf16) x W r _, ← product_apply (φ₁ := .bf16) (φ₂ := .bf16) x W r _]
  have eg := extractStridedSlice_apply ![0, 0] (matmul (φ₁ := .bf16) (φ₂ := .bf16) (DotDims.plain 512 1024 256) none x W (constant S512x256 .f32 0x00000000#32))
    slices_S512x256_o0_0_S512x128 (ix2 r q) (ix2 r (⟨q.val, by omega⟩ : Fin 256)) (fun a => by
      match a with
      | ⟨0, _⟩ => exact (Nat.zero_add _).symm
      | ⟨1, _⟩ => exact (Nat.zero_add _).symm)
  have eu := extractStridedSlice_apply ![0, 128] (matmul (φ₁ := .bf16) (φ₂ := .bf16) (DotDims.plain 512 1024 256) none x W (constant S512x256 .f32 0x00000000#32))
    slices_S512x256_o0_128_S512x128 (ix2 r q) (ix2 r (⟨128 + q.val, by omega⟩ : Fin 256)) (fun a => by
      match a with
      | ⟨0, _⟩ => exact (Nat.zero_add _).symm
      | ⟨1, _⟩ => rfl)
  rw [← eg, ← eu]
  rfl

/-! ## The tile -/

/-- Eight stripes' hidden values side by side. -/
def sideBySide (P : Fin 8 → FVec Ideal S512x128 .bf16) : FVec Ideal S512x1024 .bf16 :=
  concatenate S512x1024 1 (List.ofFn fun n : Fin 8 => (⟨S512x128, P n⟩ : (s : Shape) × (s.Idx → Ideal .bf16)))
    concatenates_S512x128_S512x128_S512x128_S512x128_S512x128_S512x128_S512x128_S512x128_S512x1024_d1

/-- The down product of eight stripes' hidden values. -/
def joined (P : Fin 8 → FVec Ideal S512x128 .bf16) (D : FVec Ideal S1024x1024 .bf16) (B : FVec Ideal S1x1x1024 .f32) : FVec Ideal S512x1024 .bf16 :=
  truncf .bf16 (addf (matmul (φ₁ := .bf16) (φ₂ := .bf16) (DotDims.plain 512 1024 1024) none (sideBySide P) D (constant S512x1024 .f32 0x00000000#32))
    (broadcastTo S512x1024 (shapeCast S1x1024 B shapeCasts_S1x1x1024_S1x1024 : FVec Ideal S1x1024 .f32) broadcasts_S1x1024_S512x1024)) bitsLt_bf16_f32

theorem joined_eq (P : Fin 8 → FVec Ideal S512x128 .bf16) (x W G U D B) (h : P 7 = act x W G U) :
    k0_pay5 (F := Ideal) (P 0) (P 1) (P 2) (P 3) (P 4) (P 5) (P 6) (k0_pay37 x W G) (k0_pay38 x W) U D B = joined P D B := by
  have e : sideBySide P = concatenate S512x1024 1 [⟨S512x128, P 0⟩, ⟨S512x128, P 1⟩, ⟨S512x128, P 2⟩, ⟨S512x128, P 3⟩, ⟨S512x128, P 4⟩, ⟨S512x128, P 5⟩, ⟨S512x128, P 6⟩,
      ⟨S512x128, act x W G U⟩] concatenates_S512x128_S512x128_S512x128_S512x128_S512x128_S512x128_S512x128_S512x128_S512x1024_d1 := by rw [← h]; rfl
  unfold joined; rw [e]; rfl

theorem cat_apply (P : Fin 8 → FVec Ideal S512x128 .bf16) (r : Fin 512) (j : Fin 8) (q : Fin 128) (h : 128 * j.val + q.val < 1024) :
    sideBySide P (ix2 r (⟨128 * j.val + q.val, h⟩ : Fin 1024)) = P j (ix2 r q) := by
  have hq := q.isLt
  refine concatenate_ofFn_apply (t := S512x1024) (s₁ := S512x128) 1 P _ rfl 128 rfl _ j ?_ (ix2 r q) ?_ fun b hb => ?_
  · show (128 * j.val + q.val) / 128 = j.val; omega
  · show q.val = (128 * j.val + q.val) % 128; omega
  · match b with
    | ⟨0, _⟩ => rfl
    | ⟨1, _⟩ => exact absurd rfl hb

/-- Stripe `j` of the re-laid weights, and of a bias. -/
def band (a : S1024x2048.Idx → Elt Ideal .bf16) (j : Fin 8) : FVec Ideal S1024x256 .bf16 := fun i =>
  a (ix2 (⟨(i 0).val, (i 0).isLt⟩ : Fin 1024) (⟨256 * j.val + (i 1).val, by have : (i 1).val < 256 := (i 1).isLt; omega⟩ : Fin 2048))
def biasBand (b : S1x1x1024.Idx → Elt Ideal .f32) (j : Fin 8) : FVec Ideal S1x1x128 .f32 := fun i =>
  b (ix3 (0 : Fin 1) (0 : Fin 1) (⟨128 * j.val + (i 2).val, by have : (i 2).val < 128 := (i 2).isLt; omega⟩ : Fin 1024))

theorem band_ld (a : S1024x2048.Idx → Elt Ideal .bf16) (o : ℕ) (j : Fin 8) (ho : o = 256 * j.val) (inb) :
    View.ld a (Rect.unit (s := S1024x2048) ![0, o] S1024x256.size inb) = band a j := by
  subst ho
  exact funext fun i => View.ld_unit_apply_of a _ _ inb i _ fun ax => by
    match ax with
    | ⟨0, _⟩ => exact (Nat.zero_add _).symm
    | ⟨1, _⟩ => rfl

theorem bias_ld (b : S1x1x1024.Idx → Elt Ideal .f32) (o : ℕ) (j : Fin 8) (ho : o = 128 * j.val) (inb) :
    View.ld b (Rect.unit (s := S1x1x1024) ![0, 0, o] S1x1x128.size inb) = biasBand b j := by
  subst ho
  exact funext fun i => View.ld_unit_apply_of b _ _ inb i _ fun ax => by
    match ax with
    | ⟨0, _⟩ => have : (i 0).val < 1 := (i 0).isLt; show 0 = 0 + (i 0).val; omega
    | ⟨1, _⟩ => have : (i 1).val < 1 := (i 1).isLt; show 0 = 0 + (i 1).val; omega
    | ⟨2, _⟩ => rfl

theorem rows_ld (x : S512x1024.Idx → Elt Ideal .bf16) (inb) : View.ld x (Rect.unit (s := S512x1024) ![0, 0] S512x1024.size inb) = x :=
  funext fun i => View.ld_unit_apply_of x _ _ inb i _ fun ax => by
    match ax with
    | ⟨0, _⟩ => exact (Nat.zero_add _).symm
    | ⟨1, _⟩ => exact (Nat.zero_add _).symm
theorem down_ld (x : S1024x1024.Idx → Elt Ideal .bf16) (inb) : View.ld x (Rect.unit (s := S1024x1024) ![0, 0] S1024x1024.size inb) = x :=
  funext fun i => View.ld_unit_apply_of x _ _ inb i _ fun ax => by
    match ax with
    | ⟨0, _⟩ => exact (Nat.zero_add _).symm
    | ⟨1, _⟩ => exact (Nat.zero_add _).symm
theorem last_ld (x : S1x1x1024.Idx → Elt Ideal .f32) (inb) : View.ld x (Rect.unit (s := S1x1x1024) ![0, 0, 0] S1x1x1024.size inb) = x :=
  funext fun i => View.ld_unit_apply_of x _ _ inb i _ fun ax => by
    match ax with
    | ⟨0, _⟩ => exact (Nat.zero_add _).symm
    | ⟨1, _⟩ => exact (Nat.zero_add _).symm
    | ⟨2, _⟩ => exact (Nat.zero_add _).symm

/-- The eight stripes' hidden values of a tile. -/
def pieces (x0 : S512x1024.Idx → Elt Ideal .bf16) (x2 x3 : S1x1x1024.Idx → Elt Ideal .f32) (a0 : S1024x2048.Idx → Elt Ideal .bf16) (j : Fin 8) :
    FVec Ideal S512x128 .bf16 := act x0 (band a0 j) (biasBand x2 j) (biasBand x3 j)

theorem tile_eq (x0 : S512x1024.Idx → Elt Ideal .bf16) (x2 x3 x5 : S1x1x1024.Idx → Elt Ideal .f32) (a0 : S1024x2048.Idx → Elt Ideal .bf16)
    (a1 : S1024x1024.Idx → Elt Ideal .bf16) : tile x0 x2 x3 x5 a0 a1 = joined (pieces x0 x2 x3 a0) a1 x5 := by
  unfold tile
  rw [rows_ld, down_ld, last_ld, band_ld a0 0 0 rfl, band_ld a0 256 1 rfl, band_ld a0 512 2 rfl, band_ld a0 768 3 rfl, band_ld a0 1024 4 rfl,
    band_ld a0 1280 5 rfl, band_ld a0 1536 6 rfl, band_ld a0 1792 7 rfl,
    bias_ld x2 0 0 rfl, bias_ld x2 128 1 rfl, bias_ld x2 256 2 rfl, bias_ld x2 384 3 rfl, bias_ld x2 512 4 rfl, bias_ld x2 640 5 rfl, bias_ld x2 768 6 rfl, bias_ld x2 896 7 rfl,
    bias_ld x3 0 0 rfl, bias_ld x3 128 1 rfl, bias_ld x3 256 2 rfl, bias_ld x3 384 3 rfl, bias_ld x3 512 4 rfl, bias_ld x3 640 5 rfl, bias_ld x3 768 6 rfl, bias_ld x3 896 7 rfl,
    act1, act2, act3, act4, act5, act6]
  exact joined_eq (pieces x0 x2 x3 a0) x0 (band a0 7) (biasBand x2 7) (biasBand x3 7) a1 x5 rfl

/-- Stripe `j`'s hidden values are the row's. -/
theorem piece_apply (x0 : S512x1024.Idx → Elt Ideal .bf16) (x1 : S1x1024x2048.Idx → Elt Ideal .f32) (x2 x3 : S1x1x1024.Idx → Elt Ideal .f32)
    (r : Fin 512) (j : Fin 8) (q : Fin 128) (h : 128 * j.val + q.val < 1024) :
    pieces x0 x2 x3 (scr0 x1) j (ix2 r q) = hidden (fun k => x0 (ix2 r k)) (fun k c => x1 (ix3 (0 : Fin 1) k c)) (fun c => x2 (ix3 (0 : Fin 1) (0 : Fin 1) c))
      (fun c => x3 (ix3 (0 : Fin 1) (0 : Fin 1) c)) ⟨128 * j.val + q.val, h⟩ := by
  have hj := j.isLt
  have hq := q.isLt
  unfold pieces hidden
  rw [act_apply, scr0_eq]
  have eg (k : Fin 1024) : band (laid x1) j (ix2 k (⟨q.val, by omega⟩ : Fin 256)) = x1 (ix3 (0 : Fin 1) k (⟨2 * (128 * j.val + q.val), by omega⟩ : Fin 2048)) := by
    unfold band laid
    refine congrArg x1 (funext fun a => Fin.ext ?_)
    match a with
    | ⟨0, _⟩ => rfl
    | ⟨1, _⟩ => rfl
    | ⟨2, _⟩ =>
      show colOf (256 * j.val + q.val) = 2 * (128 * j.val + q.val)
      rw [colOf, show (256 * j.val + q.val) / 256 = j.val by omega, show (256 * j.val + q.val) % 256 = q.val by omega, pick, if_pos hq]; omega
  have eu (k : Fin 1024) : band (laid x1) j (ix2 k (⟨128 + q.val, by omega⟩ : Fin 256)) = x1 (ix3 (0 : Fin 1) k (⟨2 * (128 * j.val + q.val) + 1, by omega⟩ : Fin 2048)) := by
    unfold band laid
    refine congrArg x1 (funext fun a => Fin.ext ?_)
    match a with
    | ⟨0, _⟩ => rfl
    | ⟨1, _⟩ => rfl
    | ⟨2, _⟩ =>
      show colOf (256 * j.val + (128 + q.val)) = 2 * (128 * j.val + q.val) + 1
      rw [colOf, show (256 * j.val + (128 + q.val)) / 256 = j.val by omega, show (256 * j.val + (128 + q.val)) % 256 = 128 + q.val by omega, pick, if_neg (by omega)]; omega
  rw [Finset.sum_congr rfl fun k _ => congrArg (fun z : EReal => x0 (ix2 r k) * z) (eg k), Finset.sum_congr rfl fun k _ => congrArg (fun z : EReal => x0 (ix2 r k) * z) (eu k)]
  rfl

/-- **A live tile at a row and a lane.** -/
theorem tile_apply (x0 : S512x1024.Idx → Elt Ideal .bf16) (x1 : S1x1024x2048.Idx → Elt Ideal .f32) (x2 x3 : S1x1x1024.Idx → Elt Ideal .f32)
    (x4 : S1x1024x1024.Idx → Elt Ideal .f32) (x5 : S1x1x1024.Idx → Elt Ideal .f32) (r : Fin 512) (d : Fin 1024) :
    tile x0 x2 x3 x5 (scr0 x1) (scr1 x4) (ix2 r d)
      = expertRow (fun k => x0 (ix2 r k)) (fun k c => x1 (ix3 (0 : Fin 1) k c)) (fun c => x2 (ix3 (0 : Fin 1) (0 : Fin 1) c))
          (fun c => x3 (ix3 (0 : Fin 1) (0 : Fin 1) c)) (fun h e => x4 (ix3 (0 : Fin 1) h e)) (fun e => x5 (ix3 (0 : Fin 1) (0 : Fin 1) e)) d := by
  rw [tile_eq]
  unfold joined expertRow
  refine congrArg₂ (fun a b : EReal => a + b) ((product_apply (φ₁ := .bf16) (φ₂ := .bf16) _ _ r d).trans (Finset.sum_congr rfl fun h _ => ?_))
    ((broadcastTo_1b_ab_apply _ broadcasts_S1x1024_S512x1024 r d).trans (shapeCast_1ab_ab_apply x5 shapeCasts_S1x1x1024_S1x1024 0 d))
  refine congrArg₂ (fun a b : EReal => a * b) ?_ (scr1_apply x4 h d)
  have hh := h.isLt
  obtain ⟨j, q, hv⟩ : ∃ (j : Fin 8) (q : Fin 128), h.val = 128 * j.val + q.val := ⟨⟨h.val / 128, by omega⟩, ⟨h.val % 128, by omega⟩, (Nat.div_add_mod _ _).symm⟩
  have hlt : 128 * j.val + q.val < 1024 := by omega
  obtain rfl : h = ⟨128 * j.val + q.val, hlt⟩ := Fin.ext hv
  exact (cat_apply _ r j q hlt).trans (piece_apply x0 x1 x2 x3 r j q hlt)

end Cert.ExpertsIdeal

end
-- ==== Proof.FfnFinal.lean ====
/- The result array of the expert kernel: tile by tile the clipped SwiGLU of the tile's rows by its expert, zero past the last
   live tile. -/
module

public import proofs.«01_k».proof.Proof.FfnValue
public import proofs.«01_k».proof.Proof.FfnFrame

@[expose] public section

noncomputable section

namespace Cert.ExpertsIdeal

open Idealize.ShloMosaic
open Idealize.ShloMosaic.ValueIdx Cert.FfnIdeal Cert.FfnIdeal.Gen Idealize.ShloMosaic.TcCoe Idealize.SL.Sem
open scoped BigOperators

/-- The expert a word names. -/
def expertOf (w : BitVec 32) : Fin 32 := ⟨w.toNat % 32, Nat.mod_lt _ (by decide)⟩

/-- The layer's result at a tile, a row and a lane. -/
def ffnAt (T0 : S554.Idx → BitVec 32) (T1 : S1.Idx → BitVec 32) (xs : S283648x1024.Idx → EReal) (wgu : S32x1024x2048.Idx → EReal)
    (bg bu : S32x1x1024.Idx → EReal) (wd : S32x1024x1024.Idx → EReal) (bd : S32x1x1024.Idx → EReal) (t : Fin 554) (r : Fin 512) (d : Fin 1024) : EReal :=
  if Below (T1 oix) t.val then
    expertRow (fun k => xs (ix2 (⟨512 * t.val + r.val, by omega⟩ : Fin 283648) k)) (fun k c => wgu (ix3 (expertOf (T0 (tix t))) k c))
      (fun c => bg (ix3 (expertOf (T0 (tix t))) (0 : Fin 1) c)) (fun c => bu (ix3 (expertOf (T0 (tix t))) (0 : Fin 1) c))
      (fun k e => wd (ix3 (expertOf (T0 (tix t))) k e)) (fun e => bd (ix3 (expertOf (T0 (tix t))) (0 : Fin 1) e)) d
  else 0

/-- The layer's result as an array. -/
def ffnOut (T0 : S554.Idx → BitVec 32) (T1 : S1.Idx → BitVec 32) (xs : S283648x1024.Idx → EReal) (wgu : S32x1024x2048.Idx → EReal)
    (bg bu : S32x1x1024.Idx → EReal) (wd : S32x1024x1024.Idx → EReal) (bd : S32x1x1024.Idx → EReal) : S283648x1024.Idx → EReal := fun i =>
  ffnAt T0 T1 xs wgu bg bu wd bd ⟨(i 0).val / 512, by have : (i 0).val < 283648 := (i 0).isLt; omega⟩ ⟨(i 0).val % 512, by omega⟩ ⟨(i 1).val, (i 1).isLt⟩

theorem ffnOut_at (T0 T1 xs wgu bg bu wd bd) (t : Fin 554) (r : Fin 512) (d : Fin 1024) (i : S283648x1024.Idx)
    (h0 : (i 0).val = 512 * t.val + r.val) (h1 : (i 1).val = d.val) : ffnOut T0 T1 xs wgu bg bu wd bd i = ffnAt T0 T1 xs wgu bg bu wd bd t r d := by
  unfold ffnOut
  have e0 : (⟨(i 0).val / 512, by have : (i 0).val < 283648 := (i 0).isLt; omega⟩ : Fin 554) = t := Fin.ext (by show (i 0).val / 512 = t.val; omega)
  have e1 : (⟨(i 0).val % 512, by omega⟩ : Fin 512) = r := Fin.ext (by show (i 0).val % 512 = r.val; omega)
  have e2 : (⟨(i 1).val, (i 1).isLt⟩ : Fin 1024) = d := Fin.ext h1
  rw [e0, e1, e2]

variable (m : (ℓ : Loc nD τ sig) → Buf (Elt Ideal) ℓ) (ρ : Dev nD → PrngReg) (h : Good m)

/-- Point `t`'s tile. -/
abbrev tl (t : Fin (cfgM m h).N) : Fin 554 := crd m h t 0

theorem idx1 (t : Fin (cfgM m h).N) : ((cfgM m h).win (1 : Fin 7)).index t = ![(tabE m (tix (tl m h t))).toNat, 0, 0] := transform_1_eq (tabE m) (tabN m) (crd m h t)
theorem idx2 (t : Fin (cfgM m h).N) : ((cfgM m h).win (2 : Fin 7)).index t = ![(tabE m (tix (tl m h t))).toNat, 0, 0] := transform_2_eq (tabE m) (tabN m) (crd m h t)
theorem idx3 (t : Fin (cfgM m h).N) : ((cfgM m h).win (3 : Fin 7)).index t = ![(tabE m (tix (tl m h t))).toNat, 0, 0] := transform_3_eq (tabE m) (tabN m) (crd m h t)
theorem idx4 (t : Fin (cfgM m h).N) : ((cfgM m h).win (4 : Fin 7)).index t = ![(tabE m (tix (tl m h t))).toNat, 0, 0] := transform_4_eq (tabE m) (tabN m) (crd m h t)
theorem idx5 (t : Fin (cfgM m h).N) : ((cfgM m h).win (5 : Fin 7)).index t = ![(tabE m (tix (tl m h t))).toNat, 0, 0] := transform_5_eq (tabE m) (tabN m) (crd m h t)

/-- A live tile's rows are its own. -/
theorem idx0 (t : Fin (cfgM m h).N) (hl : Live m h t) : ((cfgM m h).win (0 : Fin 7)).index t = ![(tl m h t).val, 0] := by
  refine (transform_0_eq (tabE m) (tabN m) (crd m h t)).trans ?_
  have h1 : 1 ≤ (tabN m oix).toNat := h.2.1
  have h2 : (tabN m oix).toNat ≤ 554 := h.2.2
  have ht : (tl m h t).val < 554 := (tl m h t).isLt
  rw [minsi_eq h1 h2 ht]
  have hb := (below_iff ht).1 hl
  have hi : (tabN m oix).toInt = (tabN m oix).toNat := BitVec.toInt_eq_toNat_of_lt (by omega)
  rw [hi] at hb
  rw [Nat.min_eq_left (by omega)]

theorem idx6 (t : Fin (cfgM m h).N) : ((cfgM m h).win (6 : Fin 7)).index t = ![(tl m h t).val, 0] := by
  show ![(BitVec.ofNat 32 (tl m h t).val).toNat, 0] = _
  have ht : (tl m h t).val < 554 := (tl m h t).isLt
  rw [BitVec.toNat_ofNat, Nat.mod_eq_of_lt (lt_trans ht (by decide))]

/-- Every point's block is written back, and together they are the array. -/
theorem flush6 : ∀ t : Fin grid0.N, Pipeline.Window.flushOf grid0 true cc0_transform_6 t = true := by decide +kernel

theorem covers6 : ((cfgM m h).win (6 : Fin 7)).Covers := by
  refine ⟨fun a => ?_, fun β => ?_⟩
  · match a with
    | ⟨0, _⟩ => exact (by decide : 0 < 512)
    | ⟨1, _⟩ => exact (by decide : 0 < 1024)
  · have hβ0 : (β 0).val < 554 := (β 0).isLt.trans_eq (show (283648 + 512 - 1) / 512 = 554 by decide)
    have hβ1 : (β 1).val < 1 := (β 1).isLt.trans_eq (show (1024 + 1024 - 1) / 1024 = 1 by decide)
    refine ⟨⟨(β 0).val, hβ0⟩, (Pipeline.Window.flush_eq_flushOf _ _).trans (flush6 _), fun a => ⟨?_, .inl rfl⟩⟩
    rw [idx6]
    match a with
    | ⟨0, _⟩ => exact coords_val ⟨(β 0).val, hβ0⟩
    | ⟨1, _⟩ => show 0 = (β 1).val; omega

/-- The expert of point `t`. -/
abbrev ex (t : Fin (cfgM m h).N) : Fin 32 := expertOf (tabE m (tix (tl m h t)))

theorem ex_val (t : Fin (cfgM m h).N) : (ex m h t).val = (tabE m (tix (tl m h t))).toNat := Nat.mod_eq_of_lt (h.1 (tl m h t))

theorem blk0 (c : Dev nD) (t : Fin (cfgM m h).N) (hl : Live m h t) (r : Fin 512) (k : Fin 1024) :
    iblk m ρ h c (0 : Fin 7) t (ix2 r k)
      = m ((c.tc : Thread nD τ).loc main_arg2) (ix2 (⟨512 * (tl m h t).val + r.val, by have : (tl m h t).val < 554 := (tl m h t).isLt; omega⟩ : Fin 283648) k) := by
  refine congrArg (m ((c.tc : Thread nD τ).loc main_arg2)) (funext fun a => Fin.ext ?_)
  refine (Pipeline.Window.rect_emb_val ((cfgM m h).win (0 : Fin 7)) t (ix2 r k) a).trans ?_
  rw [idx0 m h t hl]
  match a with
  | ⟨0, _⟩ => exact congrArg (· + r.val) (Nat.mul_comm _ _)
  | ⟨1, _⟩ => exact (congrArg (· + k.val) (Nat.zero_mul _)).trans (Nat.zero_add _)

theorem blk1 (c : Dev nD) (t : Fin (cfgM m h).N) (k : Fin 1024) (l : Fin 2048) :
    iblk m ρ h c (1 : Fin 7) t (ix3 (0 : Fin 1) k l) = m ((c.tc : Thread nD τ).loc main_arg3) (ix3 (ex m h t) k l) := by
  refine congrArg (m ((c.tc : Thread nD τ).loc main_arg3)) (funext fun a => Fin.ext ?_)
  refine (Pipeline.Window.rect_emb_val ((cfgM m h).win (1 : Fin 7)) t (ix3 (0 : Fin 1) k l) a).trans ?_
  rw [idx1 m h t]
  match a with
  | ⟨0, _⟩ => exact (Nat.mul_one _).trans (ex_val m h t).symm
  | ⟨1, _⟩ => exact (congrArg (· + k.val) (Nat.zero_mul _)).trans (Nat.zero_add _)
  | ⟨2, _⟩ => exact (congrArg (· + l.val) (Nat.zero_mul _)).trans (Nat.zero_add _)

theorem blk2 (c : Dev nD) (t : Fin (cfgM m h).N) (l : Fin 1024) :
    iblk m ρ h c (2 : Fin 7) t (ix3 (0 : Fin 1) (0 : Fin 1) l) = m ((c.tc : Thread nD τ).loc main_arg4) (ix3 (ex m h t) (0 : Fin 1) l) := by
  refine congrArg (m ((c.tc : Thread nD τ).loc main_arg4)) (funext fun a => Fin.ext ?_)
  refine (Pipeline.Window.rect_emb_val ((cfgM m h).win (2 : Fin 7)) t (ix3 (0 : Fin 1) (0 : Fin 1) l) a).trans ?_
  rw [idx2 m h t]
  match a with
  | ⟨0, _⟩ => exact (Nat.mul_one _).trans (ex_val m h t).symm
  | ⟨1, _⟩ => rfl
  | ⟨2, _⟩ => exact (congrArg (· + l.val) (Nat.zero_mul _)).trans (Nat.zero_add _)

theorem blk3 (c : Dev nD) (t : Fin (cfgM m h).N) (l : Fin 1024) :
    iblk m ρ h c (3 : Fin 7) t (ix3 (0 : Fin 1) (0 : Fin 1) l) = m ((c.tc : Thread nD τ).loc main_arg5) (ix3 (ex m h t) (0 : Fin 1) l) := by
  refine congrArg (m ((c.tc : Thread nD τ).loc main_arg5)) (funext fun a => Fin.ext ?_)
  refine (Pipeline.Window.rect_emb_val ((cfgM m h).win (3 : Fin 7)) t (ix3 (0 : Fin 1) (0 : Fin 1) l) a).trans ?_
  rw [idx3 m h t]
  match a with
  | ⟨0, _⟩ => exact (Nat.mul_one _).trans (ex_val m h t).symm
  | ⟨1, _⟩ => rfl
  | ⟨2, _⟩ => exact (congrArg (· + l.val) (Nat.zero_mul _)).trans (Nat.zero_add _)

theorem blk5 (c : Dev nD) (t : Fin (cfgM m h).N) (l : Fin 1024) :
    iblk m ρ h c (5 : Fin 7) t (ix3 (0 : Fin 1) (0 : Fin 1) l) = m ((c.tc : Thread nD τ).loc main_arg7) (ix3 (ex m h t) (0 : Fin 1) l) := by
  refine congrArg (m ((c.tc : Thread nD τ).loc main_arg7)) (funext fun a => Fin.ext ?_)
  refine (Pipeline.Window.rect_emb_val ((cfgM m h).win (5 : Fin 7)) t (ix3 (0 : Fin 1) (0 : Fin 1) l) a).trans ?_
  rw [idx5 m h t]
  match a with
  | ⟨0, _⟩ => exact (Nat.mul_one _).trans (ex_val m h t).symm
  | ⟨1, _⟩ => rfl
  | ⟨2, _⟩ => exact (congrArg (· + l.val) (Nat.zero_mul _)).trans (Nat.zero_add _)

theorem blk4 (c : Dev nD) (t : Fin (cfgM m h).N) (k l : Fin 1024) :
    iblk m ρ h c (4 : Fin 7) t (ix3 (0 : Fin 1) k l) = m ((c.tc : Thread nD τ).loc main_arg6) (ix3 (ex m h t) k l) := by
  refine congrArg (m ((c.tc : Thread nD τ).loc main_arg6)) (funext fun a => Fin.ext ?_)
  refine (Pipeline.Window.rect_emb_val ((cfgM m h).win (4 : Fin 7)) t (ix3 (0 : Fin 1) k l) a).trans ?_
  rw [idx4 m h t]
  match a with
  | ⟨0, _⟩ => exact (Nat.mul_one _).trans (ex_val m h t).symm
  | ⟨1, _⟩ => exact (congrArg (· + k.val) (Nat.zero_mul _)).trans (Nat.zero_add _)
  | ⟨2, _⟩ => exact (congrArg (· + l.val) (Nat.zero_mul _)).trans (Nat.zero_add _)

/-- What point `t` leaves, at a row and a lane. -/
theorem outT_apply (c : Dev nD) (t : Fin (cfgM m h).N) (r : Fin 512) (d : Fin 1024) :
    outT m ρ h c t (ix2 r d) = ffnAt (tabE m) (tabN m) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (tl m h t) r d := by
  unfold outT ffnAt
  by_cases hl : Live m h t
  · rw [if_pos hl, if_pos hl]
    refine (tile_apply _ _ _ _ _ _ r d).trans ?_
    have e0 := funext fun k => blk0 m ρ h c t hl r k
    have e1 := funext fun k => funext fun l => blk1 m ρ h c t k l
    have e2 := funext fun l => blk2 m ρ h c t l
    have e3 := funext fun l => blk3 m ρ h c t l
    have e4 := funext fun k => funext fun l => blk4 m ρ h c t k l
    have e5 := funext fun l => blk5 m ρ h c t l
    rw [e0, e1, e2, e3, e4, e5]
  · rw [if_neg hl, if_neg hl]
    exact Ideal.ofBits_zero_bf16

/-- **The result array.** -/
theorem final (c : Dev nD) : (dats m ρ h 0 c).arrAt (6 : Fin 7) (cfgM m h).N
    = ffnOut (tabE m) (tabN m) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) := by
  refine (dats m ρ h 0 c).arrAt_eq_of_covers (6 : Fin 7) _ (covers6 m h) (fun t hf y => ?_) (Memref.isWhole_whole _)
  obtain ⟨r, d, rfl⟩ : ∃ (r : Fin 512) (d : Fin 1024), y = ix2 r d := ⟨y 0, y 1, by funext a; fin_cases a <;> rfl⟩
  refine Eq.trans ?_ ((outT_apply m ρ h c t r d).trans (ffnOut_at _ _ _ _ _ _ _ _ (tl m h t) r d _ ?_ ?_).symm)
  · rfl
  · refine (Pipeline.Window.rect_emb_val ((cfgM m h).win (6 : Fin 7)) t (ix2 r d) 0).trans ?_
    rw [idx6]
    exact congrArg (· + r.val) (Nat.mul_comm _ _)
  · refine (Pipeline.Window.rect_emb_val ((cfgM m h).win (6 : Fin 7)) t (ix2 r d) 1).trans ?_
    rw [idx6]
    exact (congrArg (· + d.val) (Nat.zero_mul _)).trans (Nat.zero_add _)

end Cert.ExpertsIdeal

end
-- ==== Proof.FfnRef.lean ====
/- The reference of the experts read at a tile, a row and a lane: the same expert row, or zero past the last live tile. -/
module

public import proofs.«01_k».proof.Proof.FfnFinal
public import proofs.«01_k».proof.Proof.Gen.FfnRefIdeal.Read

@[expose] public section

noncomputable section

namespace Cert.ExpertsIdeal

open Idealize.ShloMosaic
open Idealize.ShloMosaic.ValueIdx Cert.FfnRefIdeal Cert.FfnRefIdeal.Gen Cert.FfnRefIdeal.Read
open scoped BigOperators

/-! ## The entries of an expert's arrays, picked by a word -/

/-- The dimension numbers of picking one of 32 matrices for each of 554 tiles. -/
abbrev pickDims (A B : ℕ) (wf : GatherDims.WF ⟨3, ![32, A, B]⟩ ⟨2, ![554, 1]⟩ ⟨3, ![554, A, B]⟩ [1, 2] [0] [] [0] [] 1 ![1, A, B]) :
    GatherDims ⟨3, ![32, A, B]⟩ ⟨2, ![554, 1]⟩ ⟨3, ![554, A, B]⟩ where
  offsetDims := [1, 2]
  collapsedSliceDims := [0]
  operandBatchingDims := []
  startIndicesBatchingDims := []
  startIndexMap := [0]
  indexVectorDim := 1
  sliceSizes := ![1, A, B]
  wf := wf

theorem axis3 : ∀ c : Fin 3, c = 0 ∨ c = 1 ∨ c = 2 := by decide
theorem not_head : ¬(1 : Fin 3) ∈ ([0] : List (Fin 3)) ∧ ¬(2 : Fin 3) ∈ ([0] : List (Fin 3)) := by decide

/-- Tile `t` reads the matrix its word names, clamped to the last one. -/
theorem pick_apply {α : Type} {A B : ℕ} (wf) (x : (⟨3, ![32, A, B]⟩ : Shape).Idx → α) (idx : IVec ⟨2, ![554, 1]⟩ 32) (t : Fin 554) (a : Fin A) (b : Fin B) :
    Host.gather (pickDims A B wf) x idx (ix3 t a b) = x (ix3 (⟨min (idx (ix2 t (0 : Fin 1))).toInt.toNat 31, by omega⟩ : Fin 32) a b) := by
  unfold Host.gather
  refine congrArg x (funext fun c => Fin.ext ?_)
  show (pickDims A B wf).start (ix3 t a b) idx c + (pickDims A B wf).batchCoord (ix3 t a b) c + (pickDims A B wf).offCoord (ix3 t a b) c = _
  rw [GatherDims.batchCoord_eq_zero _ _ _ List.not_mem_nil, Nat.add_zero]
  rcases axis3 c with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (pickDims A B wf).startIndexMap from List.mem_singleton.mpr rfl)]
    have hsi : (pickDims A B wf).siIdx (ix3 t a b) ⟨List.idxOf (0 : Fin 3) (pickDims A B wf).startIndexMap,
        List.idxOf_lt_length_iff.2 (List.mem_singleton.mpr rfl)⟩ = ix2 t (0 : Fin 1) := by
      funext d; refine Fin.ext ?_
      match d with
      | ⟨0, _⟩ => rfl
      | ⟨1, _⟩ => rfl
    rw [hsi]
    rfl
  · unfold GatherDims.start GatherDims.offCoord
    rw [dif_neg (show ¬(1 : Fin 3) ∈ (pickDims A B wf).startIndexMap from not_head.1),
      dif_pos (show (1 : Fin 3) ∈ (pickDims A B wf).sKept from (GatherDims.mem_sKept _ _).2 ⟨not_head.1, List.not_mem_nil⟩), Nat.zero_add]
    rfl
  · unfold GatherDims.start GatherDims.offCoord
    rw [dif_neg (show ¬(2 : Fin 3) ∈ (pickDims A B wf).startIndexMap from not_head.2),
      dif_pos (show (2 : Fin 3) ∈ (pickDims A B wf).sKept from (GatherDims.mem_sKept _ _).2 ⟨not_head.2, List.not_mem_nil⟩), Nat.zero_add]
    rfl

theorem toInt_expert {x : BitVec 32} (h : x.toNat < 32) : x.toInt = x.toNat := BitVec.toInt_eq_toNat_of_lt (by omega)

/-- A word in range is not counted from the end. -/
theorem word_norm {x : BitVec 32} (h : x.toNat < 32) : Scalar.select (IntOp.cmpi .slt x 0#32) (IntOp.addi x 32#32) x = x := by
  have h0 : IntOp.cmpi .slt x 0#32 = 0#1 := eq_zero_of_ne_one fun h1 => by
    have h2 : x.toInt < (0#32 : BitVec 32).toInt := (slt_iff x 0#32).1 h1
    rw [toInt_expert h] at h2
    exact absurd h2 (by simp)
  rw [h0]
  rfl

variable (x0 : (⟨S554, .i32⟩ : BufTy).Contents (Elt Ideal)) (x1 : (⟨S1, .i32⟩ : BufTy).Contents (Elt Ideal))
  (x2 : (⟨S283648x1024, .bf16⟩ : BufTy).Contents (Elt Ideal)) (x3 : (⟨S32x1024x2048, .f32⟩ : BufTy).Contents (Elt Ideal))
  (x4 x5 x7 : (⟨S32x1x1024, .f32⟩ : BufTy).Contents (Elt Ideal)) (x6 : (⟨S32x1024x1024, .f32⟩ : BufTy).Contents (Elt Ideal))
  (hx : ∀ i, (x0 i).toNat < 32)

include hx

theorem start_eq (t : Fin 554) : val_main_v7 (F := Ideal) x0 (ix2 t (0 : Fin 1)) = x0 (tix t) := by
  rw [val_main_v7_apply, val_main_v6_apply, val_main_v3_apply, val_main_v5_apply, val_main_v2_apply, val_main_v4_apply, val_main_c_apply, val_main_c_0_apply]
  have e : idx_main_v7 (ix2 t (0 : Fin 1)) = tix t := funext fun a => by match a with | ⟨0, _⟩ => rfl
  rw [e]
  exact word_norm (hx _)

/-- Picking by the tables' words picks the expert. -/
theorem pick_expert {α : Type} {A B : ℕ} (wf) (x : (⟨3, ![32, A, B]⟩ : Shape).Idx → α) (t : Fin 554) (a : Fin A) (b : Fin B) :
    Host.gather (pickDims A B wf) x (val_main_v7 (F := Ideal) x0) (ix3 t a b) = x (ix3 (expertOf (x0 (tix t))) a b) := by
  refine (pick_apply wf x _ t a b).trans ?_
  have e : (⟨min (val_main_v7 (F := Ideal) x0 (ix2 t (0 : Fin 1))).toInt.toNat 31, by omega⟩ : Fin 32) = expertOf (x0 (tix t)) := Fin.ext (by
    show min (val_main_v7 (F := Ideal) x0 (ix2 t (0 : Fin 1))).toInt.toNat 31 = (x0 (tix t)).toNat % 32
    have hb := hx (tix t)
    rw [start_eq x0 hx t, toInt_expert hb, Int.toNat_natCast, Nat.mod_eq_of_lt hb]
    omega)
  rw [e]

theorem v8_at (t : Fin 554) (k : Fin 1024) (c : Fin 2048) : val_main_v8 (F := Ideal) x0 x3 (ix3 t k c) = x3 (ix3 (expertOf (x0 (tix t))) k c) :=
  pick_expert x0 hx _ x3 t k c
theorem v17_at (t : Fin 554) (l : Fin 1024) : val_main_v17 (F := Ideal) x0 x4 (ix3 t (0 : Fin 1) l) = x4 (ix3 (expertOf (x0 (tix t))) (0 : Fin 1) l) :=
  pick_expert x0 hx _ x4 t 0 l
theorem v29_at (t : Fin 554) (l : Fin 1024) : val_main_v29 (F := Ideal) x0 x5 (ix3 t (0 : Fin 1) l) = x5 (ix3 (expertOf (x0 (tix t))) (0 : Fin 1) l) :=
  pick_expert x0 hx _ x5 t 0 l
theorem v51_at (t : Fin 554) (k l : Fin 1024) : val_main_v51 (F := Ideal) x0 x6 (ix3 t k l) = x6 (ix3 (expertOf (x0 (tix t))) k l) :=
  pick_expert x0 hx _ x6 t k l
theorem v59_at (t : Fin 554) (l : Fin 1024) : val_main_v59 (F := Ideal) x0 x7 (ix3 t (0 : Fin 1) l) = x7 (ix3 (expertOf (x0 (tix t))) (0 : Fin 1) l) :=
  pick_expert x0 hx _ x7 t 0 l

omit hx in
/-- Row `r` of tile `t`. -/
theorem v1_at (t : Fin 554) (r : Fin 512) (k : Fin 1024) :
    val_main_v1 (F := Ideal) x2 (ix3 t r k) = x2 (ix2 (⟨512 * t.val + r.val, by omega⟩ : Fin 283648) k) := by
  rw [val_main_v1_apply, val_main_v0_apply]
  refine congrArg x2 (funext fun a => Fin.ext ?_)
  have ht := t.isLt
  have hr := r.isLt
  have hk := k.isLt
  match a with
  | ⟨0, _⟩ => show ((t.val * 512 + r.val) * 1024 + k.val) / 1024 = 512 * t.val + r.val; omega
  | ⟨1, _⟩ => show ((t.val * 512 + r.val) * 1024 + k.val) % 1024 = k.val; omega

theorem v9_at (t : Fin 554) (r : Fin 512) (c : Fin 2048) :
    val_main_v9 (F := Ideal) x0 x2 x3 (ix3 t r c)
      = ∑ k : Fin 1024, x2 (ix2 (⟨512 * t.val + r.val, by omega⟩ : Fin 283648) k) * x3 (ix3 (expertOf (x0 (tix t))) k c) := by
  rw [val_main_v9_apply]
  refine Finset.sum_congr rfl fun k _ => congrArg₂ (· * ·) (Eq.trans ?_ (v1_at x2 t r k)) (Eq.trans ?_ (v8_at x0 x3 hx t k c))
  · exact congrArg _ (funext fun a => by match a with | ⟨0, _⟩ => rfl | ⟨1, _⟩ => rfl | ⟨2, _⟩ => rfl)
  · exact congrArg _ (funext fun a => by match a with | ⟨0, _⟩ => rfl | ⟨1, _⟩ => rfl | ⟨2, _⟩ => rfl)

omit hx in
/-- The even lanes are the gate. -/
theorem v10_at (t : Fin 554) (r : Fin 512) (h : Fin 1024) :
    val_main_v10 (F := Ideal) x0 x2 x3 (ix3 t r h) = val_main_v9 (F := Ideal) x0 x2 x3 (ix3 t r (⟨2 * h.val, by omega⟩ : Fin 2048)) := by
  unfold val_main_v10
  generalize val_main_v9 (F := Ideal) x0 x2 x3 = y
  refine congrArg y (funext fun a => Fin.ext ?_)
  match a with
  | ⟨0, _⟩ => show 0 + 1 * t.val = t.val; omega
  | ⟨1, _⟩ => show 0 + 1 * r.val = r.val; omega
  | ⟨2, _⟩ => show 0 + 2 * h.val = 2 * h.val; omega

omit hx in
/-- The odd lanes are the up projection. -/
theorem v22_at (t : Fin 554) (r : Fin 512) (h : Fin 1024) :
    val_main_v22 (F := Ideal) x0 x2 x3 (ix3 t r h) = val_main_v9 (F := Ideal) x0 x2 x3 (ix3 t r (⟨2 * h.val + 1, by omega⟩ : Fin 2048)) := by
  unfold val_main_v22
  generalize val_main_v9 (F := Ideal) x0 x2 x3 = y
  refine congrArg y (funext fun a => Fin.ext ?_)
  match a with
  | ⟨0, _⟩ => show 0 + 1 * t.val = t.val; omega
  | ⟨1, _⟩ => show 0 + 1 * r.val = r.val; omega
  | ⟨2, _⟩ => show 1 + 2 * h.val = 2 * h.val + 1; omega

omit hx in
/-- The gated unit of a gate and an up value. -/
theorem v44_at (i : S554x512x1024.Idx) : val_main_v44 (F := Ideal) x0 x2 x3 x4 x5 i
    = swiglu (val_main_v10 (F := Ideal) x0 x2 x3 i) (val_main_v18 (F := Ideal) x0 x4 i) (val_main_v22 (F := Ideal) x0 x2 x3 i) (val_main_v30 (F := Ideal) x0 x5 i) := by
  rw [val_main_v44_apply, val_main_v35_apply, val_main_v34_apply, val_main_v32_apply, val_main_call0_v4_apply, val_main_call0_v3_apply, val_main_cst_6_apply,
    val_main_call0_v2_apply, val_main_call0_v1_apply, val_main_call0_v0_apply, val_main_cst_5_apply, val_main_v33_apply, val_main_cst_7_apply,
    val_main_v43_apply, val_main_v42_apply, val_main_cst_10_apply, val_main_v41_apply, val_main_v40_apply, val_main_cst_9_apply, val_main_v39_apply,
    val_main_v38_apply, val_main_v37_apply, val_main_v36_apply, val_main_cst_8_apply, val_main_v31_apply, val_main_v21_apply, val_main_v20_apply,
    val_main_cst_apply, val_main_v19_apply]
  unfold swiglu Ideal.logistic
  rw [← one_eq]
  rfl

theorem hidden_at (t : Fin 554) (r : Fin 512) (h : Fin 1024) : val_main_v44 (F := Ideal) x0 x2 x3 x4 x5 (ix3 t r h)
    = hidden (fun k => x2 (ix2 (⟨512 * t.val + r.val, by omega⟩ : Fin 283648) k)) (fun k c => x3 (ix3 (expertOf (x0 (tix t))) k c))
      (fun c => x4 (ix3 (expertOf (x0 (tix t))) (0 : Fin 1) c)) (fun c => x5 (ix3 (expertOf (x0 (tix t))) (0 : Fin 1) c)) h := by
  have e18 : val_main_v18 (F := Ideal) x0 x4 (ix3 t r h) = x4 (ix3 (expertOf (x0 (tix t))) (0 : Fin 1) h) := by
    rw [val_main_v18_apply]
    refine Eq.trans ?_ (v17_at x0 x4 hx t h)
    exact congrArg _ (funext fun a => by match a with | ⟨0, _⟩ => rfl | ⟨1, _⟩ => rfl | ⟨2, _⟩ => rfl)
  have e30 : val_main_v30 (F := Ideal) x0 x5 (ix3 t r h) = x5 (ix3 (expertOf (x0 (tix t))) (0 : Fin 1) h) := by
    rw [val_main_v30_apply]
    refine Eq.trans ?_ (v29_at x0 x5 hx t h)
    exact congrArg _ (funext fun a => by match a with | ⟨0, _⟩ => rfl | ⟨1, _⟩ => rfl | ⟨2, _⟩ => rfl)
  rw [v44_at, v10_at, v22_at, v9_at x0 x2 x3 hx, v9_at x0 x2 x3 hx, e18, e30]
  rfl

/-- A live tile's row. -/
theorem v61_at (t : Fin 554) (r : Fin 512) (d : Fin 1024) : val_main_v61 (F := Ideal) x0 x2 x3 x4 x5 x6 x7 (ix3 t r d)
    = expertRow (fun k => x2 (ix2 (⟨512 * t.val + r.val, by omega⟩ : Fin 283648) k)) (fun k c => x3 (ix3 (expertOf (x0 (tix t))) k c))
      (fun c => x4 (ix3 (expertOf (x0 (tix t))) (0 : Fin 1) c)) (fun c => x5 (ix3 (expertOf (x0 (tix t))) (0 : Fin 1) c))
      (fun k e => x6 (ix3 (expertOf (x0 (tix t))) k e)) (fun e => x7 (ix3 (expertOf (x0 (tix t))) (0 : Fin 1) e)) d := by
  have e60 : val_main_v60 (F := Ideal) x0 x7 (ix3 t r d) = x7 (ix3 (expertOf (x0 (tix t))) (0 : Fin 1) d) := by
    rw [val_main_v60_apply]
    refine Eq.trans ?_ (v59_at x0 x7 hx t d)
    exact congrArg _ (funext fun a => by match a with | ⟨0, _⟩ => rfl | ⟨1, _⟩ => rfl | ⟨2, _⟩ => rfl)
  rw [val_main_v61_apply, e60, val_main_v52_apply]
  refine congrArg (· + _) (Finset.sum_congr rfl fun k _ => congrArg₂ (· * ·) (Eq.trans ?_ (hidden_at x0 x2 x3 x4 x5 hx t r k)) (Eq.trans ?_ (v51_at x0 x6 hx t k d)))
  · exact congrArg _ (funext fun a => by match a with | ⟨0, _⟩ => rfl | ⟨1, _⟩ => rfl | ⟨2, _⟩ => rfl)
  · exact congrArg _ (funext fun a => by match a with | ⟨0, _⟩ => rfl | ⟨1, _⟩ => rfl | ⟨2, _⟩ => rfl)

omit hx in
/-- The live tiles are those whose number is below the count. -/
theorem live_at (t : Fin 554) (r : Fin 512) (d : Fin 1024) :
    val_main_call1_v1 (F := Ideal) x1 (ix3 t r d) = Scalar.cmpi .slt (BitVec.ofNat 32 t.val) (x1 oix) := by
  rw [val_main_call1_v1_apply, val_main_v66_apply, val_main_v65_apply, val_main_v62_apply, val_main_v64_apply]
  unfold val_main_v63
  have e : ∀ i : S1.Idx, i = oix := fun i => funext fun a => by match a with | ⟨0, _⟩ => exact Subsingleton.elim (α := Fin 1) _ _
  exact congrArg (fun i => Scalar.cmpi .slt (BitVec.ofNat 32 t.val) (x1 i)) (e _)

theorem v67_at (t : Fin 554) (r : Fin 512) (d : Fin 1024) : val_main_v67 (F := Ideal) x0 x1 x2 x3 x4 x5 x6 x7 (ix3 t r d)
    = ffnAt x0 x1 x2 x3 x4 x5 x6 x7 t r d := by
  rw [val_main_v67_apply, live_at, v61_at x0 x2 x3 x4 x5 x7 x6 hx, val_main_call1_v2_apply, val_main_call1_v0_apply, val_main_cst_15_apply]
  unfold ffnAt
  by_cases hl : Below (x1 oix) t.val
  · rw [if_pos hl, show Scalar.cmpi .slt (BitVec.ofNat 32 t.val) (x1 oix) = 1#1 from hl]
    rfl
  · rw [if_neg hl, eq_zero_of_ne_one hl]
    exact Ideal.ofBits_zero_f32

/-- **The reference's array is the layer's.** -/
theorem reference_eq : val_main_v69 (F := Ideal) x0 x1 x2 x3 x4 x5 x6 x7 = ffnOut x0 x1 x2 x3 x4 x5 x6 x7 := by
  funext i
  rw [val_main_v69_apply, val_main_v68_apply]
  unfold ffnOut
  refine Eq.trans ?_ (v67_at x0 x1 x2 x3 x4 x5 x7 x6 hx _ _ _)
  refine congrArg (val_main_v67 (F := Ideal) x0 x1 x2 x3 x4 x5 x6 x7) (funext fun a => Fin.ext ?_)
  have h0 : (i 0).val < 283648 := (i 0).isLt
  have h1 : (i 1).val < 1024 := (i 1).isLt
  match a with
  | ⟨0, _⟩ => show ((i 0).val * 1024 + (i 1).val) / 524288 = (i 0).val / 512; omega
  | ⟨1, _⟩ => show ((i 0).val * 1024 + (i 1).val) / 1024 % 512 = (i 0).val % 512; omega
  | ⟨2, _⟩ => show ((i 0).val * 1024 + (i 1).val) % 1024 = (i 1).val; omega

end Cert.ExpertsIdeal

end
-- ==== Proof.FfnAlgebraic.lean ====
/- From tables in range the expert kernel and its reference end with the same array. -/
module

public import proofs.«01_k».proof.Proof.FfnRef
public import proofs.«01_k».proof.Proof.FfnPre

@[expose] public section

noncomputable section

namespace Cert.ExpertsIdeal

open Idealize.ShloMosaic Idealize.SL.Sem Idealize.ShloMosaic.TcCoe

/-- **The kernel is the layer's experts**: the printed program and the plain reference end with the same array. -/
theorem algebraic : Cert.algebraic_FfnIdeal_FfnRefIdeal (hFfnIdeal := Cert.FfnIdeal.Gen.facts)
    (hFfnRefIdeal := Cert.FfnRefIdeal.Gen.facts) (hPre_tables_in_range := preFacts) := by
  intro m g m' g' hpre hargs
  have hg : Good m := good_of_pre m hpre
  refine ⟨fun c => (dats m g hg 0 c).arrAt (6 : Fin 7) (cfgM m hg).N, ?_, ?_⟩
  · exact (θ_run _ _ _).mono (fun r hr c => ⟨(hr.1 c).1 (6 : Fin 7), args_kept m g hg hr.1 c⟩) (run_quiescent m g hg)
  refine (θ_run _ _ _).mono (fun r hr c => ?_) (Cert.FfnRefIdeal.Value.run m' g')
  refine ⟨(hr c).1.trans ?_, (hr c).2⟩
  have hw := pre_words _ _ _ _ _ _ _ _ (hpre c)
  obtain ⟨e0, e1, e2, e3, e4, e5, e6, e7⟩ := hargs c
  rw [Cert.FfnRefIdeal.Read.val_main_v69_eq, e0, e1, e2, e3, e4, e5, e6, e7]
  refine (reference_eq _ _ _ _ _ _ _ _ hw.1).trans ?_
  refine Eq.trans ?_ (final m g hg c).symm
  obtain rfl : c = (0 : Dev Cert.FfnIdeal.nD) := Subsingleton.elim _ _
  rfl

end Cert.ExpertsIdeal

end
-- ==== Proof.Strides.lean ====
/- A block whose rows are shared out among `s` heads: row `s·r + k` of the written block is row `r` of head `k`.
   The kernels store each head's columns through a rectangle of stride `s`; here the stores are read back as one
   function of the whole product. -/
module

public import Idealize.ShloMosaic.Lib.Pipeline.FrameBody
public import Idealize.ShloMosaic.Lib.Pipeline.Value
public import Idealize.ShloMosaic.Lib.ValueIdxCore
public import Idealize.ShloMosaic.Lib.Tactic

@[expose] public section

noncomputable section

namespace Cert.Strides

open Idealize.ShloMosaic
open Idealize.ShloMosaic.ValueIdx

/-- The shape of a head-interleaved block. -/
abbrev Blk : Shape := ⟨2, ![2048, 128]⟩
/-- The store of every `s`-th row from row `k` on. -/
abbrev lane (n s k : Nat) (inb : ∀ a, (![n, 128] : Fin 2 → Nat) a = 0 ∨ (![k, 0] : Fin 2 → Nat) a + (![s, 1] : Fin 2 → Nat) a * ((![n, 128] : Fin 2 → Nat) a - 1) < (![2048, 128] : Fin 2 → Nat) a)
    (pos : ∀ a, 0 < (![s, 1] : Fin 2 → Nat) a) : Rect Blk :=
  ⟨(⟨![k, 0], ![n, 128], ![s, 1], inb⟩ : LoadRect Blk), pos⟩

theorem mem_lane {n s k : Nat} {inb} {pos} (y : Blk.Idx) (hk : (y 0).val % s = k) (hn : (y 0).val / s < n) :
    y ∈ (lane n s k inb pos).set := by
  refine (LoadRect.mem_set _).mpr fun a => ?_
  match a with
  | ⟨0, _⟩ => exact ⟨(y 0).val / s, hn, by show (y 0).val = k + s * _; rw [← hk]; exact (Nat.mod_add_div _ _).symm⟩
  | ⟨1, _⟩ => exact ⟨(y 1).val, (y 1).isLt, by show (y 1).val = 0 + 1 * _; omega⟩

/-- The product `T` of 512 rows and four heads of 128 columns, read as the interleaved block. -/
def heads4 {α : Type} (T : (⟨2, ![512, 512]⟩ : Shape).Idx → α) (y : Blk.Idx) : α :=
  T (ix2 ⟨(y 0).val / 4, by have : (y 0).val < 2048 := (y 0).isLt; omega⟩ ⟨128 * ((y 0).val % 4) + (y 1).val, by have : (y 1).val < 128 := (y 1).isLt; omega⟩)

/-- The product `T` of 256 rows and four heads of two halves of 128 columns, read as the interleaved block: half `c` of
    head `h` is row `4·c + h` of eight. -/
def heads8 {α : Type} (T : (⟨2, ![256, 1024]⟩ : Shape).Idx → α) (y : Blk.Idx) : α :=
  T (ix2 ⟨(y 0).val / 8, by have : (y 0).val < 2048 := (y 0).isLt; omega⟩
    ⟨256 * ((y 0).val % 8 % 4) + 128 * ((y 0).val % 8 / 4) + (y 1).val, by have : (y 1).val < 128 := (y 1).isLt; omega⟩)

theorem heads4_lane {α : Type} (T : (⟨2, ![512, 512]⟩ : Shape).Idx → α) {k : Nat} (hk : k < 4) {inb} {pos} (x : (lane 512 4 k inb pos).shape.Idx)
    (j : (⟨2, ![512, 512]⟩ : Shape).Idx) (h0 : (j 0).val = (x 0).val) (h1 : (j 1).val = 128 * k + (x 1).val) :
    T j = heads4 T ((lane 512 4 k inb pos).emb x) := by
  refine congrArg T (funext fun a => Fin.ext ?_)
  match a with
  | ⟨0, _⟩ => show (j 0).val = (k + 4 * (x 0).val) / 4; omega
  | ⟨1, _⟩ => show (j 1).val = 128 * ((k + 4 * (x 0).val) % 4) + (0 + 1 * (x 1).val); omega

theorem heads8_lane {α : Type} (T : (⟨2, ![256, 1024]⟩ : Shape).Idx → α) {k : Nat} (hk : k < 8) {inb} {pos} (x : (lane 256 8 k inb pos).shape.Idx)
    (j : (⟨2, ![256, 1024]⟩ : Shape).Idx) (h0 : (j 0).val = (x 0).val) (h1 : (j 1).val = 256 * (k % 4) + 128 * (k / 4) + (x 1).val) :
    T j = heads8 T ((lane 256 8 k inb pos).emb x) := by
  refine congrArg T (funext fun a => Fin.ext ?_)
  match a with
  | ⟨0, _⟩ => show (j 0).val = (k + 8 * (x 0).val) / 8; omega
  | ⟨1, _⟩ =>
    show (j 1).val = 256 * ((k + 8 * (x 0).val) % 8 % 4) + 128 * ((k + 8 * (x 0).val) % 8 / 4) + (0 + 1 * (x 1).val)
    have e : (k + 8 * (x 0).val) % 8 = k := by omega
    rw [e]; omega

theorem off2 : (![0, 0] : Fin 2 → Nat) = fun _ => 0 := funext fun a => match a with | ⟨0, _⟩ => rfl | ⟨1, _⟩ => rfl

section
variable {Val : EltTy → Type} {e : EltTy}

theorem cover4 {i0 i1 i2 i3 pos} (p0 p1 p2 p3 : (⟨2, ![512, 128]⟩ : Shape).Idx → Val e) (y : Blk.Idx) :
    ∃ p ∈ ([⟨lane 512 4 3 i3 pos, p3⟩, ⟨lane 512 4 2 i2 pos, p2⟩, ⟨lane 512 4 1 i1 pos, p1⟩, ⟨lane 512 4 0 i0 pos, p0⟩] : List (View.Piece Val Blk e)), y ∈ p.1.set := by
  have hy : (y 0).val < 2048 := (y 0).isLt
  have hn : (y 0).val / 4 < 512 := by omega
  obtain h | h | h | h : (y 0).val % 4 = 0 ∨ (y 0).val % 4 = 1 ∨ (y 0).val % 4 = 2 ∨ (y 0).val % 4 = 3 := by omega
  · exact ⟨⟨_, p0⟩, .tail _ (.tail _ (.tail _ (.head _))), mem_lane (inb := i0) (pos := pos) y h hn⟩
  · exact ⟨⟨_, p1⟩, .tail _ (.tail _ (.head _)), mem_lane (inb := i1) (pos := pos) y h hn⟩
  · exact ⟨⟨_, p2⟩, .tail _ (.head _), mem_lane (inb := i2) (pos := pos) y h hn⟩
  · exact ⟨⟨_, p3⟩, .head _, mem_lane (inb := i3) (pos := pos) y h hn⟩

theorem canon4 [∀ e, Nonempty (Val e)] {i0 i1 i2 i3 pos} (T : (⟨2, ![512, 512]⟩ : Shape).Idx → Val e) (h0 h1 h2 h3) :
    View.canon (Val := Val) (s := Blk) (e := e) [⟨lane 512 4 3 i3 pos, extractStridedSlice ⟨2, ![512, 128]⟩ ![0, 384] T h3⟩, ⟨lane 512 4 2 i2 pos, extractStridedSlice ⟨2, ![512, 128]⟩ ![0, 256] T h2⟩,
        ⟨lane 512 4 1 i1 pos, extractStridedSlice ⟨2, ![512, 128]⟩ ![0, 128] T h1⟩, ⟨lane 512 4 0 i0 pos, extractStridedSlice ⟨2, ![512, 128]⟩ ![0, 0] T h0⟩] = heads4 T := by
  funext y
  refine View.canon_apply_of_pieces (heads4 T) _ (fun p hp => ?_) y (cover4 _ _ _ _ y)
  simp only [List.mem_cons, List.not_mem_nil, or_false] at hp
  obtain rfl | rfl | rfl | rfl := hp <;> intro x
  · exact heads4_lane T (k := 3) (by omega) x _ (Nat.zero_add _) (by show 384 + (x 1).val = 128 * 3 + (x 1).val; omega)
  · exact heads4_lane T (k := 2) (by omega) x _ (Nat.zero_add _) (by show 256 + (x 1).val = 128 * 2 + (x 1).val; omega)
  · exact heads4_lane T (k := 1) (by omega) x _ (Nat.zero_add _) (by show 128 + (x 1).val = 128 * 1 + (x 1).val; omega)
  · exact heads4_lane T (k := 0) (by omega) x _ (Nat.zero_add _) (by show 0 + (x 1).val = 128 * 0 + (x 1).val; omega)

theorem cover8 {i0 i1 i2 i3 i4 i5 i6 i7 pos} (p0 p1 p2 p3 p4 p5 p6 p7 : (⟨2, ![256, 128]⟩ : Shape).Idx → Val e) (y : Blk.Idx) :
    ∃ p ∈ ([⟨lane 256 8 7 i7 pos, p7⟩, ⟨lane 256 8 3 i3 pos, p3⟩, ⟨lane 256 8 6 i6 pos, p6⟩, ⟨lane 256 8 2 i2 pos, p2⟩, ⟨lane 256 8 5 i5 pos, p5⟩, ⟨lane 256 8 1 i1 pos, p1⟩, ⟨lane 256 8 4 i4 pos, p4⟩, ⟨lane 256 8 0 i0 pos, p0⟩] : List (View.Piece Val Blk e)), y ∈ p.1.set := by
  have hy : (y 0).val < 2048 := (y 0).isLt
  have hn : (y 0).val / 8 < 256 := by omega
  obtain h | h | h | h | h | h | h | h : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  · exact ⟨⟨_, p0⟩, .tail _ (.tail _ (.tail _ (.tail _ (.tail _ (.tail _ (.tail _ (.head _))))))), mem_lane (inb := i0) (pos := pos) y h hn⟩
  · exact ⟨⟨_, p1⟩, .tail _ (.tail _ (.tail _ (.tail _ (.tail _ (.head _))))), mem_lane (inb := i1) (pos := pos) y h hn⟩
  · exact ⟨⟨_, p2⟩, .tail _ (.tail _ (.tail _ (.head _))), mem_lane (inb := i2) (pos := pos) y h hn⟩
  · exact ⟨⟨_, p3⟩, .tail _ (.head _), mem_lane (inb := i3) (pos := pos) y h hn⟩
  · exact ⟨⟨_, p4⟩, .tail _ (.tail _ (.tail _ (.tail _ (.tail _ (.tail _ (.head _)))))), mem_lane (inb := i4) (pos := pos) y h hn⟩
  · exact ⟨⟨_, p5⟩, .tail _ (.tail _ (.tail _ (.tail _ (.head _)))), mem_lane (inb := i5) (pos := pos) y h hn⟩
  · exact ⟨⟨_, p6⟩, .tail _ (.tail _ (.head _)), mem_lane (inb := i6) (pos := pos) y h hn⟩
  · exact ⟨⟨_, p7⟩, .head _, mem_lane (inb := i7) (pos := pos) y h hn⟩

theorem canon8 [∀ e, Nonempty (Val e)] {i0 i1 i2 i3 i4 i5 i6 i7 pos} (T : (⟨2, ![256, 1024]⟩ : Shape).Idx → Val e) (h0 h1 h2 h3 h4 h5 h6 h7) :
    View.canon (Val := Val) (s := Blk) (e := e)
      [⟨lane 256 8 7 i7 pos, extractStridedSlice ⟨2, ![256, 128]⟩ ![0, 896] T h7⟩, ⟨lane 256 8 3 i3 pos, extractStridedSlice ⟨2, ![256, 128]⟩ ![0, 768] T h6⟩,
       ⟨lane 256 8 6 i6 pos, extractStridedSlice ⟨2, ![256, 128]⟩ ![0, 640] T h5⟩, ⟨lane 256 8 2 i2 pos, extractStridedSlice ⟨2, ![256, 128]⟩ ![0, 512] T h4⟩,
       ⟨lane 256 8 5 i5 pos, extractStridedSlice ⟨2, ![256, 128]⟩ ![0, 384] T h3⟩, ⟨lane 256 8 1 i1 pos, extractStridedSlice ⟨2, ![256, 128]⟩ ![0, 256] T h2⟩,
       ⟨lane 256 8 4 i4 pos, extractStridedSlice ⟨2, ![256, 128]⟩ ![0, 128] T h1⟩, ⟨lane 256 8 0 i0 pos, extractStridedSlice ⟨2, ![256, 128]⟩ ![0, 0] T h0⟩] = heads8 T := by
  funext y
  refine View.canon_apply_of_pieces (heads8 T) _ (fun p hp => ?_) y (cover8 _ _ _ _ _ _ _ _ y)
  simp only [List.mem_cons, List.not_mem_nil, or_false] at hp
  obtain rfl | rfl | rfl | rfl | rfl | rfl | rfl | rfl := hp <;> intro x
  · exact heads8_lane T (k := 7) (by omega) x _ (Nat.zero_add _) (by show 896 + (x 1).val = 256 * (7 % 4) + 128 * (7 / 4) + (x 1).val; omega)
  · exact heads8_lane T (k := 3) (by omega) x _ (Nat.zero_add _) (by show 768 + (x 1).val = 256 * (3 % 4) + 128 * (3 / 4) + (x 1).val; omega)
  · exact heads8_lane T (k := 6) (by omega) x _ (Nat.zero_add _) (by show 640 + (x 1).val = 256 * (6 % 4) + 128 * (6 / 4) + (x 1).val; omega)
  · exact heads8_lane T (k := 2) (by omega) x _ (Nat.zero_add _) (by show 512 + (x 1).val = 256 * (2 % 4) + 128 * (2 / 4) + (x 1).val; omega)
  · exact heads8_lane T (k := 5) (by omega) x _ (Nat.zero_add _) (by show 384 + (x 1).val = 256 * (5 % 4) + 128 * (5 / 4) + (x 1).val; omega)
  · exact heads8_lane T (k := 1) (by omega) x _ (Nat.zero_add _) (by show 256 + (x 1).val = 256 * (1 % 4) + 128 * (1 / 4) + (x 1).val; omega)
  · exact heads8_lane T (k := 4) (by omega) x _ (Nat.zero_add _) (by show 128 + (x 1).val = 256 * (4 % 4) + 128 * (4 / 4) + (x 1).val; omega)
  · exact heads8_lane T (k := 0) (by omega) x _ (Nat.zero_add _) (by show 0 + (x 1).val = 256 * (0 % 4) + 128 * (0 / 4) + (x 1).val; omega)

end

end Cert.Strides

end
-- ==== Proof.ProjIdealFrame.lean ====
/- The input projection kernel's run (`ProjIdeal`): what each output's block holds after the body, the body's triple, the launch. -/
module

public import proofs.«01_k».proof.Proof.Gen.ProjIdeal.Frame
public import proofs.«01_k».proof.Proof.Gen.ProjIdeal.Skeleton
public import proofs.«01_k».proof.Proof.Strides
public import Idealize.ShloMosaic.Lib.Pipeline.FrameBody
public import Idealize.ShloMosaic.Lib.Claim
public import Idealize.ShloMosaic.Lib.Ring
public import Idealize.ShloMosaic.Lib.Exec
public import Idealize.ShloMosaic.Lib.Tactic
public import Idealize.ShloMosaic.Lib.UnfoldOut
public import Idealize.ShloMosaic.Lib.WordCmp

@[expose] public section

set_option maxRecDepth 16384

noncomputable section

namespace Cert.ProjIdeal.Body

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model the run's assertions live in. -/
abbrev Mod (F : FTy → Type) [FloatOps F] := MT nD τ sig Unit (Elt F) ℕ (UR sig nD τ) ℕ

/-- The rows read whole, and the columns of a projection. -/
abbrev rx (x0 : Vec F S512x1024 .f32) : Vec F S512x1024 .f32 := View.ld x0 (Rect.unit (s := S512x1024) ![0, 0] S512x1024.size inb_S512x1024_S512x1024_0_0)
abbrev rg (x1 : Vec F S1x1024 .f32) : Vec F S1x1024 .f32 := View.ld x1 (Rect.unit (s := S1x1024) ![0, 0] S1x1024.size inb_S1x1024_S1x1024_0_0)
abbrev cols0 (x2 : Vec F S1024x2560 .bf16) : Vec F S1024x512 .bf16 := View.ld x2 (Rect.unit (s := S1024x2560) ![0, 0] S1024x512.size inb_S1024x2560_S1024x512_0_0)
abbrev cols1 (x2 : Vec F S1024x2560 .bf16) : Vec F S1024x512 .bf16 := View.ld x2 (Rect.unit (s := S1024x2560) ![0, 512] S1024x512.size inb_S1024x2560_S1024x512_0_512)
abbrev cols2 (x2 : Vec F S1024x2560 .bf16) : Vec F S1024x512 .bf16 := View.ld x2 (Rect.unit (s := S1024x2560) ![0, 1024] S1024x512.size inb_S1024x2560_S1024x512_0_1024)
abbrev cols3 (x2 : Vec F S1024x2560 .bf16) : Vec F S1024x512 .bf16 := View.ld x2 (Rect.unit (s := S1024x2560) ![0, 1536] S1024x512.size inb_S1024x2560_S1024x512_0_1536)
abbrev cols4 (x2 : Vec F S1024x2560 .bf16) : Vec F S1024x512 .bf16 := View.ld x2 (Rect.unit (s := S1024x2560) ![0, 2048] S1024x512.size inb_S1024x2560_S1024x512_0_2048)

/-- Window 3's block after the body. -/
def out3 (x0 : Vec F S512x1024 .f32) (x1 : Vec F S1x1024 .f32) (x2 : Vec F S1024x2560 .bf16) : Vec F S2048x128 .f32 := Strides.heads4 (k0_pay11 (rx x0) (rg x1) (cols1 x2))
/-- Window 4's block after the body. -/
def out4 (x0 : Vec F S512x1024 .f32) (x1 : Vec F S1x1024 .f32) (x2 : Vec F S1024x2560 .bf16) : Vec F S2048x128 .f32 := Strides.heads4 (k0_pay2 (k0_pay9 (rx x0) (rg x1)) (cols2 x2))
/-- Window 5's block after the body. -/
def out5 (x0 : Vec F S512x1024 .f32) (x1 : Vec F S1x1024 .f32) (x2 : Vec F S1024x2560 .bf16) : Vec F S512x512 .f32 := k0_pay8 (k0_pay9 (rx x0) (rg x1)) (cols3 x2) (cols4 x2)
/-- Window 6's block after the body. -/
def out6 (x0 : Vec F S512x1024 .f32) (x1 : Vec F S1x1024 .f32) (x2 : Vec F S1024x2560 .bf16) : Vec F S512x512 .bf16 := k0_pay10 (rx x0) (rg x1) (cols0 x2)
/-- Window 7's block after the body. -/
def out7 (x0 : Vec F S512x1024 .f32) (x1 : Vec F S1x1024 .f32) (x2 : Vec F S1024x2560 .bf16) : Vec F S512x512 .bf16 := k0_pay1 (k0_pay11 (rx x0) (rg x1) (cols1 x2))
/-- Window 8's block after the body. -/
def out8 (x0 : Vec F S512x1024 .f32) (x1 : Vec F S1x1024 .f32) (x2 : Vec F S1024x2560 .bf16) : Vec F S512x512 .bf16 := k0_pay7 (k0_pay9 (rx x0) (rg x1)) (cols2 x2)

set_option maxHeartbeats 1000000 in
/-- The body on whole staging buffers: the inputs stay, each output ends at its block. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole)
    (x0 : Vec F S512x1024 .f32) (x1 : Vec F S1x1024 .f32) (x2 : Vec F S1024x2560 .bf16) (K : PUnit → sProp (Mod F)) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2) ∗ owns (c : Thread nD τ) arg5 fullShare (out4 x0 x1 x2) ∗ owns (c : Thread nD τ) arg6 fullShare (out5 x0 x1 x2) ∗ owns (c : Thread nD τ) arg7 fullShare (out6 x0 x1 x2) ∗ owns (c : Thread nD τ) arg8 fullShare (out7 x0 x1 x2) ∗ owns (c : Thread nD τ) arg9 fullShare (out8 x0 x1 x2)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (Strides.cover4 _ _ _ _)).trans ?_
    exact Strides.canon4 (Val := Elt F) (e := .f32) (k0_pay11 (rx (arg1.view.read (Elt F) f0)) (rg (arg2.view.read (Elt F) f1)) (cols1 (arg3.view.read (Elt F) f2))) slices_S512x512_o0_0_S512x128 slices_S512x512_o0_128_S512x128 slices_S512x512_o0_256_S512x128 slices_S512x512_o0_384_S512x128
  isplitl [H4]
  · iexists _; isplitr
    swap; · iexact H4
    ipureintro
    refine (View.read_writes_eq_canon _ _ _ (Strides.cover4 _ _ _ _)).trans ?_
    exact Strides.canon4 (Val := Elt F) (e := .f32) (k0_pay2 (k0_pay9 (rx (arg1.view.read (Elt F) f0)) (rg (arg2.view.read (Elt F) f1))) (cols2 (arg3.view.read (Elt F) f2))) slices_S512x512_o0_0_S512x128 slices_S512x512_o0_128_S512x128 slices_S512x512_o0_256_S512x128 slices_S512x512_o0_384_S512x128
  isplitl [H5]
  · iexists _; isplitr
    swap; · iexact H5
    ipureintro
    refine (View.read_writes_eq_canon _ _ _ (View.cover_of_tiled _ S512x512.size (by rfl))).trans ?_
    exact View.canon_unit_zero Strides.off2 _ _
  isplitl [H6]
  · iexists _; isplitr
    swap; · iexact H6
    ipureintro
    refine (View.read_writes_eq_canon _ _ _ (View.cover_of_tiled _ S512x512.size (by rfl))).trans ?_
    exact View.canon_unit_zero Strides.off2 _ _
  isplitl [H7]
  · iexists _; isplitr
    swap; · iexact H7
    ipureintro
    refine (View.read_writes_eq_canon _ _ _ (View.cover_of_tiled _ S512x512.size (by rfl))).trans ?_
    exact View.canon_unit_zero Strides.off2 _ _
  iexists _; isplitr
  swap; · iexact H8
  ipureintro
  refine (View.read_writes_eq_canon _ _ _ (View.cover_of_tiled _ S512x512.size (by rfl))).trans ?_
  exact View.canon_unit_zero Strides.off2 _ _

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
    | ⟨4, _⟩ => out4 (iblk m c 0 t) (iblk m c 1 t) (iblk m c 2 t)
    | ⟨5, _⟩ => out5 (iblk m c 0 t) (iblk m c 1 t) (iblk m c 2 t)
    | ⟨6, _⟩ => out6 (iblk m c 0 t) (iblk m c 1 t) (iblk m c 2 t)
    | ⟨7, _⟩ => out7 (iblk m c 0 t) (iblk m c 1 t) (iblk m c 2 t)
    | ⟨8, _⟩ => out8 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 t) (iblk m c 1 t) (iblk m c 2 t) := by dsimp only [dats]
theorem after0_4 (c : Dev nD) (t : Fin cfg0.N) : (dats m 0 c).after 4 t = out4 (iblk m c 0 t) (iblk m c 1 t) (iblk m c 2 t) := by dsimp only [dats]
theorem after0_5 (c : Dev nD) (t : Fin cfg0.N) : (dats m 0 c).after 5 t = out5 (iblk m c 0 t) (iblk m c 1 t) (iblk m c 2 t) := by dsimp only [dats]
theorem after0_6 (c : Dev nD) (t : Fin cfg0.N) : (dats m 0 c).after 6 t = out6 (iblk m c 0 t) (iblk m c 1 t) (iblk m c 2 t) := by dsimp only [dats]
theorem after0_7 (c : Dev nD) (t : Fin cfg0.N) : (dats m 0 c).after 7 t = out7 (iblk m c 0 t) (iblk m c 1 t) (iblk m c 2 t) := by dsimp only [dats]
theorem after0_8 (c : Dev nD) (t : Fin cfg0.N) : (dats m 0 c).after 8 t = out8 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, and what it returns. -/
def bodyPre (c : Dev nD) (t : Fin cfg0.N) : sProp (Mod F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp (Mod F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the implicit arguments are found in a metavariable's type
set_option backward.isDefEq.respectTransparency.types false in
set_option maxHeartbeats 800000 in
/-- The launch: every array ends at what the library computes from the proof data, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.ProjIdeal.Body

end
-- ==== Proof.ProjValue.lean ====
/- What the input projection kernel (`ProjIdeal`) leaves in its arrays, entry by entry, next to the entries of its reference: the
   normed rows times the weights, the keys and values head by head, the mixing input gated, the queries scaled. -/
module

public import proofs.«01_k».proof.Proof.ProjIdealFrame
public import proofs.«01_k».proof.Proof.Gen.ProjRefIdeal.Read
public import proofs.«01_k».proof.Proof.Rows
public import Idealize.ShloMosaic.Lib.Pipeline.ValueKit.Geometry
public import Idealize.ShloMosaic.Lib.Pipeline.ValueKit.Tiles

@[expose] public section

set_option maxRecDepth 16384

noncomputable section

namespace Cert.ProjIdeal.Entries

open Idealize.ShloMosaic
open Idealize.ShloMosaic.ValueIdx Cert.ProjIdeal Cert.ProjIdeal.Gen Cert.ProjIdeal.Body Cert.Rows Idealize.ShloMosaic.TcCoe Idealize.SL.Sem
open scoped BigOperators

/-! ## The blocks of the body -/

section Blocks

variable (x0 : Vec Ideal S512x1024 .f32) (x1 : Vec Ideal S1x1024 .f32) (x2 : Vec Ideal S1024x2560 .bf16)

theorem rx_eq : rx x0 = x0 := View.ld_unit_zero Strides.off2 _ _
theorem rg_eq : rg x1 = x1 := View.ld_unit_zero Strides.off2 _ _

theorem cols_apply (o : ℕ) (ho : o + 512 ≤ 2560) (inb) (k : Fin 1024) (c : Fin 512) :
    View.ld x2 (Rect.unit (s := S1024x2560) ![0, o] S1024x512.size inb) (ix2 k c) = x2 (ix2 k (⟨o + c.val, by omega⟩ : Fin 2560)) := by
  refine congrArg x2 (funext fun a => Fin.ext ?_)
  match a with
  | ⟨0, _⟩ => show 0 + 1 * k.val = k.val; omega
  | ⟨1, _⟩ => show o + 1 * c.val = o + c.val; omega

theorem normed_apply (r : Fin 512) (k : Fin 1024) :
    k0_pay9 (F := Ideal) (rx x0) (rg x1) (ix2 r k) = normed (fun k => x0 (ix2 r k)) (fun k => x1 (ix2 (0 : Fin 1) k)) k := by
  rw [rx_eq, rg_eq]
  exact norm_apply x0 x1 _ _ _ _ bitsLt_bf16_f32 (by decide) r k

/-- A product of the normed rows with 512 of the weights' columns. -/
theorem part_apply (o : ℕ) (ho : o + 512 ≤ 2560) (inb) (r c : Fin 512) :
    matmul (φ₁ := .bf16) (φ₂ := .bf16) dot_S512x1024_S1024x512_S512x512_1_0_0_1_n_n none (k0_pay9 (F := Ideal) (rx x0) (rg x1))
      (View.ld x2 (Rect.unit (s := S1024x2560) ![0, o] S1024x512.size inb)) (constant S512x512 .f32 0x00000000#32) (ix2 r c)
      = proj x0 x1 x2 r (⟨o + c.val, by omega⟩ : Fin 2560) :=
  (product_apply _ _ r c).trans (Finset.sum_congr rfl fun k _ => congrArg₂ (· * ·) (normed_apply x0 x1 r k) (cols_apply x2 o ho inb k c))

theorem out3_apply (r : Fin 2048) (d : Fin 128) : out3 x0 x1 x2 (ix2 r d)
    = proj x0 x1 x2 (⟨r.val / 4, by omega⟩ : Fin 512) (⟨512 + (128 * (r.val % 4) + d.val), by omega⟩ : Fin 2560) :=
  part_apply x0 x1 x2 512 (by decide) _ (⟨r.val / 4, by omega⟩ : Fin 512) (⟨128 * (r.val % 4) + d.val, by omega⟩ : Fin 512)
theorem out4_apply (r : Fin 2048) (d : Fin 128) : out4 x0 x1 x2 (ix2 r d)
    = proj x0 x1 x2 (⟨r.val / 4, by omega⟩ : Fin 512) (⟨1024 + (128 * (r.val % 4) + d.val), by omega⟩ : Fin 2560) :=
  part_apply x0 x1 x2 1024 (by decide) _ (⟨r.val / 4, by omega⟩ : Fin 512) (⟨128 * (r.val % 4) + d.val, by omega⟩ : Fin 512)
theorem out5_apply (r c : Fin 512) : out5 x0 x1 x2 (ix2 r c)
    = proj x0 x1 x2 r (⟨1536 + c.val, by omega⟩ : Fin 2560) * Ideal.logistic (proj x0 x1 x2 r (⟨2048 + c.val, by omega⟩ : Fin 2560)) :=
  congrArg₂ (· * ·) (part_apply x0 x1 x2 1536 (by decide) _ r c) (congrArg Ideal.logistic (part_apply x0 x1 x2 2048 (by decide) _ r c))
theorem out6_apply (r c : Fin 512) : out6 x0 x1 x2 (ix2 r c)
    = proj x0 x1 x2 r (⟨0 + c.val, by omega⟩ : Fin 2560) * Ideal.ofBits .f32 0x3E000000#32 :=
  congrArg (· * Ideal.ofBits .f32 0x3E000000#32) (part_apply x0 x1 x2 0 (by decide) _ r c)
theorem out7_apply (r c : Fin 512) : out7 x0 x1 x2 (ix2 r c) = proj x0 x1 x2 r (⟨512 + c.val, by omega⟩ : Fin 2560) :=
  part_apply x0 x1 x2 512 (by decide) _ r c
theorem out8_apply (r c : Fin 512) : out8 x0 x1 x2 (ix2 r c) = proj x0 x1 x2 r (⟨1024 + c.val, by omega⟩ : Fin 2560) :=
  part_apply x0 x1 x2 1024 (by decide) _ r c

end Blocks

/-! ## The entries of the reference -/

section Reference

open Cert.ProjRefIdeal.Read

variable (X : (⟨S65536x1024, .f32⟩ : BufTy).Contents (Elt Ideal)) (G : (⟨S1x1024, .f32⟩ : BufTy).Contents (Elt Ideal)) (W : (⟨S1024x2560, .bf16⟩ : BufTy).Contents (Elt Ideal))

theorem ref_scale (r : Fin 65536) (u : Fin 1) : val_main_v7 (F := Ideal) X (ix2 r u) = scaleOf (fun k => X (ix2 r k)) := by
  rw [val_main_v7_apply, val_main_v6_apply, val_main_v4_apply, val_main_v2_apply, val_main_v1_apply, val_main_v3_apply, val_main_v5_apply,
    val_main_cst_apply, val_main_cst_0_apply, val_main_cst_1_apply]
  refine congrArg (fun s : EReal => Ideal.rsqrt (Ideal.div s _ + _)) ?_
  rw [show (FloatOps.ofBits .f32 0x00000000#32 : Ideal .f32) = (0 : EReal) from Ideal.ofBits_zero_f32]
  refine (zero_add _).trans (Finset.sum_congr rfl fun k _ => ?_)
  rw [val_main_v0_apply]
  exact congrArg (fun i => X i * X i) (funext fun a => by match a with | ⟨0, _⟩ => rfl | ⟨1, _⟩ => rfl)

theorem ref_normed (r : Fin 65536) (k : Fin 1024) : val_main_v11 (F := Ideal) X G (ix2 r k)
    = normed (fun k => X (ix2 r k)) (fun k => G (ix2 (0 : Fin 1) k)) k := by
  rw [val_main_v11_apply, val_main_v9_apply, val_main_v8_apply, val_main_v10_apply]
  refine congrArg₂ (· * ·) (congrArg (X (ix2 r k) * ·) ((congrArg (val_main_v7 (F := Ideal) X) ?_).trans (ref_scale X r 0))) (congrArg G ?_)
  · funext a; match a with | ⟨0, _⟩ => rfl | ⟨1, _⟩ => rfl
  · funext a; match a with | ⟨0, _⟩ => rfl | ⟨1, _⟩ => rfl

theorem ref_product (r : Fin 65536) (c : Fin 2560) (i : Cert.ProjRefIdeal.S65536x2560.Idx) (h0 : (i 0).val = r.val) (h1 : (i 1).val = c.val) :
    val_main_v13 (F := Ideal) X G W i = proj X G W r c := by
  obtain rfl : i = ix2 r c := funext fun a => Fin.ext (by match a with | ⟨0, _⟩ => exact h0 | ⟨1, _⟩ => exact h1)
  rw [val_main_v13_apply]
  refine Finset.sum_congr rfl fun k _ => congrArg₂ (· * ·) (Eq.trans ?_ (ref_normed X G r k)) ?_
  · exact congrArg _ (funext fun a => by match a with | ⟨0, _⟩ => rfl | ⟨1, _⟩ => rfl)
  · rw [val_main_v12_apply]
    exact congrArg W (funext fun a => by match a with | ⟨0, _⟩ => rfl | ⟨1, _⟩ => rfl)

theorem ref_k (b : Fin 32) (n : Fin 2048) (h : Fin 4) (e : Fin 128) : val_main_v29 (F := Ideal) X G W (ix4 b n h e)
    = proj X G W (⟨2048 * b.val + n.val, by omega⟩ : Fin 65536) (⟨512 + (128 * h.val + e.val), by omega⟩ : Fin 2560) := by
  rw [val_main_v29_apply, val_main_v15_apply]
  refine ref_product X G W _ _ _ ?_ ?_
  · show (((b.val * 2048 + n.val) * 4 + h.val) * 128 + e.val) / 512 = 2048 * b.val + n.val
    omega
  · show 512 + (((b.val * 2048 + n.val) * 4 + h.val) * 128 + e.val) % 512 = 512 + (128 * h.val + e.val)
    omega
theorem ref_v (b : Fin 32) (n : Fin 2048) (h : Fin 4) (e : Fin 128) : val_main_v30 (F := Ideal) X G W (ix4 b n h e)
    = proj X G W (⟨2048 * b.val + n.val, by omega⟩ : Fin 65536) (⟨1024 + (128 * h.val + e.val), by omega⟩ : Fin 2560) := by
  rw [val_main_v30_apply, val_main_v16_apply]
  refine ref_product X G W _ _ _ ?_ ?_
  · show (((b.val * 2048 + n.val) * 4 + h.val) * 128 + e.val) / 512 = 2048 * b.val + n.val
    omega
  · show 1024 + (((b.val * 2048 + n.val) * 4 + h.val) * 128 + e.val) % 512 = 1024 + (128 * h.val + e.val)
    omega
theorem ref_u (r : Fin 65536) (c e : Fin 2560) (i : S65536x512.Idx) (h0 : (i 0).val = r.val) (h1 : 1536 + (i 1).val = c.val) (h2 : 2048 + (i 1).val = e.val) :
    val_main_v26 (F := Ideal) X G W i = proj X G W r c * Ideal.logistic (proj X G W r e) := by
  have a : val_main_v18 (F := Ideal) X G W i = proj X G W r c := by
    rw [val_main_v18_apply, val_main_v17_apply]
    exact ref_product X G W r c _ h0 h1
  have b : val_main_v19 (F := Ideal) X G W i = proj X G W r e := by
    rw [val_main_v19_apply, val_main_v17_apply]
    refine ref_product X G W r e _ h0 ?_
    show 1536 + (512 + (i 1).val) = e.val; omega
  rw [val_main_v26_apply, val_main_v25_apply, val_main_v24_apply, val_main_cst_3_apply, val_main_v23_apply, val_main_v22_apply,
    val_main_cst_2_apply, val_main_v21_apply, val_main_v20_apply, a, b]
  unfold Ideal.logistic
  rw [show (FloatOps.ofBits .f32 0x3F800000#32 : Ideal .f32) = (1 : EReal) from Ideal.ofBits_one_f32]
  rfl
theorem ref_q (r : Fin 65536) (c : Fin 2560) (i : S65536x512.Idx) (h0 : (i 0).val = r.val) (h1 : 0 + (i 1).val = c.val) :
    val_main_v33 (F := Ideal) X G W i = proj X G W r c * Ideal.ofBits .f32 0x3E000000#32 := by
  rw [val_main_v33_apply, val_main_v28_apply, val_main_v27_apply, val_main_cst_4_apply, val_main_v14_apply]
  refine congrArg (· * Ideal.ofBits .f32 0x3E000000#32) (ref_product X G W r c _ h0 ?_)
  show (i 1).val = c.val; omega
theorem ref_kb (r : Fin 65536) (c : Fin 2560) (i : S65536x512.Idx) (h0 : (i 0).val = r.val) (h1 : 512 + (i 1).val = c.val) :
    val_main_v34 (F := Ideal) X G W i = proj X G W r c := by
  rw [val_main_v34_apply, val_main_v15_apply]
  exact ref_product X G W r c _ h0 h1
theorem ref_vb (r : Fin 65536) (c : Fin 2560) (i : S65536x512.Idx) (h0 : (i 0).val = r.val) (h1 : 1024 + (i 1).val = c.val) :
    val_main_v35 (F := Ideal) X G W i = proj X G W r c := by
  rw [val_main_v35_apply, val_main_v16_apply]
  exact ref_product X G W r c _ h0 h1

end Reference

/-! ## The arrays the run leaves -/

variable (m : (ℓ : Loc nD τ sig) → Buf (Elt Ideal) ℓ)

/-- The three arguments. -/
abbrev xs (c : Dev nD) : (⟨S65536x1024, .f32⟩ : BufTy).Contents (Elt Ideal) := m ((c : Thread nD τ).loc main_arg0)
abbrev gs (c : Dev nD) : (⟨S1x1024, .f32⟩ : BufTy).Contents (Elt Ideal) := m ((c : Thread nD τ).loc main_arg1)
abbrev ws (c : Dev nD) : (⟨S1024x2560, .bf16⟩ : BufTy).Contents (Elt Ideal) := m ((c : Thread nD τ).loc main_arg2)

theorem idx0 : ∀ t : Fin cfg0.N, win0_0.index t = ![(grid0.coords t 0).val, 0] := (by decide +kernel : ∀ t : Fin grid0.N, win0_0.index t = ![(grid0.coords t 0).val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![(grid0.coords t 0).val, 0] := (by decide +kernel : ∀ t : Fin grid0.N, win0_3.index t = ![(grid0.coords t 0).val, 0])
theorem idx4 : ∀ t : Fin cfg0.N, win0_4.index t = ![(grid0.coords t 0).val, 0] := (by decide +kernel : ∀ t : Fin grid0.N, win0_4.index t = ![(grid0.coords t 0).val, 0])
theorem idx5 : ∀ t : Fin cfg0.N, win0_5.index t = ![(grid0.coords t 0).val, 0] := (by decide +kernel : ∀ t : Fin grid0.N, win0_5.index t = ![(grid0.coords t 0).val, 0])
theorem idx6 : ∀ t : Fin cfg0.N, win0_6.index t = ![(grid0.coords t 0).val, 0] := (by decide +kernel : ∀ t : Fin grid0.N, win0_6.index t = ![(grid0.coords t 0).val, 0])
theorem idx7 : ∀ t : Fin cfg0.N, win0_7.index t = ![(grid0.coords t 0).val, 0] := (by decide +kernel : ∀ t : Fin grid0.N, win0_7.index t = ![(grid0.coords t 0).val, 0])
theorem idx8 : ∀ t : Fin cfg0.N, win0_8.index t = ![(grid0.coords t 0).val, 0] := (by decide +kernel : ∀ t : Fin grid0.N, win0_8.index t = ![(grid0.coords t 0).val, 0])

theorem blk0 (c : Dev nD) (t : Fin cfg0.N) (r : Fin 512) (k : Fin 1024) (R : Fin 65536) (h : 512 * (grid0.coords t 0).val + r.val = R.val) :
    iblk m c 0 t (ix2 r k) = xs m c (ix2 R k) := by
  blk_simp [iblk]
  refine congrArg (xs m c) ?_
  blk_ext [idx0]
  exact (congrArg (fun z => z + _) (Nat.mul_comm _ _)).trans h
theorem blk1 (c : Dev nD) (t : Fin cfg0.N) : iblk m c 1 t = gs m c := by funext y; blk_simp [iblk]; congr 1; blk_ext [idx1]
theorem blk2 (c : Dev nD) (t : Fin cfg0.N) : iblk m c 2 t = ws m c := by funext y; blk_simp [iblk]; congr 1; blk_ext [idx2]

/-- A block's product is the array's. -/
theorem proj_blk (c : Dev nD) (t : Fin cfg0.N) (r : Fin 512) (e : Fin 2560) (R : Fin 65536) (h : 512 * (grid0.coords t 0).val + r.val = R.val) :
    proj (iblk m c 0 t) (gs m c) (ws m c) r e = proj (xs m c) (gs m c) (ws m c) R e := by
  unfold proj
  rw [show (fun k => iblk m c 0 t (ix2 r k)) = fun k => xs m c (ix2 R k) from funext fun k => blk0 m c t r k R h]

theorem rowOf (t : Fin cfg0.N) (r : Fin 512) : 512 * (grid0.coords t 0).val + r.val < 65536 := by
  have h : (grid0.coords t 0).val < 128 := (grid0.coords t 0).isLt
  omega

/-- The columns from `o` on as the kernel's strided stores leave them: four rows of 128 lanes a row, a head a row. -/
def byHead (o : ℕ) (ho : o ≤ 2048) (X : (⟨S65536x1024, .f32⟩ : BufTy).Contents (Elt Ideal)) (G : (⟨S1x1024, .f32⟩ : BufTy).Contents (Elt Ideal))
    (W : (⟨S1024x2560, .bf16⟩ : BufTy).Contents (Elt Ideal)) : (⟨S262144x128, .f32⟩ : BufTy).Contents (Elt Ideal) := fun i =>
  proj X G W (⟨(i 0).val / 4, by have : (i 0).val < 262144 := (i 0).isLt; omega⟩ : Fin 65536)
    (⟨o + (128 * ((i 0).val % 4) + (i 1).val), by have : (i 1).val < 128 := (i 1).isLt; omega⟩ : Fin 2560)

theorem byHead_apply (o : ℕ) (ho : o ≤ 2048) (X G W) (r : Fin 65536) (c : Fin 2560) (i : S262144x128.Idx) (h0 : (i 0).val / 4 = r.val)
    (h1 : o + (128 * ((i 0).val % 4) + (i 1).val) = c.val) : byHead o ho X G W i = proj X G W r c :=
  congrArg₂ (proj X G W) (Fin.ext h0) (Fin.ext h1)

theorem final3 (c : Dev nD) : (dats m 0 c).arrAt 3 cfg0.N = byHead 512 (by decide) (xs m c) (gs m c) (ws m c) := by
  refine (dats m 0 c).arrAt_eq_of_covers 3 _ (by decide +kernel) fun t hf y => ?_
  obtain ⟨r, d, rfl⟩ : ∃ (r : Fin 2048) (d : Fin 128), y = ix2 r d := ⟨y 0, y 1, by funext a; fin_cases a <;> rfl⟩
  blk_simp
  rw [after0_3, blk1, blk2]
  refine (out3_apply _ _ _ r d).trans ((proj_blk m c t _ _ ⟨_, rowOf t ⟨r.val / 4, by omega⟩⟩ rfl).trans (byHead_apply _ _ _ _ _ _ _ _ ?_ ?_).symm)
  · blk_simp [idx3]
    show ((grid0.coords t 0).val * 2048 + r.val) / 4 = 512 * (grid0.coords t 0).val + r.val / 4
    omega
  · blk_simp [idx3]
    show 512 + (128 * (((grid0.coords t 0).val * 2048 + r.val) % 4) + d.val) = 512 + (128 * (r.val % 4) + d.val)
    omega

theorem final4 (c : Dev nD) : (dats m 0 c).arrAt 4 cfg0.N = byHead 1024 (by decide) (xs m c) (gs m c) (ws m c) := by
  refine (dats m 0 c).arrAt_eq_of_covers 4 _ (by decide +kernel) fun t hf y => ?_
  obtain ⟨r, d, rfl⟩ : ∃ (r : Fin 2048) (d : Fin 128), y = ix2 r d := ⟨y 0, y 1, by funext a; fin_cases a <;> rfl⟩
  blk_simp
  rw [after0_4, blk1, blk2]
  refine (out4_apply _ _ _ r d).trans ((proj_blk m c t _ _ ⟨_, rowOf t ⟨r.val / 4, by omega⟩⟩ rfl).trans (byHead_apply _ _ _ _ _ _ _ _ ?_ ?_).symm)
  · blk_simp [idx4]
    show ((grid0.coords t 0).val * 2048 + r.val) / 4 = 512 * (grid0.coords t 0).val + r.val / 4
    omega
  · blk_simp [idx4]
    show 1024 + (128 * (((grid0.coords t 0).val * 2048 + r.val) % 4) + d.val) = 1024 + (128 * (r.val % 4) + d.val)
    omega

theorem final5 (c : Dev nD) : (dats m 0 c).arrAt 5 cfg0.N = Cert.ProjRefIdeal.Read.val_main_v26 (F := Ideal) (xs m c) (gs m c) (ws m c) := by
  refine (dats m 0 c).arrAt_eq_of_covers 5 _ (by decide +kernel) fun t hf y => ?_
  obtain ⟨r, d, rfl⟩ : ∃ (r : Fin 512) (d : Fin 512), y = ix2 r d := ⟨y 0, y 1, by funext a; fin_cases a <;> rfl⟩
  blk_simp
  rw [after0_5, blk1, blk2]
  refine (out5_apply _ _ _ r d).trans ((congrArg₂ (fun a b : EReal => a * Ideal.logistic b) (proj_blk m c t r _ ⟨_, rowOf t r⟩ rfl) (proj_blk m c t r _ ⟨_, rowOf t r⟩ rfl)).trans (ref_u (xs m c) (gs m c) (ws m c) _ _ _ _ ?_ ?_ ?_ ).symm)
  · blk_simp [idx5]
    show (grid0.coords t 0).val * 512 + r.val = 512 * (grid0.coords t 0).val + r.val
    omega
  · blk_simp [idx5]
  · blk_simp [idx5]

theorem final6 (c : Dev nD) : (dats m 0 c).arrAt 6 cfg0.N = Cert.ProjRefIdeal.Read.val_main_v33 (F := Ideal) (xs m c) (gs m c) (ws m c) := by
  refine (dats m 0 c).arrAt_eq_of_covers 6 _ (by decide +kernel) fun t hf y => ?_
  obtain ⟨r, d, rfl⟩ : ∃ (r : Fin 512) (d : Fin 512), y = ix2 r d := ⟨y 0, y 1, by funext a; fin_cases a <;> rfl⟩
  blk_simp
  rw [after0_6, blk1, blk2]
  refine (out6_apply _ _ _ r d).trans ((congrArg (fun a : EReal => a * Ideal.ofBits .f32 0x3E000000#32) (proj_blk m c t r _ ⟨_, rowOf t r⟩ rfl)).trans (ref_q (xs m c) (gs m c) (ws m c) _ _ _ ?_ ?_ ).symm)
  · blk_simp [idx6]
    show (grid0.coords t 0).val * 512 + r.val = 512 * (grid0.coords t 0).val + r.val
    omega
  · blk_simp [idx6]

theorem final7 (c : Dev nD) : (dats m 0 c).arrAt 7 cfg0.N = Cert.ProjRefIdeal.Read.val_main_v34 (F := Ideal) (xs m c) (gs m c) (ws m c) := by
  refine (dats m 0 c).arrAt_eq_of_covers 7 _ (by decide +kernel) fun t hf y => ?_
  obtain ⟨r, d, rfl⟩ : ∃ (r : Fin 512) (d : Fin 512), y = ix2 r d := ⟨y 0, y 1, by funext a; fin_cases a <;> rfl⟩
  blk_simp
  rw [after0_7, blk1, blk2]
  refine (out7_apply _ _ _ r d).trans ((proj_blk m c t r _ ⟨_, rowOf t r⟩ rfl).trans (ref_kb (xs m c) (gs m c) (ws m c) _ _ _ ?_ ?_ ).symm)
  · blk_simp [idx7]
    show (grid0.coords t 0).val * 512 + r.val = 512 * (grid0.coords t 0).val + r.val
    omega
  · blk_simp [idx7]

theorem final8 (c : Dev nD) : (dats m 0 c).arrAt 8 cfg0.N = Cert.ProjRefIdeal.Read.val_main_v35 (F := Ideal) (xs m c) (gs m c) (ws m c) := by
  refine (dats m 0 c).arrAt_eq_of_covers 8 _ (by decide +kernel) fun t hf y => ?_
  obtain ⟨r, d, rfl⟩ : ∃ (r : Fin 512) (d : Fin 512), y = ix2 r d := ⟨y 0, y 1, by funext a; fin_cases a <;> rfl⟩
  blk_simp
  rw [after0_8, blk1, blk2]
  refine (out8_apply _ _ _ r d).trans ((proj_blk m c t r _ ⟨_, rowOf t r⟩ rfl).trans (ref_vb (xs m c) (gs m c) (ws m c) _ _ _ ?_ ?_ ).symm)
  · blk_simp [idx8]
    show (grid0.coords t 0).val * 512 + r.val = 512 * (grid0.coords t 0).val + r.val
    omega
  · blk_simp [idx8]

/-! ## The operations after the region -/

/-- The host's reshape of a head's rows. -/
theorem heads_apply (A : S262144x128.Idx → EReal) (b : Fin 32) (n : Fin 2048) (h : Fin 4) (e : Fin 128) :
    shapeCast S32x2048x4x128 A shapeCasts_S262144x128_S32x2048x4x128 (ix4 b n h e) = A (ix2 (⟨4 * (2048 * b.val + n.val) + h.val, by omega⟩ : Fin 262144) e) := by
  refine shapeCast_apply _ _ _ _ ?_
  rw [Shape.rowMajor_val_two, Shape.rowMajor_val_four]
  show (4 * (2048 * b.val + n.val) + h.val) * 128 + e.val = ((b.val * 2048 + n.val) * 4 + h.val) * 128 + e.val
  omega

theorem byHead_row (o : ℕ) (ho : o ≤ 2048) (X G W) (b : Fin 32) (n : Fin 2048) (h : Fin 4) (e : Fin 128) :
    byHead o ho X G W (ix2 (⟨4 * (2048 * b.val + n.val) + h.val, by omega⟩ : Fin 262144) e)
      = proj X G W (⟨2048 * b.val + n.val, by omega⟩ : Fin 65536) (⟨o + (128 * h.val + e.val), by omega⟩ : Fin 2560) := by
  refine byHead_apply o ho X G W _ _ _ ?_ ?_
  · show (4 * (2048 * b.val + n.val) + h.val) / 4 = 2048 * b.val + n.val
    omega
  · show o + (128 * ((4 * (2048 * b.val + n.val) + h.val) % 4) + e.val) = o + (128 * h.val + e.val)
    omega

/-- An index by its coordinates. -/
theorem eq_ix4 (j : S32x2048x4x128.Idx) : ∃ (b : Fin 32) (n : Fin 2048) (h : Fin 4) (e : Fin 128), j = ix4 b n h e :=
  ⟨j 0, j 1, j 2, j 3, funext fun a => by match a with | ⟨0, _⟩ => rfl | ⟨1, _⟩ => rfl | ⟨2, _⟩ => rfl | ⟨3, _⟩ => rfl⟩

theorem tail3 (c : Dev nD) : Pipeline.afterTail₀ cfgs (dats m) 0 (V0 m) [hostOps1] c main_v1 = Cert.ProjRefIdeal.Read.val_main_v29 (F := Ideal) (xs m c) (gs m c) (ws m c) := by
  unfold Pipeline.afterTail₀
  show StableHlo.after hostOps1 _ _ = _
  after_results
  have hA : Pipeline.withArrays (cfgs 0).spec c (V0 m c) (fun w => (dats m 0 c).arrAt w (cfgs 0).N) (Proc.tc.devRef main_v0_0) = (dats m 0 c).arrAt 3 cfg0.N :=
    Pipeline.withArrays_arr spec0 launch0.win.arr_inj c _ _ 3
  rw [hA, final3]
  funext j
  obtain ⟨b, n, h, e, rfl⟩ := eq_ix4 j
  exact (heads_apply _ b n h e).trans ((byHead_row _ _ _ _ _ b n h e).trans (ref_k (xs m c) (gs m c) (ws m c) b n h e).symm)
theorem tail4 (c : Dev nD) : Pipeline.afterTail₀ cfgs (dats m) 0 (V0 m) [hostOps1] c main_v2 = Cert.ProjRefIdeal.Read.val_main_v30 (F := Ideal) (xs m c) (gs m c) (ws m c) := by
  unfold Pipeline.afterTail₀
  show StableHlo.after hostOps1 _ _ = _
  after_results
  have hA : Pipeline.withArrays (cfgs 0).spec c (V0 m c) (fun w => (dats m 0 c).arrAt w (cfgs 0).N) (Proc.tc.devRef main_v0_1) = (dats m 0 c).arrAt 4 cfg0.N :=
    Pipeline.withArrays_arr spec0 launch0.win.arr_inj c _ _ 4
  rw [hA, final4]
  funext j
  obtain ⟨b, n, h, e, rfl⟩ := eq_ix4 j
  exact (heads_apply _ b n h e).trans ((byHead_row _ _ _ _ _ b n h e).trans (ref_v (xs m c) (gs m c) (ws m c) b n h e).symm)
/-- The last rows: the same operations on the same array. -/
theorem tail5 (c : Dev nD) : Pipeline.afterTail₀ cfgs (dats m) 0 (V0 m) [hostOps1] c main_v4 = Cert.ProjRefIdeal.Read.val_main_v32 (F := Ideal) (xs m c) (gs m c) (ws m c) := by
  unfold Pipeline.afterTail₀
  show StableHlo.after hostOps1 _ _ = _
  after_results
  have hA : Pipeline.withArrays (cfgs 0).spec c (V0 m c) (fun w => (dats m 0 c).arrAt w (cfgs 0).N) (Proc.tc.devRef main_v0_2) = (dats m 0 c).arrAt 5 cfg0.N :=
    Pipeline.withArrays_arr spec0 launch0.win.arr_inj c _ _ 5
  rw [hA, final5]
  rfl

end Cert.ProjIdeal.Entries

end
-- ==== Proof.ProjAlgebraic.lean ====
/- The input projection kernel (`ProjIdeal`) and its reference end with the same arrays. -/
module

public import proofs.«01_k».proof.Defs
public import proofs.«01_k».proof.Proof.ProjValue
public import proofs.«01_k».proof.Proof.Gen.ProjIdeal
public import proofs.«01_k».proof.Proof.Gen.ProjRefIdeal
public import proofs.«01_k».proof.Proof.Gen.ProjRefIdeal.Run

@[expose] public section

noncomputable section

namespace Cert.ProjIdeal.Entries

open Idealize.ShloMosaic Idealize.SL.Sem Idealize.ShloMosaic.TcCoe Cert.ProjIdeal.Body

/-- **The kernel is the input projections**: the printed program and the plain reference end with the same arrays. -/
theorem algebraic : Cert.algebraic_ProjIdeal_ProjRefIdeal (hProjIdeal := Cert.ProjIdeal.Gen.facts) (hProjRefIdeal := Cert.ProjRefIdeal.Gen.facts) := by
  intro m g m' g' _ hargs
  refine ⟨fun c => Cert.ProjRefIdeal.Read.val_main_v29 (F := Ideal) (xs m c) (gs m c) (ws m c), fun c => Cert.ProjRefIdeal.Read.val_main_v30 (F := Ideal) (xs m c) (gs m c) (ws m c), fun c => Cert.ProjRefIdeal.Read.val_main_v32 (F := Ideal) (xs m c) (gs m c) (ws m c),
    fun c => (dats m 0 c).arrAt 5 Cert.ProjIdeal.cfg0.N, fun c => (dats m 0 c).arrAt 6 Cert.ProjIdeal.cfg0.N, fun c => (dats m 0 c).arrAt 7 Cert.ProjIdeal.cfg0.N, fun c => (dats m 0 c).arrAt 8 Cert.ProjIdeal.cfg0.N, ?_, ?_⟩
  · exact (θ_run _ _ _).mono (fun r hr c => ⟨((hr.1 c).2 _ (by decide +kernel)).trans (tail3 m c), ((hr.1 c).2 _ (by decide +kernel)).trans (tail4 m c),
        ((hr.1 c).2 _ (by decide +kernel)).trans (tail5 m c), (hr.1 c).1 (5 : Fin 9), (hr.1 c).1 (6 : Fin 9), (hr.1 c).1 (7 : Fin 9), (hr.1 c).1 (8 : Fin 9), hr.2 c⟩)
      (θ_run_and (run_main m g) (unchanged m g))
  refine (θ_run _ _ _).mono (fun r hr c => ?_) (Cert.ProjRefIdeal.Value.run m' g')
  obtain ⟨h3, h4, hs, h5, h6, h7, h8, hk⟩ := hr c
  obtain ⟨e0, e1, e2⟩ := hargs c
  refine ⟨h3.trans ?_, h4.trans ?_, hs.trans ?_, h5.trans ?_, h6.trans ?_, h7.trans ?_, h8.trans ?_, hk⟩
  · rw [Cert.ProjRefIdeal.Read.val_main_v29_eq, e0, e1, e2]
  · rw [Cert.ProjRefIdeal.Read.val_main_v30_eq, e0, e1, e2]
  · rw [Cert.ProjRefIdeal.Read.val_main_v32_eq, e0, e1, e2]
  · rw [Cert.ProjRefIdeal.Read.val_main_v26_eq, e0, e1, e2]; exact (final5 m c).symm
  · rw [Cert.ProjRefIdeal.Read.val_main_v33_eq, e0, e1, e2]; exact (final6 m c).symm
  · rw [Cert.ProjRefIdeal.Read.val_main_v34_eq, e0, e1, e2]; exact (final7 m c).symm
  · rw [Cert.ProjRefIdeal.Read.val_main_v35_eq, e0, e1, e2]; exact (final8 m c).symm

/-- The reference's run leaves its arguments and, having no semaphore, every counter. -/
theorem refFrame : Cert.quiescent_ProjRefIdeal (hProjRefIdeal := Cert.ProjRefIdeal.Gen.facts) := fun m g _ =>
  (θ_run _ _ _).mono (fun r h => ⟨fun c => (h c).2.2.2.2.2.2.2, sem_eq_zero_of_no_sems (by decide) r.2⟩) (Cert.ProjRefIdeal.Value.run m g)

end Cert.ProjIdeal.Entries

end
-- ==== Proof.ProjSIdealFrame.lean ====
/- The input projection kernel's run (`ProjSIdeal`): what each output's block holds after the body, the body's triple, the launch. -/
module

public import proofs.«01_k».proof.Proof.Gen.ProjSIdeal.Frame
public import proofs.«01_k».proof.Proof.Gen.ProjSIdeal.Skeleton
public import proofs.«01_k».proof.Proof.Strides
public import Idealize.ShloMosaic.Lib.Pipeline.FrameBody
public import Idealize.ShloMosaic.Lib.Claim
public import Idealize.ShloMosaic.Lib.Ring
public import Idealize.ShloMosaic.Lib.Exec
public import Idealize.ShloMosaic.Lib.Tactic
public import Idealize.ShloMosaic.Lib.UnfoldOut
public import Idealize.ShloMosaic.Lib.WordCmp

@[expose] public section

set_option maxRecDepth 16384

noncomputable section

namespace Cert.ProjSIdeal.Body

open Cert.ProjSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model the run's assertions live in. -/
abbrev Mod (F : FTy → Type) [FloatOps F] := MT nD τ sig Unit (Elt F) ℕ (UR sig nD τ) ℕ

/-- The rows read whole, and the columns of a projection. -/
abbrev rx (x0 : Vec F S512x1024 .f32) : Vec F S512x1024 .f32 := View.ld x0 (Rect.unit (s := S512x1024) ![0, 0] S512x1024.size inb_S512x1024_S512x1024_0_0)
abbrev rg (x1 : Vec F S1x1024 .f32) : Vec F S1x1024 .f32 := View.ld x1 (Rect.unit (s := S1x1024) ![0, 0] S1x1024.size inb_S1x1024_S1x1024_0_0)
abbrev cols0 (x2 : Vec F S1024x2560 .bf16) : Vec F S1024x512 .bf16 := View.ld x2 (Rect.unit (s := S1024x2560) ![0, 0] S1024x512.size inb_S1024x2560_S1024x512_0_0)
abbrev cols1 (x2 : Vec F S1024x2560 .bf16) : Vec F S1024x512 .bf16 := View.ld x2 (Rect.unit (s := S1024x2560) ![0, 512] S1024x512.size inb_S1024x2560_S1024x512_0_512)
abbrev cols2 (x2 : Vec F S1024x2560 .bf16) : Vec F S1024x512 .bf16 := View.ld x2 (Rect.unit (s := S1024x2560) ![0, 1024] S1024x512.size inb_S1024x2560_S1024x512_0_1024)
abbrev cols3 (x2 : Vec F S1024x2560 .bf16) : Vec F S1024x512 .bf16 := View.ld x2 (Rect.unit (s := S1024x2560) ![0, 1536] S1024x512.size inb_S1024x2560_S1024x512_0_1536)
abbrev cols4 (x2 : Vec F S1024x2560 .bf16) : Vec F S1024x512 .bf16 := View.ld x2 (Rect.unit (s := S1024x2560) ![0, 2048] S1024x512.size inb_S1024x2560_S1024x512_0_2048)

/-- Window 3's block after the body. -/
def out3 (x0 : Vec F S512x1024 .f32) (x1 : Vec F S1x1024 .f32) (x2 : Vec F S1024x2560 .bf16) : Vec F S2048x128 .f32 := Strides.heads4 (k0_pay11 (rx x0) (rg x1) (cols1 x2))
/-- Window 4's block after the body. -/
def out4 (x0 : Vec F S512x1024 .f32) (x1 : Vec F S1x1024 .f32) (x2 : Vec F S1024x2560 .bf16) : Vec F S2048x128 .f32 := Strides.heads4 (k0_pay2 (k0_pay9 (rx x0) (rg x1)) (cols2 x2))
/-- Window 5's block after the body. -/
def out5 (x0 : Vec F S512x1024 .f32) (x1 : Vec F S1x1024 .f32) (x2 : Vec F S1024x2560 .bf16) : Vec F S512x512 .f32 := k0_pay8 (k0_pay9 (rx x0) (rg x1)) (cols3 x2) (cols4 x2)
/-- Window 6's block after the body. -/
def out6 (x0 : Vec F S512x1024 .f32) (x1 : Vec F S1x1024 .f32) (x2 : Vec F S1024x2560 .bf16) : Vec F S512x512 .bf16 := k0_pay10 (rx x0) (rg x1) (cols0 x2)
/-- Window 7's block after the body. -/
def out7 (x0 : Vec F S512x1024 .f32) (x1 : Vec F S1x1024 .f32) (x2 : Vec F S1024x2560 .bf16) : Vec F S512x512 .bf16 := k0_pay1 (k0_pay11 (rx x0) (rg x1) (cols1 x2))
/-- Window 8's block after the body. -/
def out8 (x0 : Vec F S512x1024 .f32) (x1 : Vec F S1x1024 .f32) (x2 : Vec F S1024x2560 .bf16) : Vec F S512x512 .bf16 := k0_pay7 (k0_pay9 (rx x0) (rg x1)) (cols2 x2)

set_option maxHeartbeats 1000000 in
/-- The body on whole staging buffers: the inputs stay, each output ends at its block. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole)
    (x0 : Vec F S512x1024 .f32) (x1 : Vec F S1x1024 .f32) (x2 : Vec F S1024x2560 .bf16) (K : PUnit → sProp (Mod F)) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2) ∗ owns (c : Thread nD τ) arg5 fullShare (out4 x0 x1 x2) ∗ owns (c : Thread nD τ) arg6 fullShare (out5 x0 x1 x2) ∗ owns (c : Thread nD τ) arg7 fullShare (out6 x0 x1 x2) ∗ owns (c : Thread nD τ) arg8 fullShare (out7 x0 x1 x2) ∗ owns (c : Thread nD τ) arg9 fullShare (out8 x0 x1 x2)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (Strides.cover4 _ _ _ _)).trans ?_
    exact Strides.canon4 (Val := Elt F) (e := .f32) (k0_pay11 (rx (arg1.view.read (Elt F) f0)) (rg (arg2.view.read (Elt F) f1)) (cols1 (arg3.view.read (Elt F) f2))) slices_S512x512_o0_0_S512x128 slices_S512x512_o0_128_S512x128 slices_S512x512_o0_256_S512x128 slices_S512x512_o0_384_S512x128
  isplitl [H4]
  · iexists _; isplitr
    swap; · iexact H4
    ipureintro
    refine (View.read_writes_eq_canon _ _ _ (Strides.cover4 _ _ _ _)).trans ?_
    exact Strides.canon4 (Val := Elt F) (e := .f32) (k0_pay2 (k0_pay9 (rx (arg1.view.read (Elt F) f0)) (rg (arg2.view.read (Elt F) f1))) (cols2 (arg3.view.read (Elt F) f2))) slices_S512x512_o0_0_S512x128 slices_S512x512_o0_128_S512x128 slices_S512x512_o0_256_S512x128 slices_S512x512_o0_384_S512x128
  isplitl [H5]
  · iexists _; isplitr
    swap; · iexact H5
    ipureintro
    refine (View.read_writes_eq_canon _ _ _ (View.cover_of_tiled _ S512x512.size (by rfl))).trans ?_
    exact View.canon_unit_zero Strides.off2 _ _
  isplitl [H6]
  · iexists _; isplitr
    swap; · iexact H6
    ipureintro
    refine (View.read_writes_eq_canon _ _ _ (View.cover_of_tiled _ S512x512.size (by rfl))).trans ?_
    exact View.canon_unit_zero Strides.off2 _ _
  isplitl [H7]
  · iexists _; isplitr
    swap; · iexact H7
    ipureintro
    refine (View.read_writes_eq_canon _ _ _ (View.cover_of_tiled _ S512x512.size (by rfl))).trans ?_
    exact View.canon_unit_zero Strides.off2 _ _
  iexists _; isplitr
  swap; · iexact H8
  ipureintro
  refine (View.read_writes_eq_canon _ _ _ (View.cover_of_tiled _ S512x512.size (by rfl))).trans ?_
  exact View.canon_unit_zero Strides.off2 _ _

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
    | ⟨4, _⟩ => out4 (iblk m c 0 t) (iblk m c 1 t) (iblk m c 2 t)
    | ⟨5, _⟩ => out5 (iblk m c 0 t) (iblk m c 1 t) (iblk m c 2 t)
    | ⟨6, _⟩ => out6 (iblk m c 0 t) (iblk m c 1 t) (iblk m c 2 t)
    | ⟨7, _⟩ => out7 (iblk m c 0 t) (iblk m c 1 t) (iblk m c 2 t)
    | ⟨8, _⟩ => out8 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 t) (iblk m c 1 t) (iblk m c 2 t) := by dsimp only [dats]
theorem after0_4 (c : Dev nD) (t : Fin cfg0.N) : (dats m 0 c).after 4 t = out4 (iblk m c 0 t) (iblk m c 1 t) (iblk m c 2 t) := by dsimp only [dats]
theorem after0_5 (c : Dev nD) (t : Fin cfg0.N) : (dats m 0 c).after 5 t = out5 (iblk m c 0 t) (iblk m c 1 t) (iblk m c 2 t) := by dsimp only [dats]
theorem after0_6 (c : Dev nD) (t : Fin cfg0.N) : (dats m 0 c).after 6 t = out6 (iblk m c 0 t) (iblk m c 1 t) (iblk m c 2 t) := by dsimp only [dats]
theorem after0_7 (c : Dev nD) (t : Fin cfg0.N) : (dats m 0 c).after 7 t = out7 (iblk m c 0 t) (iblk m c 1 t) (iblk m c 2 t) := by dsimp only [dats]
theorem after0_8 (c : Dev nD) (t : Fin cfg0.N) : (dats m 0 c).after 8 t = out8 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, and what it returns. -/
def bodyPre (c : Dev nD) (t : Fin cfg0.N) : sProp (Mod F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp (Mod F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the implicit arguments are found in a metavariable's type
set_option backward.isDefEq.respectTransparency.types false in
set_option maxHeartbeats 800000 in
/-- The launch: every array ends at what the library computes from the proof data, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ProjSIdeal.Body

end
-- ==== Proof.ProjSValue.lean ====
/- What the input projection kernel (`ProjSIdeal`) leaves in its arrays, entry by entry, next to the entries of its reference: the
   normed rows times the weights, the keys and values head by head, the mixing input gated, the queries scaled. -/
module

public import proofs.«01_k».proof.Proof.ProjSIdealFrame
public import proofs.«01_k».proof.Proof.Gen.ProjSRefIdeal.Read
public import proofs.«01_k».proof.Proof.Rows
public import Idealize.ShloMosaic.Lib.Pipeline.ValueKit.Geometry
public import Idealize.ShloMosaic.Lib.Pipeline.ValueKit.Tiles

@[expose] public section

set_option maxRecDepth 16384

noncomputable section

namespace Cert.ProjSIdeal.Entries

open Idealize.ShloMosaic
open Idealize.ShloMosaic.ValueIdx Cert.ProjSIdeal Cert.ProjSIdeal.Gen Cert.ProjSIdeal.Body Cert.Rows Idealize.ShloMosaic.TcCoe Idealize.SL.Sem
open scoped BigOperators

/-! ## The blocks of the body -/

section Blocks

variable (x0 : Vec Ideal S512x1024 .f32) (x1 : Vec Ideal S1x1024 .f32) (x2 : Vec Ideal S1024x2560 .bf16)

theorem rx_eq : rx x0 = x0 := View.ld_unit_zero Strides.off2 _ _
theorem rg_eq : rg x1 = x1 := View.ld_unit_zero Strides.off2 _ _

theorem cols_apply (o : ℕ) (ho : o + 512 ≤ 2560) (inb) (k : Fin 1024) (c : Fin 512) :
    View.ld x2 (Rect.unit (s := S1024x2560) ![0, o] S1024x512.size inb) (ix2 k c) = x2 (ix2 k (⟨o + c.val, by omega⟩ : Fin 2560)) := by
  refine congrArg x2 (funext fun a => Fin.ext ?_)
  match a with
  | ⟨0, _⟩ => show 0 + 1 * k.val = k.val; omega
  | ⟨1, _⟩ => show o + 1 * c.val = o + c.val; omega

theorem normed_apply (r : Fin 512) (k : Fin 1024) :
    k0_pay9 (F := Ideal) (rx x0) (rg x1) (ix2 r k) = normed (fun k => x0 (ix2 r k)) (fun k => x1 (ix2 (0 : Fin 1) k)) k := by
  rw [rx_eq, rg_eq]
  exact norm_apply x0 x1 _ _ _ _ bitsLt_bf16_f32 (by decide) r k

/-- A product of the normed rows with 512 of the weights' columns. -/
theorem part_apply (o : ℕ) (ho : o + 512 ≤ 2560) (inb) (r c : Fin 512) :
    matmul (φ₁ := .bf16) (φ₂ := .bf16) dot_S512x1024_S1024x512_S512x512_1_0_0_1_n_n none (k0_pay9 (F := Ideal) (rx x0) (rg x1))
      (View.ld x2 (Rect.unit (s := S1024x2560) ![0, o] S1024x512.size inb)) (constant S512x512 .f32 0x00000000#32) (ix2 r c)
      = proj x0 x1 x2 r (⟨o + c.val, by omega⟩ : Fin 2560) :=
  (product_apply _ _ r c).trans (Finset.sum_congr rfl fun k _ => congrArg₂ (· * ·) (normed_apply x0 x1 r k) (cols_apply x2 o ho inb k c))

theorem out3_apply (r : Fin 2048) (d : Fin 128) : out3 x0 x1 x2 (ix2 r d)
    = proj x0 x1 x2 (⟨r.val / 4, by omega⟩ : Fin 512) (⟨512 + (128 * (r.val % 4) + d.val), by omega⟩ : Fin 2560) :=
  part_apply x0 x1 x2 512 (by decide) _ (⟨r.val / 4, by omega⟩ : Fin 512) (⟨128 * (r.val % 4) + d.val, by omega⟩ : Fin 512)
theorem out4_apply (r : Fin 2048) (d : Fin 128) : out4 x0 x1 x2 (ix2 r d)
    = proj x0 x1 x2 (⟨r.val / 4, by omega⟩ : Fin 512) (⟨1024 + (128 * (r.val % 4) + d.val), by omega⟩ : Fin 2560) :=
  part_apply x0 x1 x2 1024 (by decide) _ (⟨r.val / 4, by omega⟩ : Fin 512) (⟨128 * (r.val % 4) + d.val, by omega⟩ : Fin 512)
theorem out5_apply (r c : Fin 512) : out5 x0 x1 x2 (ix2 r c)
    = proj x0 x1 x2 r (⟨1536 + c.val, by omega⟩ : Fin 2560) * Ideal.logistic (proj x0 x1 x2 r (⟨2048 + c.val, by omega⟩ : Fin 2560)) :=
  congrArg₂ (· * ·) (part_apply x0 x1 x2 1536 (by decide) _ r c) (congrArg Ideal.logistic (part_apply x0 x1 x2 2048 (by decide) _ r c))
theorem out6_apply (r c : Fin 512) : out6 x0 x1 x2 (ix2 r c)
    = proj x0 x1 x2 r (⟨0 + c.val, by omega⟩ : Fin 2560) * Ideal.ofBits .f32 0x3E000000#32 :=
  congrArg (· * Ideal.ofBits .f32 0x3E000000#32) (part_apply x0 x1 x2 0 (by decide) _ r c)
theorem out7_apply (r c : Fin 512) : out7 x0 x1 x2 (ix2 r c) = proj x0 x1 x2 r (⟨512 + c.val, by omega⟩ : Fin 2560) :=
  part_apply x0 x1 x2 512 (by decide) _ r c
theorem out8_apply (r c : Fin 512) : out8 x0 x1 x2 (ix2 r c) = proj x0 x1 x2 r (⟨1024 + c.val, by omega⟩ : Fin 2560) :=
  part_apply x0 x1 x2 1024 (by decide) _ r c

end Blocks

/-! ## The entries of the reference -/

section Reference

open Cert.ProjSRefIdeal.Read

variable (X : (⟨S512x1024, .f32⟩ : BufTy).Contents (Elt Ideal)) (G : (⟨S1x1024, .f32⟩ : BufTy).Contents (Elt Ideal)) (W : (⟨S1024x2560, .bf16⟩ : BufTy).Contents (Elt Ideal))

theorem ref_scale (r : Fin 512) (u : Fin 1) : val_main_v7 (F := Ideal) X (ix2 r u) = scaleOf (fun k => X (ix2 r k)) := by
  rw [val_main_v7_apply, val_main_v6_apply, val_main_v4_apply, val_main_v2_apply, val_main_v1_apply, val_main_v3_apply, val_main_v5_apply,
    val_main_cst_apply, val_main_cst_0_apply, val_main_cst_1_apply]
  refine congrArg (fun s : EReal => Ideal.rsqrt (Ideal.div s _ + _)) ?_
  rw [show (FloatOps.ofBits .f32 0x00000000#32 : Ideal .f32) = (0 : EReal) from Ideal.ofBits_zero_f32]
  refine (zero_add _).trans (Finset.sum_congr rfl fun k _ => ?_)
  rw [val_main_v0_apply]
  exact congrArg (fun i => X i * X i) (funext fun a => by match a with | ⟨0, _⟩ => rfl | ⟨1, _⟩ => rfl)

theorem ref_normed (r : Fin 512) (k : Fin 1024) : val_main_v11 (F := Ideal) X G (ix2 r k)
    = normed (fun k => X (ix2 r k)) (fun k => G (ix2 (0 : Fin 1) k)) k := by
  rw [val_main_v11_apply, val_main_v9_apply, val_main_v8_apply, val_main_v10_apply]
  refine congrArg₂ (· * ·) (congrArg (X (ix2 r k) * ·) ((congrArg (val_main_v7 (F := Ideal) X) ?_).trans (ref_scale X r 0))) (congrArg G ?_)
  · funext a; match a with | ⟨0, _⟩ => rfl | ⟨1, _⟩ => rfl
  · funext a; match a with | ⟨0, _⟩ => rfl | ⟨1, _⟩ => rfl

theorem ref_product (r : Fin 512) (c : Fin 2560) (i : Cert.ProjSRefIdeal.S512x2560.Idx) (h0 : (i 0).val = r.val) (h1 : (i 1).val = c.val) :
    val_main_v13 (F := Ideal) X G W i = proj X G W r c := by
  obtain rfl : i = ix2 r c := funext fun a => Fin.ext (by match a with | ⟨0, _⟩ => exact h0 | ⟨1, _⟩ => exact h1)
  rw [val_main_v13_apply]
  refine Finset.sum_congr rfl fun k _ => congrArg₂ (· * ·) (Eq.trans ?_ (ref_normed X G r k)) ?_
  · exact congrArg _ (funext fun a => by match a with | ⟨0, _⟩ => rfl | ⟨1, _⟩ => rfl)
  · rw [val_main_v12_apply]
    exact congrArg W (funext fun a => by match a with | ⟨0, _⟩ => rfl | ⟨1, _⟩ => rfl)

theorem ref_k (b : Fin 16) (n : Fin 32) (h : Fin 4) (e : Fin 128) : val_main_v31 (F := Ideal) X G W (ix4 b n h e)
    = proj X G W (⟨32 * b.val + n.val, by omega⟩ : Fin 512) (⟨512 + (128 * h.val + e.val), by omega⟩ : Fin 2560) := by
  rw [val_main_v31_apply, val_main_v15_apply]
  refine ref_product X G W _ _ _ ?_ ?_
  · show (((b.val * 32 + n.val) * 4 + h.val) * 128 + e.val) / 512 = 32 * b.val + n.val
    omega
  · show 512 + (((b.val * 32 + n.val) * 4 + h.val) * 128 + e.val) % 512 = 512 + (128 * h.val + e.val)
    omega
theorem ref_v (b : Fin 16) (n : Fin 32) (h : Fin 4) (e : Fin 128) : val_main_v32 (F := Ideal) X G W (ix4 b n h e)
    = proj X G W (⟨32 * b.val + n.val, by omega⟩ : Fin 512) (⟨1024 + (128 * h.val + e.val), by omega⟩ : Fin 2560) := by
  rw [val_main_v32_apply, val_main_v16_apply]
  refine ref_product X G W _ _ _ ?_ ?_
  · show (((b.val * 32 + n.val) * 4 + h.val) * 128 + e.val) / 512 = 32 * b.val + n.val
    omega
  · show 1024 + (((b.val * 32 + n.val) * 4 + h.val) * 128 + e.val) % 512 = 1024 + (128 * h.val + e.val)
    omega
theorem ref_u (r : Fin 512) (c e : Fin 2560) (i : S512x512.Idx) (h0 : (i 0).val = r.val) (h1 : 1536 + (i 1).val = c.val) (h2 : 2048 + (i 1).val = e.val) :
    val_main_v26 (F := Ideal) X G W i = proj X G W r c * Ideal.logistic (proj X G W r e) := by
  have a : val_main_v18 (F := Ideal) X G W i = proj X G W r c := by
    rw [val_main_v18_apply, val_main_v17_apply]
    exact ref_product X G W r c _ h0 h1
  have b : val_main_v19 (F := Ideal) X G W i = proj X G W r e := by
    rw [val_main_v19_apply, val_main_v17_apply]
    refine ref_product X G W r e _ h0 ?_
    show 1536 + (512 + (i 1).val) = e.val; omega
  rw [val_main_v26_apply, val_main_v25_apply, val_main_v24_apply, val_main_cst_3_apply, val_main_v23_apply, val_main_v22_apply,
    val_main_cst_2_apply, val_main_v21_apply, val_main_v20_apply, a, b]
  unfold Ideal.logistic
  rw [show (FloatOps.ofBits .f32 0x3F800000#32 : Ideal .f32) = (1 : EReal) from Ideal.ofBits_one_f32]
  rfl
theorem ref_q (r : Fin 512) (c : Fin 2560) (i : S512x512.Idx) (h0 : (i 0).val = r.val) (h1 : 0 + (i 1).val = c.val) :
    val_main_v34 (F := Ideal) X G W i = proj X G W r c * Ideal.ofBits .f32 0x3E000000#32 := by
  rw [val_main_v34_apply, val_main_v28_apply, val_main_v27_apply, val_main_cst_4_apply, val_main_v14_apply]
  refine congrArg (· * Ideal.ofBits .f32 0x3E000000#32) (ref_product X G W r c _ h0 ?_)
  show (i 1).val = c.val; omega
theorem ref_kb (r : Fin 512) (c : Fin 2560) (i : S512x512.Idx) (h0 : (i 0).val = r.val) (h1 : 512 + (i 1).val = c.val) :
    val_main_v35 (F := Ideal) X G W i = proj X G W r c := by
  rw [val_main_v35_apply, val_main_v15_apply]
  exact ref_product X G W r c _ h0 h1
theorem ref_vb (r : Fin 512) (c : Fin 2560) (i : S512x512.Idx) (h0 : (i 0).val = r.val) (h1 : 1024 + (i 1).val = c.val) :
    val_main_v36 (F := Ideal) X G W i = proj X G W r c := by
  rw [val_main_v36_apply, val_main_v16_apply]
  exact ref_product X G W r c _ h0 h1

end Reference

/-! ## The arrays the run leaves -/

variable (m : (ℓ : Loc nD τ sig) → Buf (Elt Ideal) ℓ)

/-- The three arguments. -/
abbrev xs (c : Dev nD) : (⟨S512x1024, .f32⟩ : BufTy).Contents (Elt Ideal) := m ((c : Thread nD τ).loc main_arg0)
abbrev gs (c : Dev nD) : (⟨S1x1024, .f32⟩ : BufTy).Contents (Elt Ideal) := m ((c : Thread nD τ).loc main_arg1)
abbrev ws (c : Dev nD) : (⟨S1024x2560, .bf16⟩ : BufTy).Contents (Elt Ideal) := m ((c : Thread nD τ).loc main_arg2)

/-- The carried rows. -/
abbrev ss (c : Dev nD) : (⟨S16x30x512, .f32⟩ : BufTy).Contents (Elt Ideal) := m ((c : Thread nD τ).loc main_arg3)

theorem idx0 : ∀ t : Fin cfg0.N, win0_0.index t = ![(grid0.coords t 0).val, 0] := (by decide +kernel : ∀ t : Fin grid0.N, win0_0.index t = ![(grid0.coords t 0).val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![(grid0.coords t 0).val, 0] := (by decide +kernel : ∀ t : Fin grid0.N, win0_3.index t = ![(grid0.coords t 0).val, 0])
theorem idx4 : ∀ t : Fin cfg0.N, win0_4.index t = ![(grid0.coords t 0).val, 0] := (by decide +kernel : ∀ t : Fin grid0.N, win0_4.index t = ![(grid0.coords t 0).val, 0])
theorem idx5 : ∀ t : Fin cfg0.N, win0_5.index t = ![(grid0.coords t 0).val, 0] := (by decide +kernel : ∀ t : Fin grid0.N, win0_5.index t = ![(grid0.coords t 0).val, 0])
theorem idx6 : ∀ t : Fin cfg0.N, win0_6.index t = ![(grid0.coords t 0).val, 0] := (by decide +kernel : ∀ t : Fin grid0.N, win0_6.index t = ![(grid0.coords t 0).val, 0])
theorem idx7 : ∀ t : Fin cfg0.N, win0_7.index t = ![(grid0.coords t 0).val, 0] := (by decide +kernel : ∀ t : Fin grid0.N, win0_7.index t = ![(grid0.coords t 0).val, 0])
theorem idx8 : ∀ t : Fin cfg0.N, win0_8.index t = ![(grid0.coords t 0).val, 0] := (by decide +kernel : ∀ t : Fin grid0.N, win0_8.index t = ![(grid0.coords t 0).val, 0])

theorem blk0 (c : Dev nD) (t : Fin cfg0.N) (r : Fin 512) (k : Fin 1024) (R : Fin 512) (h : 512 * (grid0.coords t 0).val + r.val = R.val) :
    iblk m c 0 t (ix2 r k) = xs m c (ix2 R k) := by
  blk_simp [iblk]
  refine congrArg (xs m c) ?_
  blk_ext [idx0]
  have ht : (grid0.coords t 0).val < 1 := (grid0.coords t 0).isLt
  show r.val = R.val
  omega
theorem blk1 (c : Dev nD) (t : Fin cfg0.N) : iblk m c 1 t = gs m c := by funext y; blk_simp [iblk]; congr 1; blk_ext [idx1]
theorem blk2 (c : Dev nD) (t : Fin cfg0.N) : iblk m c 2 t = ws m c := by funext y; blk_simp [iblk]; congr 1; blk_ext [idx2]

/-- A block's product is the array's. -/
theorem proj_blk (c : Dev nD) (t : Fin cfg0.N) (r : Fin 512) (e : Fin 2560) (R : Fin 512) (h : 512 * (grid0.coords t 0).val + r.val = R.val) :
    proj (iblk m c 0 t) (gs m c) (ws m c) r e = proj (xs m c) (gs m c) (ws m c) R e := by
  unfold proj
  rw [show (fun k => iblk m c 0 t (ix2 r k)) = fun k => xs m c (ix2 R k) from funext fun k => blk0 m c t r k R h]

theorem rowOf (t : Fin cfg0.N) (r : Fin 512) : 512 * (grid0.coords t 0).val + r.val < 512 := by
  have h : (grid0.coords t 0).val < 1 := (grid0.coords t 0).isLt
  omega

/-- The columns from `o` on as the kernel's strided stores leave them: four rows of 128 lanes a row, a head a row. -/
def byHead (o : ℕ) (ho : o ≤ 2048) (X : (⟨S512x1024, .f32⟩ : BufTy).Contents (Elt Ideal)) (G : (⟨S1x1024, .f32⟩ : BufTy).Contents (Elt Ideal))
    (W : (⟨S1024x2560, .bf16⟩ : BufTy).Contents (Elt Ideal)) : (⟨S2048x128, .f32⟩ : BufTy).Contents (Elt Ideal) := fun i =>
  proj X G W (⟨(i 0).val / 4, by have : (i 0).val < 2048 := (i 0).isLt; omega⟩ : Fin 512)
    (⟨o + (128 * ((i 0).val % 4) + (i 1).val), by have : (i 1).val < 128 := (i 1).isLt; omega⟩ : Fin 2560)

theorem byHead_apply (o : ℕ) (ho : o ≤ 2048) (X G W) (r : Fin 512) (c : Fin 2560) (i : S2048x128.Idx) (h0 : (i 0).val / 4 = r.val)
    (h1 : o + (128 * ((i 0).val % 4) + (i 1).val) = c.val) : byHead o ho X G W i = proj X G W r c :=
  congrArg₂ (proj X G W) (Fin.ext h0) (Fin.ext h1)

theorem final3 (c : Dev nD) : (dats m 0 c).arrAt 3 cfg0.N = byHead 512 (by decide) (xs m c) (gs m c) (ws m c) := by
  refine (dats m 0 c).arrAt_eq_of_covers 3 _ (by decide +kernel) fun t hf y => ?_
  obtain ⟨r, d, rfl⟩ : ∃ (r : Fin 2048) (d : Fin 128), y = ix2 r d := ⟨y 0, y 1, by funext a; fin_cases a <;> rfl⟩
  blk_simp
  rw [after0_3, blk1, blk2]
  refine (out3_apply _ _ _ r d).trans ((proj_blk m c t _ _ ⟨_, rowOf t ⟨r.val / 4, by omega⟩⟩ rfl).trans (byHead_apply _ _ _ _ _ _ _ _ ?_ ?_).symm)
  · blk_simp [idx3]
    show r.val / 4 = 512 * 0 + r.val / 4
    omega
  · blk_simp [idx3]

theorem final4 (c : Dev nD) : (dats m 0 c).arrAt 4 cfg0.N = byHead 1024 (by decide) (xs m c) (gs m c) (ws m c) := by
  refine (dats m 0 c).arrAt_eq_of_covers 4 _ (by decide +kernel) fun t hf y => ?_
  obtain ⟨r, d, rfl⟩ : ∃ (r : Fin 2048) (d : Fin 128), y = ix2 r d := ⟨y 0, y 1, by funext a; fin_cases a <;> rfl⟩
  blk_simp
  rw [after0_4, blk1, blk2]
  refine (out4_apply _ _ _ r d).trans ((proj_blk m c t _ _ ⟨_, rowOf t ⟨r.val / 4, by omega⟩⟩ rfl).trans (byHead_apply _ _ _ _ _ _ _ _ ?_ ?_).symm)
  · blk_simp [idx4]
    show r.val / 4 = 512 * 0 + r.val / 4
    omega
  · blk_simp [idx4]

theorem final5 (c : Dev nD) : (dats m 0 c).arrAt 5 cfg0.N = Cert.ProjSRefIdeal.Read.val_main_v26 (F := Ideal) (xs m c) (gs m c) (ws m c) := by
  refine (dats m 0 c).arrAt_eq_of_covers 5 _ (by decide +kernel) fun t hf y => ?_
  obtain ⟨r, d, rfl⟩ : ∃ (r : Fin 512) (d : Fin 512), y = ix2 r d := ⟨y 0, y 1, by funext a; fin_cases a <;> rfl⟩
  blk_simp
  rw [after0_5, blk1, blk2]
  refine (out5_apply _ _ _ r d).trans ((congrArg₂ (fun a b : EReal => a * Ideal.logistic b) (proj_blk m c t r _ ⟨_, rowOf t r⟩ rfl) (proj_blk m c t r _ ⟨_, rowOf t r⟩ rfl)).trans (ref_u (xs m c) (gs m c) (ws m c) _ _ _ _ ?_ ?_ ?_ ).symm)
  · blk_simp [idx5]
    show r.val = 512 * 0 + r.val
    omega
  · blk_simp [idx5]
  · blk_simp [idx5]

theorem final6 (c : Dev nD) : (dats m 0 c).arrAt 6 cfg0.N = Cert.ProjSRefIdeal.Read.val_main_v34 (F := Ideal) (xs m c) (gs m c) (ws m c) := by
  refine (dats m 0 c).arrAt_eq_of_covers 6 _ (by decide +kernel) fun t hf y => ?_
  obtain ⟨r, d, rfl⟩ : ∃ (r : Fin 512) (d : Fin 512), y = ix2 r d := ⟨y 0, y 1, by funext a; fin_cases a <;> rfl⟩
  blk_simp
  rw [after0_6, blk1, blk2]
  refine (out6_apply _ _ _ r d).trans ((congrArg (fun a : EReal => a * Ideal.ofBits .f32 0x3E000000#32) (proj_blk m c t r _ ⟨_, rowOf t r⟩ rfl)).trans (ref_q (xs m c) (gs m c) (ws m c) _ _ _ ?_ ?_ ).symm)
  · blk_simp [idx6]
    show r.val = 512 * 0 + r.val
    omega
  · blk_simp [idx6]

theorem final7 (c : Dev nD) : (dats m 0 c).arrAt 7 cfg0.N = Cert.ProjSRefIdeal.Read.val_main_v35 (F := Ideal) (xs m c) (gs m c) (ws m c) := by
  refine (dats m 0 c).arrAt_eq_of_covers 7 _ (by decide +kernel) fun t hf y => ?_
  obtain ⟨r, d, rfl⟩ : ∃ (r : Fin 512) (d : Fin 512), y = ix2 r d := ⟨y 0, y 1, by funext a; fin_cases a <;> rfl⟩
  blk_simp
  rw [after0_7, blk1, blk2]
  refine (out7_apply _ _ _ r d).trans ((proj_blk m c t r _ ⟨_, rowOf t r⟩ rfl).trans (ref_kb (xs m c) (gs m c) (ws m c) _ _ _ ?_ ?_ ).symm)
  · blk_simp [idx7]
    show r.val = 512 * 0 + r.val
    omega
  · blk_simp [idx7]

theorem final8 (c : Dev nD) : (dats m 0 c).arrAt 8 cfg0.N = Cert.ProjSRefIdeal.Read.val_main_v36 (F := Ideal) (xs m c) (gs m c) (ws m c) := by
  refine (dats m 0 c).arrAt_eq_of_covers 8 _ (by decide +kernel) fun t hf y => ?_
  obtain ⟨r, d, rfl⟩ : ∃ (r : Fin 512) (d : Fin 512), y = ix2 r d := ⟨y 0, y 1, by funext a; fin_cases a <;> rfl⟩
  blk_simp
  rw [after0_8, blk1, blk2]
  refine (out8_apply _ _ _ r d).trans ((proj_blk m c t r _ ⟨_, rowOf t r⟩ rfl).trans (ref_vb (xs m c) (gs m c) (ws m c) _ _ _ ?_ ?_ ).symm)
  · blk_simp [idx8]
    show r.val = 512 * 0 + r.val
    omega
  · blk_simp [idx8]

/-! ## The operations after the region -/

/-- The host's reshape of a head's rows. -/
theorem heads_apply (A : S2048x128.Idx → EReal) (b : Fin 16) (n : Fin 32) (h : Fin 4) (e : Fin 128) :
    shapeCast S16x32x4x128 A shapeCasts_S2048x128_S16x32x4x128 (ix4 b n h e) = A (ix2 (⟨4 * (32 * b.val + n.val) + h.val, by omega⟩ : Fin 2048) e) := by
  refine shapeCast_apply _ _ _ _ ?_
  rw [Shape.rowMajor_val_two, Shape.rowMajor_val_four]
  show (4 * (32 * b.val + n.val) + h.val) * 128 + e.val = ((b.val * 32 + n.val) * 4 + h.val) * 128 + e.val
  omega

theorem byHead_row (o : ℕ) (ho : o ≤ 2048) (X G W) (b : Fin 16) (n : Fin 32) (h : Fin 4) (e : Fin 128) :
    byHead o ho X G W (ix2 (⟨4 * (32 * b.val + n.val) + h.val, by omega⟩ : Fin 2048) e)
      = proj X G W (⟨32 * b.val + n.val, by omega⟩ : Fin 512) (⟨o + (128 * h.val + e.val), by omega⟩ : Fin 2560) := by
  refine byHead_apply o ho X G W _ _ _ ?_ ?_
  · show (4 * (32 * b.val + n.val) + h.val) / 4 = 32 * b.val + n.val
    omega
  · show o + (128 * ((4 * (32 * b.val + n.val) + h.val) % 4) + e.val) = o + (128 * h.val + e.val)
    omega

/-- An index by its coordinates. -/
theorem eq_ix4 (j : S16x32x4x128.Idx) : ∃ (b : Fin 16) (n : Fin 32) (h : Fin 4) (e : Fin 128), j = ix4 b n h e :=
  ⟨j 0, j 1, j 2, j 3, funext fun a => by match a with | ⟨0, _⟩ => rfl | ⟨1, _⟩ => rfl | ⟨2, _⟩ => rfl | ⟨3, _⟩ => rfl⟩

theorem tail3 (c : Dev nD) : Pipeline.afterTail₀ cfgs (dats m) 0 (V0 m) [hostOps1] c main_v3 = Cert.ProjSRefIdeal.Read.val_main_v31 (F := Ideal) (xs m c) (gs m c) (ws m c) := by
  unfold Pipeline.afterTail₀
  show StableHlo.after hostOps1 _ _ = _
  after_results
  have hA : Pipeline.withArrays (cfgs 0).spec c (V0 m c) (fun w => (dats m 0 c).arrAt w (cfgs 0).N) (Proc.tc.devRef main_v0_0) = (dats m 0 c).arrAt 3 cfg0.N :=
    Pipeline.withArrays_arr spec0 launch0.win.arr_inj c _ _ 3
  rw [hA, final3]
  funext j
  obtain ⟨b, n, h, e, rfl⟩ := eq_ix4 j
  exact (heads_apply _ b n h e).trans ((byHead_row _ _ _ _ _ b n h e).trans (ref_k (xs m c) (gs m c) (ws m c) b n h e).symm)
theorem tail4 (c : Dev nD) : Pipeline.afterTail₀ cfgs (dats m) 0 (V0 m) [hostOps1] c main_v4 = Cert.ProjSRefIdeal.Read.val_main_v32 (F := Ideal) (xs m c) (gs m c) (ws m c) := by
  unfold Pipeline.afterTail₀
  show StableHlo.after hostOps1 _ _ = _
  after_results
  have hA : Pipeline.withArrays (cfgs 0).spec c (V0 m c) (fun w => (dats m 0 c).arrAt w (cfgs 0).N) (Proc.tc.devRef main_v0_1) = (dats m 0 c).arrAt 4 cfg0.N :=
    Pipeline.withArrays_arr spec0 launch0.win.arr_inj c _ _ 4
  rw [hA, final4]
  funext j
  obtain ⟨b, n, h, e, rfl⟩ := eq_ix4 j
  exact (heads_apply _ b n h e).trans ((byHead_row _ _ _ _ _ b n h e).trans (ref_v (xs m c) (gs m c) (ws m c) b n h e).symm)
/-- The last rows: the same operations on the same array. -/
theorem tail5 (c : Dev nD) : Pipeline.afterTail₀ cfgs (dats m) 0 (V0 m) [hostOps1] c main_v5 = Cert.ProjSRefIdeal.Read.val_main_v33 (F := Ideal) (xs m c) (gs m c) (ws m c) (ss m c) := by
  unfold Pipeline.afterTail₀
  show StableHlo.after hostOps1 _ _ = _
  after_results
  have hA : Pipeline.withArrays (cfgs 0).spec c (V0 m c) (fun w => (dats m 0 c).arrAt w (cfgs 0).N) (Proc.tc.devRef main_v0_2) = (dats m 0 c).arrAt 5 cfg0.N :=
    Pipeline.withArrays_arr spec0 launch0.win.arr_inj c _ _ 5
  have hS : Pipeline.withArrays (cfgs 0).spec c (V0 m c) (fun w => (dats m 0 c).arrAt w (cfgs 0).N) (Proc.tc.devRef main_arg3) = ss m c :=
    Pipeline.withArrays_of_ne spec0 c _ _ main_arg3 (by decide)
  rw [hA, final5, hS]
  rfl

end Cert.ProjSIdeal.Entries

end
-- ==== Proof.ProjSAlgebraic.lean ====
/- The input projection kernel (`ProjSIdeal`) and its reference end with the same arrays. -/
module

public import proofs.«01_k».proof.Defs
public import proofs.«01_k».proof.Proof.ProjSValue
public import proofs.«01_k».proof.Proof.Gen.ProjSIdeal
public import proofs.«01_k».proof.Proof.Gen.ProjSRefIdeal
public import proofs.«01_k».proof.Proof.Gen.ProjSRefIdeal.Run

@[expose] public section

noncomputable section

namespace Cert.ProjSIdeal.Entries

open Idealize.ShloMosaic Idealize.SL.Sem Idealize.ShloMosaic.TcCoe Cert.ProjSIdeal.Body

/-- **The kernel is the input projections**: the printed program and the plain reference end with the same arrays. -/
theorem algebraic : Cert.algebraic_ProjSIdeal_ProjSRefIdeal (hProjSIdeal := Cert.ProjSIdeal.Gen.facts) (hProjSRefIdeal := Cert.ProjSRefIdeal.Gen.facts) := by
  intro m g m' g' _ hargs
  refine ⟨fun c => Cert.ProjSRefIdeal.Read.val_main_v31 (F := Ideal) (xs m c) (gs m c) (ws m c), fun c => Cert.ProjSRefIdeal.Read.val_main_v32 (F := Ideal) (xs m c) (gs m c) (ws m c), fun c => Cert.ProjSRefIdeal.Read.val_main_v33 (F := Ideal) (xs m c) (gs m c) (ws m c) (ss m c),
    fun c => (dats m 0 c).arrAt 5 Cert.ProjSIdeal.cfg0.N, fun c => (dats m 0 c).arrAt 6 Cert.ProjSIdeal.cfg0.N, fun c => (dats m 0 c).arrAt 7 Cert.ProjSIdeal.cfg0.N, fun c => (dats m 0 c).arrAt 8 Cert.ProjSIdeal.cfg0.N, ?_, ?_⟩
  · exact (θ_run _ _ _).mono (fun r hr c => ⟨((hr.1 c).2 _ (by decide +kernel)).trans (tail3 m c), ((hr.1 c).2 _ (by decide +kernel)).trans (tail4 m c),
        ((hr.1 c).2 _ (by decide +kernel)).trans (tail5 m c), (hr.1 c).1 (5 : Fin 9), (hr.1 c).1 (6 : Fin 9), (hr.1 c).1 (7 : Fin 9), (hr.1 c).1 (8 : Fin 9), hr.2 c⟩)
      (θ_run_and (run_main m g) (unchanged m g))
  refine (θ_run _ _ _).mono (fun r hr c => ?_) (Cert.ProjSRefIdeal.Value.run m' g')
  obtain ⟨h3, h4, hs, h5, h6, h7, h8, hk⟩ := hr c
  obtain ⟨e0, e1, e2, e3⟩ := hargs c
  refine ⟨h3.trans ?_, h4.trans ?_, hs.trans ?_, h5.trans ?_, h6.trans ?_, h7.trans ?_, h8.trans ?_, hk⟩
  · rw [Cert.ProjSRefIdeal.Read.val_main_v31_eq, e0, e1, e2]
  · rw [Cert.ProjSRefIdeal.Read.val_main_v32_eq, e0, e1, e2]
  · rw [Cert.ProjSRefIdeal.Read.val_main_v33_eq, e0, e1, e2, e3]
  · rw [Cert.ProjSRefIdeal.Read.val_main_v26_eq, e0, e1, e2]; exact (final5 m c).symm
  · rw [Cert.ProjSRefIdeal.Read.val_main_v34_eq, e0, e1, e2]; exact (final6 m c).symm
  · rw [Cert.ProjSRefIdeal.Read.val_main_v35_eq, e0, e1, e2]; exact (final7 m c).symm
  · rw [Cert.ProjSRefIdeal.Read.val_main_v36_eq, e0, e1, e2]; exact (final8 m c).symm

/-- The reference's run leaves its arguments and, having no semaphore, every counter. -/
theorem refFrame : Cert.quiescent_ProjSRefIdeal (hProjSRefIdeal := Cert.ProjSRefIdeal.Gen.facts) := fun m g _ =>
  (θ_run _ _ _).mono (fun r h => ⟨fun c => (h c).2.2.2.2.2.2.2, sem_eq_zero_of_no_sems (by decide) r.2⟩) (Cert.ProjSRefIdeal.Value.run m g)

end Cert.ProjSIdeal.Entries

end
-- ==== Proof.MemKvIdealFrame.lean ====
/- The memory keys and values kernel's run (`MemKvIdeal`): what each output's block holds after the body, the body's triple, the launch. -/
module

public import proofs.«01_k».proof.Proof.Gen.MemKvIdeal.Frame
public import proofs.«01_k».proof.Proof.Gen.MemKvIdeal.Skeleton
public import proofs.«01_k».proof.Proof.Strides
public import Idealize.ShloMosaic.Lib.Pipeline.FrameBody
public import Idealize.ShloMosaic.Lib.Claim
public import Idealize.ShloMosaic.Lib.Ring
public import Idealize.ShloMosaic.Lib.Exec
public import Idealize.ShloMosaic.Lib.Tactic
public import Idealize.ShloMosaic.Lib.UnfoldOut
public import Idealize.ShloMosaic.Lib.WordCmp

@[expose] public section

set_option maxRecDepth 16384

noncomputable section

namespace Cert.MemKvIdeal.Body

open Cert.MemKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model the run's assertions live in. -/
abbrev Mod (F : FTy → Type) [FloatOps F] := MT nD τ sig Unit (Elt F) ℕ (UR sig nD τ) ℕ

/-- The rows, the gain and a weight read whole. -/
abbrev rx (x0 : Vec F S256x1024 .f32) : Vec F S256x1024 .f32 := View.ld x0 (Rect.unit (s := S256x1024) ![0, 0] S256x1024.size inb_S256x1024_S256x1024_0_0)
abbrev rg (x1 : Vec F S1x1024 .f32) : Vec F S1x1024 .f32 := View.ld x1 (Rect.unit (s := S1x1024) ![0, 0] S1x1024.size inb_S1x1024_S1x1024_0_0)
abbrev rwt (x2 : Vec F S1024x1024 .bf16) : Vec F S1024x1024 .bf16 := View.ld x2 (Rect.unit (s := S1024x1024) ![0, 0] S1024x1024.size inb_S1024x1024_S1024x1024_0_0)

/-- Window 4's block after the body. -/
def out4 (x0 : Vec F S256x1024 .f32) (x1 : Vec F S1x1024 .f32) (x2 : Vec F S1024x1024 .bf16) (x3 : Vec F S1024x1024 .bf16) : Vec F S2048x128 .f32 := Strides.heads8 (k0_pay2 (rx x0) (rg x1) (rwt x2))
/-- Window 5's block after the body. -/
def out5 (x0 : Vec F S256x1024 .f32) (x1 : Vec F S1x1024 .f32) (x2 : Vec F S1024x1024 .bf16) (x3 : Vec F S1024x1024 .bf16) : Vec F S2048x128 .f32 := Strides.heads8 (k0_pay3 (rx x0) (rg x1) (rwt x3))
/-- Window 6's block after the body. -/
def out6 (x0 : Vec F S256x1024 .f32) (x1 : Vec F S1x1024 .f32) (x2 : Vec F S1024x1024 .bf16) (x3 : Vec F S1024x1024 .bf16) : Vec F S256x1024 .bf16 := k0_pay20 (k0_pay2 (rx x0) (rg x1) (rwt x2))
/-- Window 7's block after the body. -/
def out7 (x0 : Vec F S256x1024 .f32) (x1 : Vec F S1x1024 .f32) (x2 : Vec F S1024x1024 .bf16) (x3 : Vec F S1024x1024 .bf16) : Vec F S256x1024 .bf16 := k0_pay21 (k0_pay3 (rx x0) (rg x1) (rwt x3))

set_option maxHeartbeats 1000000 in
/-- The body on whole staging buffers: the inputs stay, each output ends at its block. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S256x1024 .bf16) (harg7 : arg7.IsWhole) (arg8 : Memref sig .tc .vmem S256x1024 .bf16) (harg8 : arg8.IsWhole)
    (x0 : Vec F S256x1024 .f32) (x1 : Vec F S1x1024 .f32) (x2 : Vec F S1024x1024 .bf16) (x3 : Vec F S1024x1024 .bf16) (K : PUnit → sProp (Mod F)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3) ∗ owns (c : Thread nD τ) arg6 fullShare (out5 x0 x1 x2 x3) ∗ owns (c : Thread nD τ) arg7 fullShare (out6 x0 x1 x2 x3) ∗ owns (c : Thread nD τ) arg8 fullShare (out7 x0 x1 x2 x3)) -∗ K ⟨⟩))
      ⊢ wp frame (wpE (defs₀ (F := F)) Variants.none c none) E (cc0_mem_kv i arg1 harg1 arg2 harg2 arg3 harg3 arg4 harg4 arg5 harg5 arg6 harg6 arg7 harg7 arg8 harg8) K := by
  simp only [cc0_mem_kv_eq_skeleton]; unfold cc0_mem_kv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (Strides.cover8 _ _ _ _ _ _ _ _)).trans ?_
    exact Strides.canon8 (Val := Elt F) (e := .f32) (k0_pay2 (rx (arg1.view.read (Elt F) f0)) (rg (arg2.view.read (Elt F) f1)) (rwt (arg3.view.read (Elt F) f2))) slices_S256x1024_o0_0_S256x128 slices_S256x1024_o0_128_S256x128 slices_S256x1024_o0_256_S256x128 slices_S256x1024_o0_384_S256x128 slices_S256x1024_o0_512_S256x128 slices_S256x1024_o0_640_S256x128 slices_S256x1024_o0_768_S256x128 slices_S256x1024_o0_896_S256x128
  isplitl [H5]
  · iexists _; isplitr
    swap; · iexact H5
    ipureintro
    refine (View.read_writes_eq_canon _ _ _ (Strides.cover8 _ _ _ _ _ _ _ _)).trans ?_
    exact Strides.canon8 (Val := Elt F) (e := .f32) (k0_pay3 (rx (arg1.view.read (Elt F) f0)) (rg (arg2.view.read (Elt F) f1)) (rwt (arg4.view.read (Elt F) f3))) slices_S256x1024_o0_0_S256x128 slices_S256x1024_o0_128_S256x128 slices_S256x1024_o0_256_S256x128 slices_S256x1024_o0_384_S256x128 slices_S256x1024_o0_512_S256x128 slices_S256x1024_o0_640_S256x128 slices_S256x1024_o0_768_S256x128 slices_S256x1024_o0_896_S256x128
  isplitl [H6]
  · iexists _; isplitr
    swap; · iexact H6
    ipureintro
    refine (View.read_writes_eq_canon _ _ _ (View.cover_of_tiled _ S256x1024.size (by rfl))).trans ?_
    exact View.canon_unit_zero Strides.off2 _ _
  iexists _; isplitr
  swap; · iexact H7
  ipureintro
  refine (View.read_writes_eq_canon _ _ _ (View.cover_of_tiled _ S256x1024.size (by rfl))).trans ?_
  exact View.canon_unit_zero Strides.off2 _ _

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => out5 (iblk m c 0 t) (iblk m c 1 t) (iblk m c 2 t) (iblk m c 3 t)
    | ⟨6, _⟩ => out6 (iblk m c 0 t) (iblk m c 1 t) (iblk m c 2 t) (iblk m c 3 t)
    | ⟨7, _⟩ => out7 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (iblk m c 0 t) (iblk m c 1 t) (iblk m c 2 t) (iblk m c 3 t) := by dsimp only [dats]
theorem after0_5 (c : Dev nD) (t : Fin cfg0.N) : (dats m 0 c).after 5 t = out5 (iblk m c 0 t) (iblk m c 1 t) (iblk m c 2 t) (iblk m c 3 t) := by dsimp only [dats]
theorem after0_6 (c : Dev nD) (t : Fin cfg0.N) : (dats m 0 c).after 6 t = out6 (iblk m c 0 t) (iblk m c 1 t) (iblk m c 2 t) (iblk m c 3 t) := by dsimp only [dats]
theorem after0_7 (c : Dev nD) (t : Fin cfg0.N) : (dats m 0 c).after 7 t = out7 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, and what it returns. -/
def bodyPre (c : Dev nD) (t : Fin cfg0.N) : sProp (Mod F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp (Mod F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the implicit arguments are found in a metavariable's type
set_option backward.isDefEq.respectTransparency.types false in
set_option maxHeartbeats 800000 in
/-- The launch: every array ends at what the library computes from the proof data, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MemKvIdeal.Body

end
-- ==== Proof.MemKvValue.lean ====
/- What the memory projection kernel (`MemKvIdeal`) leaves in its arrays, entry by entry, next to the entries of its reference: the
   normed rows times the weights, once in the order of the heads and once as they are. -/
module

public import proofs.«01_k».proof.Proof.MemKvIdealFrame
public import proofs.«01_k».proof.Proof.Gen.MemKvRefIdeal.Read
public import proofs.«01_k».proof.Proof.Rows
public import Idealize.ShloMosaic.Lib.Pipeline.ValueKit.Geometry
public import Idealize.ShloMosaic.Lib.Pipeline.ValueKit.Tiles

@[expose] public section

set_option maxRecDepth 16384

noncomputable section

namespace Cert.MemKvIdeal.Entries

open Idealize.ShloMosaic
open Idealize.ShloMosaic.ValueIdx Cert.MemKvIdeal Cert.MemKvIdeal.Gen Cert.MemKvIdeal.Body Cert.Rows Idealize.ShloMosaic.TcCoe Idealize.SL.Sem
open scoped BigOperators

/-! ## The blocks of the body -/

section Blocks

variable (x0 : Vec Ideal S256x1024 .f32) (x1 : Vec Ideal S1x1024 .f32) (x2 : Vec Ideal S1024x1024 .bf16)

theorem rx_eq : rx x0 = x0 := View.ld_unit_zero Strides.off2 _ _
theorem rg_eq : rg x1 = x1 := View.ld_unit_zero Strides.off2 _ _
theorem rwt_eq : rwt x2 = x2 := View.ld_unit_zero Strides.off2 _ _

theorem normed_apply (r : Fin 256) (k : Fin 1024) :
    k0_pay1 (F := Ideal) (rx x0) (rg x1) (ix2 r k) = normed (fun k => x0 (ix2 r k)) (fun k => x1 (ix2 (0 : Fin 1) k)) k := by
  rw [rx_eq, rg_eq]
  exact norm_apply x0 x1 _ _ _ _ bitsLt_bf16_f32 (by decide) r k

/-- The product of the normed rows with the weights. -/
theorem whole_apply (r : Fin 256) (c : Fin 1024) : k0_pay2 (F := Ideal) (rx x0) (rg x1) (rwt x2) (ix2 r c) = proj x0 x1 x2 r c := by
  rw [rwt_eq]
  exact (product_apply (φ₁ := .bf16) (φ₂ := .bf16) _ _ r c).trans (Finset.sum_congr rfl fun k _ => congrArg (· * x2 (ix2 k c)) (normed_apply x0 x1 r k))

theorem out4_apply (x3) (r : Fin 2048) (d : Fin 128) : out4 x0 x1 x2 x3 (ix2 r d)
    = proj x0 x1 x2 (⟨r.val / 8, by omega⟩ : Fin 256) (⟨256 * (r.val % 8 % 4) + 128 * (r.val % 8 / 4) + d.val, by omega⟩ : Fin 1024) :=
  whole_apply x0 x1 x2 _ _
theorem out5_apply (x3) (r : Fin 2048) (d : Fin 128) : out5 x0 x1 x3 x2 (ix2 r d)
    = proj x0 x1 x2 (⟨r.val / 8, by omega⟩ : Fin 256) (⟨256 * (r.val % 8 % 4) + 128 * (r.val % 8 / 4) + d.val, by omega⟩ : Fin 1024) :=
  whole_apply x0 x1 x2 _ _
theorem out6_apply (x3) (r : Fin 256) (c : Fin 1024) : out6 x0 x1 x2 x3 (ix2 r c) = proj x0 x1 x2 r c := whole_apply x0 x1 x2 r c
theorem out7_apply (x3) (r : Fin 256) (c : Fin 1024) : out7 x0 x1 x3 x2 (ix2 r c) = proj x0 x1 x2 r c := whole_apply x0 x1 x2 r c

end Blocks

/-! ## The entries of the reference -/

section Reference

open Cert.MemKvRefIdeal.Read

variable (X : (⟨S8192x1024, .f32⟩ : BufTy).Contents (Elt Ideal)) (G : (⟨S1x1024, .f32⟩ : BufTy).Contents (Elt Ideal)) (W : (⟨S1024x1024, .bf16⟩ : BufTy).Contents (Elt Ideal))

theorem ref_scale (r : Fin 8192) (u : Fin 1) : val_main_v7 (F := Ideal) X (ix2 r u) = scaleOf (fun k => X (ix2 r k)) := by
  rw [val_main_v7_apply, val_main_v6_apply, val_main_v4_apply, val_main_v2_apply, val_main_v1_apply, val_main_v3_apply, val_main_v5_apply,
    val_main_cst_apply, val_main_cst_0_apply, val_main_cst_1_apply]
  refine congrArg (fun s : EReal => Ideal.rsqrt (Ideal.div s _ + _)) ?_
  rw [show (FloatOps.ofBits .f32 0x00000000#32 : Ideal .f32) = (0 : EReal) from Ideal.ofBits_zero_f32]
  refine (zero_add _).trans (Finset.sum_congr rfl fun k _ => ?_)
  rw [val_main_v0_apply]
  exact congrArg (fun i => X i * X i) (funext fun a => by match a with | ⟨0, _⟩ => rfl | ⟨1, _⟩ => rfl)

theorem ref_normed (r : Fin 8192) (k : Fin 1024) : val_main_v11 (F := Ideal) X G (ix2 r k)
    = normed (fun k => X (ix2 r k)) (fun k => G (ix2 (0 : Fin 1) k)) k := by
  rw [val_main_v11_apply, val_main_v9_apply, val_main_v8_apply, val_main_v10_apply]
  refine congrArg₂ (· * ·) (congrArg (X (ix2 r k) * ·) ((congrArg (val_main_v7 (F := Ideal) X) ?_).trans (ref_scale X r 0))) (congrArg G ?_)
  · funext a; match a with | ⟨0, _⟩ => rfl | ⟨1, _⟩ => rfl
  · funext a; match a with | ⟨0, _⟩ => rfl | ⟨1, _⟩ => rfl

theorem ref_product_k (r : Fin 8192) (c : Fin 1024) (i : Cert.MemKvRefIdeal.S8192x1024.Idx) (h0 : (i 0).val = r.val) (h1 : (i 1).val = c.val) :
    val_main_v13 (F := Ideal) X G W i = proj X G W r c := by
  obtain rfl : i = ix2 r c := funext fun a => Fin.ext (by match a with | ⟨0, _⟩ => exact h0 | ⟨1, _⟩ => exact h1)
  rw [val_main_v13_apply]
  refine Finset.sum_congr rfl fun k _ => congrArg₂ (· * ·) (Eq.trans ?_ (ref_normed X G r k)) ?_
  · exact congrArg _ (funext fun a => by match a with | ⟨0, _⟩ => rfl | ⟨1, _⟩ => rfl)
  · rw [val_main_v12_apply]
    exact congrArg W (funext fun a => by match a with | ⟨0, _⟩ => rfl | ⟨1, _⟩ => rfl)
theorem ref_product_v (r : Fin 8192) (c : Fin 1024) (i : Cert.MemKvRefIdeal.S8192x1024.Idx) (h0 : (i 0).val = r.val) (h1 : (i 1).val = c.val) :
    val_main_v15 (F := Ideal) X G W i = proj X G W r c := by
  obtain rfl : i = ix2 r c := funext fun a => Fin.ext (by match a with | ⟨0, _⟩ => exact h0 | ⟨1, _⟩ => exact h1)
  rw [val_main_v15_apply]
  refine Finset.sum_congr rfl fun k _ => congrArg₂ (· * ·) (Eq.trans ?_ (ref_normed X G r k)) ?_
  · exact congrArg _ (funext fun a => by match a with | ⟨0, _⟩ => rfl | ⟨1, _⟩ => rfl)
  · rw [val_main_v14_apply]
    exact congrArg W (funext fun a => by match a with | ⟨0, _⟩ => rfl | ⟨1, _⟩ => rfl)
/-- An entry of the projection by heads is the projection's entry at the head's lane. -/
theorem ref_k (b : Fin 32) (n : Fin 256) (h : Fin 4) (e : Fin 256) : val_main_v16 (F := Ideal) X G W (ix4 b n h e)
    = proj X G W (⟨256 * b.val + n.val, by omega⟩ : Fin 8192) (⟨256 * h.val + e.val, by omega⟩ : Fin 1024) := by
  rw [val_main_v16_apply]
  refine ref_product_k X G W _ _ _ ?_ ?_
  · show (((b.val * 256 + n.val) * 4 + h.val) * 256 + e.val) / 1024 = 256 * b.val + n.val
    omega
  · show (((b.val * 256 + n.val) * 4 + h.val) * 256 + e.val) % 1024 = 256 * h.val + e.val
    omega
theorem ref_v (b : Fin 32) (n : Fin 256) (h : Fin 4) (e : Fin 256) : val_main_v17 (F := Ideal) X G W (ix4 b n h e)
    = proj X G W (⟨256 * b.val + n.val, by omega⟩ : Fin 8192) (⟨256 * h.val + e.val, by omega⟩ : Fin 1024) := by
  rw [val_main_v17_apply]
  refine ref_product_v X G W _ _ _ ?_ ?_
  · show (((b.val * 256 + n.val) * 4 + h.val) * 256 + e.val) / 1024 = 256 * b.val + n.val
    omega
  · show (((b.val * 256 + n.val) * 4 + h.val) * 256 + e.val) % 1024 = 256 * h.val + e.val
    omega
theorem ref_kb (r : Fin 8192) (c : Fin 1024) (i : S8192x1024.Idx) (h0 : (i 0).val = r.val) (h1 : (i 1).val = c.val) :
    val_main_v18 (F := Ideal) X G W i = proj X G W r c := by
  rw [val_main_v18_apply]
  exact ref_product_k X G W r c _ h0 h1
theorem ref_vb (r : Fin 8192) (c : Fin 1024) (i : S8192x1024.Idx) (h0 : (i 0).val = r.val) (h1 : (i 1).val = c.val) :
    val_main_v19 (F := Ideal) X G W i = proj X G W r c := by
  rw [val_main_v19_apply]
  exact ref_product_v X G W r c _ h0 h1

end Reference

/-! ## The arrays the run leaves -/

variable (m : (ℓ : Loc nD τ sig) → Buf (Elt Ideal) ℓ)

/-- The four arguments. -/
abbrev xs (c : Dev nD) : (⟨S8192x1024, .f32⟩ : BufTy).Contents (Elt Ideal) := m ((c : Thread nD τ).loc main_arg0)
abbrev gs (c : Dev nD) : (⟨S1x1024, .f32⟩ : BufTy).Contents (Elt Ideal) := m ((c : Thread nD τ).loc main_arg1)
abbrev wk (c : Dev nD) : (⟨S1024x1024, .bf16⟩ : BufTy).Contents (Elt Ideal) := m ((c : Thread nD τ).loc main_arg2)
abbrev wv (c : Dev nD) : (⟨S1024x1024, .bf16⟩ : BufTy).Contents (Elt Ideal) := m ((c : Thread nD τ).loc main_arg3)

theorem idx0 : ∀ t : Fin cfg0.N, win0_0.index t = ![(grid0.coords t 0).val, 0] := (by decide +kernel : ∀ t : Fin grid0.N, win0_0.index t = ![(grid0.coords t 0).val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![(grid0.coords t 0).val, 0] := (by decide +kernel : ∀ t : Fin grid0.N, win0_4.index t = ![(grid0.coords t 0).val, 0])
theorem idx5 : ∀ t : Fin cfg0.N, win0_5.index t = ![(grid0.coords t 0).val, 0] := (by decide +kernel : ∀ t : Fin grid0.N, win0_5.index t = ![(grid0.coords t 0).val, 0])
theorem idx6 : ∀ t : Fin cfg0.N, win0_6.index t = ![(grid0.coords t 0).val, 0] := (by decide +kernel : ∀ t : Fin grid0.N, win0_6.index t = ![(grid0.coords t 0).val, 0])
theorem idx7 : ∀ t : Fin cfg0.N, win0_7.index t = ![(grid0.coords t 0).val, 0] := (by decide +kernel : ∀ t : Fin grid0.N, win0_7.index t = ![(grid0.coords t 0).val, 0])

theorem blk0 (c : Dev nD) (t : Fin cfg0.N) (r : Fin 256) (k : Fin 1024) (R : Fin 8192) (h : 256 * (grid0.coords t 0).val + r.val = R.val) :
    iblk m c 0 t (ix2 r k) = xs m c (ix2 R k) := by
  blk_simp [iblk]
  refine congrArg (xs m c) ?_
  blk_ext [idx0]
  exact (congrArg (fun z => z + _) (Nat.mul_comm _ _)).trans h
theorem blk1 (c : Dev nD) (t : Fin cfg0.N) : iblk m c 1 t = gs m c := by funext y; blk_simp [iblk]; congr 1; blk_ext [idx1]
theorem blk2 (c : Dev nD) (t : Fin cfg0.N) : iblk m c 2 t = wk m c := by funext y; blk_simp [iblk]; congr 1; blk_ext [idx2]
theorem blk3 (c : Dev nD) (t : Fin cfg0.N) : iblk m c 3 t = wv m c := by funext y; blk_simp [iblk]; congr 1; blk_ext [idx3]

/-- A block's product is the array's. -/
theorem proj_blk (c : Dev nD) (W : (⟨S1024x1024, .bf16⟩ : BufTy).Contents (Elt Ideal)) (t : Fin cfg0.N) (r : Fin 256) (e : Fin 1024) (R : Fin 8192) (h : 256 * (grid0.coords t 0).val + r.val = R.val) :
    proj (iblk m c 0 t) (gs m c) W r e = proj (xs m c) (gs m c) W R e := by
  unfold proj
  rw [show (fun k => iblk m c 0 t (ix2 r k)) = fun k => xs m c (ix2 R k) from funext fun k => blk0 m c t r k R h]

theorem rowOf (t : Fin cfg0.N) (r : Fin 256) : 256 * (grid0.coords t 0).val + r.val < 8192 := by
  have h : (grid0.coords t 0).val < 32 := (grid0.coords t 0).isLt
  omega

/-- The projection as the kernel's tiles hold it: eight rows of 128 lanes a row, the two halves of the heads one after the other. -/
def tiled (X : (⟨S8192x1024, .f32⟩ : BufTy).Contents (Elt Ideal)) (G : (⟨S1x1024, .f32⟩ : BufTy).Contents (Elt Ideal)) (W : (⟨S1024x1024, .bf16⟩ : BufTy).Contents (Elt Ideal)) :
    (⟨S65536x128, .f32⟩ : BufTy).Contents (Elt Ideal) := fun i =>
  proj X G W (⟨(i 0).val / 8, by have : (i 0).val < 65536 := (i 0).isLt; omega⟩ : Fin 8192)
    (⟨256 * ((i 0).val % 8 % 4) + 128 * ((i 0).val % 8 / 4) + (i 1).val, by have : (i 1).val < 128 := (i 1).isLt; omega⟩ : Fin 1024)

theorem tiled_apply (X G W) (r : Fin 8192) (c : Fin 1024) (i : S65536x128.Idx) (h0 : (i 0).val / 8 = r.val)
    (h1 : 256 * ((i 0).val % 8 % 4) + 128 * ((i 0).val % 8 / 4) + (i 1).val = c.val) : tiled X G W i = proj X G W r c :=
  congrArg₂ (proj X G W) (Fin.ext h0) (Fin.ext h1)

theorem final4 (c : Dev nD) : (dats m 0 c).arrAt 4 cfg0.N = tiled (xs m c) (gs m c) (wk m c) := by
  refine (dats m 0 c).arrAt_eq_of_covers 4 _ (by decide +kernel) fun t hf y => ?_
  obtain ⟨r, d, rfl⟩ : ∃ (r : Fin 2048) (d : Fin 128), y = ix2 r d := ⟨y 0, y 1, by funext a; fin_cases a <;> rfl⟩
  blk_simp
  rw [after0_4, blk1, blk2, blk3]
  refine (out4_apply _ _ _ _ r d).trans ((proj_blk m c _ t _ _ ⟨_, rowOf t ⟨r.val / 8, by omega⟩⟩ rfl).trans (tiled_apply _ _ _ _ _ _ ?_ ?_).symm)
  · blk_simp [idx4]
    show ((grid0.coords t 0).val * 2048 + r.val) / 8 = 256 * (grid0.coords t 0).val + r.val / 8
    omega
  · blk_simp [idx4]
    show 256 * (((grid0.coords t 0).val * 2048 + r.val) % 8 % 4) + 128 * (((grid0.coords t 0).val * 2048 + r.val) % 8 / 4) + d.val
      = 256 * (r.val % 8 % 4) + 128 * (r.val % 8 / 4) + d.val
    omega
theorem final5 (c : Dev nD) : (dats m 0 c).arrAt 5 cfg0.N = tiled (xs m c) (gs m c) (wv m c) := by
  refine (dats m 0 c).arrAt_eq_of_covers 5 _ (by decide +kernel) fun t hf y => ?_
  obtain ⟨r, d, rfl⟩ : ∃ (r : Fin 2048) (d : Fin 128), y = ix2 r d := ⟨y 0, y 1, by funext a; fin_cases a <;> rfl⟩
  blk_simp
  rw [after0_5, blk1, blk2, blk3]
  refine (out5_apply _ _ _ _ r d).trans ((proj_blk m c _ t _ _ ⟨_, rowOf t ⟨r.val / 8, by omega⟩⟩ rfl).trans (tiled_apply _ _ _ _ _ _ ?_ ?_).symm)
  · blk_simp [idx5]
    show ((grid0.coords t 0).val * 2048 + r.val) / 8 = 256 * (grid0.coords t 0).val + r.val / 8
    omega
  · blk_simp [idx5]
    show 256 * (((grid0.coords t 0).val * 2048 + r.val) % 8 % 4) + 128 * (((grid0.coords t 0).val * 2048 + r.val) % 8 / 4) + d.val
      = 256 * (r.val % 8 % 4) + 128 * (r.val % 8 / 4) + d.val
    omega
theorem final6 (c : Dev nD) : (dats m 0 c).arrAt 6 cfg0.N = Cert.MemKvRefIdeal.Read.val_main_v18 (F := Ideal) (xs m c) (gs m c) (wk m c) := by
  refine (dats m 0 c).arrAt_eq_of_covers 6 _ (by decide +kernel) fun t hf y => ?_
  obtain ⟨r, d, rfl⟩ : ∃ (r : Fin 256) (d : Fin 1024), y = ix2 r d := ⟨y 0, y 1, by funext a; fin_cases a <;> rfl⟩
  blk_simp
  rw [after0_6, blk1, blk2, blk3]
  refine (out6_apply _ _ _ _ r d).trans ((proj_blk m c _ t r _ ⟨_, rowOf t r⟩ rfl).trans (ref_kb (xs m c) (gs m c) (wk m c) _ _ _ ?_ ?_).symm)
  · blk_simp [idx6]
    show (grid0.coords t 0).val * 256 + r.val = 256 * (grid0.coords t 0).val + r.val
    omega
  · blk_simp [idx6]
theorem final7 (c : Dev nD) : (dats m 0 c).arrAt 7 cfg0.N = Cert.MemKvRefIdeal.Read.val_main_v19 (F := Ideal) (xs m c) (gs m c) (wv m c) := by
  refine (dats m 0 c).arrAt_eq_of_covers 7 _ (by decide +kernel) fun t hf y => ?_
  obtain ⟨r, d, rfl⟩ : ∃ (r : Fin 256) (d : Fin 1024), y = ix2 r d := ⟨y 0, y 1, by funext a; fin_cases a <;> rfl⟩
  blk_simp
  rw [after0_7, blk1, blk2, blk3]
  refine (out7_apply _ _ _ _ r d).trans ((proj_blk m c _ t r _ ⟨_, rowOf t r⟩ rfl).trans (ref_vb (xs m c) (gs m c) (wv m c) _ _ _ ?_ ?_).symm)
  · blk_simp [idx7]
    show (grid0.coords t 0).val * 256 + r.val = 256 * (grid0.coords t 0).val + r.val
    omega
  · blk_simp [idx7]

/-! ## The operations after the region -/

/-- The host's way out of the tiles. -/
theorem untile_apply (A : S65536x128.Idx → EReal) (b : Fin 32) (n : Fin 256) (h : Fin 4) (e : Fin 256) :
    shapeCast S32x256x4x256 (transpose S32x256x4x2x128 [0, 1, 3, 2, 4] (shapeCast S32x256x2x4x128 A shapeCasts_S65536x128_S32x256x2x4x128)
      transposes_S32x256x2x4x128_S32x256x4x2x128_0_1_3_2_4) shapeCasts_S32x256x4x2x128_S32x256x4x256 (ix4 b n h e)
    = A (ix2 (⟨(256 * b.val + n.val) * 8 + 4 * (e.val / 128) + h.val, by omega⟩ : Fin 65536) (⟨e.val % 128, by omega⟩ : Fin 128)) := by
  refine (shapeCast_apply _ _ _ (ix5 b n h (⟨e.val / 128, by omega⟩ : Fin 2) (⟨e.val % 128, by omega⟩ : Fin 128)) ?_).trans ?_
  · rw [Shape.rowMajor_val_five, Shape.rowMajor_val_four]
    show (((b.val * 256 + n.val) * 4 + h.val) * 2 + e.val / 128) * 128 + e.val % 128 = ((b.val * 256 + n.val) * 4 + h.val) * 256 + e.val
    omega
  refine (transpose_apply _ _ _ _ (ix5 b n (⟨e.val / 128, by omega⟩ : Fin 2) h (⟨e.val % 128, by omega⟩ : Fin 128)) fun a => ?_).trans ?_
  · match a with | ⟨0, _⟩ => rfl | ⟨1, _⟩ => rfl | ⟨2, _⟩ => rfl | ⟨3, _⟩ => rfl | ⟨4, _⟩ => rfl
  refine shapeCast_apply _ _ _ _ ?_
  rw [Shape.rowMajor_val_five, Shape.rowMajor_val_two]
  show ((256 * b.val + n.val) * 8 + 4 * (e.val / 128) + h.val) * 128 + e.val % 128 = (((b.val * 256 + n.val) * 2 + e.val / 128) * 4 + h.val) * 128 + e.val % 128
  omega

/-- The tiles of a projection, untiled: its entries by head. -/
theorem untiled_apply (X G W) (b : Fin 32) (n : Fin 256) (h : Fin 4) (e : Fin 256) :
    tiled X G W (ix2 (⟨(256 * b.val + n.val) * 8 + 4 * (e.val / 128) + h.val, by omega⟩ : Fin 65536) (⟨e.val % 128, by omega⟩ : Fin 128))
      = proj X G W (⟨256 * b.val + n.val, by omega⟩ : Fin 8192) (⟨256 * h.val + e.val, by omega⟩ : Fin 1024) := by
  refine tiled_apply X G W _ _ _ ?_ ?_
  · show ((256 * b.val + n.val) * 8 + 4 * (e.val / 128) + h.val) / 8 = 256 * b.val + n.val
    omega
  · show 256 * (((256 * b.val + n.val) * 8 + 4 * (e.val / 128) + h.val) % 8 % 4) + 128 * (((256 * b.val + n.val) * 8 + 4 * (e.val / 128) + h.val) % 8 / 4) + e.val % 128
      = 256 * h.val + e.val
    omega

/-- An index by its coordinates. -/
theorem eq_ix4 (j : S32x256x4x256.Idx) : ∃ (b : Fin 32) (n : Fin 256) (h : Fin 4) (e : Fin 256), j = ix4 b n h e :=
  ⟨j 0, j 1, j 2, j 3, funext fun a => by match a with | ⟨0, _⟩ => rfl | ⟨1, _⟩ => rfl | ⟨2, _⟩ => rfl | ⟨3, _⟩ => rfl⟩

theorem tail4 (c : Dev nD) : Pipeline.afterTail₀ cfgs (dats m) 0 (V0 m) [hostOps1] c main_v3 = Cert.MemKvRefIdeal.Read.val_main_v16 (F := Ideal) (xs m c) (gs m c) (wk m c) := by
  unfold Pipeline.afterTail₀
  show StableHlo.after hostOps1 _ _ = _
  after_results
  have hA : Pipeline.withArrays (cfgs 0).spec c (V0 m c) (fun w => (dats m 0 c).arrAt w (cfgs 0).N) (Proc.tc.devRef main_v0_0) = (dats m 0 c).arrAt 4 cfg0.N :=
    Pipeline.withArrays_arr spec0 launch0.win.arr_inj c _ _ 4
  rw [hA, final4]
  funext j
  obtain ⟨b, n, h, e, rfl⟩ := eq_ix4 j
  exact (untile_apply _ b n h e).trans ((untiled_apply _ _ _ b n h e).trans (ref_k (xs m c) (gs m c) (wk m c) b n h e).symm)
theorem tail5 (c : Dev nD) : Pipeline.afterTail₀ cfgs (dats m) 0 (V0 m) [hostOps1] c main_v6 = Cert.MemKvRefIdeal.Read.val_main_v17 (F := Ideal) (xs m c) (gs m c) (wv m c) := by
  unfold Pipeline.afterTail₀
  show StableHlo.after hostOps1 _ _ = _
  after_results
  have hA : Pipeline.withArrays (cfgs 0).spec c (V0 m c) (fun w => (dats m 0 c).arrAt w (cfgs 0).N) (Proc.tc.devRef main_v0_1) = (dats m 0 c).arrAt 5 cfg0.N :=
    Pipeline.withArrays_arr spec0 launch0.win.arr_inj c _ _ 5
  rw [hA, final5]
  funext j
  obtain ⟨b, n, h, e, rfl⟩ := eq_ix4 j
  exact (untile_apply _ b n h e).trans ((untiled_apply _ _ _ b n h e).trans (ref_v (xs m c) (gs m c) (wv m c) b n h e).symm)

end Cert.MemKvIdeal.Entries

end
-- ==== Proof.MemKvAlgebraic.lean ====
/- The memory projection kernel (`MemKvIdeal`) and its reference end with the same arrays. -/
module

public import proofs.«01_k».proof.Defs
public import proofs.«01_k».proof.Proof.MemKvValue
public import proofs.«01_k».proof.Proof.Gen.MemKvIdeal
public import proofs.«01_k».proof.Proof.Gen.MemKvRefIdeal
public import proofs.«01_k».proof.Proof.Gen.MemKvRefIdeal.Run

@[expose] public section

noncomputable section

namespace Cert.MemKvIdeal.Entries

open Idealize.ShloMosaic Idealize.SL.Sem Idealize.ShloMosaic.TcCoe Cert.MemKvIdeal.Body

/-- **The kernel is the memory projections**: the printed program and the plain reference end with the same arrays. -/
theorem algebraic : Cert.algebraic_MemKvIdeal_MemKvRefIdeal (hMemKvIdeal := Cert.MemKvIdeal.Gen.facts) (hMemKvRefIdeal := Cert.MemKvRefIdeal.Gen.facts) := by
  intro m g m' g' _ hargs
  refine ⟨fun c => Cert.MemKvRefIdeal.Read.val_main_v16 (F := Ideal) (xs m c) (gs m c) (wk m c), fun c => Cert.MemKvRefIdeal.Read.val_main_v17 (F := Ideal) (xs m c) (gs m c) (wv m c),
    fun c => (dats m 0 c).arrAt 6 Cert.MemKvIdeal.cfg0.N, fun c => (dats m 0 c).arrAt 7 Cert.MemKvIdeal.cfg0.N, ?_, ?_⟩
  · exact (θ_run _ _ _).mono (fun r hr c => ⟨((hr.1 c).2 _ (by decide +kernel)).trans (tail4 m c), ((hr.1 c).2 _ (by decide +kernel)).trans (tail5 m c),
        (hr.1 c).1 (6 : Fin 8), (hr.1 c).1 (7 : Fin 8), hr.2 c⟩)
      (θ_run_and (run_main m g) (unchanged m g))
  refine (θ_run _ _ _).mono (fun r hr c => ?_) (Cert.MemKvRefIdeal.Value.run m' g')
  obtain ⟨h4, h5, h6, h7, hk⟩ := hr c
  obtain ⟨e0, e1, e2, e3⟩ := hargs c
  refine ⟨h4.trans ?_, h5.trans ?_, h6.trans ?_, h7.trans ?_, hk⟩
  · rw [Cert.MemKvRefIdeal.Read.val_main_v16_eq, e0, e1, e2]
  · rw [Cert.MemKvRefIdeal.Read.val_main_v17_eq, e0, e1, e3]
  · rw [Cert.MemKvRefIdeal.Read.val_main_v18_eq, e0, e1, e2]; exact (final6 m c).symm
  · rw [Cert.MemKvRefIdeal.Read.val_main_v19_eq, e0, e1, e3]; exact (final7 m c).symm

/-- The reference's run leaves its arguments and, having no semaphore, every counter. -/
theorem refFrame : Cert.quiescent_MemKvRefIdeal (hMemKvRefIdeal := Cert.MemKvRefIdeal.Gen.facts) := fun m g _ =>
  (θ_run _ _ _).mono (fun r h => ⟨fun c => (h c).2.2.2.2, sem_eq_zero_of_no_sems (by decide) r.2⟩) (Cert.MemKvRefIdeal.Value.run m g)

end Cert.MemKvIdeal.Entries

end
-- ==== Proof.Joined.lean ====
/- Rows with two mixers' outputs added through one projection, in two halves of its rows; and their normed rows' scaled product. -/
module

public import proofs.«01_k».proof.Proof.Rows
public import Idealize.ShloMosaic.Lib.Pointwise.Sums

@[expose] public section

noncomputable section

namespace Cert.Joined

open Idealize.ShloMosaic hiding ix1 ix2 ix3 ix4 ix5
open Idealize.ShloMosaic.ValueIdx Cert.Rows
open scoped BigOperators

variable {M : ℕ}

/-- A row's entry with the two products added. -/
def joined (X : (⟨2, ![M, 1024]⟩ : Shape).Idx → EReal) (A B : (⟨2, ![M, 512]⟩ : Shape).Idx → EReal)
    (W : (⟨2, ![1024, 1024]⟩ : Shape).Idx → EReal) (r : Fin M) (c : Fin 1024) : EReal :=
  X (ix2 r c) + ((∑ k : Fin 512, A (ix2 r k) * W (ix2 (⟨k.val, by omega⟩ : Fin 1024) c))
    + ∑ k : Fin 512, B (ix2 r k) * W (ix2 (⟨512 + k.val, by omega⟩ : Fin 1024) c))

/-- The same as an array. -/
def joinedRows (X : (⟨2, ![M, 1024]⟩ : Shape).Idx → EReal) (A B : (⟨2, ![M, 512]⟩ : Shape).Idx → EReal)
    (W : (⟨2, ![1024, 1024]⟩ : Shape).Idx → EReal) : (⟨2, ![M, 1024]⟩ : Shape).Idx → EReal := fun i => joined X A B W (i 0) (i 1)

/-- An entry of the scaled product of the normed rows. -/
def query (X : (⟨2, ![M, 1024]⟩ : Shape).Idx → EReal) (A B : (⟨2, ![M, 512]⟩ : Shape).Idx → EReal)
    (W : (⟨2, ![1024, 1024]⟩ : Shape).Idx → EReal) (G : (⟨2, ![1, 1024]⟩ : Shape).Idx → EReal)
    (Q : (⟨2, ![1024, 1024]⟩ : Shape).Idx → EReal) (r : Fin M) (c : Fin 1024) : EReal :=
  proj (joinedRows X A B W) G Q r c * Ideal.ofBits .f32 0x3D800000#32

/-- The product of two arrays side by side, in its two halves. -/
theorem halves (A B : Fin 512 → EReal) (C W : Fin 1024 → EReal) (hA : ∀ k : Fin 512, C ⟨k.val, by omega⟩ = A k)
    (hB : ∀ k : Fin 512, C ⟨512 + k.val, by omega⟩ = B k) :
    ∑ k, C k * W k = (∑ k : Fin 512, A k * W ⟨k.val, by omega⟩) + ∑ k : Fin 512, B k * W ⟨512 + k.val, by omega⟩ := by
  rw [Fin.sum_univ_two_halves 512 512 rfl]
  exact congrArg₂ (· + ·) (Finset.sum_congr rfl fun k _ => congrArg (· * _) (hA k)) (Finset.sum_congr rfl fun k _ => congrArg (· * _) (hB k))

/-- Rows that agree have entries that agree. -/
theorem joined_congr {N : ℕ} {X : (⟨2, ![M, 1024]⟩ : Shape).Idx → EReal} {A B : (⟨2, ![M, 512]⟩ : Shape).Idx → EReal}
    {X' : (⟨2, ![N, 1024]⟩ : Shape).Idx → EReal} {A' B' : (⟨2, ![N, 512]⟩ : Shape).Idx → EReal} (W) {r : Fin M} {R : Fin N}
    (hX : ∀ k, X (ix2 r k) = X' (ix2 R k)) (hA : ∀ k, A (ix2 r k) = A' (ix2 R k)) (hB : ∀ k, B (ix2 r k) = B' (ix2 R k)) (c : Fin 1024) :
    joined X A B W r c = joined X' A' B' W R c := by
  unfold joined
  simp only [hX, hA, hB]

theorem query_congr {N : ℕ} {X : (⟨2, ![M, 1024]⟩ : Shape).Idx → EReal} {A B : (⟨2, ![M, 512]⟩ : Shape).Idx → EReal}
    {X' : (⟨2, ![N, 1024]⟩ : Shape).Idx → EReal} {A' B' : (⟨2, ![N, 512]⟩ : Shape).Idx → EReal} (W G Q) {r : Fin M} {R : Fin N}
    (hX : ∀ k, X (ix2 r k) = X' (ix2 R k)) (hA : ∀ k, A (ix2 r k) = A' (ix2 R k)) (hB : ∀ k, B (ix2 r k) = B' (ix2 R k)) (c : Fin 1024) :
    query X A B W G Q r c = query X' A' B' W G Q R c := by
  unfold query proj
  rw [show (fun k => joinedRows X A B W (ix2 r k)) = fun k => joinedRows X' A' B' W (ix2 R k) from
    funext fun k => joined_congr W hX hA hB k]

end Cert.Joined

end
-- ==== Proof.MixValue.lean ====
/- What the output projection's kernel (`MixIdeal`) leaves in its arrays, entry by entry, next to the entries of its reference: the
   rows with both mixers' outputs added through the projection, and their normed rows' scaled product. -/
module

public import proofs.«01_k».proof.Proof.Gen.MixIdeal.Value
public import proofs.«01_k».proof.Proof.Gen.MixRefIdeal.Read
public import proofs.«01_k».proof.Proof.Joined
public import proofs.«01_k».proof.Proof.Strides
public import Idealize.ShloMosaic.Lib.Pipeline.ValueKit.Geometry
public import Idealize.ShloMosaic.Lib.Pipeline.ValueKit.Tiles

@[expose] public section

set_option maxRecDepth 16384

noncomputable section

namespace Cert.MixIdeal.Entries

open Idealize.ShloMosaic hiding ix1 ix2 ix3 ix4 ix5
open Idealize.ShloMosaic.ValueIdx Cert.MixIdeal Cert.MixIdeal.Gen Cert.Rows Cert.Joined Idealize.ShloMosaic.TcCoe Idealize.SL.Sem
open scoped BigOperators

/-! ## The blocks of the body -/

section Blocks

variable (x0 : Vec Ideal S512x1024 .f32) (x1 x2 : Vec Ideal S512x512 .bf16) (x3 : Vec Ideal S1024x1024 .bf16) (x4 : Vec Ideal S1x1024 .f32)
  (x5 : Vec Ideal S1024x1024 .bf16)

theorem half_apply (o : ℕ) (ho : o + 512 ≤ 1024) (inb) (k : Fin 512) (c : Fin 1024) :
    View.ld x3 (Rect.unit (s := S1024x1024) ![o, 0] S512x1024.size inb) (ix2 k c) = x3 (ix2 (⟨o + k.val, by omega⟩ : Fin 1024) c) := by
  refine congrArg x3 (funext fun a => Fin.ext ?_)
  match a with
  | ⟨0, _⟩ => show o + 1 * k.val = o + k.val; omega
  | ⟨1, _⟩ => show 0 + 1 * c.val = c.val; omega

/-- The rows stored by the body, before the norm. -/
theorem sum_apply (r : Fin 512) (c : Fin 1024) :
    k0_pay1 (F := Ideal) x0 x1 (View.ld x3 r0_2) x2 (View.ld x3 r0_3) (ix2 r c) = joined x0 x1 x2 x3 r c := by
  refine (congrArg₂ (fun a b : EReal => x0 (ix2 r c) + a + b)
    ((product_apply (φ₁ := .bf16) (φ₂ := .bf16) x1 (View.ld x3 r0_2) r c).trans (Finset.sum_congr rfl fun k _ => congrArg (x1 (ix2 r k) * ·) (half_apply x3 0 (by decide) _ k c)))
    ((product_apply (φ₁ := .bf16) (φ₂ := .bf16) x2 (View.ld x3 r0_3) r c).trans (Finset.sum_congr rfl fun k _ => congrArg (x2 (ix2 r k) * ·) (half_apply x3 512 (by decide) _ k c)))).trans ?_
  refine (add_assoc _ _ _).trans ?_
  unfold joined
  simp only [Nat.zero_add]

theorem query_apply (r : Fin 512) (c : Fin 1024) :
    k0_pay2 (F := Ideal) x0 x1 (View.ld x3 r0_2) x2 (View.ld x3 r0_3) x4 x5 (ix2 r c) = query x0 x1 x2 x3 x4 x5 r c := by
  refine congrArg (· * Ideal.ofBits .f32 0x3D800000#32) ((product_apply (φ₁ := .bf16) (φ₂ := .bf16) _ x5 r c).trans ?_)
  unfold proj
  refine Finset.sum_congr rfl fun k _ => congrArg (· * x5 (ix2 k c)) ?_
  refine (norm_apply (k0_pay1 (F := Ideal) x0 x1 (View.ld x3 r0_2) x2 (View.ld x3 r0_3)) x4 _ _ _ _ bitsLt_bf16_f32 (by decide) r k).trans ?_
  rw [show (fun k => k0_pay1 (F := Ideal) x0 x1 (View.ld x3 r0_2) x2 (View.ld x3 r0_3) (ix2 r k)) = fun k => joinedRows x0 x1 x2 x3 (ix2 r k) from
    funext fun k => sum_apply x0 x1 x2 x3 r k]

theorem out6_apply (r : Fin 512) (c : Fin 1024) : out0_6 x0 x1 x2 x3 x4 x5 (ix2 r c) = joined x0 x1 x2 x3 r c := by
  unfold out0_6
  rw [View.canon_unit_zero Strides.off2, View.ld_unit_zero Strides.off2, View.ld_unit_zero Strides.off2, View.ld_unit_zero Strides.off2]
  exact sum_apply x0 x1 x2 x3 r c
theorem out7_apply (r : Fin 512) (c : Fin 1024) : out0_7 x0 x1 x2 x3 x4 x5 (ix2 r c) = query x0 x1 x2 x3 x4 x5 r c := by
  unfold out0_7
  rw [View.canon_unit_zero Strides.off2, View.ld_unit_zero Strides.off2, View.ld_unit_zero Strides.off2, View.ld_unit_zero Strides.off2,
    View.ld_unit_zero Strides.off2, View.ld_unit_zero Strides.off2]
  exact query_apply x0 x1 x2 x3 x4 x5 r c

end Blocks

/-! ## The entries of the reference -/

section Reference

open Cert.MixRefIdeal.Read

variable (X : (⟨S65536x1024, .f32⟩ : BufTy).Contents (Elt Ideal)) (A B : (⟨S65536x512, .bf16⟩ : BufTy).Contents (Elt Ideal))
  (W : (⟨S1024x1024, .bf16⟩ : BufTy).Contents (Elt Ideal)) (G : (⟨S1x1024, .f32⟩ : BufTy).Contents (Elt Ideal))
  (Q : (⟨S1024x1024, .bf16⟩ : BufTy).Contents (Elt Ideal))

theorem ref_sum (r : Fin 65536) (c : Fin 1024) (i : S65536x1024.Idx) (h0 : (i 0).val = r.val) (h1 : (i 1).val = c.val) :
    val_main_v4 (F := Ideal) X A B W i = joined X A B W r c := by
  obtain rfl : i = ix2 r c := funext fun a => Fin.ext (by match a with | ⟨0, _⟩ => exact h0 | ⟨1, _⟩ => exact h1)
  rw [val_main_v4_apply, val_main_v3_apply]
  refine congrArg (X (ix2 r c) + ·) ((halves (fun k => A (ix2 r k)) (fun k => B (ix2 r k))
    (fun k => val_main_v1 (F := Ideal) A B (lidx_main_v3 (ix2 r c) k)) (fun k => val_main_v2 (F := Ideal) W (ridx_main_v3 (ix2 r c) k)) (fun k => ?_) (fun k => ?_)).trans ?_)
  · rw [val_main_v1_apply]
    unfold val_main_v0
    refine concatenate_pair_apply_left (t := Cert.MixRefIdeal.S65536x1024) 1 A B Cert.MixRefIdeal.Gen.concatenates_S65536x512_S65536x512_S65536x1024_d1 (lidx_main_v3 (ix2 r c) ⟨k.val, _⟩) rfl (ix2 r k) fun b => ?_
    match b with | ⟨0, _⟩ => rfl | ⟨1, _⟩ => rfl
  · rw [val_main_v1_apply]
    unfold val_main_v0
    refine concatenate_pair_apply_right (t := Cert.MixRefIdeal.S65536x1024) 1 A B Cert.MixRefIdeal.Gen.concatenates_S65536x512_S65536x512_S65536x1024_d1 (lidx_main_v3 (ix2 r c) ⟨512 + k.val, _⟩) rfl rfl (ix2 r k) (fun b hb => ?_) ?_
    · match b, hb with | ⟨0, _⟩, _ => rfl | ⟨1, _⟩, hb => exact absurd rfl hb
    · exact Nat.add_comm k.val 512
  · refine congrArg₂ (· + ·) (Finset.sum_congr rfl fun k _ => ?_) (Finset.sum_congr rfl fun k _ => ?_)
    · refine congrArg (A (ix2 r k) * ·) ?_
      exact congrArg W (funext fun a => by match a with | ⟨0, _⟩ => rfl | ⟨1, _⟩ => rfl)
    · refine congrArg (B (ix2 r k) * ·) ?_
      exact congrArg W (funext fun a => by match a with | ⟨0, _⟩ => rfl | ⟨1, _⟩ => rfl)

theorem ref_scale (r : Fin 65536) (u : Fin 1) : val_main_v12 (F := Ideal) X A B W (ix2 r u) = scaleOf (fun k => joinedRows X A B W (ix2 r k)) := by
  rw [val_main_v12_apply, val_main_v11_apply, val_main_v9_apply, val_main_v7_apply, val_main_v6_apply, val_main_v8_apply, val_main_v10_apply,
    val_main_cst_apply, val_main_cst_0_apply, val_main_cst_1_apply]
  refine congrArg (fun s : EReal => Ideal.rsqrt (Ideal.div s _ + _)) ?_
  rw [show (FloatOps.ofBits .f32 0x00000000#32 : Ideal .f32) = (0 : EReal) from Ideal.ofBits_zero_f32]
  refine (zero_add _).trans (Finset.sum_congr rfl fun k _ => ?_)
  rw [val_main_v5_apply]
  exact congrArg₂ (· * ·) (ref_sum X A B W r k _ rfl rfl) (ref_sum X A B W r k _ rfl rfl)

theorem ref_normed (r : Fin 65536) (k : Fin 1024) : val_main_v16 (F := Ideal) X A B W G (ix2 r k)
    = normed (fun k => joinedRows X A B W (ix2 r k)) (fun k => G (ix2 (0 : Fin 1) k)) k := by
  rw [val_main_v16_apply, val_main_v14_apply, val_main_v13_apply, val_main_v15_apply]
  refine congrArg₂ (· * ·) (congrArg₂ (· * ·) (ref_sum X A B W r k _ rfl rfl) ((congrArg (val_main_v12 (F := Ideal) X A B W) ?_).trans (ref_scale X A B W r 0))) (congrArg G ?_)
  · funext a; match a with | ⟨0, _⟩ => rfl | ⟨1, _⟩ => rfl
  · funext a; match a with | ⟨0, _⟩ => rfl | ⟨1, _⟩ => rfl

theorem ref_query (r : Fin 65536) (c : Fin 1024) (i : S65536x1024.Idx) (h0 : (i 0).val = r.val) (h1 : (i 1).val = c.val) :
    val_main_v21 (F := Ideal) X A B W G Q i = query X A B W G Q r c := by
  obtain rfl : i = ix2 r c := funext fun a => Fin.ext (by match a with | ⟨0, _⟩ => exact h0 | ⟨1, _⟩ => exact h1)
  rw [val_main_v21_apply, val_main_v20_apply, val_main_v18_apply, val_main_v19_apply, val_main_cst_2_apply]
  refine congrArg (· * Ideal.ofBits .f32 0x3D800000#32) (Finset.sum_congr rfl fun k _ => congrArg₂ (· * ·) (Eq.trans ?_ (ref_normed X A B W G r k)) ?_)
  · exact congrArg _ (funext fun a => by match a with | ⟨0, _⟩ => rfl | ⟨1, _⟩ => rfl)
  · rw [val_main_v17_apply]
    exact congrArg Q (funext fun a => by match a with | ⟨0, _⟩ => rfl | ⟨1, _⟩ => rfl)

end Reference

/-! ## The arrays the run leaves -/

variable (m : (ℓ : Loc nD τ sig) → Buf (Elt Ideal) ℓ)

/-- The arguments. -/
abbrev xs (c : Dev nD) : (⟨S65536x1024, .f32⟩ : BufTy).Contents (Elt Ideal) := m ((c : Thread nD τ).loc main_arg0)
abbrev os (c : Dev nD) : (⟨S65536x512, .bf16⟩ : BufTy).Contents (Elt Ideal) := m ((c : Thread nD τ).loc main_arg1)
abbrev bs (c : Dev nD) : (⟨S65536x512, .bf16⟩ : BufTy).Contents (Elt Ideal) := m ((c : Thread nD τ).loc main_arg2)
abbrev ws (c : Dev nD) : (⟨S1024x1024, .bf16⟩ : BufTy).Contents (Elt Ideal) := m ((c : Thread nD τ).loc main_arg3)
abbrev gs (c : Dev nD) : (⟨S1x1024, .f32⟩ : BufTy).Contents (Elt Ideal) := m ((c : Thread nD τ).loc main_arg4)
abbrev qs (c : Dev nD) : (⟨S1024x1024, .bf16⟩ : BufTy).Contents (Elt Ideal) := m ((c : Thread nD τ).loc main_arg5)

theorem idx0 : ∀ t : Fin cfg0.N, win0_0.index t = ![(grid0.coords t 0).val, 0] := (by decide +kernel : ∀ t : Fin grid0.N, win0_0.index t = ![(grid0.coords t 0).val, 0])
theorem idx1 : ∀ t : Fin cfg0.N, win0_1.index t = ![(grid0.coords t 0).val, 0] := (by decide +kernel : ∀ t : Fin grid0.N, win0_1.index t = ![(grid0.coords t 0).val, 0])
theorem idx2 : ∀ t : Fin cfg0.N, win0_2.index t = ![(grid0.coords t 0).val, 0] := (by decide +kernel : ∀ t : Fin grid0.N, win0_2.index t = ![(grid0.coords t 0).val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![(grid0.coords t 0).val, 0] := (by decide +kernel : ∀ t : Fin grid0.N, win0_6.index t = ![(grid0.coords t 0).val, 0])
theorem idx7 : ∀ t : Fin cfg0.N, win0_7.index t = ![(grid0.coords t 0).val, 0] := (by decide +kernel : ∀ t : Fin grid0.N, win0_7.index t = ![(grid0.coords t 0).val, 0])

theorem blk0 (c : Dev nD) (t : Fin cfg0.N) (r : Fin 512) (k : Fin 1024) (R : Fin 65536) (h : 512 * (grid0.coords t 0).val + r.val = R.val) :
    iblk m c 0 t (ix2 r k) = xs m c (ix2 R k) := by
  blk_simp [iblk]
  refine congrArg (xs m c) ?_
  blk_ext [idx0]
  exact (congrArg (fun z => z + _) (Nat.mul_comm _ _)).trans h
theorem blk1 (c : Dev nD) (t : Fin cfg0.N) (r : Fin 512) (k : Fin 512) (R : Fin 65536) (h : 512 * (grid0.coords t 0).val + r.val = R.val) :
    iblk m c 1 t (ix2 r k) = os m c (ix2 R k) := by
  blk_simp [iblk]
  refine congrArg (os m c) ?_
  blk_ext [idx1]
  exact (congrArg (fun z => z + _) (Nat.mul_comm _ _)).trans h
theorem blk2 (c : Dev nD) (t : Fin cfg0.N) (r : Fin 512) (k : Fin 512) (R : Fin 65536) (h : 512 * (grid0.coords t 0).val + r.val = R.val) :
    iblk m c 2 t (ix2 r k) = bs m c (ix2 R k) := by
  blk_simp [iblk]
  refine congrArg (bs m c) ?_
  blk_ext [idx2]
  exact (congrArg (fun z => z + _) (Nat.mul_comm _ _)).trans h
theorem blk3 (c : Dev nD) (t : Fin cfg0.N) : iblk m c 3 t = ws m c := by funext y; blk_simp [iblk]; congr 1; blk_ext [idx3]
theorem blk4 (c : Dev nD) (t : Fin cfg0.N) : iblk m c 4 t = gs m c := by funext y; blk_simp [iblk]; congr 1; blk_ext [idx4]
theorem blk5 (c : Dev nD) (t : Fin cfg0.N) : iblk m c 5 t = qs m c := by funext y; blk_simp [iblk]; congr 1; blk_ext [idx5]

theorem rowOf (t : Fin cfg0.N) (r : Fin 512) : 512 * (grid0.coords t 0).val + r.val < 65536 := by
  have h : (grid0.coords t 0).val < 128 := (grid0.coords t 0).isLt
  omega

theorem final6 (c : Dev nD) : (dats m 0 c).arrAt 6 cfg0.N = Cert.MixRefIdeal.Read.val_main_v4 (F := Ideal) (xs m c) (os m c) (bs m c) (ws m c) := by
  refine (dats m 0 c).arrAt_eq_of_covers 6 _ (by decide +kernel) fun t hf y => ?_
  obtain ⟨r, d, rfl⟩ : ∃ (r : Fin 512) (d : Fin 1024), y = ix2 r d := ⟨y 0, y 1, by funext a; fin_cases a <;> rfl⟩
  blk_simp
  rw [after0_6, blk3, blk4, blk5]
  refine (out6_apply _ _ _ _ _ _ r d).trans ((joined_congr (ws m c) (R := ⟨_, rowOf t r⟩) (fun k => blk0 m c t r k _ rfl) (fun k => blk1 m c t r k _ rfl)
    (fun k => blk2 m c t r k _ rfl) d).trans (ref_sum (xs m c) (os m c) (bs m c) (ws m c) _ d _ ?_ ?_).symm)
  · blk_simp [idx6]
    show (grid0.coords t 0).val * 512 + r.val = 512 * (grid0.coords t 0).val + r.val
    omega
  · blk_simp [idx6]

theorem final7 (c : Dev nD) : (dats m 0 c).arrAt 7 cfg0.N = Cert.MixRefIdeal.Read.val_main_v21 (F := Ideal) (xs m c) (os m c) (bs m c) (ws m c) (gs m c) (qs m c) := by
  refine (dats m 0 c).arrAt_eq_of_covers 7 _ (by decide +kernel) fun t hf y => ?_
  obtain ⟨r, d, rfl⟩ : ∃ (r : Fin 512) (d : Fin 1024), y = ix2 r d := ⟨y 0, y 1, by funext a; fin_cases a <;> rfl⟩
  blk_simp
  rw [after0_7, blk3, blk4, blk5]
  refine (out7_apply _ _ _ _ _ _ r d).trans ((query_congr (ws m c) (gs m c) (qs m c) (R := ⟨_, rowOf t r⟩) (fun k => blk0 m c t r k _ rfl) (fun k => blk1 m c t r k _ rfl)
    (fun k => blk2 m c t r k _ rfl) d).trans (ref_query (xs m c) (os m c) (bs m c) (ws m c) (gs m c) (qs m c) _ d _ ?_ ?_).symm)
  · blk_simp [idx7]
    show (grid0.coords t 0).val * 512 + r.val = 512 * (grid0.coords t 0).val + r.val
    omega
  · blk_simp [idx7]

end Cert.MixIdeal.Entries

end
-- ==== Proof.MixAlgebraic.lean ====
/- The output projection's kernel (`MixIdeal`) and its reference end with the same arrays. -/
module

public import proofs.«01_k».proof.Defs
public import proofs.«01_k».proof.Proof.MixValue
public import proofs.«01_k».proof.Proof.Gen.MixIdeal
public import proofs.«01_k».proof.Proof.Gen.MixRefIdeal
public import proofs.«01_k».proof.Proof.Gen.MixRefIdeal.Run

@[expose] public section

noncomputable section

namespace Cert.MixIdeal.Entries

open Idealize.ShloMosaic Idealize.SL.Sem Idealize.ShloMosaic.TcCoe

/-- **The kernel is the output projection**: the printed program and the plain reference end with the same arrays. -/
theorem algebraic : Cert.algebraic_MixIdeal_MixRefIdeal (hMixIdeal := Cert.MixIdeal.Gen.facts) (hMixRefIdeal := Cert.MixRefIdeal.Gen.facts) := by
  intro m g m' g' _ hargs
  refine ⟨fun c => (Cert.MixIdeal.Gen.dats m 0 c).arrAt 6 Cert.MixIdeal.cfg0.N, fun c => (Cert.MixIdeal.Gen.dats m 0 c).arrAt 7 Cert.MixIdeal.cfg0.N, Cert.MixIdeal.Value.run_blocks m g, ?_⟩
  refine (θ_run _ _ _).mono (fun r hr c => ?_) (Cert.MixRefIdeal.Value.run m' g')
  obtain ⟨h0, h1, hk⟩ := hr c
  obtain ⟨e0, e1, e2, e3, e4, e5⟩ := hargs c
  refine ⟨h0.trans ?_, h1.trans ?_, hk⟩
  · rw [Cert.MixRefIdeal.Read.val_main_v4_eq, e0, e1, e2, e3]; exact (final6 m c).symm
  · rw [Cert.MixRefIdeal.Read.val_main_v21_eq, e0, e1, e2, e3, e4, e5]; exact (final7 m c).symm

/-- The reference's run leaves its arguments and, having no semaphore, every counter. -/
theorem refFrame : Cert.quiescent_MixRefIdeal (hMixRefIdeal := Cert.MixRefIdeal.Gen.facts) := fun m g _ =>
  (θ_run _ _ _).mono (fun r h => ⟨fun c => (h c).2.2, sem_eq_zero_of_no_sems (by decide) r.2⟩) (Cert.MixRefIdeal.Value.run m g)

end Cert.MixIdeal.Entries

end
-- ==== Proof.MixSValue.lean ====
/- What the output projection's kernel (`MixSIdeal`) leaves in its arrays, entry by entry, next to the entries of its reference: the
   rows with both mixers' outputs added through the projection, and their normed rows' scaled product. -/
module

public import proofs.«01_k».proof.Proof.Gen.MixSIdeal.Value
public import proofs.«01_k».proof.Proof.Gen.MixSRefIdeal.Read
public import proofs.«01_k».proof.Proof.Joined
public import proofs.«01_k».proof.Proof.Strides
public import Idealize.ShloMosaic.Lib.Pipeline.ValueKit.Geometry
public import Idealize.ShloMosaic.Lib.Pipeline.ValueKit.Tiles

@[expose] public section

set_option maxRecDepth 16384

noncomputable section

namespace Cert.MixSIdeal.Entries

open Idealize.ShloMosaic hiding ix1 ix2 ix3 ix4 ix5
open Idealize.ShloMosaic.ValueIdx Cert.MixSIdeal Cert.MixSIdeal.Gen Cert.Rows Cert.Joined Idealize.ShloMosaic.TcCoe Idealize.SL.Sem
open scoped BigOperators

/-! ## The blocks of the body -/

section Blocks

variable (x0 : Vec Ideal S512x1024 .f32) (x1 x2 : Vec Ideal S512x512 .bf16) (x3 : Vec Ideal S1024x1024 .bf16) (x4 : Vec Ideal S1x1024 .f32)
  (x5 : Vec Ideal S1024x1024 .bf16)

theorem half_apply (o : ℕ) (ho : o + 512 ≤ 1024) (inb) (k : Fin 512) (c : Fin 1024) :
    View.ld x3 (Rect.unit (s := S1024x1024) ![o, 0] S512x1024.size inb) (ix2 k c) = x3 (ix2 (⟨o + k.val, by omega⟩ : Fin 1024) c) := by
  refine congrArg x3 (funext fun a => Fin.ext ?_)
  match a with
  | ⟨0, _⟩ => show o + 1 * k.val = o + k.val; omega
  | ⟨1, _⟩ => show 0 + 1 * c.val = c.val; omega

/-- The rows stored by the body, before the norm. -/
theorem sum_apply (r : Fin 512) (c : Fin 1024) :
    k0_pay1 (F := Ideal) x0 x1 (View.ld x3 r0_2) x2 (View.ld x3 r0_3) (ix2 r c) = joined x0 x1 x2 x3 r c := by
  refine (congrArg₂ (fun a b : EReal => x0 (ix2 r c) + a + b)
    ((product_apply (φ₁ := .bf16) (φ₂ := .bf16) x1 (View.ld x3 r0_2) r c).trans (Finset.sum_congr rfl fun k _ => congrArg (x1 (ix2 r k) * ·) (half_apply x3 0 (by decide) _ k c)))
    ((product_apply (φ₁ := .bf16) (φ₂ := .bf16) x2 (View.ld x3 r0_3) r c).trans (Finset.sum_congr rfl fun k _ => congrArg (x2 (ix2 r k) * ·) (half_apply x3 512 (by decide) _ k c)))).trans ?_
  refine (add_assoc _ _ _).trans ?_
  unfold joined
  simp only [Nat.zero_add]

theorem query_apply (r : Fin 512) (c : Fin 1024) :
    k0_pay2 (F := Ideal) x0 x1 (View.ld x3 r0_2) x2 (View.ld x3 r0_3) x4 x5 (ix2 r c) = query x0 x1 x2 x3 x4 x5 r c := by
  refine congrArg (· * Ideal.ofBits .f32 0x3D800000#32) ((product_apply (φ₁ := .bf16) (φ₂ := .bf16) _ x5 r c).trans ?_)
  unfold proj
  refine Finset.sum_congr rfl fun k _ => congrArg (· * x5 (ix2 k c)) ?_
  refine (norm_apply (k0_pay1 (F := Ideal) x0 x1 (View.ld x3 r0_2) x2 (View.ld x3 r0_3)) x4 _ _ _ _ bitsLt_bf16_f32 (by decide) r k).trans ?_
  rw [show (fun k => k0_pay1 (F := Ideal) x0 x1 (View.ld x3 r0_2) x2 (View.ld x3 r0_3) (ix2 r k)) = fun k => joinedRows x0 x1 x2 x3 (ix2 r k) from
    funext fun k => sum_apply x0 x1 x2 x3 r k]

theorem out6_apply (r : Fin 512) (c : Fin 1024) : out0_6 x0 x1 x2 x3 x4 x5 (ix2 r c) = joined x0 x1 x2 x3 r c := by
  unfold out0_6
  rw [View.canon_unit_zero Strides.off2, View.ld_unit_zero Strides.off2, View.ld_unit_zero Strides.off2, View.ld_unit_zero Strides.off2]
  exact sum_apply x0 x1 x2 x3 r c
theorem out7_apply (r : Fin 512) (c : Fin 1024) : out0_7 x0 x1 x2 x3 x4 x5 (ix2 r c) = query x0 x1 x2 x3 x4 x5 r c := by
  unfold out0_7
  rw [View.canon_unit_zero Strides.off2, View.ld_unit_zero Strides.off2, View.ld_unit_zero Strides.off2, View.ld_unit_zero Strides.off2,
    View.ld_unit_zero Strides.off2, View.ld_unit_zero Strides.off2]
  exact query_apply x0 x1 x2 x3 x4 x5 r c

end Blocks

/-! ## The entries of the reference -/

section Reference

open Cert.MixSRefIdeal.Read

variable (X : (⟨S512x1024, .f32⟩ : BufTy).Contents (Elt Ideal)) (A B : (⟨S512x512, .bf16⟩ : BufTy).Contents (Elt Ideal))
  (W : (⟨S1024x1024, .bf16⟩ : BufTy).Contents (Elt Ideal)) (G : (⟨S1x1024, .f32⟩ : BufTy).Contents (Elt Ideal))
  (Q : (⟨S1024x1024, .bf16⟩ : BufTy).Contents (Elt Ideal))

theorem ref_sum (r : Fin 512) (c : Fin 1024) (i : S512x1024.Idx) (h0 : (i 0).val = r.val) (h1 : (i 1).val = c.val) :
    val_main_v4 (F := Ideal) X A B W i = joined X A B W r c := by
  obtain rfl : i = ix2 r c := funext fun a => Fin.ext (by match a with | ⟨0, _⟩ => exact h0 | ⟨1, _⟩ => exact h1)
  rw [val_main_v4_apply, val_main_v3_apply]
  refine congrArg (X (ix2 r c) + ·) ((halves (fun k => A (ix2 r k)) (fun k => B (ix2 r k))
    (fun k => val_main_v1 (F := Ideal) A B (lidx_main_v3 (ix2 r c) k)) (fun k => val_main_v2 (F := Ideal) W (ridx_main_v3 (ix2 r c) k)) (fun k => ?_) (fun k => ?_)).trans ?_)
  · rw [val_main_v1_apply]
    unfold val_main_v0
    refine concatenate_pair_apply_left (t := Cert.MixSRefIdeal.S512x1024) 1 A B Cert.MixSRefIdeal.Gen.concatenates_S512x512_S512x512_S512x1024_d1 (lidx_main_v3 (ix2 r c) ⟨k.val, _⟩) rfl (ix2 r k) fun b => ?_
    match b with | ⟨0, _⟩ => rfl | ⟨1, _⟩ => rfl
  · rw [val_main_v1_apply]
    unfold val_main_v0
    refine concatenate_pair_apply_right (t := Cert.MixSRefIdeal.S512x1024) 1 A B Cert.MixSRefIdeal.Gen.concatenates_S512x512_S512x512_S512x1024_d1 (lidx_main_v3 (ix2 r c) ⟨512 + k.val, _⟩) rfl rfl (ix2 r k) (fun b hb => ?_) ?_
    · match b, hb with | ⟨0, _⟩, _ => rfl | ⟨1, _⟩, hb => exact absurd rfl hb
    · exact Nat.add_comm k.val 512
  · refine congrArg₂ (· + ·) (Finset.sum_congr rfl fun k _ => ?_) (Finset.sum_congr rfl fun k _ => ?_)
    · refine congrArg (A (ix2 r k) * ·) ?_
      exact congrArg W (funext fun a => by match a with | ⟨0, _⟩ => rfl | ⟨1, _⟩ => rfl)
    · refine congrArg (B (ix2 r k) * ·) ?_
      exact congrArg W (funext fun a => by match a with | ⟨0, _⟩ => rfl | ⟨1, _⟩ => rfl)

theorem ref_scale (r : Fin 512) (u : Fin 1) : val_main_v12 (F := Ideal) X A B W (ix2 r u) = scaleOf (fun k => joinedRows X A B W (ix2 r k)) := by
  rw [val_main_v12_apply, val_main_v11_apply, val_main_v9_apply, val_main_v7_apply, val_main_v6_apply, val_main_v8_apply, val_main_v10_apply,
    val_main_cst_apply, val_main_cst_0_apply, val_main_cst_1_apply]
  refine congrArg (fun s : EReal => Ideal.rsqrt (Ideal.div s _ + _)) ?_
  rw [show (FloatOps.ofBits .f32 0x00000000#32 : Ideal .f32) = (0 : EReal) from Ideal.ofBits_zero_f32]
  refine (zero_add _).trans (Finset.sum_congr rfl fun k _ => ?_)
  rw [val_main_v5_apply]
  exact congrArg₂ (· * ·) (ref_sum X A B W r k _ rfl rfl) (ref_sum X A B W r k _ rfl rfl)

theorem ref_normed (r : Fin 512) (k : Fin 1024) : val_main_v16 (F := Ideal) X A B W G (ix2 r k)
    = normed (fun k => joinedRows X A B W (ix2 r k)) (fun k => G (ix2 (0 : Fin 1) k)) k := by
  rw [val_main_v16_apply, val_main_v14_apply, val_main_v13_apply, val_main_v15_apply]
  refine congrArg₂ (· * ·) (congrArg₂ (· * ·) (ref_sum X A B W r k _ rfl rfl) ((congrArg (val_main_v12 (F := Ideal) X A B W) ?_).trans (ref_scale X A B W r 0))) (congrArg G ?_)
  · funext a; match a with | ⟨0, _⟩ => rfl | ⟨1, _⟩ => rfl
  · funext a; match a with | ⟨0, _⟩ => rfl | ⟨1, _⟩ => rfl

theorem ref_query (r : Fin 512) (c : Fin 1024) (i : S512x1024.Idx) (h0 : (i 0).val = r.val) (h1 : (i 1).val = c.val) :
    val_main_v21 (F := Ideal) X A B W G Q i = query X A B W G Q r c := by
  obtain rfl : i = ix2 r c := funext fun a => Fin.ext (by match a with | ⟨0, _⟩ => exact h0 | ⟨1, _⟩ => exact h1)
  rw [val_main_v21_apply, val_main_v20_apply, val_main_v18_apply, val_main_v19_apply, val_main_cst_2_apply]
  refine congrArg (· * Ideal.ofBits .f32 0x3D800000#32) (Finset.sum_congr rfl fun k _ => congrArg₂ (· * ·) (Eq.trans ?_ (ref_normed X A B W G r k)) ?_)
  · exact congrArg _ (funext fun a => by match a with | ⟨0, _⟩ => rfl | ⟨1, _⟩ => rfl)
  · rw [val_main_v17_apply]
    exact congrArg Q (funext fun a => by match a with | ⟨0, _⟩ => rfl | ⟨1, _⟩ => rfl)

end Reference

/-! ## The arrays the run leaves -/

variable (m : (ℓ : Loc nD τ sig) → Buf (Elt Ideal) ℓ)

/-- The arguments. -/
abbrev xs (c : Dev nD) : (⟨S512x1024, .f32⟩ : BufTy).Contents (Elt Ideal) := m ((c : Thread nD τ).loc main_arg0)
abbrev os (c : Dev nD) : (⟨S512x512, .bf16⟩ : BufTy).Contents (Elt Ideal) := m ((c : Thread nD τ).loc main_arg1)
abbrev bs (c : Dev nD) : (⟨S512x512, .bf16⟩ : BufTy).Contents (Elt Ideal) := m ((c : Thread nD τ).loc main_arg2)
abbrev ws (c : Dev nD) : (⟨S1024x1024, .bf16⟩ : BufTy).Contents (Elt Ideal) := m ((c : Thread nD τ).loc main_arg3)
abbrev gs (c : Dev nD) : (⟨S1x1024, .f32⟩ : BufTy).Contents (Elt Ideal) := m ((c : Thread nD τ).loc main_arg4)
abbrev qs (c : Dev nD) : (⟨S1024x1024, .bf16⟩ : BufTy).Contents (Elt Ideal) := m ((c : Thread nD τ).loc main_arg5)

theorem idx0 : ∀ t : Fin cfg0.N, win0_0.index t = ![(grid0.coords t 0).val, 0] := (by decide +kernel : ∀ t : Fin grid0.N, win0_0.index t = ![(grid0.coords t 0).val, 0])
theorem idx1 : ∀ t : Fin cfg0.N, win0_1.index t = ![(grid0.coords t 0).val, 0] := (by decide +kernel : ∀ t : Fin grid0.N, win0_1.index t = ![(grid0.coords t 0).val, 0])
theorem idx2 : ∀ t : Fin cfg0.N, win0_2.index t = ![(grid0.coords t 0).val, 0] := (by decide +kernel : ∀ t : Fin grid0.N, win0_2.index t = ![(grid0.coords t 0).val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![(grid0.coords t 0).val, 0] := (by decide +kernel : ∀ t : Fin grid0.N, win0_6.index t = ![(grid0.coords t 0).val, 0])
theorem idx7 : ∀ t : Fin cfg0.N, win0_7.index t = ![(grid0.coords t 0).val, 0] := (by decide +kernel : ∀ t : Fin grid0.N, win0_7.index t = ![(grid0.coords t 0).val, 0])

theorem blk0 (c : Dev nD) (t : Fin cfg0.N) (r : Fin 512) (k : Fin 1024) (R : Fin 512) (h : 512 * (grid0.coords t 0).val + r.val = R.val) :
    iblk m c 0 t (ix2 r k) = xs m c (ix2 R k) := by
  blk_simp [iblk]
  refine congrArg (xs m c) ?_
  blk_ext [idx0]
  have ht : (grid0.coords t 0).val < 1 := (grid0.coords t 0).isLt
  show r.val = R.val
  omega
theorem blk1 (c : Dev nD) (t : Fin cfg0.N) (r : Fin 512) (k : Fin 512) (R : Fin 512) (h : 512 * (grid0.coords t 0).val + r.val = R.val) :
    iblk m c 1 t (ix2 r k) = os m c (ix2 R k) := by
  blk_simp [iblk]
  refine congrArg (os m c) ?_
  blk_ext [idx1]
  have ht : (grid0.coords t 0).val < 1 := (grid0.coords t 0).isLt
  show r.val = R.val
  omega
theorem blk2 (c : Dev nD) (t : Fin cfg0.N) (r : Fin 512) (k : Fin 512) (R : Fin 512) (h : 512 * (grid0.coords t 0).val + r.val = R.val) :
    iblk m c 2 t (ix2 r k) = bs m c (ix2 R k) := by
  blk_simp [iblk]
  refine congrArg (bs m c) ?_
  blk_ext [idx2]
  have ht : (grid0.coords t 0).val < 1 := (grid0.coords t 0).isLt
  show r.val = R.val
  omega
theorem blk3 (c : Dev nD) (t : Fin cfg0.N) : iblk m c 3 t = ws m c := by funext y; blk_simp [iblk]; congr 1; blk_ext [idx3]
theorem blk4 (c : Dev nD) (t : Fin cfg0.N) : iblk m c 4 t = gs m c := by funext y; blk_simp [iblk]; congr 1; blk_ext [idx4]
theorem blk5 (c : Dev nD) (t : Fin cfg0.N) : iblk m c 5 t = qs m c := by funext y; blk_simp [iblk]; congr 1; blk_ext [idx5]

theorem rowOf (t : Fin cfg0.N) (r : Fin 512) : 512 * (grid0.coords t 0).val + r.val < 512 := by
  have h : (grid0.coords t 0).val < 1 := (grid0.coords t 0).isLt
  omega

theorem final6 (c : Dev nD) : (dats m 0 c).arrAt 6 cfg0.N = Cert.MixSRefIdeal.Read.val_main_v4 (F := Ideal) (xs m c) (os m c) (bs m c) (ws m c) := by
  refine (dats m 0 c).arrAt_eq_of_covers 6 _ (by decide +kernel) fun t hf y => ?_
  obtain ⟨r, d, rfl⟩ : ∃ (r : Fin 512) (d : Fin 1024), y = ix2 r d := ⟨y 0, y 1, by funext a; fin_cases a <;> rfl⟩
  blk_simp
  rw [after0_6, blk3, blk4, blk5]
  refine (out6_apply _ _ _ _ _ _ r d).trans ((joined_congr (ws m c) (R := ⟨_, rowOf t r⟩) (fun k => blk0 m c t r k _ rfl) (fun k => blk1 m c t r k _ rfl)
    (fun k => blk2 m c t r k _ rfl) d).trans (ref_sum (xs m c) (os m c) (bs m c) (ws m c) _ d _ ?_ ?_).symm)
  · blk_simp [idx6]
    show r.val = 512 * 0 + r.val
    omega
  · blk_simp [idx6]

theorem final7 (c : Dev nD) : (dats m 0 c).arrAt 7 cfg0.N = Cert.MixSRefIdeal.Read.val_main_v21 (F := Ideal) (xs m c) (os m c) (bs m c) (ws m c) (gs m c) (qs m c) := by
  refine (dats m 0 c).arrAt_eq_of_covers 7 _ (by decide +kernel) fun t hf y => ?_
  obtain ⟨r, d, rfl⟩ : ∃ (r : Fin 512) (d : Fin 1024), y = ix2 r d := ⟨y 0, y 1, by funext a; fin_cases a <;> rfl⟩
  blk_simp
  rw [after0_7, blk3, blk4, blk5]
  refine (out7_apply _ _ _ _ _ _ r d).trans ((query_congr (ws m c) (gs m c) (qs m c) (R := ⟨_, rowOf t r⟩) (fun k => blk0 m c t r k _ rfl) (fun k => blk1 m c t r k _ rfl)
    (fun k => blk2 m c t r k _ rfl) d).trans (ref_query (xs m c) (os m c) (bs m c) (ws m c) (gs m c) (qs m c) _ d _ ?_ ?_).symm)
  · blk_simp [idx7]
    show r.val = 512 * 0 + r.val
    omega
  · blk_simp [idx7]

end Cert.MixSIdeal.Entries

end
-- ==== Proof.MixSAlgebraic.lean ====
/- The output projection's kernel (`MixSIdeal`) and its reference end with the same arrays. -/
module

public import proofs.«01_k».proof.Defs
public import proofs.«01_k».proof.Proof.MixSValue
public import proofs.«01_k».proof.Proof.Gen.MixSIdeal
public import proofs.«01_k».proof.Proof.Gen.MixSRefIdeal
public import proofs.«01_k».proof.Proof.Gen.MixSRefIdeal.Run

@[expose] public section

noncomputable section

namespace Cert.MixSIdeal.Entries

open Idealize.ShloMosaic Idealize.SL.Sem Idealize.ShloMosaic.TcCoe

/-- **The kernel is the output projection**: the printed program and the plain reference end with the same arrays. -/
theorem algebraic : Cert.algebraic_MixSIdeal_MixSRefIdeal (hMixSIdeal := Cert.MixSIdeal.Gen.facts) (hMixSRefIdeal := Cert.MixSRefIdeal.Gen.facts) := by
  intro m g m' g' _ hargs
  refine ⟨fun c => (Cert.MixSIdeal.Gen.dats m 0 c).arrAt 6 Cert.MixSIdeal.cfg0.N, fun c => (Cert.MixSIdeal.Gen.dats m 0 c).arrAt 7 Cert.MixSIdeal.cfg0.N, Cert.MixSIdeal.Value.run_blocks m g, ?_⟩
  refine (θ_run _ _ _).mono (fun r hr c => ?_) (Cert.MixSRefIdeal.Value.run m' g')
  obtain ⟨h0, h1, hk⟩ := hr c
  obtain ⟨e0, e1, e2, e3, e4, e5⟩ := hargs c
  refine ⟨h0.trans ?_, h1.trans ?_, hk⟩
  · rw [Cert.MixSRefIdeal.Read.val_main_v4_eq, e0, e1, e2, e3]; exact (final6 m c).symm
  · rw [Cert.MixSRefIdeal.Read.val_main_v21_eq, e0, e1, e2, e3, e4, e5]; exact (final7 m c).symm

/-- The reference's run leaves its arguments and, having no semaphore, every counter. -/
theorem refFrame : Cert.quiescent_MixSRefIdeal (hMixSRefIdeal := Cert.MixSRefIdeal.Gen.facts) := fun m g _ =>
  (θ_run _ _ _).mono (fun r h => ⟨fun c => (h c).2.2, sem_eq_zero_of_no_sems (by decide) r.2⟩) (Cert.MixSRefIdeal.Value.run m g)

end Cert.MixSIdeal.Entries

end
-- ==== Proof.CrossSpec.lean ====
/- Cross attention of one row on extended reals: four heads of 256 lanes over 256 memory rows, each head's softmax of its scores
   weighting the values, and the heads joined through the output projection onto the row. -/
module

public import proofs.«01_k».proof.Proof.Spec

@[expose] public section

noncomputable section

namespace Cert.CrossAttn

open Idealize.ShloMosaic Cert.DiffAttn
open scoped BigOperators

variable (x q : Fin 1024 → EReal) (K V : Fin 256 → Fin 1024 → EReal) (W : Fin 1024 → Fin 1024 → EReal)

/-- Lane `d` of head `h`. -/
def lane (h : Fin 4) (d : Fin 256) : Fin 1024 := ⟨256 * h.val + d.val, by omega⟩

/-- A head's score of each memory row. -/
def scores (h : Fin 4) (j : Fin 256) : EReal := ∑ d : Fin 256, q (lane h d) * K j (lane h d)

/-- A head's output: the softmax of the scores weighting the values. -/
def headOut (h : Fin 4) (d : Fin 256) : EReal :=
  ∑ j, Ideal.div (weight (scores q K h) j) (total (scores q K h)) * V j (lane h d)

/-- The same, each weight scaled by the reciprocal of the total. -/
def headRecip (h : Fin 4) (d : Fin 256) : EReal :=
  ∑ j, weight (scores q K h) j * Ideal.div 1 (total (scores q K h)) * V j (lane h d)

/-- A row with the heads' outputs added through the projection. -/
def through (o : Fin 4 → Fin 256 → EReal) (c : Fin 1024) : EReal :=
  x c + ∑ k : Fin 1024, o ⟨k.val / 256, by omega⟩ ⟨k.val % 256, by omega⟩ * W k c

theorem scores_finite (hq : ∀ k, DiffAttn.Finite (q k)) (hK : ∀ j k, DiffAttn.Finite (K j k)) (h : Fin 4) (j : Fin 256) : DiffAttn.Finite (scores q K h j) := by
  unfold scores
  refine Finset.sum_induction _ DiffAttn.Finite ?_ ⟨0, rfl⟩ fun d _ => ?_
  · rintro _ _ ⟨a, rfl⟩ ⟨b, rfl⟩; exact ⟨a + b, (EReal.coe_add a b).symm⟩
  · obtain ⟨a, ha⟩ := hq (lane h d)
    obtain ⟨b, hb⟩ := hK j (lane h d)
    exact ⟨a * b, by rw [ha, hb, EReal.coe_mul]⟩

/-- With finite queries and keys the two heads agree. -/
theorem headRecip_eq (hq : ∀ k, DiffAttn.Finite (q k)) (hK : ∀ j k, DiffAttn.Finite (K j k)) : headRecip q K V = headOut q K V := by
  funext h d
  have ht : total (scores q K h) ≠ 0 := by
    refine total_ne_zero _ (fun j => ?_) ⟨0, ?_⟩
    · obtain ⟨r, hr⟩ := scores_finite q K hq hK h j; rw [hr]; exact EReal.coe_ne_top r
    · obtain ⟨r, hr⟩ := scores_finite q K hq hK h 0; rw [hr]; exact EReal.coe_ne_bot r
  unfold headRecip headOut Ideal.div
  refine Finset.sum_congr rfl fun j _ => congrArg (· * V j (lane h d)) ?_
  rw [if_neg ht, if_neg ht, one_mul]

end Cert.CrossAttn

end
-- ==== Proof.CrossTile.lean ====
/- What one grid point of the cross attention's kernel leaves in its block, at a row and a lane. -/
module

public import proofs.«01_k».proof.Proof.CrossSpec
public import proofs.«01_k».proof.Proof.Rows
public import proofs.«01_k».proof.Proof.Strides
public import proofs.«01_k».proof.Proof.Gen.CrossIdeal.Value
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.CrossIdeal.Entries

open Idealize.ShloMosaic hiding ix1 ix2 ix3 ix4 ix5
open Idealize.ShloMosaic.ValueIdx Cert.CrossIdeal Cert.CrossIdeal.Gen Cert.DiffAttn Cert.CrossAttn Cert.Rows Idealize.ShloMosaic.TcCoe
open scoped BigOperators

/-! ## One head -/

/-- The probabilities of a head: the exponentials times the reciprocal of their row's total. -/
def probs (q : Vec Ideal S512x256 .bf16) (k : Vec Ideal S256x256 .bf16) : FVec Ideal S512x256 .f32 :=
  let s : FVec Ideal S512x256 .f32 := matmul (φ₁ := .bf16) (φ₂ := .bf16) (DotDims.transposedRhs 512 256 256) none q k (constant S512x256 .f32 0x00000000#32)
  let e : FVec Ideal S512x256 .f32 := exp (subf s (broadcastTo S512x256
    (shapeCast S512x1 (multiReduction .maximumf [1] S512 s 0xFF800000#32 reduces_S512x256_S512 (.inl rfl) rfl) shapeCasts_S512_S512x1) broadcasts_S512x1_S512x256))
  mulf e (broadcastTo S512x256 (divf (broadcast S512x1 (Scalar.ofBits .f32 0x3F800000#32))
    (shapeCast S512x1 (multiReduction .add [1] S512 e 0x00000000#32 reduces_S512x256_S512 (.inl rfl) rfl) shapeCasts_S512_S512x1)) broadcasts_S512x1_S512x256)

/-- The values of a head under its probabilities. -/
def valued (p : FVec Ideal S512x256 .f32) (v : Vec Ideal S256x256 .bf16) : FVec Ideal S512x256 .f32 :=
  matmul (φ₁ := .bf16) (φ₂ := .bf16) (DotDims.plain 512 256 256) none (truncf .bf16 p bitsLt_bf16_f32) v (constant S512x256 .f32 0x00000000#32)

theorem rowMax_apply (x : FVec Ideal S512x256 .f32) (r : Fin 512) (u : Fin 1) :
    shapeCast S512x1 (multiReduction .maximumf [1] S512 x 0xFF800000#32 reduces_S512x256_S512 (.inl rfl) rfl) shapeCasts_S512_S512x1 (ix2 r u)
      = peak fun k => x (ix2 r k) := by
  refine (shapeCast_a_a1_apply _ shapeCasts_S512_S512x1 r u).trans ((Ideal.multiReduction_maximumf_single x _ reduces_S512x256_S512 _ _ (ix1 r)).trans ?_)
  have hb : (FloatOps.ofBits .f32 0xFF800000#32 : Ideal .f32) = (⊥ : EReal) := by
    show Ideal.ofBits .f32 0xFF800000#32 = ⊥
    simp [Ideal.ofBits, Ideal.ieee]
  rw [hb]
  exact congrArg (Finset.univ.fold max (⊥ : EReal)) (funext fun k => congrArg x (lift_row reduces_S512x256_S512 r k))

theorem one_bits : (Scalar.ofBits .f32 0x3F800000#32 : Ideal .f32) = (1 : EReal) := Ideal.ofBits_one_f32

theorem probs_apply (q : Vec Ideal S512x256 .bf16) (k : Vec Ideal S256x256 .bf16) (r : Fin 512) (S : Fin 256 → EReal)
    (hS : ∀ j, S j = ∑ d : Fin 256, q (ix2 r d) * k (ix2 j d)) (j : Fin 256) :
    probs q k (ix2 r j) = weight S j * Ideal.div 1 (total S) := by
  have hs : ∀ j, (matmul (φ₁ := .bf16) (φ₂ := .bf16) (DotDims.transposedRhs 512 256 256) none q k (constant S512x256 .f32 0x00000000#32) : FVec Ideal S512x256 .f32) (ix2 r j) = S j := fun j => by
    rw [hS j]
    unfold matmul
    refine (Ideal.matmul_transposedRhs_apply _ _ _ _ _ _).trans ?_
    simp only [constant]
    rw [show (Scalar.ofBits .f32 0x00000000#32 : Ideal .f32) = (0 : EReal) from Ideal.ofBits_zero_f32, zero_add]
  unfold probs
  generalize (matmul (φ₁ := .bf16) (φ₂ := .bf16) (DotDims.transposedRhs 512 256 256) none q k (constant S512x256 .f32 0x00000000#32) : FVec Ideal S512x256 .f32) = s at hs ⊢
  have he : ∀ j, exp (subf s (broadcastTo S512x256
      (shapeCast S512x1 (multiReduction .maximumf [1] S512 s 0xFF800000#32 reduces_S512x256_S512 (.inl rfl) rfl) shapeCasts_S512_S512x1) broadcasts_S512x1_S512x256)) (ix2 r j)
        = weight S j := fun j => by
    refine congrArg₂ (fun a b : EReal => Ideal.exp (a - b)) (hs j) ((spread_apply _ broadcasts_S512x1_S512x256 r j).trans ((rowMax_apply s r 0).trans ?_))
    exact congrArg peak (funext hs)
  dsimp only
  generalize exp (subf s (broadcastTo S512x256
      (shapeCast S512x1 (multiReduction .maximumf [1] S512 s 0xFF800000#32 reduces_S512x256_S512 (.inl rfl) rfl) shapeCasts_S512_S512x1) broadcasts_S512x1_S512x256)) = e at he ⊢
  refine congrArg₂ (· * ·) (he j) ((spread_apply _ broadcasts_S512x1_S512x256 r j).trans ?_)
  refine congrArg₂ Ideal.div one_bits ((rowSum_apply e reduces_S512x256_S512 shapeCasts_S512_S512x1 r 0).trans ?_)
  exact Finset.sum_congr rfl fun j _ => he j

theorem valued_apply (q : Vec Ideal S512x256 .bf16) (k v : Vec Ideal S256x256 .bf16) (r : Fin 512) (Q : Fin 1024 → EReal)
    (K V : Fin 256 → Fin 1024 → EReal) (h : Fin 4) (hq : ∀ d, q (ix2 r d) = Q (lane h d)) (hk : ∀ j d, k (ix2 j d) = K j (lane h d))
    (hv : ∀ j d, v (ix2 j d) = V j (lane h d)) (d : Fin 256) :
    valued (probs q k) v (ix2 r d) = headRecip Q K V h d := by
  unfold valued
  refine (product_apply (φ₁ := .bf16) (φ₂ := .bf16) _ v r d).trans (Finset.sum_congr rfl fun j _ => ?_)
  refine congrArg₂ (· * ·) (probs_apply q k r (scores Q K h) (fun j => ?_) j) (hv j d)
  exact Finset.sum_congr rfl fun d _ => by rw [hq, hk]

/-! ## The block -/

section Blocks

variable (x0 : Vec Ideal S512x1024 .f32) (x1 : Vec Ideal S512x1024 .bf16) (x2 x3 : Vec Ideal S1x256x1024 .bf16) (x4 : Vec Ideal S1024x1024 .bf16)

theorem quarter_apply (o : ℕ) (ho : o + 256 ≤ 1024) (inb) (r : Fin 512) (d : Fin 256) :
    View.ld x1 (Rect.unit (s := S512x1024) ![0, o] S512x256.size inb) (ix2 r d) = x1 (ix2 r (⟨o + d.val, by omega⟩ : Fin 1024)) := by
  refine congrArg x1 (funext fun a => Fin.ext ?_)
  match a with
  | ⟨0, _⟩ => show 0 + 1 * r.val = r.val; omega
  | ⟨1, _⟩ => show o + 1 * d.val = o + d.val; omega

theorem memory_apply (o : ℕ) (ho : o + 256 ≤ 1024) (inb) (j d : Fin 256) :
    shapeCast S256x256 (View.ld x2 (Rect.unit (s := S1x256x1024) ![0, 0, o] S1x256x256.size inb)) shapeCasts_S1x256x256_S256x256 (ix2 j d)
      = x2 (ix3 (0 : Fin 1) j (⟨o + d.val, by omega⟩ : Fin 1024)) := by
  refine (shapeCast_1ab_ab_apply _ shapeCasts_S1x256x256_S256x256 j d).trans ?_
  refine congrArg x2 (funext fun a => Fin.ext ?_)
  match a with
  | ⟨0, _⟩ => rfl
  | ⟨1, _⟩ => show 0 + 1 * j.val = j.val; omega
  | ⟨2, _⟩ => show o + 1 * d.val = o + d.val; omega

theorem lanes_inb (h : Fin 4) (a : Fin 2) : (![0, 256 * h.val] : Fin 2 → ℕ) a + S512x256.size a ≤ S512x1024.size a := by
  match a with
  | ⟨0, _⟩ => exact le_refl 512
  | ⟨1, _⟩ => show 256 * h.val + 256 ≤ 1024; omega

theorem memory_inb (h : Fin 4) (a : Fin 3) : (![0, 0, 256 * h.val] : Fin 3 → ℕ) a + S1x256x256.size a ≤ S1x256x1024.size a := by
  match a with
  | ⟨0, _⟩ => exact le_refl 1
  | ⟨1, _⟩ => exact le_refl 256
  | ⟨2, _⟩ => show 256 * h.val + 256 ≤ 1024; omega

/-- A head's output over the block. -/
def head (h : Fin 4) : FVec Ideal S512x256 .f32 :=
  valued (probs (View.ld x1 (Rect.unit (s := S512x1024) ![0, 256 * h.val] S512x256.size (lanes_inb h)))
      (shapeCast S256x256 (View.ld x2 (Rect.unit (s := S1x256x1024) ![0, 0, 256 * h.val] S1x256x256.size (memory_inb h))) shapeCasts_S1x256x256_S256x256))
    (shapeCast S256x256 (View.ld x3 (Rect.unit (s := S1x256x1024) ![0, 0, 256 * h.val] S1x256x256.size (memory_inb h))) shapeCasts_S1x256x256_S256x256)

theorem head_apply (r : Fin 512) (h : Fin 4) (d : Fin 256) : head x1 x2 x3 h (ix2 r d)
    = headRecip (fun k => x1 (ix2 r k)) (fun j k => x2 (ix3 (0 : Fin 1) j k)) (fun j k => x3 (ix3 (0 : Fin 1) j k)) h d :=
  valued_apply _ _ _ r _ _ _ h (fun d => quarter_apply x1 _ (by omega) _ r d) (fun j d => memory_apply x2 _ (by omega) _ j d)
    (fun j d => memory_apply x3 _ (by omega) _ j d) d

/-- The four heads side by side. -/
theorem four_apply (f : Fin 4 → FVec Ideal S512x256 .f32) (hc : Shape.Concatenates [S512x256, S512x256, S512x256, S512x256] S512x1024 1)
    (r : Fin 512) (k : Fin 1024) :
    concatenate S512x1024 1 [⟨S512x256, f 0⟩, ⟨S512x256, f 1⟩, ⟨S512x256, f 2⟩, ⟨S512x256, f 3⟩] hc (ix2 r k)
      = f ⟨k.val / 256, by omega⟩ (ix2 r (⟨k.val % 256, by omega⟩ : Fin 256)) :=
  concatenate_ofFn_apply (t := S512x1024) (s₁ := S512x256) 1 f hc rfl 256 rfl (ix2 r k) _ rfl _ rfl fun b hb => by
    match b, hb with
    | ⟨0, _⟩, _ => rfl
    | ⟨1, _⟩, hb => exact absurd rfl hb

theorem point_apply (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x5 : Vec Ideal S512x1024 .f32) (r : Fin 512) (d : Fin 1024) :
    out0_A_6 c i arg1 harg1 arg2 harg2 arg3 harg3 arg4 harg4 arg5 harg5 arg6 harg6 arg7 harg7 hc0 hc1 x0 x1 x2 x3 x4 x5 (ix2 r d)
      = through (fun k => x0 (ix2 r k)) (fun k c => x4 (ix2 k c))
          (headRecip (fun k => x1 (ix2 r k)) (fun j k => x2 (ix3 (0 : Fin 1) j k)) (fun j k => x3 (ix3 (0 : Fin 1) j k))) d := by
  frame_out
  refine (congrArg (x0 (ix2 r d) + ·) (product_apply (φ₁ := .bf16) (φ₂ := .bf16) _ x4 r d)).trans ?_
  refine congrArg (x0 (ix2 r d) + ·) (Finset.sum_congr rfl fun k _ => congrArg (· * x4 (ix2 k d)) ?_)
  exact (four_apply (head x1 x2 x3) concatenates_S512x256_S512x256_S512x256_S512x256_S512x1024_d1 r k).trans (head_apply x1 x2 x3 r _ _)

theorem tail_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x5 : Vec Ideal S512x1024 .f32) :
    out0_B_6 c i arg1 harg1 arg2 harg2 arg3 harg3 arg4 harg4 arg5 harg5 arg6 harg6 arg7 harg7 hc0 hc1 x0 x1 x2 x3 x4 x5 = x5 := by
  frame_out

end Blocks

end Cert.CrossIdeal.Entries

end
-- ==== Proof.CrossRef.lean ====
/- The cross attention's reference read at a row and a lane. -/
module

public import proofs.«01_k».proof.Proof.CrossSpec
public import proofs.«01_k».proof.Proof.Gen.CrossRefIdeal.Read
public import Idealize.ShloMosaic.Lib.ValueLayout
public import Idealize.ShloMosaic.Lib.ValueLayoutCasts
public import Idealize.ShloMosaic.Lib.IdealHost
public import Idealize.ShloMosaic.Lib.Pipeline.Value

@[expose] public section

noncomputable section

namespace Cert.CrossRefIdeal.Entries

open Idealize.ShloMosaic hiding ix1 ix2 ix3 ix4 ix5
open Idealize.ShloMosaic.ValueIdx Cert.CrossRefIdeal Cert.CrossRefIdeal.Gen Cert.CrossRefIdeal.Read Cert.DiffAttn Cert.CrossAttn
open scoped BigOperators

section Heads

variable (x0 : S65536x1024.Idx → EReal) (x1 : S65536x1024.Idx → EReal) (x2 x3 : S32x256x1024.Idx → EReal) (x4 : S1024x1024.Idx → EReal)
  (b : Fin 32) (h : Fin 4) (R : Fin 2048)

/-- The row of the prompt that a batch entry's row is. -/
def flat (b : Fin 32) (R : Fin 2048) : Fin 65536 := ⟨2048 * b.val + R.val, by omega⟩

/-- A head's scores. -/
abbrev S : Fin 256 → EReal := scores (fun k => x1 (ix2 (flat b R) k)) (fun j k => x2 (ix3 b j k)) h

theorem query_apply (d : Fin 256) : val_main_v1 (F := Ideal) x1 (ix4 b R h d) = x1 (ix2 (flat b R) (lane h d)) := by
  rw [val_main_v1_apply, val_main_v0_apply]
  refine congrArg x1 (funext fun a => Fin.ext ?_)
  have := b.isLt; have := R.isLt; have := h.isLt; have := d.isLt
  match a with
  | ⟨0, _⟩ => show (((b.val * 2048 + R.val) * 4 + h.val) * 256 + d.val) / 1024 = 2048 * b.val + R.val; omega
  | ⟨1, _⟩ => show (((b.val * 2048 + R.val) * 4 + h.val) * 256 + d.val) % 1024 = 256 * h.val + d.val; omega

theorem key_apply (j d : Fin 256) : val_main_v3 (F := Ideal) x2 (ix4 b j h d) = x2 (ix3 b j (lane h d)) := by
  rw [val_main_v3_apply, val_main_v2_apply]
  refine congrArg x2 (funext fun a => Fin.ext ?_)
  have := b.isLt; have := j.isLt; have := h.isLt; have := d.isLt
  match a with
  | ⟨0, _⟩ => show (((b.val * 256 + j.val) * 4 + h.val) * 256 + d.val) / 262144 = b.val; omega
  | ⟨1, _⟩ => show (((b.val * 256 + j.val) * 4 + h.val) * 256 + d.val) / 1024 % 256 = j.val; omega
  | ⟨2, _⟩ => show (((b.val * 256 + j.val) * 4 + h.val) * 256 + d.val) % 1024 = 256 * h.val + d.val; omega

theorem value_apply (j d : Fin 256) : val_main_v17 (F := Ideal) x3 (ix4 b j h d) = x3 (ix3 b j (lane h d)) := by
  rw [val_main_v17_apply, val_main_v16_apply]
  exact Eq.trans (by rw [val_main_v3_apply, val_main_v2_apply]) (key_apply x3 b h j d)

theorem score_apply (j : Fin 256) : val_main_v4 (F := Ideal) x1 x2 (ix4 b h R j) = S x1 x2 b h R j := by
  rw [val_main_v4_apply]
  refine Finset.sum_congr rfl fun d _ => ?_
  refine congrArg₂ (· * ·) (Eq.trans ?_ (query_apply x1 b h R d)) (Eq.trans ?_ (key_apply x2 b h j d))
  · exact congrArg _ (funext fun a => by match a with | ⟨0, _⟩ => rfl | ⟨1, _⟩ => rfl | ⟨2, _⟩ => rfl | ⟨3, _⟩ => rfl)
  · exact congrArg _ (funext fun a => by match a with | ⟨0, _⟩ => rfl | ⟨1, _⟩ => rfl | ⟨2, _⟩ => rfl | ⟨3, _⟩ => rfl)

theorem negInf : (FloatOps.ofBits .f32 0xFF800000#32 : Ideal .f32) = (⊥ : EReal) := by
  show Ideal.ofBits .f32 0xFF800000#32 = ⊥
  simp [Ideal.ofBits, Ideal.ieee]

theorem hostPeak (y : S32x4x2048x256.Idx → EReal) (z : S_.Idx → EReal) (hz : z (Shape.Idx.first h_S_) = ⊥) (s : Fin 256 → EReal)
    (hy : ∀ k, y (ix4 b h R k) = s k) :
    Host.reduce (max : EReal → EReal → EReal) y z reducesTo_S32x4x2048x256_S32x4x2048_d3 h_S_ (ix3 b h R) = peak s := by
  rw [Host.reduce_eq_fold_single (max : EReal → EReal → EReal) y z reducesTo_S32x4x2048x256_S32x4x2048_d3 (by decide) h_S_ (ix3 b h R), hz]
  refine congrArg (Finset.univ.fold max (⊥ : EReal)) (funext fun k => Eq.trans ?_ (hy k))
  exact congrArg y (funext fun a => Fin.ext (by match a with | ⟨0, _⟩ => rfl | ⟨1, _⟩ => rfl | ⟨2, _⟩ => rfl | ⟨3, _⟩ => rfl))

theorem peak_apply : val_main_v7 (F := Ideal) x1 x2 (ix3 b h R) = peak (S x1 x2 b h R) := by
  rw [val_main_v7_apply, val_main_v6_apply]
  have e5 : val_main_v5 (F := Ideal) x1 x2 (ix3 b h R) = peak (S x1 x2 b h R) :=
    hostPeak b h R (val_main_v4 (F := Ideal) x1 x2) (val_main_cst (F := Ideal)) negInf _ (score_apply x1 x2 b h R)
  rw [e5]
  have hb : val_main_cst_0 (F := Ideal) (idx_main_v6 (ix3 b h R)) = (⊥ : EReal) := negInf
  rw [hb]
  exact max_eq_right bot_le

theorem weight_apply (j : Fin 256) : val_main_v11 (F := Ideal) x1 x2 (ix4 b h R j) = weight (S x1 x2 b h R) j := by
  rw [val_main_v11_apply, val_main_v10_apply, val_main_v9_apply, val_main_v8_apply, score_apply]
  have hp : val_main_v7 (F := Ideal) x1 x2 (idx_main_v8 (idx_main_v9 (ix4 b h R j))) = peak (S x1 x2 b h R) :=
    Eq.trans (congrArg _ (funext fun a => by match a with | ⟨0, _⟩ => rfl | ⟨1, _⟩ => rfl | ⟨2, _⟩ => rfl)) (peak_apply x1 x2 b h R)
  rw [hp]
  rfl

theorem total_apply : val_main_v12 (F := Ideal) x1 x2 (ix3 b h R) = total (S x1 x2 b h R) := by
  rw [val_main_v12_apply]
  have hz : val_main_cst_1 (F := Ideal) (Shape.Idx.first h_S_) = (0 : EReal) := Ideal.ofBits_zero_f32
  rw [hz, zero_add]
  refine Finset.sum_congr rfl fun k _ => Eq.trans ?_ (weight_apply x1 x2 b h R k)
  exact congrArg _ (funext fun a => by match a with | ⟨0, _⟩ => rfl | ⟨1, _⟩ => rfl | ⟨2, _⟩ => rfl | ⟨3, _⟩ => rfl)

theorem soft_apply (j : Fin 256) :
    val_main_v15 (F := Ideal) x1 x2 (ix4 b h R j) = Ideal.div (weight (S x1 x2 b h R) j) (total (S x1 x2 b h R)) := by
  rw [val_main_v15_apply, val_main_v14_apply, val_main_v13_apply, weight_apply]
  have hp : val_main_v12 (F := Ideal) x1 x2 (idx_main_v13 (idx_main_v14 (ix4 b h R j))) = total (S x1 x2 b h R) :=
    Eq.trans (congrArg _ (funext fun a => by match a with | ⟨0, _⟩ => rfl | ⟨1, _⟩ => rfl | ⟨2, _⟩ => rfl)) (total_apply x1 x2 b h R)
  rw [hp]
  rfl

theorem head_apply (d : Fin 256) : val_main_v18 (F := Ideal) x1 x2 x3 (ix4 b h d R)
    = headOut (fun k => x1 (ix2 (flat b R) k)) (fun j k => x2 (ix3 b j k)) (fun j k => x3 (ix3 b j k)) h d := by
  rw [val_main_v18_apply]
  refine Finset.sum_congr rfl fun j _ => (mul_comm _ _).trans ?_
  refine congrArg₂ (· * ·) (Eq.trans ?_ (soft_apply x1 x2 b h R j)) (Eq.trans ?_ (value_apply x3 b h j d))
  · exact congrArg _ (funext fun a => by match a with | ⟨0, _⟩ => rfl | ⟨1, _⟩ => rfl | ⟨2, _⟩ => rfl | ⟨3, _⟩ => rfl)
  · exact congrArg _ (funext fun a => by match a with | ⟨0, _⟩ => rfl | ⟨1, _⟩ => rfl | ⟨2, _⟩ => rfl | ⟨3, _⟩ => rfl)

end Heads

section Rows

variable (x0 : S65536x1024.Idx → EReal) (x1 : S65536x1024.Idx → EReal) (x2 x3 : S32x256x1024.Idx → EReal) (x4 : S1024x1024.Idx → EReal)
  (x5 : S512x1024.Idx → EReal)

/-- The batch entry of a row of the prompt. -/
def entry (N : Fin 65536) : Fin 32 := ⟨N.val / 2048, by omega⟩

/-- A row of the result. -/
def rowAt (N : Fin 65536) (c : Fin 1024) : EReal :=
  through (fun k => x0 (ix2 N k)) (fun k c => x4 (ix2 k c))
    (headOut (fun k => x1 (ix2 N k)) (fun j k => x2 (ix3 (entry N) j k)) (fun j k => x3 (ix3 (entry N) j k))) c

theorem joined_apply (N : Fin 65536) (k : Fin 1024) : val_main_v20 (F := Ideal) x1 x2 x3 (ix2 N k)
    = headOut (fun k => x1 (ix2 N k)) (fun j k => x2 (ix3 (entry N) j k)) (fun j k => x3 (ix3 (entry N) j k)) ⟨k.val / 256, by omega⟩ ⟨k.val % 256, by omega⟩ := by
  have hN := N.isLt; have hk := k.isLt
  rw [val_main_v20_apply, val_main_v19_apply]
  have hi : idx_main_v19 (idx_main_v20 (ix2 N k)) = ix4 (entry N) (⟨k.val / 256, by omega⟩ : Fin 4) (⟨k.val % 256, by omega⟩ : Fin 256) (⟨N.val % 2048, by omega⟩ : Fin 2048) :=
    funext fun a => Fin.ext (by
      match a with
      | ⟨0, _⟩ => show (N.val * 1024 + k.val) / 2097152 = N.val / 2048; omega
      | ⟨1, _⟩ => show (N.val * 1024 + k.val) / 256 % 4 = k.val / 256; omega
      | ⟨2, _⟩ => show (N.val * 1024 + k.val) % 256 = k.val % 256; omega
      | ⟨3, _⟩ => show (N.val * 1024 + k.val) / 1024 % 2048 = N.val % 2048; omega)
  rw [hi, head_apply]
  have hf : flat (entry N) (⟨N.val % 2048, by omega⟩ : Fin 2048) = N := Fin.ext (by show 2048 * (N.val / 2048) + N.val % 2048 = N.val; omega)
  rw [hf]

theorem row_apply (N : Fin 65536) (c : Fin 1024) : val_main_v23 (F := Ideal) x0 x1 x2 x3 x4 (ix2 N c) = rowAt x0 x1 x2 x3 x4 N c := by
  rw [val_main_v23_apply, val_main_v22_apply]
  refine congrArg (x0 (ix2 N c) + ·) (Finset.sum_congr rfl fun k _ => ?_)
  refine congrArg₂ (· * ·) (Eq.trans ?_ (joined_apply x1 x2 x3 N k)) ?_
  · exact congrArg _ (funext fun a => by match a with | ⟨0, _⟩ => rfl | ⟨1, _⟩ => rfl)
  · rw [val_main_v21_apply]
    exact congrArg x4 (funext fun a => by match a with | ⟨0, _⟩ => rfl | ⟨1, _⟩ => rfl)

theorem upper_apply (i : S66048x1024.Idx) (N : Fin 65536) (c : Fin 1024) (h0 : (i 0).val = N.val) (h1 : (i 1).val = c.val) :
    val_main_v24 (F := Ideal) x0 x1 x2 x3 x4 x5 i = rowAt x0 x1 x2 x3 x4 N c := by
  rw [← row_apply]
  unfold val_main_v24
  refine concatenate_pair_apply_left (t := S66048x1024) 0 _ _ concatenates_S65536x1024_S512x1024_S66048x1024_d0 i rfl (ix2 N c) fun b => ?_
  match b with
  | ⟨0, _⟩ => exact h0.symm
  | ⟨1, _⟩ => exact h1.symm

theorem lower_apply (i : S66048x1024.Idx) (r : Fin 512) (c : Fin 1024) (h0 : (i 0).val = 65536 + r.val) (h1 : (i 1).val = c.val) :
    val_main_v24 (F := Ideal) x0 x1 x2 x3 x4 x5 i = x5 (ix2 r c) := by
  unfold val_main_v24
  refine concatenate_pair_apply_right (t := S66048x1024) 0 _ _ concatenates_S65536x1024_S512x1024_S66048x1024_d0 i rfl rfl (ix2 r c) (fun b hb => ?_) ?_
  · match b, hb with
    | ⟨0, _⟩, hb => exact absurd rfl hb
    | ⟨1, _⟩, _ => exact h1.symm
  · show r.val + 65536 = (i 0).val
    omega

end Rows

end Cert.CrossRefIdeal.Entries

end
-- ==== Proof.CrossValue.lean ====
/- The array the cross attention's kernel leaves: its reference's. -/
module

public import proofs.«01_k».proof.Proof.CrossTile
public import proofs.«01_k».proof.Proof.CrossRef

@[expose] public section

set_option maxRecDepth 16384

noncomputable section

namespace Cert.CrossIdeal.Entries

open Idealize.ShloMosaic hiding ix1 ix2 ix3 ix4 ix5
open Idealize.ShloMosaic.ValueIdx Cert.CrossIdeal Cert.CrossIdeal.Gen Cert.DiffAttn Cert.CrossAttn Idealize.ShloMosaic.TcCoe Idealize.SL.Sem
open Cert.CrossRefIdeal.Entries (rowAt entry upper_apply lower_apply)

variable (m : (ℓ : Loc nD τ sig) → Buf (Elt Ideal) ℓ)

abbrev xs (c : Dev nD) : (⟨S65536x1024, .f32⟩ : BufTy).Contents (Elt Ideal) := m ((c : Thread nD τ).loc main_arg0)
abbrev qs (c : Dev nD) : (⟨S65536x1024, .bf16⟩ : BufTy).Contents (Elt Ideal) := m ((c : Thread nD τ).loc main_arg1)
abbrev ks (c : Dev nD) : (⟨S32x256x1024, .bf16⟩ : BufTy).Contents (Elt Ideal) := m ((c : Thread nD τ).loc main_arg2)
abbrev vs (c : Dev nD) : (⟨S32x256x1024, .bf16⟩ : BufTy).Contents (Elt Ideal) := m ((c : Thread nD τ).loc main_arg3)
abbrev ws (c : Dev nD) : (⟨S1024x1024, .bf16⟩ : BufTy).Contents (Elt Ideal) := m ((c : Thread nD τ).loc main_arg4)
abbrev ts (c : Dev nD) : (⟨S512x1024, .f32⟩ : BufTy).Contents (Elt Ideal) := m ((c : Thread nD τ).loc main_arg5)

theorem idx0 : ∀ t : Fin cfg0.N, win0_0.index t = ![min t.val 127, 0] := (by decide +kernel : ∀ t : Fin grid0.N, win0_0.index t = ![min t.val 127, 0])
theorem idx1 : ∀ t : Fin cfg0.N, win0_1.index t = ![min t.val 127, 0] := (by decide +kernel : ∀ t : Fin grid0.N, win0_1.index t = ![min t.val 127, 0])
theorem idx2 : ∀ t : Fin cfg0.N, win0_2.index t = ![min t.val 127 / 4, 0, 0] := (by decide +kernel : ∀ t : Fin grid0.N, win0_2.index t = ![min t.val 127 / 4, 0, 0])
theorem idx3 : ∀ t : Fin cfg0.N, win0_3.index t = ![min t.val 127 / 4, 0, 0] := (by decide +kernel : ∀ t : Fin grid0.N, win0_3.index t = ![min t.val 127 / 4, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])

theorem blk0 (c : Dev nD) (t : Fin cfg0.N) (r : Fin 512) (k : Fin 1024) (N : Fin 65536) (h : min t.val 127 * 512 + r.val = N.val) :
    iblk m c 0 t (ix2 r k) = xs m c (ix2 N k) := by
  blk_simp [iblk]
  refine congrArg (xs m c) ?_
  blk_ext [idx0]
theorem blk1 (c : Dev nD) (t : Fin cfg0.N) (r : Fin 512) (k : Fin 1024) (N : Fin 65536) (h : min t.val 127 * 512 + r.val = N.val) :
    iblk m c 1 t (ix2 r k) = qs m c (ix2 N k) := by
  blk_simp [iblk]
  refine congrArg (qs m c) ?_
  blk_ext [idx1]
theorem blk2 (c : Dev nD) (t : Fin cfg0.N) (j : Fin 256) (k : Fin 1024) (b : Fin 32) (h : min t.val 127 / 4 = b.val) :
    iblk m c 2 t (ix3 (0 : Fin 1) j k) = ks m c (ix3 b j k) := by
  blk_simp [iblk]
  refine congrArg (ks m c) ?_
  blk_ext [idx2]
theorem blk3 (c : Dev nD) (t : Fin cfg0.N) (j : Fin 256) (k : Fin 1024) (b : Fin 32) (h : min t.val 127 / 4 = b.val) :
    iblk m c 3 t (ix3 (0 : Fin 1) j k) = vs m c (ix3 b j k) := by
  blk_simp [iblk]
  refine congrArg (vs m c) ?_
  blk_ext [idx3]
theorem blk4 (c : Dev nD) (t : Fin cfg0.N) : iblk m c 4 t = ws m c := by funext y; blk_simp [iblk]; congr 1; blk_ext [idx4]
theorem blk5 (c : Dev nD) (t : Fin cfg0.N) : iblk m c 5 t = ts m c := by funext y; blk_simp [iblk]; congr 1; blk_ext [idx5]

/-- A point of the prompt's rows stores their rows of the reference. -/
theorem upper_point (c : Dev nD) (hq : ∀ i, DiffAttn.Finite (qs m c i)) (hk : ∀ i, DiffAttn.Finite (ks m c i)) (t : Fin cfg0.N) (h0 : t.val < 128)
    (r : Fin 512) (d : Fin 1024) (N : Fin 65536) (hN : t.val * 512 + r.val = N.val) :
    outsAt0 m c t.val t.isLt (ix2 r d) = rowAt (xs m c) (qs m c) (ks m c) (vs m c) (ws m c) N d := by
  have h1 : ¬t.val % 129 = 128 := by omega
  have hr := r.isLt
  have hrow : min t.val 127 * 512 + r.val = N.val := by omega
  have hent : min t.val 127 / 4 = (entry N).val := by show _ = N.val / 2048; omega
  rw [outsAt0_A m c t h0 h1]
  refine (point_apply _ _ _ _ _ c _ _ _ _ _ _ _ _ _ _ _ _ _ _ _ _ _ _ r d).trans ?_
  rw [funext fun k => blk0 m c t r k N hrow, funext fun k => blk1 m c t r k N hrow, funext fun j => funext fun k => blk2 m c t j k (entry N) hent,
    funext fun j => funext fun k => blk3 m c t j k (entry N) hent, blk4, headRecip_eq _ _ _ (fun k => hq _) (fun j k => hk _)]
  rfl

theorem final (c : Dev nD) (hq : ∀ i, DiffAttn.Finite (qs m c i)) (hk : ∀ i, DiffAttn.Finite (ks m c i)) :
    (dats m 0 c).arrAt 6 cfg0.N
      = Cert.CrossRefIdeal.Read.val_main_v24 (F := Ideal) (xs m c) (qs m c) (ks m c) (vs m c) (ws m c) (ts m c) := by
  refine (dats m 0 c).arrAt_eq_of_covers 6 _ (by decide +kernel) fun t hf y => ?_
  obtain ⟨r, d, rfl⟩ : ∃ (r : Fin 512) (d : Fin 1024), y = ix2 r d := ⟨y 0, y 1, by funext a; fin_cases a <;> rfl⟩
  blk_simp
  rw [after0_6]
  have hr := r.isLt
  have ht : t.val < 129 := lt_of_lt_of_eq t.isLt N_0
  by_cases h0 : t.val < 128
  · refine (upper_point m c hq hk t h0 r d ⟨t.val * 512 + r.val, by omega⟩ rfl).trans (upper_apply _ _ _ _ _ _ _ _ d ?_ ?_).symm
    · blk_simp [idx6]
    · blk_simp [idx6]
  · rw [outsAt0_B m c t h0 (by omega), tail_eq, blk5]
    refine (lower_apply _ _ _ _ _ _ _ r d ?_ ?_).symm
    · blk_simp [idx6]
      show t.val * 512 + r.val = 65536 + r.val
      omega
    · blk_simp [idx6]

end Cert.CrossIdeal.Entries

end
-- ==== Proof.CrossAlgebraic.lean ====
/- The cross attention's kernel and its reference end with the same array. -/
module

public import proofs.«01_k».proof.Proof.CrossValue
public import proofs.«01_k».proof.Proof.Algebraic
public import proofs.«01_k».proof.Proof.Gen.CrossRefIdeal.Run
public import proofs.«01_k».proof.Proof.Gen.Cross.Frame
public import proofs.«01_k».proof.Defs

@[expose] public section

set_option maxRecDepth 16384

noncomputable section

namespace Cert.CrossIdeal.Entries

open Idealize.ShloMosaic hiding ix1 ix2 ix3 ix4 ix5
open Idealize.ShloMosaic.ValueIdx Idealize.SL.Sem Idealize.ShloMosaic.TcCoe

theorem preFacts : Cert.Pre_finite_cross.Facts := ⟨by decide, by decide, by decide, by decide⟩

section Pre

attribute [local instance] preFacts

variable (x0 : FVec Ideal Cert.Pre_finite_cross.S65536x1024 .f32) (x1 : FVec Ideal Cert.Pre_finite_cross.S65536x1024 .bf16)
  (x2 x3 : FVec Ideal Cert.Pre_finite_cross.S32x256x1024 .bf16) (x4 : FVec Ideal Cert.Pre_finite_cross.S1024x1024 .bf16)
  (x5 : FVec Ideal Cert.Pre_finite_cross.S512x1024 .f32) (h : Cert.Pre_finite_cross.fn (F := Ideal) x0 x1 x2 x3 x4 x5 = fun _ => 1#1)

include h

/-- The precondition read at a query. -/
theorem pre_query (i : Cert.Pre_finite_cross.S65536x1024.Idx) : DiffAttn.Finite (x1 i) := by
  obtain ⟨N, k, rfl⟩ : ∃ (N : Fin 65536) (k : Fin 1024), i = ix2 N k := ⟨i 0, i 1, by funext a; fin_cases a <;> rfl⟩
  have hi := congrFun h (ix2 (⟨N.val, by omega⟩ : Fin 73728) k)
  unfold Cert.Pre_finite_cross.fn at hi
  refine Cert.DiffAttn.finite_of_abs _ (Eq.trans (Eq.symm ?_) hi)
  refine concatenate_pair_apply_left (t := Cert.Pre_finite_cross.S73728x1024) (s₁ := Cert.Pre_finite_cross.S65536x1024) (s₂ := Cert.Pre_finite_cross.S8192x1024) 0 _ _ _ _ rfl (ix2 N k) fun b => ?_
  match b with
  | ⟨0, _⟩ => rfl
  | ⟨1, _⟩ => rfl

/-- The precondition read at a key. -/
theorem pre_key (i : Cert.Pre_finite_cross.S32x256x1024.Idx) : DiffAttn.Finite (x2 i) := by
  obtain ⟨b, j, k, rfl⟩ : ∃ (b : Fin 32) (j : Fin 256) (k : Fin 1024), i = ix3 b j k := ⟨i 0, i 1, i 2, by funext a; fin_cases a <;> rfl⟩
  have hi := congrFun h (ix2 (⟨65536 + (256 * b.val + j.val), by omega⟩ : Fin 73728) k)
  unfold Cert.Pre_finite_cross.fn at hi
  refine Cert.DiffAttn.finite_of_abs _ (Eq.trans (Eq.symm ?_) hi)
  refine (concatenate_pair_apply_right (t := Cert.Pre_finite_cross.S73728x1024) (s₁ := Cert.Pre_finite_cross.S65536x1024) (s₂ := Cert.Pre_finite_cross.S8192x1024) 0 _ _ _ _ rfl rfl (ix2 (⟨256 * b.val + j.val, by omega⟩ : Fin 8192) k)
    (fun a ha => ?_) ?_).trans (shapeCast_apply _ _ _ (ix3 b j k) ?_)
  · match a, ha with
    | ⟨0, _⟩, ha => exact absurd rfl ha
    | ⟨1, _⟩, _ => rfl
  · exact Nat.add_comm _ _
  · rw [Shape.rowMajor_val_two, Shape.rowMajor_val_three]
    show (b.val * 256 + j.val) * 1024 + k.val = (256 * b.val + j.val) * 1024 + k.val
    omega

end Pre

/-- **The kernel is the cross attention**: the printed program and the plain reference end with the same array. -/
theorem algebraic : Cert.algebraic_CrossIdeal_CrossRefIdeal_pre_finite_cross (hCrossIdeal := Cert.CrossIdeal.Gen.facts)
    (hCrossRefIdeal := Cert.CrossRefIdeal.Gen.facts) (hPre_finite_cross := preFacts) := by
  intro m g m' g' hpre hargs
  refine ⟨fun c => (Cert.CrossIdeal.Gen.dats m 0 c).arrAt 6 Cert.CrossIdeal.cfg0.N, Cert.CrossIdeal.Value.run_blocks m g, ?_⟩
  refine (θ_run _ _ _).mono (fun r h c => ?_) (Cert.CrossRefIdeal.Value.run m' g')
  refine ⟨(h c).1.trans ?_, (h c).2⟩
  obtain ⟨e0, e1, e2, e3, e4, e5⟩ := hargs c
  rw [Cert.CrossRefIdeal.Read.val_main_v24_eq, e0, e1, e2, e3, e4, e5]
  exact (final m c (pre_query _ _ _ _ _ _ (hpre c)) (pre_key _ _ _ _ _ _ (hpre c))).symm

/-- The reference's run leaves its arguments and, having no semaphore, every counter. -/
theorem refFrame : Cert.quiescent_CrossRefIdeal (hCrossRefIdeal := Cert.CrossRefIdeal.Gen.facts) := fun m g _ =>
  (θ_run _ _ _).mono (fun r h => ⟨fun c => (h c).2, sem_eq_zero_of_no_sems (by decide) r.2⟩) (Cert.CrossRefIdeal.Value.run m g)

end Cert.CrossIdeal.Entries

end
-- ==== Proof.lean ====
/- The certificate of the layer's experts, of the prompt's two attentions and of the projections: the frames, the named
   mask, and the values. -/
module

public import proofs.«01_k».proof.Defs
public import proofs.«01_k».proof.Proof.Gen.Attn
public import proofs.«01_k».proof.Proof.Gen.Attn.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Algebraic
public import proofs.«01_k».proof.Proof.FfnRun
public import proofs.«01_k».proof.Proof.FfnPre
public import proofs.«01_k».proof.Proof.FfnAlgebraic
public import proofs.«01_k».proof.Proof.Gen.Proj
public import proofs.«01_k».proof.Proof.ProjFrame
public import proofs.«01_k».proof.Proof.ProjAlgebraic
public import proofs.«01_k».proof.Proof.Gen.ProjS
public import proofs.«01_k».proof.Proof.ProjSFrame
public import proofs.«01_k».proof.Proof.ProjSAlgebraic
public import proofs.«01_k».proof.Proof.Gen.MemKv
public import proofs.«01_k».proof.Proof.MemKvFrame
public import proofs.«01_k».proof.Proof.MemKvAlgebraic
public import proofs.«01_k».proof.Proof.Gen.Mix
public import proofs.«01_k».proof.Proof.Gen.Mix.Frame
public import proofs.«01_k».proof.Proof.MixAlgebraic
public import proofs.«01_k».proof.Proof.Gen.MixS
public import proofs.«01_k».proof.Proof.Gen.MixS.Frame
public import proofs.«01_k».proof.Proof.MixSAlgebraic
public import proofs.«01_k».proof.Proof.Gen.Cross
public import proofs.«01_k».proof.Proof.Gen.Cross.Frame
public import proofs.«01_k».proof.Proof.CrossAlgebraic
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.Ffn.Gen.facts,
  Cert.FfnIdeal.Gen.facts, Cert.FfnRefIdeal.Gen.facts,
  Cert.Proj.Gen.facts, Cert.ProjIdeal.Gen.facts, Cert.ProjRefIdeal.Gen.facts,
  Cert.ProjS.Gen.facts, Cert.ProjSIdeal.Gen.facts, Cert.ProjSRefIdeal.Gen.facts,
  Cert.MemKv.Gen.facts, Cert.MemKvIdeal.Gen.facts, Cert.MemKvRefIdeal.Gen.facts,
  Cert.Mix.Gen.facts, Cert.MixIdeal.Gen.facts, Cert.MixRefIdeal.Gen.facts,
  Cert.MixS.Gen.facts, Cert.MixSIdeal.Gen.facts, Cert.MixSRefIdeal.Gen.facts,
  Cert.Cross.Gen.facts, Cert.CrossIdeal.Gen.facts, Cert.CrossRefIdeal.Gen.facts,
  Cert.DiffAttn.preFacts, Cert.ExpertsIdeal.preFacts, Cert.CrossIdeal.Entries.preFacts,
  fun m ρ _ => Cert.Attn.Gen.frame m ρ,
  fun m ρ _ => Cert.AttnIdeal.Gen.frame m ρ,
  fun m ρ _ => Cert.AttnIdeal.Gen.frame m ρ,
  Cert.DiffAttn.refFrame,
  fun m ρ _ => Cert.DiffAttn.refFrame m ρ trivial,
  Cert.ExpertsIdeal.frame_bits,
  Cert.ExpertsIdeal.frame_ideal,
  Cert.ExpertsIdeal.refFrame,
  fun m ρ _ => Cert.ExpertsIdeal.refFrame m ρ trivial,
  fun m ρ _ => Cert.Proj.Body.frame m ρ,
  fun m ρ _ => Cert.ProjIdeal.Body.frame m ρ,
  Cert.ProjIdeal.Entries.refFrame,
  fun m ρ _ => Cert.ProjS.Body.frame m ρ,
  fun m ρ _ => Cert.ProjSIdeal.Body.frame m ρ,
  Cert.ProjSIdeal.Entries.refFrame,
  fun m ρ _ => Cert.MemKv.Body.frame m ρ,
  fun m ρ _ => Cert.MemKvIdeal.Body.frame m ρ,
  Cert.MemKvIdeal.Entries.refFrame,
  fun m ρ _ => Cert.Mix.Gen.frame m ρ,
  fun m ρ _ => Cert.MixIdeal.Gen.frame m ρ,
  Cert.MixIdeal.Entries.refFrame,
  fun m ρ _ => Cert.MixS.Gen.frame m ρ,
  fun m ρ _ => Cert.MixSIdeal.Gen.frame m ρ,
  Cert.MixSIdeal.Entries.refFrame,
  fun m ρ _ => Cert.Cross.Gen.frame m ρ,
  fun m ρ _ => Cert.CrossIdeal.Gen.frame m ρ,
  fun m ρ _ => Cert.CrossIdeal.Gen.frame m ρ,
  Cert.CrossIdeal.Entries.refFrame,
  fun m ρ _ => Cert.CrossIdeal.Entries.refFrame m ρ trivial,
  IdealRules.named_const.statement Cert.AttnIdeal.κ "mask" .f32 0xF149F2CA#32 ⊥ rfl,
  Cert.DiffAttn.algebraic,
  trivial,
  Cert.ExpertsIdeal.algebraic,
  trivial,
  Cert.ProjIdeal.Entries.algebraic,
  trivial,
  Cert.ProjSIdeal.Entries.algebraic,
  trivial,
  Cert.MemKvIdeal.Entries.algebraic,
  trivial,
  Cert.MixIdeal.Entries.algebraic,
  trivial,
  Cert.MixSIdeal.Entries.algebraic,
  trivial,
  Cert.CrossIdeal.Entries.algebraic⟩

end Cert.Proof

end
